-- ==== Defs.lean ====
def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_RefDw2Ideal (m : (ℓ : Loc Cert.RefDw2Ideal.nD Cert.RefDw2Ideal.τ Cert.RefDw2Ideal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def Pre_Da2 (m : (ℓ : Loc Cert.Da2.nD Cert.Da2.τ Cert.Da2.sig) → Buf (Elt Bits) ℓ) : Prop :=
  True

def Pre_Da2Ideal (m : (ℓ : Loc Cert.Da2Ideal.nD Cert.Da2Ideal.τ Cert.Da2Ideal.sig) → Buf (Elt Ideal) ℓ) : Prop :=
  True

def Pre_RefDa2Ideal (m : (ℓ : Loc Cert.RefDa2Ideal.nD Cert.RefDa2Ideal.τ Cert.RefDa2Ideal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_RefDwOIdeal (m : (ℓ : Loc Cert.RefDwOIdeal.nD Cert.RefDwOIdeal.τ Cert.RefDwOIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_RefDwQkvIdeal (m : (ℓ : Loc Cert.RefDwQkvIdeal.nD Cert.RefDwQkvIdeal.τ Cert.RefDwQkvIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_RefPrepIdeal (m : (ℓ : Loc Cert.RefPrepIdeal.nD Cert.RefPrepIdeal.τ Cert.RefPrepIdeal.sig) → Buf (Elt Ideal) ℓ) : Prop :=
  True

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ r.2.sem = fun _ => 0)

def quiescent_RefDw2Ideal [hRefDw2Ideal : Cert.RefDw2Ideal.Facts] : Prop :=
  ∀ (m : (ℓ : Loc Cert.RefDw2Ideal.nD Cert.RefDw2Ideal.τ Cert.RefDw2Ideal.sig) → Buf (Elt Ideal) ℓ) (g : Dev Cert.RefDw2Ideal.nD → PrngReg), Pre_RefDw2Ideal m →
    θ_run (Cert.RefDw2Ideal.defs (F := Ideal)) (onTc (τ := Cert.RefDw2Ideal.τ) (Cert.RefDw2Ideal.main (F := Ideal))) ⟨m, fun _ => 0, g⟩ (fun r => (∀ c : Dev Cert.RefDw2Ideal.nD,
      r.2.mem ((c.tc : Thread Cert.RefDw2Ideal.nD Cert.RefDw2Ideal.τ).loc Cert.RefDw2Ideal.main_arg0) = m ((c.tc : Thread Cert.RefDw2Ideal.nD Cert.RefDw2Ideal.τ).loc Cert.RefDw2Ideal.main_arg0)
      ∧ r.2.mem ((c.tc : Thread Cert.RefDw2Ideal.nD Cert.RefDw2Ideal.τ).loc Cert.RefDw2Ideal.main_arg1) = m ((c.tc : Thread Cert.RefDw2Ideal.nD Cert.RefDw2Ideal.τ).loc Cert.RefDw2Ideal.main_arg1)
      ∧ r.2.mem ((c.tc : Thread Cert.RefDw2Ideal.nD Cert.RefDw2Ideal.τ).loc Cert.RefDw2Ideal.main_arg2) = m ((c.tc : Thread Cert.RefDw2Ideal.nD Cert.RefDw2Ideal.τ).loc Cert.RefDw2Ideal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1))
      ∧ r.2.sem = fun _ => 0)

def quiescent_Da2 [hDa2 : Cert.Da2.Facts] : Prop :=
  ∀ (m : (ℓ : Loc Cert.Da2.nD Cert.Da2.τ Cert.Da2.sig) → Buf (Elt Bits) ℓ) (g : Dev Cert.Da2.nD → PrngReg), Pre_Da2 m →
    θ_run (Cert.Da2.defs (F := Bits)) (onTc (τ := Cert.Da2.τ) (Cert.Da2.main (F := Bits))) ⟨m, fun _ => 0, g⟩ (fun r => (∀ c : Dev Cert.Da2.nD,
      r.2.mem ((c.tc : Thread Cert.Da2.nD Cert.Da2.τ).loc Cert.Da2.main_arg0) = m ((c.tc : Thread Cert.Da2.nD Cert.Da2.τ).loc Cert.Da2.main_arg0)
      ∧ r.2.mem ((c.tc : Thread Cert.Da2.nD Cert.Da2.τ).loc Cert.Da2.main_arg1) = m ((c.tc : Thread Cert.Da2.nD Cert.Da2.τ).loc Cert.Da2.main_arg1)
      ∧ r.2.mem ((c.tc : Thread Cert.Da2.nD Cert.Da2.τ).loc Cert.Da2.main_arg2) = m ((c.tc : Thread Cert.Da2.nD Cert.Da2.τ).loc Cert.Da2.main_arg2)
      ∧ r.2.mem ((c.tc : Thread Cert.Da2.nD Cert.Da2.τ).loc Cert.Da2.main_arg3) = m ((c.tc : Thread Cert.Da2.nD Cert.Da2.τ).loc Cert.Da2.main_arg3)
      ∧ r.2.mem ((c.tc : Thread Cert.Da2.nD Cert.Da2.τ).loc Cert.Da2.main_arg4) = m ((c.tc : Thread Cert.Da2.nD Cert.Da2.τ).loc Cert.Da2.main_arg4))
      ∧ r.2.sem = fun _ => 0)

def quiescent_Da2Ideal [hDa2Ideal : Cert.Da2Ideal.Facts] : Prop :=
  ∀ (m : (ℓ : Loc Cert.Da2Ideal.nD Cert.Da2Ideal.τ Cert.Da2Ideal.sig) → Buf (Elt Ideal) ℓ) (g : Dev Cert.Da2Ideal.nD → PrngReg), Pre_Da2Ideal m →
    θ_run (Cert.Da2Ideal.defs (F := Ideal)) (onTc (τ := Cert.Da2Ideal.τ) (Cert.Da2Ideal.main (F := Ideal))) ⟨m, fun _ => 0, g⟩ (fun r => (∀ c : Dev Cert.Da2Ideal.nD,
      r.2.mem ((c.tc : Thread Cert.Da2Ideal.nD Cert.Da2Ideal.τ).loc Cert.Da2Ideal.main_arg0) = m ((c.tc : Thread Cert.Da2Ideal.nD Cert.Da2Ideal.τ).loc Cert.Da2Ideal.main_arg0)
      ∧ r.2.mem ((c.tc : Thread Cert.Da2Ideal.nD Cert.Da2Ideal.τ).loc Cert.Da2Ideal.main_arg1) = m ((c.tc : Thread Cert.Da2Ideal.nD Cert.Da2Ideal.τ).loc Cert.Da2Ideal.main_arg1)
      ∧ r.2.mem ((c.tc : Thread Cert.Da2Ideal.nD Cert.Da2Ideal.τ).loc Cert.Da2Ideal.main_arg2) = m ((c.tc : Thread Cert.Da2Ideal.nD Cert.Da2Ideal.τ).loc Cert.Da2Ideal.main_arg2)
      ∧ r.2.mem ((c.tc : Thread Cert.Da2Ideal.nD Cert.Da2Ideal.τ).loc Cert.Da2Ideal.main_arg3) = m ((c.tc : Thread Cert.Da2Ideal.nD Cert.Da2Ideal.τ).loc Cert.Da2Ideal.main_arg3)
      ∧ r.2.mem ((c.tc : Thread Cert.Da2Ideal.nD Cert.Da2Ideal.τ).loc Cert.Da2Ideal.main_arg4) = m ((c.tc : Thread Cert.Da2Ideal.nD Cert.Da2Ideal.τ).loc Cert.Da2Ideal.main_arg4))
      ∧ r.2.sem = fun _ => 0)

def quiescent_RefDa2Ideal [hRefDa2Ideal : Cert.RefDa2Ideal.Facts] : Prop :=
  ∀ (m : (ℓ : Loc Cert.RefDa2Ideal.nD Cert.RefDa2Ideal.τ Cert.RefDa2Ideal.sig) → Buf (Elt Ideal) ℓ) (g : Dev Cert.RefDa2Ideal.nD → PrngReg), Pre_RefDa2Ideal m →
    θ_run (Cert.RefDa2Ideal.defs (F := Ideal)) (onTc (τ := Cert.RefDa2Ideal.τ) (Cert.RefDa2Ideal.main (F := Ideal))) ⟨m, fun _ => 0, g⟩ (fun r => (∀ c : Dev Cert.RefDa2Ideal.nD,
      r.2.mem ((c.tc : Thread Cert.RefDa2Ideal.nD Cert.RefDa2Ideal.τ).loc Cert.RefDa2Ideal.main_arg0) = m ((c.tc : Thread Cert.RefDa2Ideal.nD Cert.RefDa2Ideal.τ).loc Cert.RefDa2Ideal.main_arg0)
      ∧ r.2.mem ((c.tc : Thread Cert.RefDa2Ideal.nD Cert.RefDa2Ideal.τ).loc Cert.RefDa2Ideal.main_arg1) = m ((c.tc : Thread Cert.RefDa2Ideal.nD Cert.RefDa2Ideal.τ).loc Cert.RefDa2Ideal.main_arg1)
      ∧ r.2.mem ((c.tc : Thread Cert.RefDa2Ideal.nD Cert.RefDa2Ideal.τ).loc Cert.RefDa2Ideal.main_arg2) = m ((c.tc : Thread Cert.RefDa2Ideal.nD Cert.RefDa2Ideal.τ).loc Cert.RefDa2Ideal.main_arg2)
      ∧ r.2.mem ((c.tc : Thread Cert.RefDa2Ideal.nD Cert.RefDa2Ideal.τ).loc Cert.RefDa2Ideal.main_arg3) = m ((c.tc : Thread Cert.RefDa2Ideal.nD Cert.RefDa2Ideal.τ).loc Cert.RefDa2Ideal.main_arg3)
      ∧ r.2.mem ((c.tc : Thread Cert.RefDa2Ideal.nD Cert.RefDa2Ideal.τ).loc Cert.RefDa2Ideal.main_arg4) = m ((c.tc : Thread Cert.RefDa2Ideal.nD Cert.RefDa2Ideal.τ).loc Cert.RefDa2Ideal.main_arg4))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_RefDwOIdeal [hRefDwOIdeal : Cert.RefDwOIdeal.Facts] : Prop :=
  ∀ (m : (ℓ : Loc Cert.RefDwOIdeal.nD Cert.RefDwOIdeal.τ Cert.RefDwOIdeal.sig) → Buf (Elt Ideal) ℓ) (g : Dev Cert.RefDwOIdeal.nD → PrngReg), Pre_RefDwOIdeal m →
    θ_run (Cert.RefDwOIdeal.defs (F := Ideal)) (onTc (τ := Cert.RefDwOIdeal.τ) (Cert.RefDwOIdeal.main (F := Ideal))) ⟨m, fun _ => 0, g⟩ (fun r => (∀ c : Dev Cert.RefDwOIdeal.nD,
      r.2.mem ((c.tc : Thread Cert.RefDwOIdeal.nD Cert.RefDwOIdeal.τ).loc Cert.RefDwOIdeal.main_arg0) = m ((c.tc : Thread Cert.RefDwOIdeal.nD Cert.RefDwOIdeal.τ).loc Cert.RefDwOIdeal.main_arg0)
      ∧ r.2.mem ((c.tc : Thread Cert.RefDwOIdeal.nD Cert.RefDwOIdeal.τ).loc Cert.RefDwOIdeal.main_arg1) = m ((c.tc : Thread Cert.RefDwOIdeal.nD Cert.RefDwOIdeal.τ).loc Cert.RefDwOIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ r.2.sem = fun _ => 0)

def quiescent_RefDwQkvIdeal [hRefDwQkvIdeal : Cert.RefDwQkvIdeal.Facts] : Prop :=
  ∀ (m : (ℓ : Loc Cert.RefDwQkvIdeal.nD Cert.RefDwQkvIdeal.τ Cert.RefDwQkvIdeal.sig) → Buf (Elt Ideal) ℓ) (g : Dev Cert.RefDwQkvIdeal.nD → PrngReg), Pre_RefDwQkvIdeal m →
    θ_run (Cert.RefDwQkvIdeal.defs (F := Ideal)) (onTc (τ := Cert.RefDwQkvIdeal.τ) (Cert.RefDwQkvIdeal.main (F := Ideal))) ⟨m, fun _ => 0, g⟩ (fun r => (∀ c : Dev Cert.RefDwQkvIdeal.nD,
      r.2.mem ((c.tc : Thread Cert.RefDwQkvIdeal.nD Cert.RefDwQkvIdeal.τ).loc Cert.RefDwQkvIdeal.main_arg0) = m ((c.tc : Thread Cert.RefDwQkvIdeal.nD Cert.RefDwQkvIdeal.τ).loc Cert.RefDwQkvIdeal.main_arg0)
      ∧ r.2.mem ((c.tc : Thread Cert.RefDwQkvIdeal.nD Cert.RefDwQkvIdeal.τ).loc Cert.RefDwQkvIdeal.main_arg1) = m ((c.tc : Thread Cert.RefDwQkvIdeal.nD Cert.RefDwQkvIdeal.τ).loc Cert.RefDwQkvIdeal.main_arg1)
      ∧ r.2.mem ((c.tc : Thread Cert.RefDwQkvIdeal.nD Cert.RefDwQkvIdeal.τ).loc Cert.RefDwQkvIdeal.main_arg2) = m ((c.tc : Thread Cert.RefDwQkvIdeal.nD Cert.RefDwQkvIdeal.τ).loc Cert.RefDwQkvIdeal.main_arg2)
      ∧ r.2.mem ((c.tc : Thread Cert.RefDwQkvIdeal.nD Cert.RefDwQkvIdeal.τ).loc Cert.RefDwQkvIdeal.main_arg3) = m ((c.tc : Thread Cert.RefDwQkvIdeal.nD Cert.RefDwQkvIdeal.τ).loc Cert.RefDwQkvIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_RefPrepIdeal [hRefPrepIdeal : Cert.RefPrepIdeal.Facts] : Prop :=
  ∀ (m : (ℓ : Loc Cert.RefPrepIdeal.nD Cert.RefPrepIdeal.τ Cert.RefPrepIdeal.sig) → Buf (Elt Ideal) ℓ) (g : Dev Cert.RefPrepIdeal.nD → PrngReg), Pre_RefPrepIdeal m →
    θ_run (Cert.RefPrepIdeal.defs (F := Ideal)) (onTc (τ := Cert.RefPrepIdeal.τ) (Cert.RefPrepIdeal.main (F := Ideal))) ⟨m, fun _ => 0, g⟩ (fun r => (∀ c : Dev Cert.RefPrepIdeal.nD,
      r.2.mem ((c.tc : Thread Cert.RefPrepIdeal.nD Cert.RefPrepIdeal.τ).loc Cert.RefPrepIdeal.main_arg0) = m ((c.tc : Thread Cert.RefPrepIdeal.nD Cert.RefPrepIdeal.τ).loc Cert.RefPrepIdeal.main_arg0)
      ∧ r.2.mem ((c.tc : Thread Cert.RefPrepIdeal.nD Cert.RefPrepIdeal.τ).loc Cert.RefPrepIdeal.main_arg1) = m ((c.tc : Thread Cert.RefPrepIdeal.nD Cert.RefPrepIdeal.τ).loc Cert.RefPrepIdeal.main_arg1)
      ∧ r.2.mem ((c.tc : Thread Cert.RefPrepIdeal.nD Cert.RefPrepIdeal.τ).loc Cert.RefPrepIdeal.main_arg2) = m ((c.tc : Thread Cert.RefPrepIdeal.nD Cert.RefPrepIdeal.τ).loc Cert.RefPrepIdeal.main_arg2))
      ∧ r.2.sem = fun _ => 0)

def preserves_Dw2_Dw2Ideal : Prop :=
  True

def algebraic_Dw2Ideal_RefDw2Ideal [hDw2Ideal : Cert.Dw2Ideal.Facts] [hRefDw2Ideal : Cert.RefDw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.RefDw2Ideal.nD Cert.RefDw2Ideal.τ Cert.RefDw2Ideal.sig) → Buf (Elt Ideal) ℓ) (g' : Dev Cert.RefDw2Ideal.nD → PrngReg), Pre_Dw2Ideal m →
    (∀ c : Dev Cert.Dw2Ideal.nD,
      m' ((c.tc : Thread Cert.RefDw2Ideal.nD Cert.RefDw2Ideal.τ).loc Cert.RefDw2Ideal.main_arg0) = m ((c.tc : Thread Cert.Dw2Ideal.nD Cert.Dw2Ideal.τ).loc Cert.Dw2Ideal.main_arg0)
      ∧ m' ((c.tc : Thread Cert.RefDw2Ideal.nD Cert.RefDw2Ideal.τ).loc Cert.RefDw2Ideal.main_arg1) = m ((c.tc : Thread Cert.Dw2Ideal.nD Cert.Dw2Ideal.τ).loc Cert.Dw2Ideal.main_arg1)
      ∧ m' ((c.tc : Thread Cert.RefDw2Ideal.nD Cert.RefDw2Ideal.τ).loc Cert.RefDw2Ideal.main_arg2) = m ((c.tc : Thread Cert.Dw2Ideal.nD Cert.Dw2Ideal.τ).loc Cert.Dw2Ideal.main_arg2)) →
    ∃ (v0 : (c : Dev Cert.Dw2Ideal.nD) → Buf (Elt Ideal) ((c.tc : Thread Cert.Dw2Ideal.nD Cert.Dw2Ideal.τ).loc Cert.Dw2Ideal.main_v0_0)) (v1 : (c : Dev Cert.Dw2Ideal.nD) → Buf (Elt Ideal) ((c.tc : Thread Cert.Dw2Ideal.nD Cert.Dw2Ideal.τ).loc Cert.Dw2Ideal.main_v0_1)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0_0) = v0 c
          ∧ r.2.mem ((c.tc : Thread Cert.Dw2Ideal.nD Cert.Dw2Ideal.τ).loc Cert.Dw2Ideal.main_v0_1) = v1 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ θ_run (Cert.RefDw2Ideal.defs (F := Ideal)) (onTc (τ := Cert.RefDw2Ideal.τ) (Cert.RefDw2Ideal.main (F := Ideal))) ⟨m', fun _ => 0, g'⟩ (fun r => ∀ c : Dev Cert.RefDw2Ideal.nD,
          r.2.mem ((c.tc : Thread Cert.RefDw2Ideal.nD Cert.RefDw2Ideal.τ).loc Cert.RefDw2Ideal.main_v0) = v0 c
          ∧ r.2.mem ((c.tc : Thread Cert.RefDw2Ideal.nD Cert.RefDw2Ideal.τ).loc Cert.RefDw2Ideal.main_v1) = v1 c
          ∧ r.2.mem ((c.tc : Thread Cert.RefDw2Ideal.nD Cert.RefDw2Ideal.τ).loc Cert.RefDw2Ideal.main_arg0) = m' ((c.tc : Thread Cert.RefDw2Ideal.nD Cert.RefDw2Ideal.τ).loc Cert.RefDw2Ideal.main_arg0)
          ∧ r.2.mem ((c.tc : Thread Cert.RefDw2Ideal.nD Cert.RefDw2Ideal.τ).loc Cert.RefDw2Ideal.main_arg1) = m' ((c.tc : Thread Cert.RefDw2Ideal.nD Cert.RefDw2Ideal.τ).loc Cert.RefDw2Ideal.main_arg1)
          ∧ r.2.mem ((c.tc : Thread Cert.RefDw2Ideal.nD Cert.RefDw2Ideal.τ).loc Cert.RefDw2Ideal.main_arg2) = m' ((c.tc : Thread Cert.RefDw2Ideal.nD Cert.RefDw2Ideal.τ).loc Cert.RefDw2Ideal.main_arg2))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v0) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1))

def preserves_Da2_Da2Ideal : Prop :=
  True

def algebraic_Da2Ideal_RefDa2Ideal [hDa2Ideal : Cert.Da2Ideal.Facts] [hRefDa2Ideal : Cert.RefDa2Ideal.Facts] : Prop :=
  ∀ (m : (ℓ : Loc Cert.Da2Ideal.nD Cert.Da2Ideal.τ Cert.Da2Ideal.sig) → Buf (Elt Ideal) ℓ) (g : Dev Cert.Da2Ideal.nD → PrngReg)
    (m' : (ℓ : Loc Cert.RefDa2Ideal.nD Cert.RefDa2Ideal.τ Cert.RefDa2Ideal.sig) → Buf (Elt Ideal) ℓ) (g' : Dev Cert.RefDa2Ideal.nD → PrngReg), Pre_Da2Ideal m →
    (∀ c : Dev Cert.Da2Ideal.nD,
      m' ((c.tc : Thread Cert.RefDa2Ideal.nD Cert.RefDa2Ideal.τ).loc Cert.RefDa2Ideal.main_arg0) = m ((c.tc : Thread Cert.Da2Ideal.nD Cert.Da2Ideal.τ).loc Cert.Da2Ideal.main_arg0)
      ∧ m' ((c.tc : Thread Cert.RefDa2Ideal.nD Cert.RefDa2Ideal.τ).loc Cert.RefDa2Ideal.main_arg1) = m ((c.tc : Thread Cert.Da2Ideal.nD Cert.Da2Ideal.τ).loc Cert.Da2Ideal.main_arg1)
      ∧ m' ((c.tc : Thread Cert.RefDa2Ideal.nD Cert.RefDa2Ideal.τ).loc Cert.RefDa2Ideal.main_arg2) = m ((c.tc : Thread Cert.Da2Ideal.nD Cert.Da2Ideal.τ).loc Cert.Da2Ideal.main_arg2)
      ∧ m' ((c.tc : Thread Cert.RefDa2Ideal.nD Cert.RefDa2Ideal.τ).loc Cert.RefDa2Ideal.main_arg3) = m ((c.tc : Thread Cert.Da2Ideal.nD Cert.Da2Ideal.τ).loc Cert.Da2Ideal.main_arg3)
      ∧ m' ((c.tc : Thread Cert.RefDa2Ideal.nD Cert.RefDa2Ideal.τ).loc Cert.RefDa2Ideal.main_arg4) = m ((c.tc : Thread Cert.Da2Ideal.nD Cert.Da2Ideal.τ).loc Cert.Da2Ideal.main_arg4)) →
    ∃ (v0 : (c : Dev Cert.Da2Ideal.nD) → Buf (Elt Ideal) ((c.tc : Thread Cert.Da2Ideal.nD Cert.Da2Ideal.τ).loc Cert.Da2Ideal.main_v0)),
      θ_run (Cert.Da2Ideal.defs (F := Ideal)) (onTc (τ := Cert.Da2Ideal.τ) (Cert.Da2Ideal.main (F := Ideal))) ⟨m, fun _ => 0, g⟩ (fun r => ∀ c : Dev Cert.Da2Ideal.nD,
          r.2.mem ((c.tc : Thread Cert.Da2Ideal.nD Cert.Da2Ideal.τ).loc Cert.Da2Ideal.main_v0) = v0 c
          ∧ r.2.mem ((c.tc : Thread Cert.Da2Ideal.nD Cert.Da2Ideal.τ).loc Cert.Da2Ideal.main_arg0) = m ((c.tc : Thread Cert.Da2Ideal.nD Cert.Da2Ideal.τ).loc Cert.Da2Ideal.main_arg0)
          ∧ r.2.mem ((c.tc : Thread Cert.Da2Ideal.nD Cert.Da2Ideal.τ).loc Cert.Da2Ideal.main_arg1) = m ((c.tc : Thread Cert.Da2Ideal.nD Cert.Da2Ideal.τ).loc Cert.Da2Ideal.main_arg1)
          ∧ r.2.mem ((c.tc : Thread Cert.Da2Ideal.nD Cert.Da2Ideal.τ).loc Cert.Da2Ideal.main_arg2) = m ((c.tc : Thread Cert.Da2Ideal.nD Cert.Da2Ideal.τ).loc Cert.Da2Ideal.main_arg2)
          ∧ r.2.mem ((c.tc : Thread Cert.Da2Ideal.nD Cert.Da2Ideal.τ).loc Cert.Da2Ideal.main_arg3) = m ((c.tc : Thread Cert.Da2Ideal.nD Cert.Da2Ideal.τ).loc Cert.Da2Ideal.main_arg3)
          ∧ r.2.mem ((c.tc : Thread Cert.Da2Ideal.nD Cert.Da2Ideal.τ).loc Cert.Da2Ideal.main_arg4) = m ((c.tc : Thread Cert.Da2Ideal.nD Cert.Da2Ideal.τ).loc Cert.Da2Ideal.main_arg4))
      ∧ θ_run (Cert.RefDa2Ideal.defs (F := Ideal)) (onTc (τ := Cert.RefDa2Ideal.τ) (Cert.RefDa2Ideal.main (F := Ideal))) ⟨m', fun _ => 0, g'⟩ (fun r => ∀ c : Dev Cert.RefDa2Ideal.nD,
          r.2.mem ((c.tc : Thread Cert.RefDa2Ideal.nD Cert.RefDa2Ideal.τ).loc Cert.RefDa2Ideal.main_v0) = v0 c
          ∧ r.2.mem ((c.tc : Thread Cert.RefDa2Ideal.nD Cert.RefDa2Ideal.τ).loc Cert.RefDa2Ideal.main_arg0) = m' ((c.tc : Thread Cert.RefDa2Ideal.nD Cert.RefDa2Ideal.τ).loc Cert.RefDa2Ideal.main_arg0)
          ∧ r.2.mem ((c.tc : Thread Cert.RefDa2Ideal.nD Cert.RefDa2Ideal.τ).loc Cert.RefDa2Ideal.main_arg1) = m' ((c.tc : Thread Cert.RefDa2Ideal.nD Cert.RefDa2Ideal.τ).loc Cert.RefDa2Ideal.main_arg1)
          ∧ r.2.mem ((c.tc : Thread Cert.RefDa2Ideal.nD Cert.RefDa2Ideal.τ).loc Cert.RefDa2Ideal.main_arg2) = m' ((c.tc : Thread Cert.RefDa2Ideal.nD Cert.RefDa2Ideal.τ).loc Cert.RefDa2Ideal.main_arg2)
          ∧ r.2.mem ((c.tc : Thread Cert.RefDa2Ideal.nD Cert.RefDa2Ideal.τ).loc Cert.RefDa2Ideal.main_arg3) = m' ((c.tc : Thread Cert.RefDa2Ideal.nD Cert.RefDa2Ideal.τ).loc Cert.RefDa2Ideal.main_arg3)
          ∧ r.2.mem ((c.tc : Thread Cert.RefDa2Ideal.nD Cert.RefDa2Ideal.τ).loc Cert.RefDa2Ideal.main_arg4) = m' ((c.tc : Thread Cert.RefDa2Ideal.nD Cert.RefDa2Ideal.τ).loc Cert.RefDa2Ideal.main_arg4))

def preserves_DwO_DwOIdeal : Prop :=
  True

def algebraic_DwOIdeal_RefDwOIdeal [hDwOIdeal : Cert.DwOIdeal.Facts] [hRefDwOIdeal : Cert.RefDwOIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.RefDwOIdeal.nD Cert.RefDwOIdeal.τ Cert.RefDwOIdeal.sig) → Buf (Elt Ideal) ℓ) (g' : Dev Cert.RefDwOIdeal.nD → PrngReg), Pre_DwOIdeal m →
    (∀ c : Dev Cert.DwOIdeal.nD,
      m' ((c.tc : Thread Cert.RefDwOIdeal.nD Cert.RefDwOIdeal.τ).loc Cert.RefDwOIdeal.main_arg0) = m ((c.tc : Thread Cert.DwOIdeal.nD Cert.DwOIdeal.τ).loc Cert.DwOIdeal.main_arg0)
      ∧ m' ((c.tc : Thread Cert.RefDwOIdeal.nD Cert.RefDwOIdeal.τ).loc Cert.RefDwOIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.RefDwOIdeal.defs (F := Ideal)) (onTc (τ := Cert.RefDwOIdeal.τ) (Cert.RefDwOIdeal.main (F := Ideal))) ⟨m', fun _ => 0, g'⟩ (fun r => ∀ c : Dev Cert.RefDwOIdeal.nD,
          r.2.mem ((c.tc : Thread Cert.RefDwOIdeal.nD Cert.RefDwOIdeal.τ).loc Cert.RefDwOIdeal.main_v0) = v0 c
          ∧ r.2.mem ((c.tc : Thread Cert.RefDwOIdeal.nD Cert.RefDwOIdeal.τ).loc Cert.RefDwOIdeal.main_arg0) = m' ((c.tc : Thread Cert.RefDwOIdeal.nD Cert.RefDwOIdeal.τ).loc Cert.RefDwOIdeal.main_arg0)
          ∧ r.2.mem ((c.tc : Thread Cert.RefDwOIdeal.nD Cert.RefDwOIdeal.τ).loc Cert.RefDwOIdeal.main_arg1) = m' ((c.tc : Thread Cert.RefDwOIdeal.nD Cert.RefDwOIdeal.τ).loc Cert.RefDwOIdeal.main_arg1))

def preserves_DwQkv_DwQkvIdeal : Prop :=
  True

def algebraic_DwQkvIdeal_RefDwQkvIdeal [hDwQkvIdeal : Cert.DwQkvIdeal.Facts] [hRefDwQkvIdeal : Cert.RefDwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.RefDwQkvIdeal.nD Cert.RefDwQkvIdeal.τ Cert.RefDwQkvIdeal.sig) → Buf (Elt Ideal) ℓ) (g' : Dev Cert.RefDwQkvIdeal.nD → PrngReg), Pre_DwQkvIdeal m →
    (∀ c : Dev Cert.DwQkvIdeal.nD,
      m' ((c.tc : Thread Cert.RefDwQkvIdeal.nD Cert.RefDwQkvIdeal.τ).loc Cert.RefDwQkvIdeal.main_arg0) = m ((c.tc : Thread Cert.DwQkvIdeal.nD Cert.DwQkvIdeal.τ).loc Cert.DwQkvIdeal.main_arg0)
      ∧ m' ((c.tc : Thread Cert.RefDwQkvIdeal.nD Cert.RefDwQkvIdeal.τ).loc Cert.RefDwQkvIdeal.main_arg1) = m ((c.tc : Thread Cert.DwQkvIdeal.nD Cert.DwQkvIdeal.τ).loc Cert.DwQkvIdeal.main_arg1)
      ∧ m' ((c.tc : Thread Cert.RefDwQkvIdeal.nD Cert.RefDwQkvIdeal.τ).loc Cert.RefDwQkvIdeal.main_arg2) = m ((c.tc : Thread Cert.DwQkvIdeal.nD Cert.DwQkvIdeal.τ).loc Cert.DwQkvIdeal.main_arg2)
      ∧ m' ((c.tc : Thread Cert.RefDwQkvIdeal.nD Cert.RefDwQkvIdeal.τ).loc Cert.RefDwQkvIdeal.main_arg3) = m ((c.tc : Thread Cert.DwQkvIdeal.nD Cert.DwQkvIdeal.τ).loc Cert.DwQkvIdeal.main_arg3)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ θ_run (Cert.RefDwQkvIdeal.defs (F := Ideal)) (onTc (τ := Cert.RefDwQkvIdeal.τ) (Cert.RefDwQkvIdeal.main (F := Ideal))) ⟨m', fun _ => 0, g'⟩ (fun r => ∀ c : Dev Cert.RefDwQkvIdeal.nD,
          r.2.mem ((c.tc : Thread Cert.RefDwQkvIdeal.nD Cert.RefDwQkvIdeal.τ).loc Cert.RefDwQkvIdeal.main_v4) = v0 c
          ∧ r.2.mem ((c.tc : Thread Cert.RefDwQkvIdeal.nD Cert.RefDwQkvIdeal.τ).loc Cert.RefDwQkvIdeal.main_arg0) = m' ((c.tc : Thread Cert.RefDwQkvIdeal.nD Cert.RefDwQkvIdeal.τ).loc Cert.RefDwQkvIdeal.main_arg0)
          ∧ r.2.mem ((c.tc : Thread Cert.RefDwQkvIdeal.nD Cert.RefDwQkvIdeal.τ).loc Cert.RefDwQkvIdeal.main_arg1) = m' ((c.tc : Thread Cert.RefDwQkvIdeal.nD Cert.RefDwQkvIdeal.τ).loc Cert.RefDwQkvIdeal.main_arg1)
          ∧ r.2.mem ((c.tc : Thread Cert.RefDwQkvIdeal.nD Cert.RefDwQkvIdeal.τ).loc Cert.RefDwQkvIdeal.main_arg2) = m' ((c.tc : Thread Cert.RefDwQkvIdeal.nD Cert.RefDwQkvIdeal.τ).loc Cert.RefDwQkvIdeal.main_arg2)
          ∧ r.2.mem ((c.tc : Thread Cert.RefDwQkvIdeal.nD Cert.RefDwQkvIdeal.τ).loc Cert.RefDwQkvIdeal.main_arg3) = m' ((c.tc : Thread Cert.RefDwQkvIdeal.nD Cert.RefDwQkvIdeal.τ).loc Cert.RefDwQkvIdeal.main_arg3))

def preserves_Qkv_QkvIdeal : Prop :=
  True

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)
      ∧ m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v0) = v0 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)) (v4 : (c : Dev Cert.MlpIdeal.nD) → Buf (Elt Ideal) ((c.tc : Thread Cert.MlpIdeal.nD Cert.MlpIdeal.τ).loc Cert.MlpIdeal.main_v0_4)) (v5 : (c : Dev Cert.MlpIdeal.nD) → Buf (Elt Ideal) ((c.tc : Thread Cert.MlpIdeal.nD Cert.MlpIdeal.τ).loc Cert.MlpIdeal.main_v0_5)) (v6 : (c : Dev Cert.MlpIdeal.nD) → Buf (Elt Ideal) ((c.tc : Thread Cert.MlpIdeal.nD Cert.MlpIdeal.τ).loc Cert.MlpIdeal.main_v0_6)) (v7 : (c : Dev Cert.MlpIdeal.nD) → Buf (Elt Ideal) ((c.tc : Thread Cert.MlpIdeal.nD Cert.MlpIdeal.τ).loc Cert.MlpIdeal.main_v0_7)) (v8 : (c : Dev Cert.MlpIdeal.nD) → Buf (Elt Ideal) ((c.tc : Thread Cert.MlpIdeal.nD Cert.MlpIdeal.τ).loc Cert.MlpIdeal.main_v0_8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_v0_4) = v4 c
          ∧ r.2.mem ((c.tc : Thread Cert.MlpIdeal.nD Cert.MlpIdeal.τ).loc Cert.MlpIdeal.main_v0_5) = v5 c
          ∧ r.2.mem ((c.tc : Thread Cert.MlpIdeal.nD Cert.MlpIdeal.τ).loc Cert.MlpIdeal.main_v0_6) = v6 c
          ∧ r.2.mem ((c.tc : Thread Cert.MlpIdeal.nD Cert.MlpIdeal.τ).loc Cert.MlpIdeal.main_v0_7) = v7 c
          ∧ r.2.mem ((c.tc : Thread Cert.MlpIdeal.nD Cert.MlpIdeal.τ).loc Cert.MlpIdeal.main_v0_8) = v8 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v0_0) = v0 c
          ∧ r.2.mem ((c.tc : Thread Cert.RefMlpIdeal.nD Cert.RefMlpIdeal.τ).loc Cert.RefMlpIdeal.main_v0_1) = v1 c
          ∧ r.2.mem ((c.tc : Thread Cert.RefMlpIdeal.nD Cert.RefMlpIdeal.τ).loc Cert.RefMlpIdeal.main_v0_2) = v2 c
          ∧ r.2.mem ((c.tc : Thread Cert.RefMlpIdeal.nD Cert.RefMlpIdeal.τ).loc Cert.RefMlpIdeal.main_v0_3) = v3 c
          ∧ r.2.mem ((c.tc : Thread Cert.RefMlpIdeal.nD Cert.RefMlpIdeal.τ).loc Cert.RefMlpIdeal.main_v0_4) = v4 c
          ∧ r.2.mem ((c.tc : Thread Cert.RefMlpIdeal.nD Cert.RefMlpIdeal.τ).loc Cert.RefMlpIdeal.main_v0_5) = v5 c
          ∧ r.2.mem ((c.tc : Thread Cert.RefMlpIdeal.nD Cert.RefMlpIdeal.τ).loc Cert.RefMlpIdeal.main_v0_6) = v6 c
          ∧ r.2.mem ((c.tc : Thread Cert.RefMlpIdeal.nD Cert.RefMlpIdeal.τ).loc Cert.RefMlpIdeal.main_v0_7) = v7 c
          ∧ r.2.mem ((c.tc : Thread Cert.RefMlpIdeal.nD Cert.RefMlpIdeal.τ).loc Cert.RefMlpIdeal.main_v0_8) = v8 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5))

def preserves_Prep_PrepIdeal : Prop :=
  True

def algebraic_PrepIdeal_RefPrepIdeal [hPrepIdeal : Cert.PrepIdeal.Facts] [hRefPrepIdeal : Cert.RefPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.RefPrepIdeal.nD Cert.RefPrepIdeal.τ Cert.RefPrepIdeal.sig) → Buf (Elt Ideal) ℓ) (g' : Dev Cert.RefPrepIdeal.nD → PrngReg), Pre_PrepIdeal m →
    (∀ c : Dev Cert.PrepIdeal.nD,
      m' ((c.tc : Thread Cert.RefPrepIdeal.nD Cert.RefPrepIdeal.τ).loc Cert.RefPrepIdeal.main_arg0) = m ((c.tc : Thread Cert.PrepIdeal.nD Cert.PrepIdeal.τ).loc Cert.PrepIdeal.main_arg0)
      ∧ m' ((c.tc : Thread Cert.RefPrepIdeal.nD Cert.RefPrepIdeal.τ).loc Cert.RefPrepIdeal.main_arg1) = m ((c.tc : Thread Cert.PrepIdeal.nD Cert.PrepIdeal.τ).loc Cert.PrepIdeal.main_arg1)
      ∧ m' ((c.tc : Thread Cert.RefPrepIdeal.nD Cert.RefPrepIdeal.τ).loc Cert.RefPrepIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v1_0)) (v1 : (c : Dev Cert.PrepIdeal.nD) → Buf (Elt Ideal) ((c.tc : Thread Cert.PrepIdeal.nD Cert.PrepIdeal.τ).loc Cert.PrepIdeal.main_v1_1)) (v2 : (c : Dev Cert.PrepIdeal.nD) → Buf (Elt Ideal) ((c.tc : Thread Cert.PrepIdeal.nD Cert.PrepIdeal.τ).loc Cert.PrepIdeal.main_v1_2)) (v3 : (c : Dev Cert.PrepIdeal.nD) → Buf (Elt Ideal) ((c.tc : Thread Cert.PrepIdeal.nD Cert.PrepIdeal.τ).loc Cert.PrepIdeal.main_v1_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1_0) = v0 c
          ∧ r.2.mem ((c.tc : Thread Cert.PrepIdeal.nD Cert.PrepIdeal.τ).loc Cert.PrepIdeal.main_v1_1) = v1 c
          ∧ r.2.mem ((c.tc : Thread Cert.PrepIdeal.nD Cert.PrepIdeal.τ).loc Cert.PrepIdeal.main_v1_2) = v2 c
          ∧ r.2.mem ((c.tc : Thread Cert.PrepIdeal.nD Cert.PrepIdeal.τ).loc Cert.PrepIdeal.main_v1_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.RefPrepIdeal.defs (F := Ideal)) (onTc (τ := Cert.RefPrepIdeal.τ) (Cert.RefPrepIdeal.main (F := Ideal))) ⟨m', fun _ => 0, g'⟩ (fun r => ∀ c : Dev Cert.RefPrepIdeal.nD,
          r.2.mem ((c.tc : Thread Cert.RefPrepIdeal.nD Cert.RefPrepIdeal.τ).loc Cert.RefPrepIdeal.main_v1_0) = v0 c
          ∧ r.2.mem ((c.tc : Thread Cert.RefPrepIdeal.nD Cert.RefPrepIdeal.τ).loc Cert.RefPrepIdeal.main_v1_1) = v1 c
          ∧ r.2.mem ((c.tc : Thread Cert.RefPrepIdeal.nD Cert.RefPrepIdeal.τ).loc Cert.RefPrepIdeal.main_v1_2) = v2 c
          ∧ r.2.mem ((c.tc : Thread Cert.RefPrepIdeal.nD Cert.RefPrepIdeal.τ).loc Cert.RefPrepIdeal.main_v1_3) = v3 c
          ∧ r.2.mem ((c.tc : Thread Cert.RefPrepIdeal.nD Cert.RefPrepIdeal.τ).loc Cert.RefPrepIdeal.main_arg0) = m' ((c.tc : Thread Cert.RefPrepIdeal.nD Cert.RefPrepIdeal.τ).loc Cert.RefPrepIdeal.main_arg0)
          ∧ r.2.mem ((c.tc : Thread Cert.RefPrepIdeal.nD Cert.RefPrepIdeal.τ).loc Cert.RefPrepIdeal.main_arg1) = m' ((c.tc : Thread Cert.RefPrepIdeal.nD Cert.RefPrepIdeal.τ).loc Cert.RefPrepIdeal.main_arg1)
          ∧ r.2.mem ((c.tc : Thread Cert.RefPrepIdeal.nD Cert.RefPrepIdeal.τ).loc Cert.RefPrepIdeal.main_arg2) = m' ((c.tc : Thread Cert.RefPrepIdeal.nD Cert.RefPrepIdeal.τ).loc Cert.RefPrepIdeal.main_arg2))

def Claim : Prop :=
  ∃ (hDw2 : Cert.Dw2.Facts) (hDw2Ideal : Cert.Dw2Ideal.Facts) (hRefDw2Ideal : Cert.RefDw2Ideal.Facts) (hDwDown : Cert.DwDown.Facts) (hDwDownIdeal : Cert.DwDownIdeal.Facts) (hRefDwDownIdeal : Cert.RefDwDownIdeal.Facts) (hDa2 : Cert.Da2.Facts) (hDa2Ideal : Cert.Da2Ideal.Facts) (hRefDa2Ideal : Cert.RefDa2Ideal.Facts) (hDwO : Cert.DwO.Facts) (hDwOIdeal : Cert.DwOIdeal.Facts) (hRefDwOIdeal : Cert.RefDwOIdeal.Facts) (hDwQkv : Cert.DwQkv.Facts) (hDwQkvIdeal : Cert.DwQkvIdeal.Facts) (hRefDwQkvIdeal : Cert.RefDwQkvIdeal.Facts) (hQkv : Cert.Qkv.Facts) (hQkvIdeal : Cert.QkvIdeal.Facts) (hRefQkvIdeal : Cert.RefQkvIdeal.Facts) (hMlp : Cert.Mlp.Facts) (hMlpIdeal : Cert.MlpIdeal.Facts) (hRefMlpIdeal : Cert.RefMlpIdeal.Facts) (hPrep : Cert.Prep.Facts) (hPrepIdeal : Cert.PrepIdeal.Facts) (hRefPrepIdeal : Cert.RefPrepIdeal.Facts),
    quiescent_Dw2 (hDw2 := hDw2)
    ∧ quiescent_Dw2Ideal (hDw2Ideal := hDw2Ideal)
    ∧ quiescent_RefDw2Ideal (hRefDw2Ideal := hRefDw2Ideal)
    ∧ quiescent_DwDown (hDwDown := hDwDown)
    ∧ quiescent_DwDownIdeal (hDwDownIdeal := hDwDownIdeal)
    ∧ quiescent_RefDwDownIdeal (hRefDwDownIdeal := hRefDwDownIdeal)
    ∧ quiescent_Da2 (hDa2 := hDa2)
    ∧ quiescent_Da2Ideal (hDa2Ideal := hDa2Ideal)
    ∧ quiescent_RefDa2Ideal (hRefDa2Ideal := hRefDa2Ideal)
    ∧ quiescent_DwO (hDwO := hDwO)
    ∧ quiescent_DwOIdeal (hDwOIdeal := hDwOIdeal)
    ∧ quiescent_RefDwOIdeal (hRefDwOIdeal := hRefDwOIdeal)
    ∧ quiescent_DwQkv (hDwQkv := hDwQkv)
    ∧ quiescent_DwQkvIdeal (hDwQkvIdeal := hDwQkvIdeal)
    ∧ quiescent_RefDwQkvIdeal (hRefDwQkvIdeal := hRefDwQkvIdeal)
    ∧ quiescent_Qkv (hQkv := hQkv)
    ∧ quiescent_QkvIdeal (hQkvIdeal := hQkvIdeal)
    ∧ quiescent_RefQkvIdeal (hRefQkvIdeal := hRefQkvIdeal)
    ∧ quiescent_Mlp (hMlp := hMlp)
    ∧ quiescent_MlpIdeal (hMlpIdeal := hMlpIdeal)
    ∧ quiescent_RefMlpIdeal (hRefMlpIdeal := hRefMlpIdeal)
    ∧ quiescent_Prep (hPrep := hPrep)
    ∧ quiescent_PrepIdeal (hPrepIdeal := hPrepIdeal)
    ∧ quiescent_RefPrepIdeal (hRefPrepIdeal := hRefPrepIdeal)
    ∧ preserves_Dw2_Dw2Ideal
    ∧ algebraic_Dw2Ideal_RefDw2Ideal (hDw2Ideal := hDw2Ideal) (hRefDw2Ideal := hRefDw2Ideal)
    ∧ preserves_DwDown_DwDownIdeal
    ∧ algebraic_DwDownIdeal_RefDwDownIdeal (hDwDownIdeal := hDwDownIdeal) (hRefDwDownIdeal := hRefDwDownIdeal)
    ∧ preserves_Da2_Da2Ideal
    ∧ algebraic_Da2Ideal_RefDa2Ideal (hDa2Ideal := hDa2Ideal) (hRefDa2Ideal := hRefDa2Ideal)
    ∧ preserves_DwO_DwOIdeal
    ∧ algebraic_DwOIdeal_RefDwOIdeal (hDwOIdeal := hDwOIdeal) (hRefDwOIdeal := hRefDwOIdeal)
    ∧ preserves_DwQkv_DwQkvIdeal
    ∧ algebraic_DwQkvIdeal_RefDwQkvIdeal (hDwQkvIdeal := hDwQkvIdeal) (hRefDwQkvIdeal := hRefDwQkvIdeal)
    ∧ preserves_Qkv_QkvIdeal
    ∧ algebraic_QkvIdeal_RefQkvIdeal (hQkvIdeal := hQkvIdeal) (hRefQkvIdeal := hRefQkvIdeal)
    ∧ preserves_Mlp_MlpIdeal
    ∧ algebraic_MlpIdeal_RefMlpIdeal (hMlpIdeal := hMlpIdeal) (hRefMlpIdeal := hRefMlpIdeal)
    ∧ preserves_Prep_PrepIdeal
    ∧ algebraic_PrepIdeal_RefPrepIdeal (hPrepIdeal := hPrepIdeal) (hRefPrepIdeal := hRefPrepIdeal)
-- ==== Dw2.lean ====
abbrev S2048x6400 : Shape := ⟨2, ![2048, 6400]⟩
abbrev S11008x6400 : Shape := ⟨2, ![11008, 6400]⟩
abbrev S2048x11008 : Shape := ⟨2, ![2048, 11008]⟩
abbrev S256x6400 : Shape := ⟨2, ![256, 6400]⟩
abbrev S2048x256 : Shape := ⟨2, ![2048, 256]⟩

abbrev nBuf : Space → Nat
  | .hbm => 5
  | .vmem => 9
  | .smem => 0
  | _ => 0

abbrev bufTy : (tb : Table) → Fin (tcTables nBuf tb) → BufTy
  | .hbm, ⟨0, _⟩ => ⟨S2048x6400, .bf16⟩
  | .hbm, ⟨1, _⟩ => ⟨S11008x6400, .bf16⟩
  | .hbm, ⟨2, _⟩ => ⟨S11008x6400, .bf16⟩
  | .hbm, ⟨3, _⟩ => ⟨S2048x11008, .f32⟩
  | .hbm, ⟨4, _⟩ => ⟨S2048x11008, .f32⟩
  | .local _ .vmem, ⟨0, _⟩ => ⟨S2048x6400, .bf16⟩
  | .local _ .vmem, ⟨1, _⟩ => ⟨S256x6400, .bf16⟩
  | .local _ .vmem, ⟨2, _⟩ => ⟨S256x6400, .bf16⟩
  | .local _ .vmem, ⟨3, _⟩ => ⟨S256x6400, .bf16⟩
  | .local _ .vmem, ⟨4, _⟩ => ⟨S256x6400, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S2048x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x6400 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6400 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDw2Ideal.lean ====
abbrev S2048x6400 : Shape := ⟨2, ![2048, 6400]⟩
abbrev S11008x6400 : Shape := ⟨2, ![11008, 6400]⟩
abbrev S2048x11008 : Shape := ⟨2, ![2048, 11008]⟩

abbrev nBuf : Space → Nat
  | .hbm => 5
  | .vmem => 0
  | .smem => 0
  | _ => 0

abbrev bufTy : (tb : Table) → Fin (tcTables nBuf tb) → BufTy
  | .hbm, ⟨0, _⟩ => ⟨S2048x6400, .bf16⟩
  | .hbm, ⟨1, _⟩ => ⟨S11008x6400, .bf16⟩
  | .hbm, ⟨2, _⟩ => ⟨S11008x6400, .bf16⟩
  | .hbm, ⟨3, _⟩ => ⟨S2048x11008, .f32⟩
  | .hbm, ⟨4, _⟩ => ⟨S2048x11008, .f32⟩
  | _, _ => ⟨S2048x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwDown.lean ====
abbrev S11008x6400 : Shape := ⟨2, ![11008, 6400]⟩
abbrev S6400x2048 : Shape := ⟨2, ![6400, 2048]⟩
abbrev S11008x2048 : Shape := ⟨2, ![11008, 2048]⟩
abbrev S256x6400 : Shape := ⟨2, ![256, 6400]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S11008x6400, .bf16⟩
  | .hbm, ⟨1, _⟩ => ⟨S6400x2048, .bf16⟩
  | .hbm, ⟨2, _⟩ => ⟨S11008x2048, .f32⟩
  | .local _ .vmem, ⟨0, _⟩ => ⟨S256x6400, .bf16⟩
  | .local _ .vmem, ⟨1, _⟩ => ⟨S256x6400, .bf16⟩
  | .local _ .vmem, ⟨2, _⟩ => ⟨S6400x2048, .bf16⟩
  | .local _ .vmem, ⟨3, _⟩ => ⟨S256x2048, .f32⟩
  | .local _ .vmem, ⟨4, _⟩ => ⟨S256x2048, .f32⟩
  | _, _ => ⟨S11008x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6400x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDwDownIdeal.lean ====
abbrev S11008x6400 : Shape := ⟨2, ![11008, 6400]⟩
abbrev S6400x2048 : Shape := ⟨2, ![6400, 2048]⟩
abbrev S11008x2048 : Shape := ⟨2, ![11008, 2048]⟩

abbrev nBuf : Space → Nat
  | .hbm => 3
  | .vmem => 0
  | .smem => 0
  | _ => 0

abbrev bufTy : (tb : Table) → Fin (tcTables nBuf tb) → BufTy
  | .hbm, ⟨0, _⟩ => ⟨S11008x6400, .bf16⟩
  | .hbm, ⟨1, _⟩ => ⟨S6400x2048, .bf16⟩
  | .hbm, ⟨2, _⟩ => ⟨S11008x2048, .f32⟩
  | _, _ => ⟨S11008x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Da2.lean ====
abbrev S3 : Shape := ⟨1, ![3]⟩
abbrev S2048x11008 : Shape := ⟨2, ![2048, 11008]⟩
abbrev S11008x6400 : Shape := ⟨2, ![11008, 6400]⟩
abbrev S2048x6400 : Shape := ⟨2, ![2048, 6400]⟩
abbrev S1024x11008 : Shape := ⟨2, ![1024, 11008]⟩
abbrev S11008x256 : Shape := ⟨2, ![11008, 256]⟩
abbrev S1024x256 : Shape := ⟨2, ![1024, 256]⟩
abbrev S1 : Shape := ⟨1, ![1]⟩

abbrev nBuf : Space → Nat
  | .hbm => 6
  | .vmem => 8
  | .smem => 1
  | _ => 0

abbrev bufTy : (tb : Table) → Fin (tcTables nBuf tb) → BufTy
  | .hbm, ⟨0, _⟩ => ⟨S3, .f32⟩
  | .hbm, ⟨1, _⟩ => ⟨S2048x11008, .fp8e4m3⟩
  | .hbm, ⟨2, _⟩ => ⟨S2048x11008, .fp8e4m3⟩
  | .hbm, ⟨3, _⟩ => ⟨S11008x6400, .bf16⟩
  | .hbm, ⟨4, _⟩ => ⟨S11008x6400, .bf16⟩
  | .hbm, ⟨5, _⟩ => ⟨S2048x6400, .f32⟩
  | .local _ .vmem, ⟨0, _⟩ => ⟨S1024x11008, .fp8e4m3⟩
  | .local _ .vmem, ⟨1, _⟩ => ⟨S11008x256, .bf16⟩
  | .local _ .vmem, ⟨2, _⟩ => ⟨S11008x256, .bf16⟩
  | .local _ .vmem, ⟨3, _⟩ => ⟨S11008x256, .bf16⟩
  | .local _ .vmem, ⟨4, _⟩ => ⟨S11008x256, .bf16⟩
  | .local _ .vmem, ⟨5, _⟩ => ⟨S1024x11008, .fp8e4m3⟩
  | .local _ .vmem, ⟨6, _⟩ => ⟨S1024x256, .f32⟩
  | .local _ .vmem, ⟨7, _⟩ => ⟨S1024x256, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 25], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S11008x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S11008x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x11008 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefDa2Ideal.lean ====
abbrev S3 : Shape := ⟨1, ![3]⟩
abbrev S2048x11008 : Shape := ⟨2, ![2048, 11008]⟩
abbrev S11008x6400 : Shape := ⟨2, ![11008, 6400]⟩
abbrev S2048x6400 : Shape := ⟨2, ![2048, 6400]⟩
abbrev S1 : Shape := ⟨1, ![1]⟩

abbrev nBuf : Space → Nat
  | .hbm => 6
  | .vmem => 5
  | .smem => 1
  | _ => 0

abbrev bufTy : (tb : Table) → Fin (tcTables nBuf tb) → BufTy
  | .hbm, ⟨0, _⟩ => ⟨S3, .f32⟩
  | .hbm, ⟨1, _⟩ => ⟨S2048x11008, .fp8e4m3⟩
  | .hbm, ⟨2, _⟩ => ⟨S2048x11008, .fp8e4m3⟩
  | .hbm, ⟨3, _⟩ => ⟨S11008x6400, .bf16⟩
  | .hbm, ⟨4, _⟩ => ⟨S11008x6400, .bf16⟩
  | .hbm, ⟨5, _⟩ => ⟨S2048x6400, .f32⟩
  | .local _ .vmem, ⟨0, _⟩ => ⟨S2048x11008, .fp8e4m3⟩
  | .local _ .vmem, ⟨1, _⟩ => ⟨S2048x11008, .fp8e4m3⟩
  | .local _ .vmem, ⟨2, _⟩ => ⟨S11008x6400, .bf16⟩
  | .local _ .vmem, ⟨3, _⟩ => ⟨S11008x6400, .bf16⟩
  | .local _ .vmem, ⟨4, _⟩ => ⟨S2048x6400, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x11008 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwO.lean ====
abbrev S2048x6400 : Shape := ⟨2, ![2048, 6400]⟩
abbrev S2048x2048 : Shape := ⟨2, ![2048, 2048]⟩
abbrev S256x6400 : Shape := ⟨2, ![256, 6400]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x6400, .bf16⟩
  | .hbm, ⟨1, _⟩ => ⟨S2048x6400, .bf16⟩
  | .hbm, ⟨2, _⟩ => ⟨S2048x2048, .f32⟩
  | .local _ .vmem, ⟨0, _⟩ => ⟨S2048x6400, .bf16⟩
  | .local _ .vmem, ⟨1, _⟩ => ⟨S256x6400, .bf16⟩
  | .local _ .vmem, ⟨2, _⟩ => ⟨S256x6400, .bf16⟩
  | .local _ .vmem, ⟨3, _⟩ => ⟨S2048x256, .f32⟩
  | .local _ .vmem, ⟨4, _⟩ => ⟨S2048x256, .f32⟩
  | _, _ => ⟨S2048x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x6400 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDwOIdeal.lean ====
abbrev S2048x6400 : Shape := ⟨2, ![2048, 6400]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x6400, .bf16⟩
  | .hbm, ⟨1, _⟩ => ⟨S2048x6400, .bf16⟩
  | .hbm, ⟨2, _⟩ => ⟨S2048x2048, .f32⟩
  | _, _ => ⟨S2048x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwQkv.lean ====
abbrev S1 : Shape := ⟨1, ![1]⟩
abbrev S2048x6400 : Shape := ⟨2, ![2048, 6400]⟩
abbrev S512x6400 : Shape := ⟨2, ![512, 6400]⟩
abbrev S2048x2560 : Shape := ⟨2, ![2048, 2560]⟩
abbrev S256x6400 : Shape := ⟨2, ![256, 6400]⟩
abbrev S2048x256 : Shape := ⟨2, ![2048, 256]⟩

abbrev nBuf : Space → Nat
  | .hbm => 5
  | .vmem => 7
  | .smem => 1
  | _ => 0

abbrev bufTy : (tb : Table) → Fin (tcTables nBuf tb) → BufTy
  | .hbm, ⟨0, _⟩ => ⟨S1, .f32⟩
  | .hbm, ⟨1, _⟩ => ⟨S2048x6400, .bf16⟩
  | .hbm, ⟨2, _⟩ => ⟨S2048x6400, .bf16⟩
  | .hbm, ⟨3, _⟩ => ⟨S512x6400, .bf16⟩
  | .hbm, ⟨4, _⟩ => ⟨S2048x2560, .f32⟩
  | .local _ .vmem, ⟨0, _⟩ => ⟨S2048x6400, .bf16⟩
  | .local _ .vmem, ⟨1, _⟩ => ⟨S256x6400, .bf16⟩
  | .local _ .vmem, ⟨2, _⟩ => ⟨S256x6400, .bf16⟩
  | .local _ .vmem, ⟨3, _⟩ => ⟨S256x6400, .bf16⟩
  | .local _ .vmem, ⟨4, _⟩ => ⟨S256x6400, .bf16⟩
  | .local _ .vmem, ⟨5, _⟩ => ⟨S2048x256, .f32⟩
  | .local _ .vmem, ⟨6, _⟩ => ⟨S2048x256, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x6400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6400 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6400 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDwQkvIdeal.lean ====
abbrev S1 : Shape := ⟨1, ![1]⟩
abbrev S2048x6400 : Shape := ⟨2, ![2048, 6400]⟩
abbrev S512x6400 : Shape := ⟨2, ![512, 6400]⟩
abbrev S2560x6400 : Shape := ⟨2, ![2560, 6400]⟩
abbrev S2048x2560 : Shape := ⟨2, ![2048, 2560]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1, .f32⟩
  | .hbm, ⟨1, _⟩ => ⟨S2048x6400, .bf16⟩
  | .hbm, ⟨2, _⟩ => ⟨S2048x6400, .bf16⟩
  | .hbm, ⟨3, _⟩ => ⟨S512x6400, .bf16⟩
  | .hbm, ⟨4, _⟩ => ⟨S2560x6400, .bf16⟩
  | .hbm, ⟨5, _⟩ => ⟨S2048x2560, .f32⟩
  | .hbm, ⟨6, _⟩ => ⟨S_, .f32⟩
  | .hbm, ⟨7, _⟩ => ⟨S2048x2560, .f32⟩
  | .hbm, ⟨8, _⟩ => ⟨S2048x2560, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Qkv.lean ====
abbrev S2048x2560 : Shape := ⟨2, ![2048, 2560]⟩
abbrev S1 : Shape := ⟨1, ![1]⟩
abbrev S2048x6400 : Shape := ⟨2, ![2048, 6400]⟩
abbrev S2560x6400 : Shape := ⟨2, ![2560, 6400]⟩
abbrev S2048x256 : Shape := ⟨2, ![2048, 256]⟩
abbrev S2560x256 : Shape := ⟨2, ![2560, 256]⟩
abbrev S2560x2048 : Shape := ⟨2, ![2560, 2048]⟩

abbrev nBuf : Space → Nat
  | .hbm => 4
  | .vmem => 6
  | .smem => 1
  | _ => 0

abbrev bufTy : (tb : Table) → Fin (tcTables nBuf tb) → BufTy
  | .hbm, ⟨0, _⟩ => ⟨S2048x2560, .fp8e4m3⟩
  | .hbm, ⟨1, _⟩ => ⟨S1, .f32⟩
  | .hbm, ⟨2, _⟩ => ⟨S2048x6400, .bf16⟩
  | .hbm, ⟨3, _⟩ => ⟨S2560x6400, .bf16⟩
  | .local _ .vmem, ⟨0, _⟩ => ⟨S2048x2560, .fp8e4m3⟩
  | .local _ .vmem, ⟨1, _⟩ => ⟨S2048x256, .bf16⟩
  | .local _ .vmem, ⟨2, _⟩ => ⟨S2048x256, .bf16⟩
  | .local _ .vmem, ⟨3, _⟩ => ⟨S2560x256, .bf16⟩
  | .local _ .vmem, ⟨4, _⟩ => ⟨S2560x256, .bf16⟩
  | .local _ .vmem, ⟨5, _⟩ => ⟨S2560x2048, .bf16⟩
  | .local _ .smem, ⟨0, _⟩ => ⟨S1, .f32⟩
  | _, _ => ⟨S2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefQkvIdeal.lean ====
abbrev S2048x2560 : Shape := ⟨2, ![2048, 2560]⟩
abbrev S1 : Shape := ⟨1, ![1]⟩
abbrev S2048x6400 : Shape := ⟨2, ![2048, 6400]⟩
abbrev S2560x6400 : Shape := ⟨2, ![2560, 6400]⟩

abbrev nBuf : Space → Nat
  | .hbm => 4
  | .vmem => 3
  | .smem => 1
  | _ => 0

abbrev bufTy : (tb : Table) → Fin (tcTables nBuf tb) → BufTy
  | .hbm, ⟨0, _⟩ => ⟨S2048x2560, .fp8e4m3⟩
  | .hbm, ⟨1, _⟩ => ⟨S1, .f32⟩
  | .hbm, ⟨2, _⟩ => ⟨S2048x6400, .bf16⟩
  | .hbm, ⟨3, _⟩ => ⟨S2560x6400, .bf16⟩
  | .local _ .vmem, ⟨0, _⟩ => ⟨S2048x2560, .fp8e4m3⟩
  | .local _ .vmem, ⟨1, _⟩ => ⟨S2048x6400, .bf16⟩
  | .local _ .vmem, ⟨2, _⟩ => ⟨S2560x6400, .bf16⟩
  | .local _ .smem, ⟨0, _⟩ => ⟨S1, .f32⟩
  | _, _ => ⟨S2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Mlp.lean ====
abbrev S3 : Shape := ⟨1, ![3]⟩
abbrev S2048x6400 : Shape := ⟨2, ![2048, 6400]⟩
abbrev S2048x11008 : Shape := ⟨2, ![2048, 11008]⟩
abbrev S11008x2048 : Shape := ⟨2, ![11008, 2048]⟩
abbrev S6400x11008 : Shape := ⟨2, ![6400, 11008]⟩
abbrev S344x6400 : Shape := ⟨2, ![344, 6400]⟩
abbrev S11008x6400 : Shape := ⟨2, ![11008, 6400]⟩
abbrev S2048x1280 : Shape := ⟨2, ![2048, 1280]⟩
abbrev S2048x256 : Shape := ⟨2, ![2048, 256]⟩
abbrev S256x2048 : Shape := ⟨2, ![256, 2048]⟩
abbrev S1280x256 : Shape := ⟨2, ![1280, 256]⟩
abbrev S8x1280 : Shape := ⟨2, ![8, 1280]⟩
abbrev S256x1280 : Shape := ⟨2, ![256, 1280]⟩
abbrev S512x2048 : Shape := ⟨2, ![512, 2048]⟩
abbrev S512x1280 : Shape := ⟨2, ![512, 1280]⟩
abbrev S1 : Shape := ⟨1, ![1]⟩
abbrev S32x256 : Shape := ⟨2, ![32, 256]⟩
abbrev S256 : Shape := ⟨1, ![256]⟩
abbrev S1x256 : Shape := ⟨2, ![1, 256]⟩
abbrev S254x1 : Shape := ⟨2, ![254, 1]⟩
abbrev S254x256 : Shape := ⟨2, ![254, 256]⟩
abbrev S256x256 : Shape := ⟨2, ![256, 256]⟩
abbrev S512x256 : Shape := ⟨2, ![512, 256]⟩

abbrev nBuf : Space → Nat
  | .hbm => 15
  | .vmem => 35
  | .smem => 1
  | _ => 0

abbrev bufTy : (tb : Table) → Fin (tcTables nBuf tb) → BufTy
  | .hbm, ⟨0, _⟩ => ⟨S3, .f32⟩
  | .hbm, ⟨1, _⟩ => ⟨S2048x6400, .bf16⟩
  | .hbm, ⟨2, _⟩ => ⟨S2048x6400, .bf16⟩
  | .hbm, ⟨3, _⟩ => ⟨S2048x11008, .fp8e4m3⟩
  | .hbm, ⟨4, _⟩ => ⟨S2048x11008, .fp8e4m3⟩
  | .hbm, ⟨5, _⟩ => ⟨S11008x2048, .fp8e4m3⟩
  | .hbm, ⟨6, _⟩ => ⟨S6400x11008, .fp8e4m3⟩
  | .hbm, ⟨7, _⟩ => ⟨S6400x11008, .fp8e5m2⟩
  | .hbm, ⟨8, _⟩ => ⟨S6400x11008, .fp8e5m2⟩
  | .hbm, ⟨9, _⟩ => ⟨S344x6400, .f32⟩
  | .hbm, ⟨10, _⟩ => ⟨S344x6400, .f32⟩
  | .hbm, ⟨11, _⟩ => ⟨S344x6400, .f32⟩
  | .hbm, ⟨12, _⟩ => ⟨S11008x6400, .bf16⟩
  | .hbm, ⟨13, _⟩ => ⟨S11008x6400, .bf16⟩
  | .hbm, ⟨14, _⟩ => ⟨S11008x6400, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1280, .bf16⟩
  | .local _ .vmem, ⟨3, _⟩ => ⟨S2048x1280, .bf16⟩
  | .local _ .vmem, ⟨4, _⟩ => ⟨S2048x256, .fp8e4m3⟩
  | .local _ .vmem, ⟨5, _⟩ => ⟨S2048x256, .fp8e4m3⟩
  | .local _ .vmem, ⟨6, _⟩ => ⟨S2048x256, .fp8e4m3⟩
  | .local _ .vmem, ⟨7, _⟩ => ⟨S2048x256, .fp8e4m3⟩
  | .local _ .vmem, ⟨8, _⟩ => ⟨S256x2048, .fp8e4m3⟩
  | .local _ .vmem, ⟨9, _⟩ => ⟨S256x2048, .fp8e4m3⟩
  | .local _ .vmem, ⟨10, _⟩ => ⟨S1280x256, .fp8e4m3⟩
  | .local _ .vmem, ⟨11, _⟩ => ⟨S1280x256, .fp8e4m3⟩
  | .local _ .vmem, ⟨12, _⟩ => ⟨S1280x256, .fp8e5m2⟩
  | .local _ .vmem, ⟨13, _⟩ => ⟨S1280x256, .fp8e5m2⟩
  | .local _ .vmem, ⟨14, _⟩ => ⟨S1280x256, .fp8e5m2⟩
  | .local _ .vmem, ⟨15, _⟩ => ⟨S1280x256, .fp8e5m2⟩
  | .local _ .vmem, ⟨16, _⟩ => ⟨S8x1280, .f32⟩
  | .local _ .vmem, ⟨17, _⟩ => ⟨S8x1280, .f32⟩
  | .local _ .vmem, ⟨18, _⟩ => ⟨S8x1280, .f32⟩
  | .local _ .vmem, ⟨19, _⟩ => ⟨S8x1280, .f32⟩
  | .local _ .vmem, ⟨20, _⟩ => ⟨S8x1280, .f32⟩
  | .local _ .vmem, ⟨21, _⟩ => ⟨S8x1280, .f32⟩
  | .local _ .vmem, ⟨22, _⟩ => ⟨S256x1280, .bf16⟩
  | .local _ .vmem, ⟨23, _⟩ => ⟨S256x1280, .bf16⟩
  | .local _ .vmem, ⟨24, _⟩ => ⟨S256x1280, .bf16⟩
  | .local _ .vmem, ⟨25, _⟩ => ⟨S256x1280, .bf16⟩
  | .local _ .vmem, ⟨26, _⟩ => ⟨S256x1280, .bf16⟩
  | .local _ .vmem, ⟨27, _⟩ => ⟨S256x1280, .bf16⟩
  | .local _ .vmem, ⟨28, _⟩ => ⟨S512x2048, .bf16⟩
  | .local _ .vmem, ⟨29, _⟩ => ⟨S256x2048, .bf16⟩
  | .local _ .vmem, ⟨30, _⟩ => ⟨S512x1280, .f32⟩
  | .local _ .vmem, ⟨31, _⟩ => ⟨S256x1280, .f32⟩
  | .local _ .vmem, ⟨32, _⟩ => ⟨S256x1280, .bf16⟩
  | .local _ .vmem, ⟨33, _⟩ => ⟨S256x1280, .bf16⟩
  | .local _ .vmem, ⟨34, _⟩ => ⟨S256x1280, .bf16⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![216], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c214_i32 : BitVec 32 := 214#32
  let v0 : BitVec 32 := Scalar.minsi arg0 c214_i32
  let c43_i32 : BitVec 32 := 43#32
  let v1 : BitVec 32 := Scalar.divsi v0 c43_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c43_i32 c0_i32_1
  let v8 : BitVec 32 := Scalar.extui v7
  let c0_i32_2 : BitVec 32 := 0#32
  let v9 : BitVec 1 := Scalar.cmpi .slt c43_i32 c0_i32_2
  let v10 : BitVec 32 := Scalar.extui v9
  let v11 : BitVec 32 := Scalar.subi v8 v10
  let v12 : BitVec 1 := Scalar.cmpi .ne v6 v11
  let v13 : BitVec 32 := Scalar.remsi v0 c43_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32_4 : BitVec 32 := 43#32
  let c0_i32_5 : BitVec 32 := 0#32
  let v18 : BitVec 1 := Scalar.cmpi .eq c43_i32_4 c0_i32_5
  let c1_i32_6 : BitVec 32 := 1#32
  let v19 : BitVec 32 := Scalar.select v18 c1_i32_6 c43_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v17.toNat]

def cc0_transform_2 (i : grid0.Coords) : Fin 2 → Nat :=
  let arg0 : BitVec 32 := BitVec.ofNat 32 (i 0).val
  let c214_i32 : BitVec 32 := 214#32
  let v0 : BitVec 32 := Scalar.minsi arg0 c214_i32
  let c43_i32 : BitVec 32 := 43#32
  let v1 : BitVec 32 := Scalar.divsi v0 c43_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c43_i32 c0_i32_1
  let v8 : BitVec 32 := Scalar.extui v7
  let c0_i32_2 : BitVec 32 := 0#32
  let v9 : BitVec 1 := Scalar.cmpi .slt c43_i32 c0_i32_2
  let v10 : BitVec 32 := Scalar.extui v9
  let v11 : BitVec 32 := Scalar.subi v8 v10
  let v12 : BitVec 1 := Scalar.cmpi .ne v6 v11
  let v13 : BitVec 32 := Scalar.remsi v0 c43_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32_4 : BitVec 32 := 43#32
  let c0_i32_5 : BitVec 32 := 0#32
  let v18 : BitVec 1 := Scalar.cmpi .eq c43_i32_4 c0_i32_5
  let c1_i32_6 : BitVec 32 := 1#32
  let v19 : BitVec 32 := Scalar.select v18 c1_i32_6 c43_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v17.toNat]

def cc0_transform_3 (i : grid0.Coords) : Fin 2 → Nat :=
  let arg0 : BitVec 32 := BitVec.ofNat 32 (i 0).val
  let c214_i32 : BitVec 32 := 214#32
  let v0 : BitVec 32 := Scalar.minsi arg0 c214_i32
  let c43_i32 : BitVec 32 := 43#32
  let v1 : BitVec 32 := Scalar.divsi v0 c43_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c43_i32 c0_i32_1
  let v8 : BitVec 32 := Scalar.extui v7
  let c0_i32_2 : BitVec 32 := 0#32
  let v9 : BitVec 1 := Scalar.cmpi .slt c43_i32 c0_i32_2
  let v10 : BitVec 32 := Scalar.extui v9
  let v11 : BitVec 32 := Scalar.subi v8 v10
  let v12 : BitVec 1 := Scalar.cmpi .ne v6 v11
  let v13 : BitVec 32 := Scalar.remsi v0 c43_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32_4 : BitVec 32 := 43#32
  let c0_i32_5 : BitVec 32 := 0#32
  let v18 : BitVec 1 := Scalar.cmpi .eq c43_i32_4 c0_i32_5
  let c1_i32_6 : BitVec 32 := 1#32
  let v19 : BitVec 32 := Scalar.select v18 c1_i32_6 c43_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v27.toNat]

def cc0_transform_4 (i : grid0.Coords) : Fin 2 → Nat :=
  let arg0 : BitVec 32 := BitVec.ofNat 32 (i 0).val
  let c214_i32 : BitVec 32 := 214#32
  let v0 : BitVec 32 := Scalar.minsi arg0 c214_i32
  let c43_i32 : BitVec 32 := 43#32
  let v1 : BitVec 32 := Scalar.divsi v0 c43_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c43_i32 c0_i32_1
  let v8 : BitVec 32 := Scalar.extui v7
  let c0_i32_2 : BitVec 32 := 0#32
  let v9 : BitVec 1 := Scalar.cmpi .slt c43_i32 c0_i32_2
  let v10 : BitVec 32 := Scalar.extui v9
  let v11 : BitVec 32 := Scalar.subi v8 v10
  let v12 : BitVec 1 := Scalar.cmpi .ne v6 v11
  let v13 : BitVec 32 := Scalar.remsi v0 c43_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32_4 : BitVec 32 := 43#32
  let c0_i32_5 : BitVec 32 := 0#32
  let v18 : BitVec 1 := Scalar.cmpi .eq c43_i32_4 c0_i32_5
  let c1_i32_6 : BitVec 32 := 1#32
  let v19 : BitVec 32 := Scalar.select v18 c1_i32_6 c43_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v27.toNat]

def cc0_transform_5 (i : grid0.Coords) : Fin 2 → Nat :=
  let arg0 : BitVec 32 := BitVec.ofNat 32 (i 0).val
  let c214_i32 : BitVec 32 := 214#32
  let v0 : BitVec 32 := Scalar.minsi arg0 c214_i32
  let c43_i32 : BitVec 32 := 43#32
  let v1 : BitVec 32 := Scalar.divsi v0 c43_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c43_i32 c0_i32_1
  let v8 : BitVec 32 := Scalar.extui v7
  let c0_i32_2 : BitVec 32 := 0#32
  let v9 : BitVec 1 := Scalar.cmpi .slt c43_i32 c0_i32_2
  let v10 : BitVec 32 := Scalar.extui v9
  let v11 : BitVec 32 := Scalar.subi v8 v10
  let v12 : BitVec 1 := Scalar.cmpi .ne v6 v11
  let v13 : BitVec 32 := Scalar.remsi v0 c43_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32_4 : BitVec 32 := 43#32
  let c0_i32_5 : BitVec 32 := 0#32
  let v18 : BitVec 1 := Scalar.cmpi .eq c43_i32_4 c0_i32_5
  let c1_i32_6 : BitVec 32 := 1#32
  let v19 : BitVec 32 := Scalar.select v18 c1_i32_6 c43_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v27.toNat, c0_i32_10.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1280x256 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1280x256 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1280 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefMlpIdeal.lean ====
abbrev S3 : Shape := ⟨1, ![3]⟩
abbrev S2048x6400 : Shape := ⟨2, ![2048, 6400]⟩
abbrev S2048x11008 : Shape := ⟨2, ![2048, 11008]⟩
abbrev S11008x2048 : Shape := ⟨2, ![11008, 2048]⟩
abbrev S6400x11008 : Shape := ⟨2, ![6400, 11008]⟩
abbrev S344x6400 : Shape := ⟨2, ![344, 6400]⟩
abbrev S11008x6400 : Shape := ⟨2, ![11008, 6400]⟩
abbrev S1 : Shape := ⟨1, ![1]⟩
abbrev S6400x344x32 : Shape := ⟨3, ![6400, 344, 32]⟩
abbrev S6400x344 : Shape := ⟨2, ![6400, 344]⟩
abbrev S6400x344x1 : Shape := ⟨3, ![6400, 344, 1]⟩

abbrev nBuf : Space → Nat
  | .hbm => 15
  | .vmem => 14
  | .smem => 1
  | _ => 0

abbrev bufTy : (tb : Table) → Fin (tcTables nBuf tb) → BufTy
  | .hbm, ⟨0, _⟩ => ⟨S3, .f32⟩
  | .hbm, ⟨1, _⟩ => ⟨S2048x6400, .bf16⟩
  | .hbm, ⟨2, _⟩ => ⟨S2048x6400, .bf16⟩
  | .hbm, ⟨3, _⟩ => ⟨S2048x11008, .fp8e4m3⟩
  | .hbm, ⟨4, _⟩ => ⟨S2048x11008, .fp8e4m3⟩
  | .hbm, ⟨5, _⟩ => ⟨S11008x2048, .fp8e4m3⟩
  | .hbm, ⟨6, _⟩ => ⟨S6400x11008, .fp8e4m3⟩
  | .hbm, ⟨7, _⟩ => ⟨S6400x11008, .fp8e5m2⟩
  | .hbm, ⟨8, _⟩ => ⟨S6400x11008, .fp8e5m2⟩
  | .hbm, ⟨9, _⟩ => ⟨S344x6400, .f32⟩
  | .hbm, ⟨10, _⟩ => ⟨S344x6400, .f32⟩
  | .hbm, ⟨11, _⟩ => ⟨S344x6400, .f32⟩
  | .hbm, ⟨12, _⟩ => ⟨S11008x6400, .bf16⟩
  | .hbm, ⟨13, _⟩ => ⟨S11008x6400, .bf16⟩
  | .hbm, ⟨14, _⟩ => ⟨S11008x6400, .bf16⟩
  | .local _ .vmem, ⟨0, _⟩ => ⟨S2048x6400, .bf16⟩
  | .local _ .vmem, ⟨1, _⟩ => ⟨S2048x6400, .bf16⟩
  | .local _ .vmem, ⟨2, _⟩ => ⟨S2048x11008, .fp8e4m3⟩
  | .local _ .vmem, ⟨3, _⟩ => ⟨S2048x11008, .fp8e4m3⟩
  | .local _ .vmem, ⟨4, _⟩ => ⟨S11008x2048, .fp8e4m3⟩
  | .local _ .vmem, ⟨5, _⟩ => ⟨S6400x11008, .fp8e4m3⟩
  | .local _ .vmem, ⟨6, _⟩ => ⟨S6400x11008, .fp8e5m2⟩
  | .local _ .vmem, ⟨7, _⟩ => ⟨S6400x11008, .fp8e5m2⟩
  | .local _ .vmem, ⟨8, _⟩ => ⟨S344x6400, .f32⟩
  | .local _ .vmem, ⟨9, _⟩ => ⟨S344x6400, .f32⟩
  | .local _ .vmem, ⟨10, _⟩ => ⟨S344x6400, .f32⟩
  | .local _ .vmem, ⟨11, _⟩ => ⟨S11008x6400, .bf16⟩
  | .local _ .vmem, ⟨12, _⟩ => ⟨S11008x6400, .bf16⟩
  | .local _ .vmem, ⟨13, _⟩ => ⟨S11008x6400, .bf16⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x6400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x11008 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x11008 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11008x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6400x11008 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6400x11008 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6400x11008 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S344x6400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S344x6400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S344x6400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S11008x6400 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S11008x6400 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S11008x6400 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Prep.lean ====
abbrev S6400x2048 : Shape := ⟨2, ![6400, 2048]⟩
abbrev S6400x64 : Shape := ⟨2, ![6400, 64]⟩
abbrev S2048 : Shape := ⟨1, ![2048]⟩
abbrev S2048x1 : Shape := ⟨2, ![2048, 1]⟩
abbrev S2048x6400 : Shape := ⟨2, ![2048, 6400]⟩
abbrev S1x6400 : Shape := ⟨2, ![1, 6400]⟩
abbrev S256x2048 : Shape := ⟨2, ![256, 2048]⟩
abbrev S256x64 : Shape := ⟨2, ![256, 64]⟩
abbrev S2048x256 : Shape := ⟨2, ![2048, 256]⟩
abbrev S1x256 : Shape := ⟨2, ![1, 256]⟩
abbrev S64x256 : Shape := ⟨2, ![64, 256]⟩
abbrev S32x256 : Shape := ⟨2, ![32, 256]⟩
abbrev S256 : Shape := ⟨1, ![256]⟩
abbrev S32x1 : Shape := ⟨2, ![32, 1]⟩
abbrev S254x1 : Shape := ⟨2, ![254, 1]⟩
abbrev S254x256 : Shape := ⟨2, ![254, 256]⟩

abbrev nBuf : Space → Nat
  | .hbm => 8
  | .vmem => 16
  | .smem => 0
  | _ => 0

abbrev bufTy : (tb : Table) → Fin (tcTables nBuf tb) → BufTy
  | .hbm, ⟨0, _⟩ => ⟨S6400x2048, .fp8e4m3⟩
  | .hbm, ⟨1, _⟩ => ⟨S6400x64, .f32⟩
  | .hbm, ⟨2, _⟩ => ⟨S2048, .f32⟩
  | .hbm, ⟨3, _⟩ => ⟨S2048x1, .f32⟩
  | .hbm, ⟨4, _⟩ => ⟨S6400x2048, .fp8e4m3⟩
  | .hbm, ⟨5, _⟩ => ⟨S6400x64, .f32⟩
  | .hbm, ⟨6, _⟩ => ⟨S2048x6400, .bf16⟩
  | .hbm, ⟨7, _⟩ => ⟨S1x6400, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S256x64, .f32⟩
  | .local _ .vmem, ⟨3, _⟩ => ⟨S256x64, .f32⟩
  | .local _ .vmem, ⟨4, _⟩ => ⟨S2048x1, .f32⟩
  | .local _ .vmem, ⟨5, _⟩ => ⟨S256x2048, .fp8e4m3⟩
  | .local _ .vmem, ⟨6, _⟩ => ⟨S256x2048, .fp8e4m3⟩
  | .local _ .vmem, ⟨7, _⟩ => ⟨S256x64, .f32⟩
  | .local _ .vmem, ⟨8, _⟩ => ⟨S256x64, .f32⟩
  | .local _ .vmem, ⟨9, _⟩ => ⟨S2048x256, .bf16⟩
  | .local _ .vmem, ⟨10, _⟩ => ⟨S2048x256, .bf16⟩
  | .local _ .vmem, ⟨11, _⟩ => ⟨S1x256, .f32⟩
  | .local _ .vmem, ⟨12, _⟩ => ⟨S1x256, .f32⟩
  | .local _ .vmem, ⟨13, _⟩ => ⟨S2048x256, .f32⟩
  | .local _ .vmem, ⟨14, _⟩ => ⟨S64x256, .f32⟩
  | .local _ .vmem, ⟨15, _⟩ => ⟨S2048x256, .bf16⟩
  | _, _ => ⟨S6400x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefPrepIdeal.lean ====
abbrev S6400x2048 : Shape := ⟨2, ![6400, 2048]⟩
abbrev S6400x64 : Shape := ⟨2, ![6400, 64]⟩
abbrev S2048 : Shape := ⟨1, ![2048]⟩
abbrev S1x2048 : Shape := ⟨2, ![1, 2048]⟩
abbrev S2048x6400 : Shape := ⟨2, ![2048, 6400]⟩
abbrev S1x6400 : Shape := ⟨2, ![1, 6400]⟩
abbrev S6400x64x32 : Shape := ⟨3, ![6400, 64, 32]⟩
abbrev S6400x64x1 : Shape := ⟨3, ![6400, 64, 1]⟩
abbrev S6400 : Shape := ⟨1, ![6400]⟩
abbrev S6400x1 : Shape := ⟨2, ![6400, 1]⟩

abbrev nBuf : Space → Nat
  | .hbm => 8
  | .vmem => 7
  | .smem => 0
  | _ => 0

abbrev bufTy : (tb : Table) → Fin (tcTables nBuf tb) → BufTy
  | .hbm, ⟨0, _⟩ => ⟨S6400x2048, .fp8e4m3⟩
  | .hbm, ⟨1, _⟩ => ⟨S6400x64, .f32⟩
  | .hbm, ⟨2, _⟩ => ⟨S2048, .f32⟩
  | .hbm, ⟨3, _⟩ => ⟨S1x2048, .f32⟩
  | .hbm, ⟨4, _⟩ => ⟨S6400x2048, .fp8e4m3⟩
  | .hbm, ⟨5, _⟩ => ⟨S6400x64, .f32⟩
  | .hbm, ⟨6, _⟩ => ⟨S2048x6400, .bf16⟩
  | .hbm, ⟨7, _⟩ => ⟨S1x6400, .f32⟩
  | .local _ .vmem, ⟨0, _⟩ => ⟨S6400x2048, .fp8e4m3⟩
  | .local _ .vmem, ⟨1, _⟩ => ⟨S6400x64, .f32⟩
  | .local _ .vmem, ⟨2, _⟩ => ⟨S1x2048, .f32⟩
  | .local _ .vmem, ⟨3, _⟩ => ⟨S6400x2048, .fp8e4m3⟩
  | .local _ .vmem, ⟨4, _⟩ => ⟨S6400x64, .f32⟩
  | .local _ .vmem, ⟨5, _⟩ => ⟨S2048x6400, .bf16⟩
  | .local _ .vmem, ⟨6, _⟩ => ⟨S1x6400, .f32⟩
  | _, _ => ⟨S6400x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6400x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6400x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6400x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6400x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6400 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Products.lean ====
/-
  Products of two matrices over the extended reals, shared by the certificates of the kernels that compute one:
  `nt a b` is `a · bᵀ` (both operands contracted on their last axis) and `nn a b` is `a · b`. A matrix-unit product into a
  zero accumulator is one of them, whatever its extents, and so is the host's `dot_general`.
-/
module

public import Idealize.ShloMosaic.Lib.MatmulPlain
public import Idealize.ShloMosaic.Lib.ValueIdx
public import Idealize.ShloMosaic.Lib.Pipeline.Value

@[expose] public section

noncomputable section

namespace Cert.Products

open Idealize.ShloMosaic Idealize.ShloMosaic.ValueIdx Idealize.ShloMosaic.TcCoe
open scoped BigOperators

/-- `a · bᵀ`: entry (r, c) is the sum over k of `a[r,k] · b[c,k]`. -/
def nt {M K N : ℕ} (a : (⟨2, ![M, K]⟩ : Shape).Idx → EReal) (b : (⟨2, ![N, K]⟩ : Shape).Idx → EReal) :
    (⟨2, ![M, N]⟩ : Shape).Idx → EReal :=
  fun i => ∑ k : Fin K, a (ix2 (i 0) k) * b (ix2 (i 1) k)

/-- `a · b`: entry (r, c) is the sum over k of `a[r,k] · b[k,c]`. -/
def nn {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- A product with its right operand transposed, into a zero accumulator, is `nt`. -/
theorem matmul_nt {M K N : ℕ} {φ₁ φ₂ : FTy} (a : FVec Ideal ⟨2, ![M, K]⟩ φ₁) (b : FVec Ideal ⟨2, ![N, K]⟩ φ₂) :
    FloatOps.matmul (F := Ideal) (DotDims.transposedRhs M K N) none a b (constant ⟨2, ![M, N]⟩ .f32 0x00000000#32) = nt a b := by
  funext i
  obtain ⟨r, c, rfl⟩ : ∃ (r : Fin M) (c : Fin N), i = ix2 r c := ⟨i 0, i 1, eq_ix2 i⟩
  rw [Ideal.matmul_transposedRhs_apply]
  show Ideal.ofBits .f32 0x00000000#32 + _ = _
  rw [Ideal.ofBits_zero_f32, zero_add]
  rfl

/-- A plain product into a zero accumulator is `nn`. -/
theorem matmul_nn {M K N : ℕ} {φ₁ φ₂ : FTy} (a : FVec Ideal ⟨2, ![M, K]⟩ φ₁) (b : FVec Ideal ⟨2, ![K, N]⟩ φ₂) :
    FloatOps.matmul (F := Ideal) (DotDims.plain M K N) none a b (constant ⟨2, ![M, N]⟩ .f32 0x00000000#32) = nn a b := by
  funext i
  obtain ⟨r, c, rfl⟩ : ∃ (r : Fin M) (c : Fin N), i = ix2 r c := ⟨i 0, i 1, eq_ix2 i⟩
  rw [Ideal.matmul_plain_apply]
  show Ideal.ofBits .f32 0x00000000#32 + _ = _
  rw [Ideal.ofBits_zero_f32, zero_add]
  rfl

/-- `aᵀ · b`: entry (r, c) is the sum over k of `a[k,r] · b[k,c]`. -/
def tn {M K N : ℕ} (a : (⟨2, ![K, M]⟩ : Shape).Idx → EReal) (b : (⟨2, ![K, N]⟩ : Shape).Idx → EReal) :
    (⟨2, ![M, N]⟩ : Shape).Idx → EReal :=
  fun i => ∑ k : Fin K, a (ix2 k (i 0)) * b (ix2 k (i 1))

/-- A product contracting both operands on their first axis, into a zero accumulator, is `tn`. -/
theorem matmul_tn {M K N : ℕ} {φ₁ φ₂ : FTy} (d : DotDims ⟨2, ![K, M]⟩ ⟨2, ![K, N]⟩ ⟨2, ![M, N]⟩) (hr : d.contr.rank = 1) (hs : d.contr.size ⟨0, by rw [hr]; exact Nat.one_pos⟩ = K)
    (hl : ∀ i q, (d.lhsIdx i q 0).val = (q ⟨0, by rw [hr]; exact Nat.one_pos⟩).val ∧ (d.lhsIdx i q 1).val = (i 0).val)
    (hq : ∀ i q, (d.rhsIdx i q 0).val = (q ⟨0, by rw [hr]; exact Nat.one_pos⟩).val ∧ (d.rhsIdx i q 1).val = (i 1).val)
    (a : FVec Ideal ⟨2, ![K, M]⟩ φ₁) (b : FVec Ideal ⟨2, ![K, N]⟩ φ₂) :
    FloatOps.matmul (F := Ideal) d none a b (constant ⟨2, ![M, N]⟩ .f32 0x00000000#32) = tn a b := by
  funext i
  rw [Ideal.matmul_apply]
  show Ideal.ofBits .f32 0x00000000#32 + _ = _
  rw [Ideal.ofBits_zero_f32, zero_add, ← Equiv.sum_comp (contrEquiv1 d K hr hs).symm]
  refine Finset.sum_congr rfl fun k _ => ?_
  have hk := contrEquiv1_symm_val d K hr hs k
  exact congrArg₂ (· * ·) (congrArg a (Shape.idx_ext₂ ((hl _ _).1.trans hk) (hl _ _).2)) (congrArg b (Shape.idx_ext₂ ((hq _ _).1.trans hk) (hq _ _).2))

/-- Reading a block of rows of the right operand of `nt` is reading the block of columns of the product. -/
theorem nt_congr {M K N M' N' : ℕ} {a : (⟨2, ![M, K]⟩ : Shape).Idx → EReal} {b : (⟨2, ![N, K]⟩ : Shape).Idx → EReal}
    {a' : (⟨2, ![M', K]⟩ : Shape).Idx → EReal} {b' : (⟨2, ![N', K]⟩ : Shape).Idx → EReal}
    (i : (⟨2, ![M, N]⟩ : Shape).Idx) (j : (⟨2, ![M', N']⟩ : Shape).Idx)
    (ha : ∀ k : Fin K, a (ix2 (i 0) k) = a' (ix2 (j 0) k)) (hb : ∀ k : Fin K, b (ix2 (i 1) k) = b' (ix2 (j 1) k)) :
    nt a b i = nt a' b' j :=
  Finset.sum_congr rfl fun k _ => by rw [ha k, hb k]

/-- The same for `nn`. -/
theorem nn_congr {M K N M' N' : ℕ} {a : (⟨2, ![M, K]⟩ : Shape).Idx → EReal} {b : (⟨2, ![K, N]⟩ : Shape).Idx → EReal}
    {a' : (⟨2, ![M', K]⟩ : Shape).Idx → EReal} {b' : (⟨2, ![K, N']⟩ : Shape).Idx → EReal}
    (i : (⟨2, ![M, N]⟩ : Shape).Idx) (j : (⟨2, ![M', N']⟩ : Shape).Idx)
    (ha : ∀ k : Fin K, a (ix2 (i 0) k) = a' (ix2 (j 0) k)) (hb : ∀ k : Fin K, b (ix2 k (i 1)) = b' (ix2 k (j 1))) :
    nn a b i = nn a' b' j :=
  Finset.sum_congr rfl fun k _ => by rw [ha k, hb k]

/-- The offsets of a whole-buffer access. -/
theorem hz : (![0, 0] : Fin 2 → Nat) = fun _ => 0 := funext fun a => by fin_cases a <;> rfl

end Cert.Products

end
-- ==== Proof.Dw2.lean ====
/-
  The two weight gradients of the MLP's gate and up projections, over the extended reals: each result array of the kernel
  holds `a2 · cgᵀ`, respectively `a2 · cuᵀ`, whole — the grid's points write it 256 columns at a time — and that is the
  reference's product.
-/
module

public import proofs.«01_k».proof.Defs
public import proofs.«01_k».proof.Proof.Products
public import proofs.«01_k».proof.Proof.Gen.Dw2Ideal.Value
public import proofs.«01_k».proof.Proof.Gen.RefDw2Ideal.Read
public import Idealize.ShloMosaic.Lib.Quiescent

@[expose] public section

set_option maxRecDepth 16384

noncomputable section

namespace Cert.Dw2Ideal.RefValue

open Cert.Dw2Ideal Cert.Dw2Ideal.Gen Cert.Products Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where the windows' blocks sit: the first operand is whole, the others and the results move by one block of 256. -/
theorem idx_facts : ∀ t : Fin cfg0.N, (win0_0.index t 0 = 0 ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = t.val) ∧ (win0_4.index t 0 = 0 ∧ win0_4.index t 1 = t.val) :=
  (by decide +kernel : ∀ t : Fin grid0.N, (win0_0.index t 0 = 0 ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = t.val) ∧ (win0_4.index t 0 = 0 ∧ win0_4.index t 1 = t.val))

/-- The gate's gradient: what the first result array is shown to hold. -/
abbrev gate (c : Dev nD) : Buf (Elt Ideal) ((c : Thread nD τ).loc main_v0_0) :=
  nt (M := 2048) (K := 6400) (N := 11008) (m ((c : Thread nD τ).loc main_arg0)) (m ((c : Thread nD τ).loc main_arg1))

/-- The up projection's gradient: what the second result array is shown to hold. -/
abbrev up (c : Dev nD) : Buf (Elt Ideal) ((c : Thread nD τ).loc main_v0_1) :=
  nt (M := 2048) (K := 6400) (N := 11008) (m ((c : Thread nD τ).loc main_arg0)) (m ((c : Thread nD τ).loc main_arg2))

/-- The block of the first operand is the whole array. -/
theorem iblk0 (c : Dev nD) (t : Fin cfg0.N) (r : Fin 2048) (k : Fin 6400) (r' : Fin 2048) (hr : r'.val = r.val) :
    iblk m c 0 t (ix2 r k) = m ((c : Thread nD τ).loc main_arg0) (ix2 r' k) := by
  unfold iblk
  rw [View.read_apply]
  show m ((c : Thread nD τ).loc main_arg0) _ = _
  congr 1
  funext a
  apply Fin.ext
  match a with
  | ⟨0, _⟩ => exact (win0_0.rect_emb_val_of_index_zero t 0 (idx_facts t).1.1 _).trans hr.symm
  | ⟨1, _⟩ => exact win0_0.rect_emb_val_of_index_zero t 1 (idx_facts t).1.2 _

/-- The block of the gate's codes at point `t` is rows `256 t …` of the array. -/
theorem iblk1 (c : Dev nD) (t : Fin cfg0.N) (r : Fin 256) (k : Fin 6400) (r' : Fin 11008) (hr : r'.val = t.val * 256 + r.val) :
    iblk m c 1 t (ix2 r k) = m ((c : Thread nD τ).loc main_arg1) (ix2 r' k) := by
  unfold iblk
  rw [View.read_apply]
  show m ((c : Thread nD τ).loc main_arg1) _ = _
  congr 1
  funext a
  apply Fin.ext
  match a with
  | ⟨0, _⟩ => exact (win0_1.rect_emb_val t _ 0).trans (by rw [(idx_facts t).2.1.1]; exact hr.symm)
  | ⟨1, _⟩ => exact win0_1.rect_emb_val_of_index_zero t 1 (idx_facts t).2.1.2 _

/-- The block of the up projection's codes at point `t` is rows `256 t …` of the array. -/
theorem iblk2 (c : Dev nD) (t : Fin cfg0.N) (r : Fin 256) (k : Fin 6400) (r' : Fin 11008) (hr : r'.val = t.val * 256 + r.val) :
    iblk m c 2 t (ix2 r k) = m ((c : Thread nD τ).loc main_arg2) (ix2 r' k) := by
  unfold iblk
  rw [View.read_apply]
  show m ((c : Thread nD τ).loc main_arg2) _ = _
  congr 1
  funext a
  apply Fin.ext
  match a with
  | ⟨0, _⟩ => exact (win0_2.rect_emb_val t _ 0).trans (by rw [(idx_facts t).2.2.1.1]; exact hr.symm)
  | ⟨1, _⟩ => exact win0_2.rect_emb_val_of_index_zero t 1 (idx_facts t).2.2.1.2 _

/-- The body's two stored values are products of its blocks. -/
theorem pay1 (x : Vec Ideal S2048x6400 .bf16) (y : Vec Ideal S256x6400 .bf16) :
    k0_pay1 x y = nt (M := 2048) (K := 6400) (N := 256) x y := matmul_nt x y
theorem pay2 (x : Vec Ideal S2048x6400 .bf16) (y : Vec Ideal S256x6400 .bf16) :
    k0_pay2 x y = nt (M := 2048) (K := 6400) (N := 256) x y := matmul_nt x y

/-- Point `t` writes back columns `256 t …` of the gate's gradient. -/
theorem flushed3 (c : Dev nD) (t : Fin cfg0.N) :
    (dats m 0 c).flushed 3 t = (win0_3.blk t).view.read (Elt Ideal) (gate m c) := by
  rw [Value.flushed3]
  unfold out0_3
  rw [View.canon_unit_zero hz, View.ld_unit_zero hz, View.ld_unit_zero hz, pay1]
  funext j
  rw [View.read_apply]
  refine (nt_congr _ _ (fun k => iblk0 m c t _ k _ ?_) (fun k => iblk1 m c t _ k _ ?_))
  · exact win0_3.rect_emb_val_of_index_zero t 0 (idx_facts t).2.2.2.1.1 j
  · exact (win0_3.rect_emb_val t j 1).trans (by rw [(idx_facts t).2.2.2.1.2]; rfl)

/-- Point `t` writes back columns `256 t …` of the up projection's gradient. -/
theorem flushed4 (c : Dev nD) (t : Fin cfg0.N) :
    (dats m 0 c).flushed 4 t = (win0_4.blk t).view.read (Elt Ideal) (up m c) := by
  rw [Value.flushed4]
  unfold out0_4
  rw [View.canon_unit_zero hz, View.ld_unit_zero hz, View.ld_unit_zero hz, pay2]
  funext j
  rw [View.read_apply]
  refine (nt_congr _ _ (fun k => iblk0 m c t _ k _ ?_) (fun k => iblk2 m c t _ k _ ?_))
  · exact win0_4.rect_emb_val_of_index_zero t 0 (idx_facts t).2.2.2.2.1 j
  · exact (win0_4.rect_emb_val t j 1).trans (by rw [(idx_facts t).2.2.2.2.2]; rfl)

theorem rect3 : ∀ t : Fin cfg0.N, win0_3.index t 0 * win0_3.size 0 = 0 ∧ win0_3.xsize (grid0.coords t) 0 = 2048
    ∧ win0_3.index t 1 * win0_3.size 1 = t.val * 256 ∧ win0_3.xsize (grid0.coords t) 1 = 256 :=
  (by decide +kernel : ∀ t : Fin grid0.N, win0_3.index t 0 * win0_3.size 0 = 0 ∧ win0_3.xsize (grid0.coords t) 0 = 2048
    ∧ win0_3.index t 1 * win0_3.size 1 = t.val * 256 ∧ win0_3.xsize (grid0.coords t) 1 = 256)

theorem rect4 : ∀ t : Fin cfg0.N, win0_4.index t 0 * win0_4.size 0 = 0 ∧ win0_4.xsize (grid0.coords t) 0 = 2048
    ∧ win0_4.index t 1 * win0_4.size 1 = t.val * 256 ∧ win0_4.xsize (grid0.coords t) 1 = 256 :=
  (by decide +kernel : ∀ t : Fin grid0.N, win0_4.index t 0 * win0_4.size 0 = 0 ∧ win0_4.xsize (grid0.coords t) 0 = 2048
    ∧ win0_4.index t 1 * win0_4.size 1 = t.val * 256 ∧ win0_4.xsize (grid0.coords t) 1 = 256)

/-- The blocks of 256 columns cover the first result. -/
theorem cover3 (i : S2048x11008.Idx) : ∃ t : Fin cfg0.N, (cfg0.win 3).flush t = true ∧ i ∈ ((cfg0.win 3).blk t).view.set := by
  have h0 : (i 0 : Nat) < 2048 := (i 0).isLt
  have h1 : (i 1 : Nat) < 11008 := (i 1).isLt
  have ht : (i 1 : Nat) / 256 < 43 := by omega
  refine ⟨⟨(i 1 : Nat) / 256, ht⟩, flush0_3 _, ?_⟩
  show i ∈ ((View.whole main_v0_0).slice (win0_3.rect ⟨(i 1 : Nat) / 256, ht⟩)).set
  rw [View.set_slice_whole, Rect.mem_set_unit]
  have e := rect3 ⟨(i 1 : Nat) / 256, ht⟩
  intro a
  match a with
  | ⟨0, _⟩ => show win0_3.index _ 0 * win0_3.size 0 ≤ (i 0 : Nat) ∧ (i 0 : Nat) < win0_3.index _ 0 * win0_3.size 0 + win0_3.xsize (grid0.coords _) 0
              rw [e.1, e.2.1]; omega
  | ⟨1, _⟩ => show win0_3.index _ 1 * win0_3.size 1 ≤ (i 1 : Nat) ∧ (i 1 : Nat) < win0_3.index _ 1 * win0_3.size 1 + win0_3.xsize (grid0.coords _) 1
              rw [e.2.2.1, e.2.2.2]; show (i 1 : Nat) / 256 * 256 ≤ _ ∧ _ < (i 1 : Nat) / 256 * 256 + 256; omega

/-- The blocks of 256 columns cover the second result. -/
theorem cover4 (i : S2048x11008.Idx) : ∃ t : Fin cfg0.N, (cfg0.win 4).flush t = true ∧ i ∈ ((cfg0.win 4).blk t).view.set := by
  have h0 : (i 0 : Nat) < 2048 := (i 0).isLt
  have h1 : (i 1 : Nat) < 11008 := (i 1).isLt
  have ht : (i 1 : Nat) / 256 < 43 := by omega
  refine ⟨⟨(i 1 : Nat) / 256, ht⟩, flush0_4 _, ?_⟩
  show i ∈ ((View.whole main_v0_1).slice (win0_4.rect ⟨(i 1 : Nat) / 256, ht⟩)).set
  rw [View.set_slice_whole, Rect.mem_set_unit]
  have e := rect4 ⟨(i 1 : Nat) / 256, ht⟩
  intro a
  match a with
  | ⟨0, _⟩ => show win0_4.index _ 0 * win0_4.size 0 ≤ (i 0 : Nat) ∧ (i 0 : Nat) < win0_4.index _ 0 * win0_4.size 0 + win0_4.xsize (grid0.coords _) 0
              rw [e.1, e.2.1]; omega
  | ⟨1, _⟩ => show win0_4.index _ 1 * win0_4.size 1 ≤ (i 1 : Nat) ∧ (i 1 : Nat) < win0_4.index _ 1 * win0_4.size 1 + win0_4.xsize (grid0.coords _) 1
              rw [e.2.2.1, e.2.2.2]; show (i 1 : Nat) / 256 * 256 ≤ _ ∧ _ < (i 1 : Nat) / 256 * 256 + 256; omega

/-- After the run the first result array is the gate's gradient. -/
theorem final3 (c : Dev nD) : (dats m 0 c).arrAt 3 cfg0.N = gate m c :=
  (dats m 0 c).arrAt_eq_of_cover 3 (gate m c) (fun t _ => flushed3 m c t) cover3

/-- After the run the second result array is the up projection's gradient. -/
theorem final4 (c : Dev nD) : (dats m 0 c).arrAt 4 cfg0.N = up m c :=
  (dats m 0 c).arrAt_eq_of_cover 4 (up m c) (fun t _ => flushed4 m c t) cover4

end Cert.Dw2Ideal.RefValue

namespace Cert.RefDw2Ideal.RefValue

open Cert.RefDw2Ideal Cert.RefDw2Ideal.Gen Cert.Products Idealize.ShloMosaic Idealize.ShloMosaic.TcCoe Idealize.ShloMosaic.ValueIdx

/-- The reference's product, entry by entry. -/
theorem val_eq (a : (⟨S2048x6400, .bf16⟩ : BufTy).Contents (Elt Ideal)) (b : (⟨S11008x6400, .bf16⟩ : BufTy).Contents (Elt Ideal)) :
    Read.val_main_v0 (F := Ideal) a b = nt (M := 2048) (K := 6400) (N := 11008) a b := by
  funext i
  refine (Read.val_main_v0_apply a b i).trans (Finset.sum_congr rfl fun k _ => ?_)
  congr 2 <;> (funext x; match x with | ⟨0, _⟩ => rfl | ⟨1, _⟩ => rfl)

end Cert.RefDw2Ideal.RefValue

namespace Cert.Proof

open Idealize.ShloMosaic Idealize.ShloMosaic.TcCoe Idealize.SL.Sem

/-- The reference run leaves its arguments as they were and its semaphores at zero. -/
theorem frame_RefDw2 : Cert.quiescent_RefDw2Ideal := fun m ρ _ =>
  (θ_run Cert.RefDw2Ideal.defs _ _).mono (fun r h => ⟨fun c => (h c).2.2, Idealize.ShloMosaic.sem_eq_zero_of_no_sems (by decide) r.2⟩)
    (Cert.RefDw2Ideal.Value.run (F := Ideal) m ρ)

/-- The kernel computes the reference's two products. -/
theorem algebraic_Dw2 : Cert.algebraic_Dw2Ideal_RefDw2Ideal := by
  intro m ρ m' ρ' _ hagree
  refine ⟨fun c => Cert.Dw2Ideal.RefValue.gate m c, fun c => Cert.Dw2Ideal.RefValue.up m c, ?_, ?_⟩
  · exact (θ_run Cert.Dw2Ideal.defs _ _).mono (fun _ h c =>
      ⟨(h c).1.trans (Cert.Dw2Ideal.RefValue.final3 m c), (h c).2.1.trans (Cert.Dw2Ideal.RefValue.final4 m c), (h c).2.2⟩)
      (Cert.Dw2Ideal.Value.run_blocks (F := Ideal) m ρ)
  · exact (θ_run Cert.RefDw2Ideal.defs _ _).mono (fun _ h c =>
      ⟨(h c).1.trans ((Cert.RefDw2Ideal.RefValue.val_eq _ _).trans (by rw [(hagree c).1, (hagree c).2.1])),
        (h c).2.1.trans ((Cert.RefDw2Ideal.RefValue.val_eq _ _).trans (by rw [(hagree c).1, (hagree c).2.2])), (h c).2.2⟩)
      (Cert.RefDw2Ideal.Value.run (F := Ideal) m' ρ')

end Cert.Proof

end
-- ==== Proof.DwDown.lean ====
/-
  The weight gradient of the MLP's down projection, over the extended reals: the kernel's result array holds `a3 · dy` whole — the
  grid's points write it 256 rows at a time — and that is the reference's product.
-/
module

public import proofs.«01_k».proof.Defs
public import proofs.«01_k».proof.Proof.Products
public import proofs.«01_k».proof.Proof.Gen.DwDownIdeal.Value
public import proofs.«01_k».proof.Proof.Gen.RefDwDownIdeal.Read
public import Idealize.ShloMosaic.Lib.Quiescent

@[expose] public section

set_option maxRecDepth 16384

noncomputable section

namespace Cert.DwDownIdeal.RefValue

open Cert.DwDownIdeal Cert.DwDownIdeal.Gen Cert.Products Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where the windows' blocks sit: the operand held in place is whole, the other and the result move by one block of 256. -/
theorem idx_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0))

/-- The whole product: what the result array is shown to hold. -/
abbrev prod (c : Dev nD) : Buf (Elt Ideal) ((c : Thread nD τ).loc main_v0) :=
  nn (M := 11008) (K := 6400) (N := 2048) (m ((c : Thread nD τ).loc main_arg0)) (m ((c : Thread nD τ).loc main_arg1))

/-- The block of operand 1 at point `t` is rows `256 t …` of it. -/
theorem iblk0 (c : Dev nD) (t : Fin cfg0.N) (r : Fin 256) (k : Fin 6400) (r' : Fin 11008) (hr : r'.val = t.val * 256 + r.val) :
    iblk m c 0 t (ix2 r k) = m ((c : Thread nD τ).loc main_arg0) (ix2 r' k) := by
  unfold iblk
  rw [View.read_apply]
  show m ((c : Thread nD τ).loc main_arg0) _ = _
  congr 1
  funext a
  apply Fin.ext
  match a with
  | ⟨0, _⟩ => exact (win0_0.rect_emb_val t _ 0).trans (by rw [((idx_facts t).1.1)]; exact hr.symm)
  | ⟨1, _⟩ => exact win0_0.rect_emb_val_of_index_zero t 1 ((idx_facts t).1.2) _

/-- The block of operand 2 is the whole operand. -/
theorem iblk1 (c : Dev nD) (t : Fin cfg0.N) (q : Fin 2048) (k : Fin 6400) (q' : Fin 2048) (hq : q'.val = q.val) :
    iblk m c 1 t (ix2 k q) = m ((c : Thread nD τ).loc main_arg1) (ix2 k q') := by
  unfold iblk
  rw [View.read_apply]
  show m ((c : Thread nD τ).loc main_arg1) _ = _
  congr 1
  funext a
  apply Fin.ext
  match a with
  | ⟨0, _⟩ => exact win0_1.rect_emb_val_of_index_zero t 0 (idx_facts t).2.1.1 _
  | ⟨1, _⟩ => exact (win0_1.rect_emb_val_of_index_zero t 1 (idx_facts t).2.1.2 _).trans hq.symm

/-- The body's stored value is the product of its blocks. -/
theorem pay (x : Vec Ideal S256x6400 .bf16) (y : Vec Ideal S6400x2048 .bf16) :
    k0_pay1 x y = nn (M := 256) (K := 6400) (N := 2048) x y := matmul_nn x y

/-- Point `t` writes back its block of the whole product. -/
theorem flushed2 (c : Dev nD) (t : Fin cfg0.N) :
    (dats m 0 c).flushed 2 t = (win0_2.blk t).view.read (Elt Ideal) (prod m c) := by
  rw [Value.flushed2]
  unfold out0_2
  rw [View.canon_unit_zero hz, View.ld_unit_zero hz, View.ld_unit_zero hz, pay]
  funext j
  rw [View.read_apply]
  refine nn_congr _ _ (fun k => iblk0 m c t _ k _ ?_) (fun k => iblk1 m c t _ k _ ?_)
  · exact (win0_2.rect_emb_val t j 0).trans (by rw [(idx_facts t).2.2.1]; rfl)
  · exact win0_2.rect_emb_val_of_index_zero t 1 (idx_facts t).2.2.2 j

theorem rect2 : ∀ t : Fin cfg0.N, win0_2.index t 0 * win0_2.size 0 = t.val * 256 ∧ win0_2.xsize (grid0.coords t) 0 = 256
    ∧ win0_2.index t 1 * win0_2.size 1 = 0 ∧ win0_2.xsize (grid0.coords t) 1 = 2048 :=
  (by decide +kernel : ∀ t : Fin grid0.N, win0_2.index t 0 * win0_2.size 0 = t.val * 256 ∧ win0_2.xsize (grid0.coords t) 0 = 256
    ∧ win0_2.index t 1 * win0_2.size 1 = 0 ∧ win0_2.xsize (grid0.coords t) 1 = 2048)

/-- The blocks cover the result. -/
theorem cover2 (i : S11008x2048.Idx) : ∃ t : Fin cfg0.N, (cfg0.win 2).flush t = true ∧ i ∈ ((cfg0.win 2).blk t).view.set := by
  have h0 : (i 0 : Nat) < 11008 := (i 0).isLt
  have h1 : (i 1 : Nat) < 2048 := (i 1).isLt
  have ht : (i 0 : Nat) / 256 < 43 := by omega
  refine ⟨⟨(i 0 : Nat) / 256, ht⟩, flush0_2 _, ?_⟩
  show i ∈ ((View.whole main_v0).slice (win0_2.rect ⟨(i 0 : Nat) / 256, ht⟩)).set
  rw [View.set_slice_whole, Rect.mem_set_unit]
  have e := rect2 ⟨(i 0 : Nat) / 256, ht⟩
  intro a
  match a with
  | ⟨0, _⟩ => show win0_2.index _ 0 * win0_2.size 0 ≤ (i 0 : Nat) ∧ (i 0 : Nat) < win0_2.index _ 0 * win0_2.size 0 + win0_2.xsize (grid0.coords _) 0
              rw [e.1, e.2.1]; show (i 0 : Nat) / 256 * 256 ≤ _ ∧ _ < (i 0 : Nat) / 256 * 256 + 256; omega
  | ⟨1, _⟩ => show win0_2.index _ 1 * win0_2.size 1 ≤ (i 1 : Nat) ∧ (i 1 : Nat) < win0_2.index _ 1 * win0_2.size 1 + win0_2.xsize (grid0.coords _) 1
              rw [e.2.2.1, e.2.2.2]; omega

/-- After the run the result array is the whole product. -/
theorem final2 (c : Dev nD) : (dats m 0 c).arrAt 2 cfg0.N = prod m c :=
  (dats m 0 c).arrAt_eq_of_cover 2 (prod m c) (fun t _ => flushed2 m c t) cover2

end Cert.DwDownIdeal.RefValue

namespace Cert.RefDwDownIdeal.RefValue

open Cert.RefDwDownIdeal Cert.RefDwDownIdeal.Gen Cert.Products Idealize.ShloMosaic Idealize.ShloMosaic.TcCoe Idealize.ShloMosaic.ValueIdx

/-- The reference's product, entry by entry. -/
theorem val_eq (a : (⟨S11008x6400, .bf16⟩ : BufTy).Contents (Elt Ideal)) (b : (⟨S6400x2048, .bf16⟩ : BufTy).Contents (Elt Ideal)) :
    Read.val_main_v0 (F := Ideal) a b = nn (M := 11008) (K := 6400) (N := 2048) a b := by
  funext i
  refine (Read.val_main_v0_apply a b i).trans (Finset.sum_congr rfl fun k _ => ?_)
  congr 2 <;> (funext x; match x with | ⟨0, _⟩ => rfl | ⟨1, _⟩ => rfl)

end Cert.RefDwDownIdeal.RefValue

namespace Cert.Proof

open Idealize.ShloMosaic Idealize.ShloMosaic.TcCoe Idealize.SL.Sem

/-- The reference run leaves its arguments as they were and its semaphores at zero. -/
theorem frame_RefDwDown : Cert.quiescent_RefDwDownIdeal := fun m ρ _ =>
  (θ_run Cert.RefDwDownIdeal.defs _ _).mono (fun r h => ⟨fun c => (h c).2, Idealize.ShloMosaic.sem_eq_zero_of_no_sems (by decide) r.2⟩)
    (Cert.RefDwDownIdeal.Value.run (F := Ideal) m ρ)

/-- The kernel computes the reference's product. -/
theorem algebraic_DwDown : Cert.algebraic_DwDownIdeal_RefDwDownIdeal := by
  intro m ρ m' ρ' _ hagree
  refine ⟨fun c => Cert.DwDownIdeal.RefValue.prod m c, ?_, ?_⟩
  · exact (θ_run Cert.DwDownIdeal.defs _ _).mono (fun _ h c =>
      ⟨(h c).1.trans (Cert.DwDownIdeal.RefValue.final2 m c), (h c).2⟩)
      (Cert.DwDownIdeal.Value.run_blocks (F := Ideal) m ρ)
  · exact (θ_run Cert.RefDwDownIdeal.defs _ _).mono (fun _ h c =>
      ⟨(h c).1.trans ((Cert.RefDwDownIdeal.RefValue.val_eq _ _).trans (by rw [(hagree c).1, (hagree c).2])), (h c).2⟩)
      (Cert.RefDwDownIdeal.Value.run (F := Ideal) m' ρ')

end Cert.Proof

end
-- ==== Proof.Da2.lean ====
/-
  The gradient entering the MLP, `da2 = w_gate · cg · s₀ + w_up · cu · s₁` (transposed: one column per token), over the
  extended reals: the kernel's result array holds it whole — the grid's points write it in blocks of 1024 × 256 — and that
  is what the reference computes on whole arrays.
-/
module

public import proofs.«01_k».proof.Defs
public import proofs.«01_k».proof.Proof.Products
public import proofs.«01_k».proof.Proof.Gen.Da2Ideal.Value
public import proofs.«01_k».proof.Proof.Gen.RefDa2Ideal.Value
public import Idealize.ShloMosaic.Lib.Quiescent

@[expose] public section

set_option maxRecDepth 16384

noncomputable section

namespace Cert.Da2

open Cert.Products Idealize.ShloMosaic Idealize.ShloMosaic.ValueIdx

/-- The scaled sum of two products, with the scales the first two entries of `s`. -/
def two {M K N : ℕ} (s : (⟨1, ![3]⟩ : Shape).Idx → EReal) (a : (⟨2, ![M, K]⟩ : Shape).Idx → EReal) (b : (⟨2, ![K, N]⟩ : Shape).Idx → EReal)
    (a' : (⟨2, ![M, K]⟩ : Shape).Idx → EReal) (b' : (⟨2, ![K, N]⟩ : Shape).Idx → EReal) : (⟨2, ![M, N]⟩ : Shape).Idx → EReal :=
  fun i => nn a b i * s (ix1 0) + nn a' b' i * s (ix1 1)

end Cert.Da2

namespace Cert.Da2Ideal.RefValue

open Cert.Da2Ideal Cert.Da2Ideal.Gen Cert.Products Cert.Da2 Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the body leaves in the result's block, from its input blocks. -/
theorem out_A (c : Dev nD) (t : Fin cfg0.N) (x0 : Vec Ideal S3 .f32) (x1 : Vec Ideal S1024x11008 .fp8e4m3) (x2 : Vec Ideal S11008x256 .bf16) (x3 : Vec Ideal S11008x256 .bf16) (x4 : Vec Ideal S1024x11008 .fp8e4m3) :
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 x4
     = two (M := 1024) (K := 11008) (N := 256) x0 x1 x2 x4 x3 := by
  unfold out0_A_5
  rw [View.read_writes_eq_canon _ _ _ (cover0_A_5 _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    View.ld_unit_zero (S := S1024x11008) hz, View.ld_unit_zero (S := S11008x256) hz]
  have p1 := matmul_nn (M := 1024) (K := 11008) (N := 256) (φ₁ := .bf16) (φ₂ := .bf16) x1 x2
  have p2 := matmul_nn (M := 1024) (K := 11008) (N := 256) (φ₁ := .bf16) (φ₂ := .bf16) x4 x3
  funext j
  refine congrArg₂ (· + ·) (congrArg₂ (· * ·) (congrFun p1 j) (congrArg x0 ?_)) (congrArg₂ (· * ·) (congrFun p2 j) (congrArg x0 ?_)) <;>
    exact funext fun a => by fin_cases a; rfl

/-- Where the windows' blocks sit: point `t` is row block `t / 25`, column block `t % 25`. -/
theorem idx_facts : ∀ t : Fin cfg0.N, (win0_0.index t 0 = 0)
    ∧ (win0_1.index t 0 = t.val / 25 ∧ win0_1.index t 1 = 0) ∧ (win0_2.index t 0 = 0 ∧ win0_2.index t 1 = t.val % 25)
    ∧ (win0_3.index t 0 = 0 ∧ win0_3.index t 1 = t.val % 25) ∧ (win0_4.index t 0 = t.val / 25 ∧ win0_4.index t 1 = 0)
    ∧ (win0_5.index t 0 = t.val / 25 ∧ win0_5.index t 1 = t.val % 25) :=
  (by decide +kernel : ∀ t : Fin grid0.N, (win0_0.index t 0 = 0)
    ∧ (win0_1.index t 0 = t.val / 25 ∧ win0_1.index t 1 = 0) ∧ (win0_2.index t 0 = 0 ∧ win0_2.index t 1 = t.val % 25)
    ∧ (win0_3.index t 0 = 0 ∧ win0_3.index t 1 = t.val % 25) ∧ (win0_4.index t 0 = t.val / 25 ∧ win0_4.index t 1 = 0)
    ∧ (win0_5.index t 0 = t.val / 25 ∧ win0_5.index t 1 = t.val % 25))

/-- The whole gradient: what the result array is shown to hold. -/
abbrev val (c : Dev nD) : Buf (Elt Ideal) ((c : Thread nD τ).loc main_v0) :=
  two (M := 2048) (K := 11008) (N := 6400) (m ((c : Thread nD τ).loc main_arg0)) (m ((c : Thread nD τ).loc main_arg1)) (m ((c : Thread nD τ).loc main_arg3))
    (m ((c : Thread nD τ).loc main_arg2)) (m ((c : Thread nD τ).loc main_arg4))

/-- The scales are held whole. -/
theorem iblk0 (c : Dev nD) (t : Fin cfg0.N) (k : Fin 3) :
    iblk m c 0 t (ix1 k) = m ((c : Thread nD τ).loc main_arg0) (ix1 k) := by
  show m ((c : Thread nD τ).loc main_arg0) ((win0_0.rect t).emb (ix1 k)) = _
  refine congrArg _ (funext fun a => Fin.ext ?_)
  match a with
  | ⟨0, _⟩ => exact win0_0.rect_emb_val_of_index_zero t 0 (idx_facts t).1 _

/-- The gate weights' block is a block of 1024 rows, -/
theorem iblk1 (c : Dev nD) (t : Fin cfg0.N) (r : Fin 1024) (k : Fin 11008) (r' : Fin 2048) (hr : r'.val = t.val / 25 * 1024 + r.val) :
    iblk m c 1 t (ix2 r k) = m ((c : Thread nD τ).loc main_arg1) (ix2 r' k) := by
  show m ((c : Thread nD τ).loc main_arg1) ((win0_1.rect t).emb (ix2 r k)) = _
  refine congrArg _ (Shape.idx_ext₂ ?_ ?_)
  · exact (win0_1.rect_emb_val t _ 0).trans (by rw [(idx_facts t).2.1.1]; exact hr.symm)
  · exact win0_1.rect_emb_val_of_index_zero t 1 (idx_facts t).2.1.2 _

/-- and so is the up weights'; -/
theorem iblk4 (c : Dev nD) (t : Fin cfg0.N) (r : Fin 1024) (k : Fin 11008) (r' : Fin 2048) (hr : r'.val = t.val / 25 * 1024 + r.val) :
    iblk m c 4 t (ix2 r k) = m ((c : Thread nD τ).loc main_arg2) (ix2 r' k) := by
  show m ((c : Thread nD τ).loc main_arg2) ((win0_4.rect t).emb (ix2 r k)) = _
  refine congrArg _ (Shape.idx_ext₂ ?_ ?_)
  · exact (win0_4.rect_emb_val t _ 0).trans (by rw [(idx_facts t).2.2.2.2.1.1]; exact hr.symm)
  · exact win0_4.rect_emb_val_of_index_zero t 1 (idx_facts t).2.2.2.2.1.2 _

/-- the codes of the gate's gradient are read 256 columns at a time, -/
theorem iblk2 (c : Dev nD) (t : Fin cfg0.N) (k : Fin 11008) (q : Fin 256) (q' : Fin 6400) (hq : q'.val = t.val % 25 * 256 + q.val) :
    iblk m c 2 t (ix2 k q) = m ((c : Thread nD τ).loc main_arg3) (ix2 k q') := by
  show m ((c : Thread nD τ).loc main_arg3) ((win0_2.rect t).emb (ix2 k q)) = _
  refine congrArg _ (Shape.idx_ext₂ ?_ ?_)
  · exact win0_2.rect_emb_val_of_index_zero t 0 (idx_facts t).2.2.1.1 _
  · exact (win0_2.rect_emb_val t _ 1).trans (by rw [(idx_facts t).2.2.1.2]; exact hq.symm)

/-- and so are the up projection's. -/
theorem iblk3 (c : Dev nD) (t : Fin cfg0.N) (k : Fin 11008) (q : Fin 256) (q' : Fin 6400) (hq : q'.val = t.val % 25 * 256 + q.val) :
    iblk m c 3 t (ix2 k q) = m ((c : Thread nD τ).loc main_arg4) (ix2 k q') := by
  show m ((c : Thread nD τ).loc main_arg4) ((win0_3.rect t).emb (ix2 k q)) = _
  refine congrArg _ (Shape.idx_ext₂ ?_ ?_)
  · exact win0_3.rect_emb_val_of_index_zero t 0 (idx_facts t).2.2.2.1.1 _
  · exact (win0_3.rect_emb_val t _ 1).trans (by rw [(idx_facts t).2.2.2.1.2]; exact hq.symm)

/-- Point `t` writes back its block of the whole gradient. -/
theorem flushed5 (c : Dev nD) (t : Fin cfg0.N) :
    (dats m 0 c).flushed 5 t = (win0_5.blk t).view.read (Elt Ideal) (val m c) := by
  rw [Value.flushed5_A, out_A]
  funext j
  rw [View.read_apply]
  have h0 : ((win0_5.rect t).emb j 0).val = t.val / 25 * 1024 + (j 0).val :=
    (win0_5.rect_emb_val t j 0).trans (by rw [(idx_facts t).2.2.2.2.2.1]; rfl)
  have h1 : ((win0_5.rect t).emb j 1).val = t.val % 25 * 256 + (j 1).val :=
    (win0_5.rect_emb_val t j 1).trans (by rw [(idx_facts t).2.2.2.2.2.2]; rfl)
  exact congrArg₂ (· + ·)
    (congrArg₂ (· * ·) (nn_congr _ _ (fun k => iblk1 m c t _ k _ h0) (fun k => iblk2 m c t k _ _ h1)) (iblk0 m c t 0))
    (congrArg₂ (· * ·) (nn_congr _ _ (fun k => iblk4 m c t _ k _ h0) (fun k => iblk3 m c t k _ _ h1)) (iblk0 m c t 1))

theorem rect5 : ∀ t : Fin cfg0.N, win0_5.index t 0 * win0_5.size 0 = t.val / 25 * 1024 ∧ win0_5.xsize (grid0.coords t) 0 = 1024
    ∧ win0_5.index t 1 * win0_5.size 1 = t.val % 25 * 256 ∧ win0_5.xsize (grid0.coords t) 1 = 256 :=
  (by decide +kernel : ∀ t : Fin grid0.N, win0_5.index t 0 * win0_5.size 0 = t.val / 25 * 1024 ∧ win0_5.xsize (grid0.coords t) 0 = 1024
    ∧ win0_5.index t 1 * win0_5.size 1 = t.val % 25 * 256 ∧ win0_5.xsize (grid0.coords t) 1 = 256)

/-- The blocks cover the result. -/
theorem cover5 (i : S2048x6400.Idx) : ∃ t : Fin cfg0.N, (cfg0.win 5).flush t = true ∧ i ∈ ((cfg0.win 5).blk t).view.set := by
  have h0 : (i 0 : Nat) < 2048 := (i 0).isLt
  have h1 : (i 1 : Nat) < 6400 := (i 1).isLt
  obtain ⟨n, hn⟩ : ∃ n, n = (i 0 : Nat) / 1024 * 25 + (i 1 : Nat) / 256 := ⟨_, rfl⟩
  have ht : n < 50 := by omega
  refine ⟨⟨n, ht⟩, flush0_5 _, ?_⟩
  show i ∈ ((View.whole main_v0).slice (win0_5.rect ⟨n, ht⟩)).set
  rw [View.set_slice_whole, Rect.mem_set_unit]
  have e := rect5 ⟨n, ht⟩
  intro a
  match a with
  | ⟨0, _⟩ => show win0_5.index _ 0 * win0_5.size 0 ≤ (i 0 : Nat) ∧ (i 0 : Nat) < win0_5.index _ 0 * win0_5.size 0 + win0_5.xsize (grid0.coords _) 0
              rw [e.1, e.2.1]; show n / 25 * 1024 ≤ _ ∧ _ < n / 25 * 1024 + 1024; omega
  | ⟨1, _⟩ => show win0_5.index _ 1 * win0_5.size 1 ≤ (i 1 : Nat) ∧ (i 1 : Nat) < win0_5.index _ 1 * win0_5.size 1 + win0_5.xsize (grid0.coords _) 1
              rw [e.2.2.1, e.2.2.2]; show n % 25 * 256 ≤ _ ∧ _ < n % 25 * 256 + 256; omega

/-- After the run the result array is the whole gradient. -/
theorem final5 (c : Dev nD) : (dats m 0 c).arrAt 5 cfg0.N = val m c :=
  (dats m 0 c).arrAt_eq_of_cover 5 (val m c) (fun t _ => flushed5 m c t) cover5

end Cert.Da2Ideal.RefValue

namespace Cert.RefDa2Ideal.RefValue

open Cert.RefDa2Ideal Cert.RefDa2Ideal.Gen Cert.Products Cert.Da2 Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the reference's body leaves, from the whole arrays. -/
theorem out_A (c : Dev nD) (t : Fin cfg0.N) (x0 : Vec Ideal S3 .f32) (x1 x2 : Vec Ideal S2048x11008 .fp8e4m3) (x3 x4 : Vec Ideal S11008x6400 .bf16) :
   out0_A_5 c (ms0_0 t) (hs0_0 t) (ms0_1 t) (hs0_1 t) (ms0_2 t) (hs0_2 t) (ms0_3 t) (hs0_3 t) (ms0_4 t) (hs0_4 t) (ms0_5 t) (hs0_5 t) x0 x1 x2 x3 x4
     = two (M := 2048) (K := 11008) (N := 6400) x0 x1 x3 x2 x4 := by
  unfold out0_A_5
  rw [View.read_writes_eq_canon _ _ _ (cover0_A_5 _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    View.ld_unit_zero (S := S2048x11008) hz, View.ld_unit_zero (S := S11008x6400) hz]
  have p1 := matmul_nn (M := 2048) (K := 11008) (N := 6400) (φ₁ := .bf16) (φ₂ := .bf16) x1 x3
  have p2 := matmul_nn (M := 2048) (K := 11008) (N := 6400) (φ₁ := .bf16) (φ₂ := .bf16) x2 x4
  funext j
  refine congrArg₂ (· + ·) (congrArg₂ (· * ·) (congrFun p1 j) (congrArg x0 ?_)) (congrArg₂ (· * ·) (congrFun p2 j) (congrArg x0 ?_)) <;>
    exact funext fun a => by fin_cases a; rfl

theorem idx_facts : ∀ t : Fin cfg0.N, win0_0.index t 0 = 0
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, win0_0.index t 0 = 0
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0))

/-- Every window of the reference is its whole array. -/
theorem iblk0 (c : Dev nD) (t : Fin cfg0.N) : iblk m c 0 t = m ((c : Thread nD τ).loc main_arg0) := funext fun y =>
  congrArg (m ((c : Thread nD τ).loc main_arg0)) (a₁ := (win0_0.rect t).emb y) (funext fun a => Fin.ext (by
    match a with
    | ⟨0, _⟩ => exact win0_0.rect_emb_val_of_index_zero t 0 (idx_facts t).1 _))
theorem iblk1 (c : Dev nD) (t : Fin cfg0.N) : iblk m c 1 t = m ((c : Thread nD τ).loc main_arg1) := funext fun y =>
  congrArg (m ((c : Thread nD τ).loc main_arg1)) (a₁ := (win0_1.rect t).emb y) (Shape.idx_ext₂
    (win0_1.rect_emb_val_of_index_zero t 0 (idx_facts t).2.1.1 _) (win0_1.rect_emb_val_of_index_zero t 1 (idx_facts t).2.1.2 _))
theorem iblk2 (c : Dev nD) (t : Fin cfg0.N) : iblk m c 2 t = m ((c : Thread nD τ).loc main_arg2) := funext fun y =>
  congrArg (m ((c : Thread nD τ).loc main_arg2)) (a₁ := (win0_2.rect t).emb y) (Shape.idx_ext₂
    (win0_2.rect_emb_val_of_index_zero t 0 (idx_facts t).2.2.1.1 _) (win0_2.rect_emb_val_of_index_zero t 1 (idx_facts t).2.2.1.2 _))
theorem iblk3 (c : Dev nD) (t : Fin cfg0.N) : iblk m c 3 t = m ((c : Thread nD τ).loc main_arg3) := funext fun y =>
  congrArg (m ((c : Thread nD τ).loc main_arg3)) (a₁ := (win0_3.rect t).emb y) (Shape.idx_ext₂
    (win0_3.rect_emb_val_of_index_zero t 0 (idx_facts t).2.2.2.1.1 _) (win0_3.rect_emb_val_of_index_zero t 1 (idx_facts t).2.2.2.1.2 _))
theorem iblk4 (c : Dev nD) (t : Fin cfg0.N) : iblk m c 4 t = m ((c : Thread nD τ).loc main_arg4) := funext fun y =>
  congrArg (m ((c : Thread nD τ).loc main_arg4)) (a₁ := (win0_4.rect t).emb y) (Shape.idx_ext₂
    (win0_4.rect_emb_val_of_index_zero t 0 (idx_facts t).2.2.2.2.1.1 _) (win0_4.rect_emb_val_of_index_zero t 1 (idx_facts t).2.2.2.2.1.2 _))

/-- The reference's result. -/
abbrev val (c : Dev nD) : Buf (Elt Ideal) ((c : Thread nD τ).loc main_v0) :=
  two (M := 2048) (K := 11008) (N := 6400) (m ((c : Thread nD τ).loc main_arg0)) (m ((c : Thread nD τ).loc main_arg1)) (m ((c : Thread nD τ).loc main_arg3))
    (m ((c : Thread nD τ).loc main_arg2)) (m ((c : Thread nD τ).loc main_arg4))

theorem flushed5 (c : Dev nD) (t : Fin cfg0.N) :
    (dats m 0 c).flushed 5 t = (win0_5.blk t).view.read (Elt Ideal) (val m c) := by
  rw [Value.flushed5_A, out_A, iblk0, iblk1, iblk2, iblk3, iblk4]
  funext j
  rw [View.read_apply]
  exact congrArg (val m c) (a₂ := (win0_5.rect t).emb j) (Shape.idx_ext₂
    (win0_5.rect_emb_val_of_index_zero t 0 (idx_facts t).2.2.2.2.2.1 _).symm (win0_5.rect_emb_val_of_index_zero t 1 (idx_facts t).2.2.2.2.2.2 _).symm)

theorem rect5 : ∀ t : Fin cfg0.N, win0_5.index t 0 * win0_5.size 0 = 0 ∧ win0_5.xsize (grid0.coords t) 0 = 2048
    ∧ win0_5.index t 1 * win0_5.size 1 = 0 ∧ win0_5.xsize (grid0.coords t) 1 = 6400 :=
  (by decide +kernel : ∀ t : Fin grid0.N, win0_5.index t 0 * win0_5.size 0 = 0 ∧ win0_5.xsize (grid0.coords t) 0 = 2048
    ∧ win0_5.index t 1 * win0_5.size 1 = 0 ∧ win0_5.xsize (grid0.coords t) 1 = 6400)

/-- The one block is the whole result. -/
theorem cover5 (i : S2048x6400.Idx) : ∃ t : Fin cfg0.N, (cfg0.win 5).flush t = true ∧ i ∈ ((cfg0.win 5).blk t).view.set := by
  have h0 : (i 0 : Nat) < 2048 := (i 0).isLt
  have h1 : (i 1 : Nat) < 6400 := (i 1).isLt
  have ht : 0 < cfg0.N := by decide
  refine ⟨⟨0, ht⟩, flush0_5 _, ?_⟩
  show i ∈ ((View.whole main_v0).slice (win0_5.rect ⟨0, ht⟩)).set
  rw [View.set_slice_whole, Rect.mem_set_unit]
  have e := rect5 ⟨0, ht⟩
  intro a
  match a with
  | ⟨0, _⟩ => show win0_5.index _ 0 * win0_5.size 0 ≤ (i 0 : Nat) ∧ (i 0 : Nat) < win0_5.index _ 0 * win0_5.size 0 + win0_5.xsize (grid0.coords _) 0
              rw [e.1, e.2.1]; omega
  | ⟨1, _⟩ => show win0_5.index _ 1 * win0_5.size 1 ≤ (i 1 : Nat) ∧ (i 1 : Nat) < win0_5.index _ 1 * win0_5.size 1 + win0_5.xsize (grid0.coords _) 1
              rw [e.2.2.1, e.2.2.2]; omega

theorem final5 (c : Dev nD) : (dats m 0 c).arrAt 5 cfg0.N = val m c :=
  (dats m 0 c).arrAt_eq_of_cover 5 (val m c) (fun t _ => flushed5 m c t) cover5

end Cert.RefDa2Ideal.RefValue

namespace Cert.Proof

open Idealize.ShloMosaic Idealize.ShloMosaic.TcCoe Idealize.SL.Sem

/-- The kernel computes the reference's gradient. -/
theorem algebraic_Da2 : Cert.algebraic_Da2Ideal_RefDa2Ideal := by
  intro m ρ m' ρ' _ hagree
  refine ⟨fun c => Cert.Da2Ideal.RefValue.val m c, ?_, ?_⟩
  · exact (θ_run Cert.Da2Ideal.defs _ _).mono (fun _ h c =>
      ⟨(h c).1.trans (Cert.Da2Ideal.RefValue.final5 m c), (h c).2⟩)
      (Cert.Da2Ideal.Value.run_blocks (F := Ideal) m ρ)
  · refine (θ_run Cert.RefDa2Ideal.defs _ _).mono (fun _ h c => ⟨(h c).1.trans ((Cert.RefDa2Ideal.RefValue.final5 m' c).trans ?_), (h c).2⟩)
      (Cert.RefDa2Ideal.Value.run_blocks (F := Ideal) m' ρ')
    show Cert.Da2.two _ _ _ _ _ = _
    rw [(hagree c).1, (hagree c).2.1, (hagree c).2.2.1, (hagree c).2.2.2.1, (hagree c).2.2.2.2]

end Cert.Proof

end
-- ==== Proof.DwO.lean ====
/-
  The weight gradient of the attention's output projection, over the extended reals: the kernel's result array holds `ao · chᵀ`
  whole — the grid's points write it 256 columns at a time — and that is the reference's product.
-/
module

public import proofs.«01_k».proof.Defs
public import proofs.«01_k».proof.Proof.Products
public import proofs.«01_k».proof.Proof.Gen.DwOIdeal.Value
public import proofs.«01_k».proof.Proof.Gen.RefDwOIdeal.Read
public import Idealize.ShloMosaic.Lib.Quiescent

@[expose] public section

set_option maxRecDepth 16384

noncomputable section

namespace Cert.DwOIdeal.RefValue

open Cert.DwOIdeal Cert.DwOIdeal.Gen Cert.Products Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where the windows' blocks sit: the operand held in place is whole, the other and the result move by one block of 256. -/
theorem idx_facts : ∀ t : Fin cfg0.N, (win0_0.index t 0 = 0 ∧ win0_0.index t 1 = 0)
    ∧ (win0_1.index t 0 = t.val ∧ win0_1.index t 1 = 0) ∧ (win0_2.index t 0 = 0 ∧ win0_2.index t 1 = t.val) :=
  (by decide +kernel : ∀ t : Fin grid0.N, (win0_0.index t 0 = 0 ∧ win0_0.index t 1 = 0)
    ∧ (win0_1.index t 0 = t.val ∧ win0_1.index t 1 = 0) ∧ (win0_2.index t 0 = 0 ∧ win0_2.index t 1 = t.val))

/-- The whole product: what the result array is shown to hold. -/
abbrev prod (c : Dev nD) : Buf (Elt Ideal) ((c : Thread nD τ).loc main_v0) :=
  nt (M := 2048) (K := 6400) (N := 2048) (m ((c : Thread nD τ).loc main_arg0)) (m ((c : Thread nD τ).loc main_arg1))

/-- The block of operand 1 is the whole operand. -/
theorem iblk0 (c : Dev nD) (t : Fin cfg0.N) (r : Fin 2048) (k : Fin 6400) (r' : Fin 2048) (hr : r'.val = r.val) :
    iblk m c 0 t (ix2 r k) = m ((c : Thread nD τ).loc main_arg0) (ix2 r' k) := by
  unfold iblk
  rw [View.read_apply]
  show m ((c : Thread nD τ).loc main_arg0) _ = _
  congr 1
  funext a
  apply Fin.ext
  match a with
  | ⟨0, _⟩ => exact (win0_0.rect_emb_val_of_index_zero t 0 ((idx_facts t).1.1) _).trans hr.symm
  | ⟨1, _⟩ => exact win0_0.rect_emb_val_of_index_zero t 1 ((idx_facts t).1.2) _

/-- The block of operand 2 at point `t` is rows `256 t …` of it. -/
theorem iblk1 (c : Dev nD) (t : Fin cfg0.N) (r : Fin 256) (k : Fin 6400) (r' : Fin 2048) (hr : r'.val = t.val * 256 + r.val) :
    iblk m c 1 t (ix2 r k) = m ((c : Thread nD τ).loc main_arg1) (ix2 r' k) := by
  unfold iblk
  rw [View.read_apply]
  show m ((c : Thread nD τ).loc main_arg1) _ = _
  congr 1
  funext a
  apply Fin.ext
  match a with
  | ⟨0, _⟩ => exact (win0_1.rect_emb_val t _ 0).trans (by rw [((idx_facts t).2.1.1)]; exact hr.symm)
  | ⟨1, _⟩ => exact win0_1.rect_emb_val_of_index_zero t 1 ((idx_facts t).2.1.2) _

/-- The body's stored value is the product of its blocks. -/
theorem pay (x : Vec Ideal S2048x6400 .bf16) (y : Vec Ideal S256x6400 .bf16) :
    k0_pay1 x y = nt (M := 2048) (K := 6400) (N := 256) x y := matmul_nt x y

/-- Point `t` writes back its block of the whole product. -/
theorem flushed2 (c : Dev nD) (t : Fin cfg0.N) :
    (dats m 0 c).flushed 2 t = (win0_2.blk t).view.read (Elt Ideal) (prod m c) := by
  rw [Value.flushed2]
  unfold out0_2
  rw [View.canon_unit_zero hz, View.ld_unit_zero hz, View.ld_unit_zero hz, pay]
  funext j
  rw [View.read_apply]
  refine nt_congr _ _ (fun k => iblk0 m c t _ k _ ?_) (fun k => iblk1 m c t _ k _ ?_)
  · exact win0_2.rect_emb_val_of_index_zero t 0 (idx_facts t).2.2.1 j
  · exact (win0_2.rect_emb_val t j 1).trans (by rw [(idx_facts t).2.2.2]; rfl)

theorem rect2 : ∀ t : Fin cfg0.N, win0_2.index t 0 * win0_2.size 0 = 0 ∧ win0_2.xsize (grid0.coords t) 0 = 2048
    ∧ win0_2.index t 1 * win0_2.size 1 = t.val * 256 ∧ win0_2.xsize (grid0.coords t) 1 = 256 :=
  (by decide +kernel : ∀ t : Fin grid0.N, win0_2.index t 0 * win0_2.size 0 = 0 ∧ win0_2.xsize (grid0.coords t) 0 = 2048
    ∧ win0_2.index t 1 * win0_2.size 1 = t.val * 256 ∧ win0_2.xsize (grid0.coords t) 1 = 256)

/-- The blocks cover the result. -/
theorem cover2 (i : S2048x2048.Idx) : ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have ht : (i 1 : Nat) / 256 < 8 := by omega
  refine ⟨⟨(i 1 : Nat) / 256, ht⟩, flush0_2 _, ?_⟩
  show i ∈ ((View.whole main_v0).slice (win0_2.rect ⟨(i 1 : Nat) / 256, ht⟩)).set
  rw [View.set_slice_whole, Rect.mem_set_unit]
  have e := rect2 ⟨(i 1 : Nat) / 256, ht⟩
  intro a
  match a with
  | ⟨0, _⟩ => show win0_2.index _ 0 * win0_2.size 0 ≤ (i 0 : Nat) ∧ (i 0 : Nat) < win0_2.index _ 0 * win0_2.size 0 + win0_2.xsize (grid0.coords _) 0
              rw [e.1, e.2.1]; omega
  | ⟨1, _⟩ => show win0_2.index _ 1 * win0_2.size 1 ≤ (i 1 : Nat) ∧ (i 1 : Nat) < win0_2.index _ 1 * win0_2.size 1 + win0_2.xsize (grid0.coords _) 1
              rw [e.2.2.1, e.2.2.2]; show (i 1 : Nat) / 256 * 256 ≤ _ ∧ _ < (i 1 : Nat) / 256 * 256 + 256; omega

/-- After the run the result array is the whole product. -/
theorem final2 (c : Dev nD) : (dats m 0 c).arrAt 2 cfg0.N = prod m c :=
  (dats m 0 c).arrAt_eq_of_cover 2 (prod m c) (fun t _ => flushed2 m c t) cover2

end Cert.DwOIdeal.RefValue

namespace Cert.RefDwOIdeal.RefValue

open Cert.RefDwOIdeal Cert.RefDwOIdeal.Gen Cert.Products Idealize.ShloMosaic Idealize.ShloMosaic.TcCoe Idealize.ShloMosaic.ValueIdx

/-- The reference's product, entry by entry. -/
theorem val_eq (a : (⟨S2048x6400, .bf16⟩ : BufTy).Contents (Elt Ideal)) (b : (⟨S2048x6400, .bf16⟩ : BufTy).Contents (Elt Ideal)) :
    Read.val_main_v0 (F := Ideal) a b = nt (M := 2048) (K := 6400) (N := 2048) a b := by
  funext i
  refine (Read.val_main_v0_apply a b i).trans (Finset.sum_congr rfl fun k _ => ?_)
  congr 2 <;> (funext x; match x with | ⟨0, _⟩ => rfl | ⟨1, _⟩ => rfl)

end Cert.RefDwOIdeal.RefValue

namespace Cert.Proof

open Idealize.ShloMosaic Idealize.ShloMosaic.TcCoe Idealize.SL.Sem

/-- The reference run leaves its arguments as they were and its semaphores at zero. -/
theorem frame_RefDwO : Cert.quiescent_RefDwOIdeal := fun m ρ _ =>
  (θ_run Cert.RefDwOIdeal.defs _ _).mono (fun r h => ⟨fun c => (h c).2, Idealize.ShloMosaic.sem_eq_zero_of_no_sems (by decide) r.2⟩)
    (Cert.RefDwOIdeal.Value.run (F := Ideal) m ρ)

/-- The kernel computes the reference's product. -/
theorem algebraic_DwO : Cert.algebraic_DwOIdeal_RefDwOIdeal := by
  intro m ρ m' ρ' _ hagree
  refine ⟨fun c => Cert.DwOIdeal.RefValue.prod m c, ?_, ?_⟩
  · exact (θ_run Cert.DwOIdeal.defs _ _).mono (fun _ h c =>
      ⟨(h c).1.trans (Cert.DwOIdeal.RefValue.final2 m c), (h c).2⟩)
      (Cert.DwOIdeal.Value.run_blocks (F := Ideal) m ρ)
  · exact (θ_run Cert.RefDwOIdeal.defs _ _).mono (fun _ h c =>
      ⟨(h c).1.trans ((Cert.RefDwOIdeal.RefValue.val_eq _ _).trans (by rw [(hagree c).1, (hagree c).2])), (h c).2⟩)
      (Cert.RefDwOIdeal.Value.run (F := Ideal) m' ρ')

end Cert.Proof

end
-- ==== Proof.DwQkv.lean ====
/-
  The weight gradient of the fused query-key-value projection, over the extended reals: `a1 · (dq ‖ dkv)ᵀ · s`. The kernel
  writes it 256 columns at a time — eight blocks from `dq`, the last two from `dkv` — and the reference joins the two and
  multiplies once.
-/
module

public import proofs.«01_k».proof.Defs
public import proofs.«01_k».proof.Proof.Products
public import proofs.«01_k».proof.Proof.Gen.DwQkvIdeal.Value
public import proofs.«01_k».proof.Proof.Gen.RefDwQkvIdeal.Read
public import Idealize.ShloMosaic.Lib.Quiescent

@[expose] public section

set_option maxRecDepth 16384

noncomputable section

namespace Cert.DwQkv

open Cert.Products Idealize.ShloMosaic Idealize.ShloMosaic.ValueIdx

/-- The rows of `q`, then the rows of `kv`. -/
def joined (q : (⟨2, ![2048, 6400]⟩ : Shape).Idx → EReal) (kv : (⟨2, ![512, 6400]⟩ : Shape).Idx → EReal) : (⟨2, ![2560, 6400]⟩ : Shape).Idx → EReal :=
  fun j => if h : (j 0).val < 2048 then q (ix2 ⟨(j 0).val, h⟩ (j 1))
    else kv (ix2 ⟨(j 0).val - 2048, by have := (j 0).isLt; change (j 0).val < 2560 at this; omega⟩ (j 1))

theorem joined_q (q : (⟨2, ![2048, 6400]⟩ : Shape).Idx → EReal) (kv : (⟨2, ![512, 6400]⟩ : Shape).Idx → EReal) (r : Fin 2560) (k : Fin 6400) (r' : Fin 2048) (h : r.val = r'.val) :
    joined q kv (ix2 r k) = q (ix2 r' k) := by
  have h' : r.val < 2048 := by have := r'.isLt; omega
  exact (dif_pos h').trans (congrArg q (Shape.idx_ext₂ h rfl))

theorem joined_kv (q : (⟨2, ![2048, 6400]⟩ : Shape).Idx → EReal) (kv : (⟨2, ![512, 6400]⟩ : Shape).Idx → EReal) (r : Fin 2560) (k : Fin 6400) (r' : Fin 512) (h : r.val = 2048 + r'.val) :
    joined q kv (ix2 r k) = kv (ix2 r' k) := by
  have h' : ¬ r.val < 2048 := by omega
  exact (dif_neg h').trans (congrArg kv (Shape.idx_ext₂ (by show r.val - 2048 = r'.val; omega) rfl))

/-- The whole gradient. -/
def whole (s : (⟨1, ![1]⟩ : Shape).Idx → EReal) (a q : (⟨2, ![2048, 6400]⟩ : Shape).Idx → EReal) (kv : (⟨2, ![512, 6400]⟩ : Shape).Idx → EReal) :
    (⟨2, ![2048, 2560]⟩ : Shape).Idx → EReal :=
  fun i => nt (M := 2048) (K := 6400) (N := 2560) a (joined q kv) i * s (ix1 0)

end Cert.DwQkv

namespace Cert.DwQkvIdeal.RefValue

open Cert.DwQkvIdeal Cert.DwQkvIdeal.Gen Cert.Products Cert.DwQkv Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- One block of the gradient: a product with 256 rows, scaled. -/
abbrev blk (x0 : Vec Ideal S1 .f32) (x1 : Vec Ideal S2048x6400 .bf16) (x : Vec Ideal S256x6400 .bf16) : Vec Ideal S2048x256 .f32 :=
  fun j => nt (M := 2048) (K := 6400) (N := 256) x1 x j * x0 (ix1 0)

/-- What the body leaves at a point of `dq`'s columns, -/
theorem out_A (c : Dev nD) (t : Fin cfg0.N) (h0 : cond0_0 (grid0.coords t)) (h1 : ¬cond0_1 (grid0.coords t))
    (x0 : Vec Ideal S1 .f32) (x1 : Vec Ideal S2048x6400 .bf16) (x2 x3 : Vec Ideal S256x6400 .bf16) :
   out0_A_4 c (grid0.coords t) (ms0_0 t) (hs0_0 t) (ms0_1 t) (hs0_1 t) (ms0_2 t) (hs0_2 t) (ms0_3 t) (hs0_3 t) (ms0_4 t) (hs0_4 t) h0 h1 x0 x1 x2 x3
     = blk x0 x1 x2 := by
  unfold out0_A_4
  rw [View.read_writes_eq_canon _ _ _ (cover0_A_4 _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S2048x6400) hz, View.ld_unit_zero (S := S256x6400) hz]
  have p := matmul_nt (M := 2048) (K := 6400) (N := 256) (φ₁ := .bf16) (φ₂ := .bf16) x1 x2
  funext j
  refine congrArg₂ (· * ·) (congrFun p j) (congrArg x0 ?_)
  exact funext fun a => by fin_cases a; rfl

/-- and at a point of `dkv`'s. -/
theorem out_B (c : Dev nD) (t : Fin cfg0.N) (h0 : ¬cond0_0 (grid0.coords t)) (h1 : cond0_1 (grid0.coords t))
    (x0 : Vec Ideal S1 .f32) (x1 : Vec Ideal S2048x6400 .bf16) (x2 x3 : Vec Ideal S256x6400 .bf16) :
   out0_B_4 c (grid0.coords t) (ms0_0 t) (hs0_0 t) (ms0_1 t) (hs0_1 t) (ms0_2 t) (hs0_2 t) (ms0_3 t) (hs0_3 t) (ms0_4 t) (hs0_4 t) h0 h1 x0 x1 x2 x3
     = blk x0 x1 x3 := by
  unfold out0_B_4
  rw [View.read_writes_eq_canon _ _ _ (cover0_B_4 _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S2048x6400) hz, View.ld_unit_zero (S := S256x6400) hz]
  have p := matmul_nt (M := 2048) (K := 6400) (N := 256) (φ₁ := .bf16) (φ₂ := .bf16) x1 x3
  funext j
  refine congrArg₂ (· * ·) (congrFun p j) (congrArg x0 ?_)
  exact funext fun a => by fin_cases a; rfl

/-- Where the windows' blocks sit. -/
theorem idx_facts : ∀ t : Fin cfg0.N, win0_0.index t 0 = 0 ∧ (win0_1.index t 0 = 0 ∧ win0_1.index t 1 = 0)
    ∧ (win0_2.index t 0 = min t.val 7 ∧ win0_2.index t 1 = 0) ∧ (win0_3.index t 0 = t.val - 8 ∧ win0_3.index t 1 = 0)
    ∧ (win0_4.index t 0 = 0 ∧ win0_4.index t 1 = t.val) :=
  (by decide +kernel : ∀ t : Fin grid0.N, win0_0.index t 0 = 0 ∧ (win0_1.index t 0 = 0 ∧ win0_1.index t 1 = 0)
    ∧ (win0_2.index t 0 = min t.val 7 ∧ win0_2.index t 1 = 0) ∧ (win0_3.index t 0 = t.val - 8 ∧ win0_3.index t 1 = 0)
    ∧ (win0_4.index t 0 = 0 ∧ win0_4.index t 1 = t.val))

/-- What the result array is shown to hold. -/
abbrev val (c : Dev nD) : Buf (Elt Ideal) ((c : Thread nD τ).loc main_v0) :=
  whole (m ((c : Thread nD τ).loc main_arg0)) (m ((c : Thread nD τ).loc main_arg1)) (m ((c : Thread nD τ).loc main_arg2)) (m ((c : Thread nD τ).loc main_arg3))

/-- The scale and the activations are held whole; -/
theorem iblk0 (c : Dev nD) (t : Fin cfg0.N) : iblk m c 0 t (ix1 0) = m ((c : Thread nD τ).loc main_arg0) (ix1 0) := by
  show m ((c : Thread nD τ).loc main_arg0) ((win0_0.rect t).emb (ix1 0)) = _
  refine congrArg _ (funext fun a => Fin.ext ?_)
  match a with
  | ⟨0, _⟩ => exact win0_0.rect_emb_val_of_index_zero t 0 (idx_facts t).1 _

theorem iblk1 (c : Dev nD) (t : Fin cfg0.N) (r : Fin 2048) (k : Fin 6400) (r' : Fin 2048) (hr : r'.val = r.val) :
    iblk m c 1 t (ix2 r k) = m ((c : Thread nD τ).loc main_arg1) (ix2 r' k) := by
  show m ((c : Thread nD τ).loc main_arg1) ((win0_1.rect t).emb (ix2 r k)) = _
  exact congrArg _ (Shape.idx_ext₂ ((win0_1.rect_emb_val_of_index_zero t 0 (idx_facts t).2.1.1 _).trans hr.symm)
    (win0_1.rect_emb_val_of_index_zero t 1 (idx_facts t).2.1.2 _))

/-- `dq` is read 256 rows at a time, -/
theorem iblk2 (c : Dev nD) (t : Fin cfg0.N) (ht : t.val < 8) (r : Fin 256) (k : Fin 6400) (r' : Fin 2048) (hr : r'.val = t.val * 256 + r.val) :
    iblk m c 2 t (ix2 r k) = m ((c : Thread nD τ).loc main_arg2) (ix2 r' k) := by
  show m ((c : Thread nD τ).loc main_arg2) ((win0_2.rect t).emb (ix2 r k)) = _
  refine congrArg _ (Shape.idx_ext₂ ?_ (win0_2.rect_emb_val_of_index_zero t 1 (idx_facts t).2.2.1.2 _))
  exact (win0_2.rect_emb_val t _ 0).trans (by
    rw [(idx_facts t).2.2.1.1, show min t.val 7 = t.val by omega]; exact hr.symm)

/-- and `dkv`. -/
theorem iblk3 (c : Dev nD) (t : Fin cfg0.N) (r : Fin 256) (k : Fin 6400) (r' : Fin 512) (hr : r'.val = (t.val - 8) * 256 + r.val) :
    iblk m c 3 t (ix2 r k) = m ((c : Thread nD τ).loc main_arg3) (ix2 r' k) := by
  show m ((c : Thread nD τ).loc main_arg3) ((win0_3.rect t).emb (ix2 r k)) = _
  refine congrArg _ (Shape.idx_ext₂ ?_ (win0_3.rect_emb_val_of_index_zero t 1 (idx_facts t).2.2.2.1.2 _))
  exact (win0_3.rect_emb_val t _ 0).trans (by rw [(idx_facts t).2.2.2.1.1]; exact hr.symm)

/-- Point `t` writes back its block of the whole gradient. -/
theorem flushed4 (c : Dev nD) (t : Fin cfg0.N) :
    (dats m 0 c).flushed 4 t = (win0_4.blk t).view.read (Elt Ideal) (val m c) := by
  have h0 (j : S2048x256.Idx) : ((win0_4.rect t).emb j 0).val = (j 0).val :=
    win0_4.rect_emb_val_of_index_zero t 0 (idx_facts t).2.2.2.2.1 j
  have h1 (j : S2048x256.Idx) : ((win0_4.rect t).emb j 1).val = t.val * 256 + (j 1).val :=
    (win0_4.rect_emb_val t j 1).trans (by rw [(idx_facts t).2.2.2.2.2]; rfl)
  have hj (j : S2048x256.Idx) : (j 1).val < 256 := (j 1).isLt
  have hN : t.val < 10 := t.isLt
  by_cases ht : t.val < 8
  · rw [Value.flushed4_A m c t ht (by omega), out_A]
    funext j
    rw [View.read_apply]
    refine congrArg₂ (· * ·) (nt_congr _ _ (fun k => iblk1 m c t _ k _ (h0 j)) (fun k => ?_)) (iblk0 m c t)
    have hb : t.val * 256 + (j 1).val < 2048 := by have := hj j; omega
    exact (iblk2 m c t ht _ k ⟨t.val * 256 + (j 1).val, hb⟩ rfl).trans (joined_q _ _ _ k ⟨t.val * 256 + (j 1).val, hb⟩ (h1 j)).symm
  · rw [Value.flushed4_B m c t ht (by omega), out_B]
    funext j
    rw [View.read_apply]
    refine congrArg₂ (· * ·) (nt_congr _ _ (fun k => iblk1 m c t _ k _ (h0 j)) (fun k => ?_)) (iblk0 m c t)
    have hb : (t.val - 8) * 256 + (j 1).val < 512 := by have := hj j; omega
    exact (iblk3 m c t _ k ⟨(t.val - 8) * 256 + (j 1).val, hb⟩ rfl).trans
      (joined_kv _ _ _ k ⟨(t.val - 8) * 256 + (j 1).val, hb⟩ ((h1 j).trans (by show _ = 2048 + ((t.val - 8) * 256 + (j 1).val); omega))).symm

theorem rect4 : ∀ t : Fin cfg0.N, win0_4.index t 0 * win0_4.size 0 = 0 ∧ win0_4.xsize (grid0.coords t) 0 = 2048
    ∧ win0_4.index t 1 * win0_4.size 1 = t.val * 256 ∧ win0_4.xsize (grid0.coords t) 1 = 256 :=
  (by decide +kernel : ∀ t : Fin grid0.N, win0_4.index t 0 * win0_4.size 0 = 0 ∧ win0_4.xsize (grid0.coords t) 0 = 2048
    ∧ win0_4.index t 1 * win0_4.size 1 = t.val * 256 ∧ win0_4.xsize (grid0.coords t) 1 = 256)

/-- The blocks cover the result. -/
theorem cover4 (i : S2048x2560.Idx) : ∃ t : Fin cfg0.N, (cfg0.win 4).flush t = true ∧ i ∈ ((cfg0.win 4).blk t).view.set := by
  have h0 : (i 0 : Nat) < 2048 := (i 0).isLt
  have h1 : (i 1 : Nat) < 2560 := (i 1).isLt
  have ht : (i 1 : Nat) / 256 < 10 := by omega
  refine ⟨⟨(i 1 : Nat) / 256, ht⟩, flush0_4 _, ?_⟩
  show i ∈ ((View.whole main_v0).slice (win0_4.rect ⟨(i 1 : Nat) / 256, ht⟩)).set
  rw [View.set_slice_whole, Rect.mem_set_unit]
  have e := rect4 ⟨(i 1 : Nat) / 256, ht⟩
  intro a
  match a with
  | ⟨0, _⟩ => show win0_4.index _ 0 * win0_4.size 0 ≤ (i 0 : Nat) ∧ (i 0 : Nat) < win0_4.index _ 0 * win0_4.size 0 + win0_4.xsize (grid0.coords _) 0
              rw [e.1, e.2.1]; omega
  | ⟨1, _⟩ => show win0_4.index _ 1 * win0_4.size 1 ≤ (i 1 : Nat) ∧ (i 1 : Nat) < win0_4.index _ 1 * win0_4.size 1 + win0_4.xsize (grid0.coords _) 1
              rw [e.2.2.1, e.2.2.2]; show (i 1 : Nat) / 256 * 256 ≤ _ ∧ _ < (i 1 : Nat) / 256 * 256 + 256; omega

/-- After the run the result array is the whole gradient. -/
theorem final4 (c : Dev nD) : (dats m 0 c).arrAt 4 cfg0.N = val m c :=
  (dats m 0 c).arrAt_eq_of_cover 4 (val m c) (fun t _ => flushed4 m c t) cover4

end Cert.DwQkvIdeal.RefValue

namespace Cert.RefDwQkvIdeal.RefValue

open Cert.RefDwQkvIdeal Cert.RefDwQkvIdeal.Gen Cert.Products Cert.DwQkv Idealize.ShloMosaic Idealize.ShloMosaic.TcCoe Idealize.ShloMosaic.ValueIdx

/-- The reference's joined rows. -/
theorem join_eq (q : (⟨S2048x6400, .bf16⟩ : BufTy).Contents (Elt Ideal)) (kv : (⟨S512x6400, .bf16⟩ : BufTy).Contents (Elt Ideal)) :
    Read.val_main_v0 (F := Ideal) q kv = joined q kv := by
  funext i
  obtain ⟨r, k, rfl⟩ : ∃ (r : Fin 2560) (k : Fin 6400), i = ix2 r k := ⟨i 0, i 1, eq_ix2 i⟩
  by_cases h : r.val < 2048
  · refine Eq.trans ?_ (joined_q q kv r k ⟨r.val, h⟩ rfl).symm
    exact concatenate_pair_apply_left (s₁ := S2048x6400) (s₂ := S512x6400) (t := S2560x6400) 0 q kv _ (ix2 r k) rfl (ix2 ⟨r.val, h⟩ k) (fun a => by match a with | ⟨0, _⟩ => rfl | ⟨1, _⟩ => rfl)
  · have hr : r.val - 2048 < 512 := by have := r.isLt; omega
    refine Eq.trans ?_ (joined_kv q kv r k ⟨r.val - 2048, hr⟩ (by show r.val = 2048 + (r.val - 2048); omega)).symm
    exact concatenate_pair_apply_right (s₁ := S2048x6400) (s₂ := S512x6400) (t := S2560x6400) 0 q kv _ (ix2 r k) rfl rfl (ix2 ⟨r.val - 2048, hr⟩ k)
      (fun a ha => by match a, ha with | ⟨0, _⟩, ha => exact absurd rfl ha | ⟨1, _⟩, _ => rfl) (by show r.val - 2048 + 2048 = r.val; omega)

/-- The reference's gradient, entry by entry. -/
theorem val_eq (s : (⟨S1, .f32⟩ : BufTy).Contents (Elt Ideal)) (a q : (⟨S2048x6400, .bf16⟩ : BufTy).Contents (Elt Ideal)) (kv : (⟨S512x6400, .bf16⟩ : BufTy).Contents (Elt Ideal)) :
    Read.val_main_v4 (F := Ideal) s a q kv = whole s a q kv := by
  funext i
  refine congrArg₂ (· * ·) ((Read.val_main_v1_apply a q kv i).trans (Finset.sum_congr rfl fun k _ => ?_)) ((Read.val_main_v3_apply s i).trans ?_)
  · rw [join_eq]
    congr 2 <;> (funext x; match x with | ⟨0, _⟩ => rfl | ⟨1, _⟩ => rfl)
  · exact congrArg s (funext fun a => by fin_cases a; exact Subsingleton.elim (α := Fin 1) _ _)

end Cert.RefDwQkvIdeal.RefValue

namespace Cert.Proof

open Idealize.ShloMosaic Idealize.ShloMosaic.TcCoe Idealize.SL.Sem

/-- The reference run leaves its arguments as they were and its semaphores at zero. -/
theorem frame_RefDwQkv : Cert.quiescent_RefDwQkvIdeal := fun m ρ _ =>
  (θ_run Cert.RefDwQkvIdeal.defs _ _).mono (fun r h => ⟨fun c => (h c).2, Idealize.ShloMosaic.sem_eq_zero_of_no_sems (by decide) r.2⟩)
    (Cert.RefDwQkvIdeal.Value.run (F := Ideal) m ρ)

/-- The kernel computes the reference's gradient. -/
theorem algebraic_DwQkv : Cert.algebraic_DwQkvIdeal_RefDwQkvIdeal := by
  intro m ρ m' ρ' _ hagree
  refine ⟨fun c => Cert.DwQkvIdeal.RefValue.val m c, ?_, ?_⟩
  · exact (θ_run Cert.DwQkvIdeal.defs _ _).mono (fun _ h c =>
      ⟨(h c).1.trans (Cert.DwQkvIdeal.RefValue.final4 m c), (h c).2⟩)
      (Cert.DwQkvIdeal.Value.run_blocks (F := Ideal) m ρ)
  · exact (θ_run Cert.RefDwQkvIdeal.defs _ _).mono (fun _ h c =>
      ⟨(h c).1.trans ((Cert.RefDwQkvIdeal.RefValue.val_eq _ _ _ _).trans (by rw [(hagree c).1, (hagree c).2.1, (hagree c).2.2.1, (hagree c).2.2.2])), (h c).2⟩)
      (Cert.RefDwQkvIdeal.Value.run (F := Ideal) m' ρ')

end Cert.Proof

end
-- ==== Proof.Qkv.lean ====
/-
  The fused query-key-value projection with its output transposed (one column per token), over the extended reals:
  `wᵀ · a1 · s`. The kernel transposes the weights once, at the first point of its grid, into a buffer it keeps, and writes
  256 columns at a time; the reference contracts the two arrays on their first axis.
-/
module

public import proofs.«01_k».proof.Defs
public import proofs.«01_k».proof.Proof.Products
public import proofs.«01_k».proof.Proof.Gen.QkvIdeal.Value
public import proofs.«01_k».proof.Proof.Gen.RefQkvIdeal.Value
public import Idealize.ShloMosaic.Lib.Quiescent

@[expose] public section

set_option maxRecDepth 16384

noncomputable section

namespace Cert.Qkv

open Cert.Products Idealize.ShloMosaic Idealize.ShloMosaic.ValueIdx

/-- The whole projection. -/
def whole (s : (⟨1, ![1]⟩ : Shape).Idx → EReal) (w : (⟨2, ![2048, 2560]⟩ : Shape).Idx → EReal) (a : (⟨2, ![2048, 6400]⟩ : Shape).Idx → EReal) :
    (⟨2, ![2560, 6400]⟩ : Shape).Idx → EReal :=
  fun i => tn (M := 2560) (K := 2048) (N := 6400) w a i * s (ix1 0)

end Cert.Qkv

namespace Cert.QkvIdeal.RefValue

open Cert.QkvIdeal Cert.QkvIdeal.Gen Cert.Products Cert.Qkv Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The weights transposed. -/
abbrev tr (x1 : Vec Ideal S2048x2560 .fp8e4m3) : Vec Ideal S2560x2048 .bf16 := fun j => x1 (ix2 (j 1) (j 0))

/-- One block of the projection, from the transposed weights. -/
abbrev blk (x0 : Vec Ideal S1 .f32) (wt : Vec Ideal S2560x2048 .bf16) (x2 : Vec Ideal S2048x256 .bf16) : Vec Ideal S2560x256 .bf16 :=
  fun j => nn (M := 2560) (K := 2048) (N := 256) wt x2 j * x0 (ix1 0)

theorem pay1 (x1 : Vec Ideal S2048x2560 .fp8e4m3) : k0_pay1 x1 = tr x1 := by
  unfold k0_pay1
  dsimp only
  rw [shapeCast_self]
  funext j
  exact transpose_apply (s := S2048x2560) (t := S2560x2048) [1, 0] _ _ j (ix2 (j 1) (j 0)) (fun b => by match b with | ⟨0, _⟩ => rfl | ⟨1, _⟩ => rfl)

/-- What the body leaves at the first point: the block, -/
theorem out_A (c : Dev nD) (t : Fin cfg0.N) (h0 : cond0_0 (grid0.coords t))
    (x0 : Vec Ideal S1 .f32) (x1 : Vec Ideal S2048x2560 .fp8e4m3) (x2 : Vec Ideal S2048x256 .bf16) :
   out0_A_3 c (grid0.coords t) (ms0_0 t) (hs0_0 t) (ms0_1 t) (hs0_1 t) (ms0_2 t) (hs0_2 t) (ms0_3 t) (hs0_3 t) scM0_0 (Memref.isWhole_whole _) h0 x0 x1 x2
     = blk x0 (tr x1) x2 := by
  unfold out0_A_3
  rw [View.read_writes_eq_canon _ _ _ (cover0_A_3 _ _ _ _ _ _ _ _ _ _ _ _ _ _ _ _)]
  unfold kernelRun0_A
  dsimp only
  sl_unfold_words
  rw [View.canon_unit_zero hz]
  simp only [View.readAt_eq_ld, View.readCov_unit_zero (S := S2560x2048) _ hz, (hs0_0 t).read_unread, (hs0_1 t).read_unread, (hs0_2 t).read_unread,
    View.ld_unit_zero (S := S2048x2560) hz, View.ld_unit_zero (S := S2048x256) hz, pay1]
  have p := matmul_nn (M := 2560) (K := 2048) (N := 256) (φ₁ := .bf16) (φ₂ := .bf16) (tr x1) x2
  funext j
  refine congrArg₂ (· * ·) (congrFun p j) (congrArg x0 ?_)
  exact funext fun a => by fin_cases a; rfl

/-- and in the buffer it keeps, the transposed weights. -/
theorem sout_A (c : Dev nD) (t : Fin cfg0.N) (h0 : cond0_0 (grid0.coords t))
    (x0 : Vec Ideal S1 .f32) (x1 : Vec Ideal S2048x2560 .fp8e4m3) (x2 : Vec Ideal S2048x256 .bf16) :
   sout0_A_0 c (grid0.coords t) (ms0_0 t) (hs0_0 t) (ms0_1 t) (hs0_1 t) (ms0_2 t) (hs0_2 t) (ms0_3 t) (hs0_3 t) scM0_0 (Memref.isWhole_whole _) h0 x0 x1 x2
     = tr x1 := by
  unfold sout0_A_0
  rw [View.read_writes_eq_canon _ _ _ (scover0_A_0 _ _ _ _ _ _ _ _ _ _ _ _ _ _ _ _)]
  unfold kernelRun0_A
  dsimp only
  sl_unfold_words
  rw [View.canon_unit_zero hz]
  simp only [View.readAt_eq_ld, (hs0_1 t).read_unread, View.ld_unit_zero (S := S2048x2560) hz, pay1]

/-- At the other points the block is the product with what the buffer holds. -/
theorem out_B (c : Dev nD) (t : Fin cfg0.N) (h0 : ¬cond0_0 (grid0.coords t))
    (x0 : Vec Ideal S1 .f32) (x1 : Vec Ideal S2048x2560 .fp8e4m3) (x2 : Vec Ideal S2048x256 .bf16) (xs : Vec Ideal S2560x2048 .bf16) :
   out0_B_3 c (grid0.coords t) (ms0_0 t) (hs0_0 t) (ms0_1 t) (hs0_1 t) (ms0_2 t) (hs0_2 t) (ms0_3 t) (hs0_3 t) scM0_0 (Memref.isWhole_whole _) h0 x0 x1 x2 xs
     = blk x0 xs x2 := by
  unfold out0_B_3
  rw [View.read_writes_eq_canon _ _ _ (cover0_B_3 _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (Memref.isWhole_whole (sig := sig) _).read_unread,
    View.ld_unit_zero (S := S2560x2048) hz, View.ld_unit_zero (S := S2048x256) hz]
  have p := matmul_nn (M := 2560) (K := 2048) (N := 256) (φ₁ := .bf16) (φ₂ := .bf16) xs x2
  funext j
  refine congrArg₂ (· * ·) (congrFun p j) (congrArg x0 ?_)
  exact funext fun a => by fin_cases a; rfl

/-- Where the windows' blocks sit. -/
theorem idx_facts : ∀ t : Fin cfg0.N, win0_0.index t 0 = 0 ∧ (win0_1.index t 0 = 0 ∧ win0_1.index t 1 = 0)
    ∧ (win0_2.index t 0 = 0 ∧ win0_2.index t 1 = t.val) ∧ (win0_3.index t 0 = 0 ∧ win0_3.index t 1 = t.val) :=
  (by decide +kernel : ∀ t : Fin grid0.N, win0_0.index t 0 = 0 ∧ (win0_1.index t 0 = 0 ∧ win0_1.index t 1 = 0)
    ∧ (win0_2.index t 0 = 0 ∧ win0_2.index t 1 = t.val) ∧ (win0_3.index t 0 = 0 ∧ win0_3.index t 1 = t.val))

/-- What the result array is shown to hold. -/
abbrev val (c : Dev nD) : Buf (Elt Ideal) ((c : Thread nD τ).loc main_v0) :=
  whole (m ((c : Thread nD τ).loc main_arg1)) (m ((c : Thread nD τ).loc main_arg0)) (m ((c : Thread nD τ).loc main_arg2))

/-- The scale and the weights are held whole; -/
theorem iblk0 (c : Dev nD) (t : Fin cfg0.N) : iblk m c 0 t (ix1 0) = m ((c : Thread nD τ).loc main_arg1) (ix1 0) := by
  show m ((c : Thread nD τ).loc main_arg1) ((win0_0.rect t).emb (ix1 0)) = _
  refine congrArg _ (funext fun a => Fin.ext ?_)
  match a with
  | ⟨0, _⟩ => exact win0_0.rect_emb_val_of_index_zero t 0 (idx_facts t).1 _

theorem iblk1 (c : Dev nD) (t : Fin cfg0.N) : iblk m c 1 t = m ((c : Thread nD τ).loc main_arg0) := funext fun y =>
  congrArg (m ((c : Thread nD τ).loc main_arg0)) (a₁ := (win0_1.rect t).emb y) (Shape.idx_ext₂
    (win0_1.rect_emb_val_of_index_zero t 0 (idx_facts t).2.1.1 _) (win0_1.rect_emb_val_of_index_zero t 1 (idx_facts t).2.1.2 _))

/-- the activations are read 256 columns at a time. -/
theorem iblk2 (c : Dev nD) (t : Fin cfg0.N) (k : Fin 2048) (q : Fin 256) (q' : Fin 6400) (hq : q'.val = t.val * 256 + q.val) :
    iblk m c 2 t (ix2 k q) = m ((c : Thread nD τ).loc main_arg2) (ix2 k q') := by
  show m ((c : Thread nD τ).loc main_arg2) ((win0_2.rect t).emb (ix2 k q)) = _
  refine congrArg _ (Shape.idx_ext₂ (win0_2.rect_emb_val_of_index_zero t 0 (idx_facts t).2.2.1.1 _) ?_)
  exact (win0_2.rect_emb_val t _ 1).trans (by rw [(idx_facts t).2.2.1.2]; exact hq.symm)

/-- After every point the buffer holds the transposed weights, and the block is the product with them. -/
theorem outs (c : Dev nD) (n : ℕ) (hn : n < cfg0.N) :
    outsAt0 m c n hn = (blk (iblk m c 0 ⟨n, hn⟩) (tr (m ((c : Thread nD τ).loc main_arg0))) (iblk m c 2 ⟨n, hn⟩), tr (m ((c : Thread nD τ).loc main_arg0))) := by
  induction n with
  | zero =>
    rw [outsAt0_A m c ⟨0, hn⟩ rfl, out_A, sout_A, iblk1]
  | succ n ih =>
    have hN : n + 1 < 25 := hn
    rw [outsAt0_B m c ⟨n + 1, hn⟩ (by show ¬(n + 1) % 25 = 0; omega), out_B]
    show (_, (outsAt0 m c n _).2) = _
    rw [show (outsAt0 m c ((⟨n + 1, hn⟩ : Fin cfg0.N).val - 1) (Nat.lt_of_le_of_lt (Nat.sub_le _ _) hn)) = outsAt0 m c n (by omega) from rfl, ih (by omega)]

/-- Point `t` writes back its block of the whole projection. -/
theorem flushed3 (c : Dev nD) (t : Fin cfg0.N) :
    (dats m 0 c).flushed 3 t = (win0_3.blk t).view.read (Elt Ideal) (val m c) := by
  rw [Value.flushed3, outs]
  funext j
  rw [View.read_apply]
  have h0 : ((win0_3.rect t).emb j 0).val = (j 0).val := win0_3.rect_emb_val_of_index_zero t 0 (idx_facts t).2.2.2.1 j
  have h1 : ((win0_3.rect t).emb j 1).val = t.val * 256 + (j 1).val := (win0_3.rect_emb_val t j 1).trans (by rw [(idx_facts t).2.2.2.2]; rfl)
  exact congrArg₂ (· * ·) (Finset.sum_congr rfl fun k _ => congrArg₂ (· * ·)
    (congrArg (m ((c : Thread nD τ).loc main_arg0)) (Shape.idx_ext₂ rfl h0.symm)) (iblk2 m c t k _ _ h1)) (iblk0 m c t)

theorem rect3 : ∀ t : Fin cfg0.N, win0_3.index t 0 * win0_3.size 0 = 0 ∧ win0_3.xsize (grid0.coords t) 0 = 2560
    ∧ win0_3.index t 1 * win0_3.size 1 = t.val * 256 ∧ win0_3.xsize (grid0.coords t) 1 = 256 :=
  (by decide +kernel : ∀ t : Fin grid0.N, win0_3.index t 0 * win0_3.size 0 = 0 ∧ win0_3.xsize (grid0.coords t) 0 = 2560
    ∧ win0_3.index t 1 * win0_3.size 1 = t.val * 256 ∧ win0_3.xsize (grid0.coords t) 1 = 256)

/-- The blocks cover the result. -/
theorem cover3 (i : S2560x6400.Idx) : ∃ t : Fin cfg0.N, (cfg0.win 3).flush t = true ∧ i ∈ ((cfg0.win 3).blk t).view.set := by
  have h0 : (i 0 : Nat) < 2560 := (i 0).isLt
  have h1 : (i 1 : Nat) < 6400 := (i 1).isLt
  have ht : (i 1 : Nat) / 256 < 25 := by omega
  refine ⟨⟨(i 1 : Nat) / 256, ht⟩, flush0_3 _, ?_⟩
  show i ∈ ((View.whole main_v0).slice (win0_3.rect ⟨(i 1 : Nat) / 256, ht⟩)).set
  rw [View.set_slice_whole, Rect.mem_set_unit]
  have e := rect3 ⟨(i 1 : Nat) / 256, ht⟩
  intro a
  match a with
  | ⟨0, _⟩ => show win0_3.index _ 0 * win0_3.size 0 ≤ (i 0 : Nat) ∧ (i 0 : Nat) < win0_3.index _ 0 * win0_3.size 0 + win0_3.xsize (grid0.coords _) 0
              rw [e.1, e.2.1]; omega
  | ⟨1, _⟩ => show win0_3.index _ 1 * win0_3.size 1 ≤ (i 1 : Nat) ∧ (i 1 : Nat) < win0_3.index _ 1 * win0_3.size 1 + win0_3.xsize (grid0.coords _) 1
              rw [e.2.2.1, e.2.2.2]; show (i 1 : Nat) / 256 * 256 ≤ _ ∧ _ < (i 1 : Nat) / 256 * 256 + 256; omega

/-- After the run the result array is the whole projection. -/
theorem final3 (c : Dev nD) : (dats m 0 c).arrAt 3 cfg0.N = val m c :=
  (dats m 0 c).arrAt_eq_of_cover 3 (val m c) (fun t _ => flushed3 m c t) cover3

end Cert.QkvIdeal.RefValue

namespace Cert.RefQkvIdeal.RefValue

open Cert.RefQkvIdeal Cert.RefQkvIdeal.Gen Cert.Products Cert.Qkv Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The reference's product, contracting both operands on their first axis. -/
theorem dot_eq (w : FVec Ideal S2048x2560 .bf16) (a : FVec Ideal S2048x6400 .bf16) :
    FloatOps.matmul (F := Ideal) dot_S2048x2560_S2048x6400_S2560x6400_0_0_1_1_n_n none w a (constant S2560x6400 .f32 0x00000000#32)
      = tn (M := 2560) (K := 2048) (N := 6400) w a :=
  matmul_tn (M := 2560) (K := 2048) (N := 6400) dot_S2048x2560_S2048x6400_S2560x6400_0_0_1_1_n_n rfl rfl
    (fun i q => ⟨dot_S2048x2560_S2048x6400_S2560x6400_0_0_1_1_n_n.lhsIdx_val_of_single rfl i q, by
      unfold DotDims.lhsIdx
      rw [dif_neg (by decide), dif_pos (by decide)]
      rfl⟩)
    (fun i q => ⟨dot_S2048x2560_S2048x6400_S2560x6400_0_0_1_1_n_n.rhsIdx_val_of_single rfl i q, by
      unfold DotDims.rhsIdx
      rw [dif_neg (by decide), dif_pos (by decide)]
      rfl⟩) w a

/-- What the reference's body leaves, from the whole arrays. -/
theorem out_A (c : Dev nD) (t : Fin cfg0.N) (x0 : Vec Ideal S1 .f32) (x1 : Vec Ideal S2048x2560 .fp8e4m3) (x2 : Vec Ideal S2048x6400 .bf16) :
   out0_A_3 c (ms0_0 t) (hs0_0 t) (ms0_1 t) (hs0_1 t) (ms0_2 t) (hs0_2 t) (ms0_3 t) (hs0_3 t) x0 x1 x2 = whole x0 x1 x2 := by
  unfold out0_A_3
  rw [View.read_writes_eq_canon _ _ _ (cover0_A_3 _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread,
    View.ld_unit_zero (S := S2048x2560) hz, View.ld_unit_zero (S := S2048x6400) hz]
  have p := dot_eq x1 x2
  funext j
  refine congrArg₂ (· * ·) (congrFun p j) (congrArg x0 ?_)
  exact funext fun a => by fin_cases a; rfl

theorem idx_facts : ∀ t : Fin cfg0.N, win0_0.index t 0 = 0 ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, win0_0.index t 0 = 0 ∧ (win0_1.index t 0 = 0 ∧ win0_1.index t 1 = 0)
    ∧ (win0_2.index t 0 = 0 ∧ win0_2.index t 1 = 0) ∧ (win0_3.index t 0 = 0 ∧ win0_3.index t 1 = 0))

/-- Every window of the reference is its whole array. -/
theorem iblk0 (c : Dev nD) (t : Fin cfg0.N) : iblk m c 0 t = m ((c : Thread nD τ).loc main_arg1) := funext fun y =>
  congrArg (m ((c : Thread nD τ).loc main_arg1)) (a₁ := (win0_0.rect t).emb y) (funext fun a => Fin.ext (by
    match a with
    | ⟨0, _⟩ => exact win0_0.rect_emb_val_of_index_zero t 0 (idx_facts t).1 _))
theorem iblk1 (c : Dev nD) (t : Fin cfg0.N) : iblk m c 1 t = m ((c : Thread nD τ).loc main_arg0) := funext fun y =>
  congrArg (m ((c : Thread nD τ).loc main_arg0)) (a₁ := (win0_1.rect t).emb y) (Shape.idx_ext₂
    (win0_1.rect_emb_val_of_index_zero t 0 (idx_facts t).2.1.1 _) (win0_1.rect_emb_val_of_index_zero t 1 (idx_facts t).2.1.2 _))
theorem iblk2 (c : Dev nD) (t : Fin cfg0.N) : iblk m c 2 t = m ((c : Thread nD τ).loc main_arg2) := funext fun y =>
  congrArg (m ((c : Thread nD τ).loc main_arg2)) (a₁ := (win0_2.rect t).emb y) (Shape.idx_ext₂
    (win0_2.rect_emb_val_of_index_zero t 0 (idx_facts t).2.2.1.1 _) (win0_2.rect_emb_val_of_index_zero t 1 (idx_facts t).2.2.1.2 _))

/-- The reference's result. -/
abbrev val (c : Dev nD) : Buf (Elt Ideal) ((c : Thread nD τ).loc main_v0) :=
  whole (m ((c : Thread nD τ).loc main_arg1)) (m ((c : Thread nD τ).loc main_arg0)) (m ((c : Thread nD τ).loc main_arg2))

theorem flushed3 (c : Dev nD) (t : Fin cfg0.N) :
    (dats m 0 c).flushed 3 t = (win0_3.blk t).view.read (Elt Ideal) (val m c) := by
  rw [Value.flushed3_A, out_A, iblk0, iblk1, iblk2]
  funext j
  rw [View.read_apply]
  exact congrArg (val m c) (a₂ := (win0_3.rect t).emb j) (Shape.idx_ext₂
    (win0_3.rect_emb_val_of_index_zero t 0 (idx_facts t).2.2.2.1 _).symm (win0_3.rect_emb_val_of_index_zero t 1 (idx_facts t).2.2.2.2 _).symm)

theorem rect3 : ∀ t : Fin cfg0.N, win0_3.index t 0 * win0_3.size 0 = 0 ∧ win0_3.xsize (grid0.coords t) 0 = 2560
    ∧ win0_3.index t 1 * win0_3.size 1 = 0 ∧ win0_3.xsize (grid0.coords t) 1 = 6400 :=
  (by decide +kernel : ∀ t : Fin grid0.N, win0_3.index t 0 * win0_3.size 0 = 0 ∧ win0_3.xsize (grid0.coords t) 0 = 2560
    ∧ win0_3.index t 1 * win0_3.size 1 = 0 ∧ win0_3.xsize (grid0.coords t) 1 = 6400)

/-- The one block is the whole result. -/
theorem cover3 (i : S2560x6400.Idx) : ∃ t : Fin cfg0.N, (cfg0.win 3).flush t = true ∧ i ∈ ((cfg0.win 3).blk t).view.set := by
  have h0 : (i 0 : Nat) < 2560 := (i 0).isLt
  have h1 : (i 1 : Nat) < 6400 := (i 1).isLt
  have ht : 0 < cfg0.N := by decide
  refine ⟨⟨0, ht⟩, flush0_3 _, ?_⟩
  show i ∈ ((View.whole main_v0).slice (win0_3.rect ⟨0, ht⟩)).set
  rw [View.set_slice_whole, Rect.mem_set_unit]
  have e := rect3 ⟨0, ht⟩
  intro a
  match a with
  | ⟨0, _⟩ => show win0_3.index _ 0 * win0_3.size 0 ≤ (i 0 : Nat) ∧ (i 0 : Nat) < win0_3.index _ 0 * win0_3.size 0 + win0_3.xsize (grid0.coords _) 0
              rw [e.1, e.2.1]; omega
  | ⟨1, _⟩ => show win0_3.index _ 1 * win0_3.size 1 ≤ (i 1 : Nat) ∧ (i 1 : Nat) < win0_3.index _ 1 * win0_3.size 1 + win0_3.xsize (grid0.coords _) 1
              rw [e.2.2.1, e.2.2.2]; omega

theorem final3 (c : Dev nD) : (dats m 0 c).arrAt 3 cfg0.N = val m c :=
  (dats m 0 c).arrAt_eq_of_cover 3 (val m c) (fun t _ => flushed3 m c t) cover3

end Cert.RefQkvIdeal.RefValue

namespace Cert.Proof

open Idealize.ShloMosaic Idealize.ShloMosaic.TcCoe Idealize.SL.Sem

/-- The kernel computes the reference's projection. -/
theorem algebraic_Qkv : Cert.algebraic_QkvIdeal_RefQkvIdeal := by
  intro m ρ m' ρ' _ hagree
  refine ⟨fun c => Cert.QkvIdeal.RefValue.val m c, ?_, ?_⟩
  · exact (θ_run Cert.QkvIdeal.defs _ _).mono (fun _ h c =>
      ⟨(h c).1.trans (Cert.QkvIdeal.RefValue.final3 m c), (h c).2⟩)
      (Cert.QkvIdeal.Value.run_blocks (F := Ideal) m ρ)
  · refine (θ_run Cert.RefQkvIdeal.defs _ _).mono (fun _ h c => ⟨(h c).1.trans ((Cert.RefQkvIdeal.RefValue.final3 m' c).trans ?_), (h c).2⟩)
      (Cert.RefQkvIdeal.Value.run_blocks (F := Ideal) m' ρ')
    show Cert.Qkv.whole _ _ _ = _
    rw [(hagree c).1, (hagree c).2.1, (hagree c).2.2]

end Cert.Proof

end
-- ==== Proof.Quant.lean ====
/-
  The groups' quantiser over the extended reals. A group's scale is the power of two above `max |group| / qmax`: the kernels
  count the powers of two from `2^-126` to `2^127` that are not above it, the references take the floor of its binary logarithm.
  Here: the two agree at every extended real, and what the kernels' and the references' vector operations compute at an index.
-/
module

public import Idealize.ShloMosaic.Lib.ValueIdx
public import Idealize.ShloMosaic.Lib.ValueLayout
public import Idealize.ShloMosaic.Lib.Pipeline.Value
public import Idealize.ShloMosaic.PureOps.Ideal.Laws

@[expose] public section

noncomputable section

namespace Cert.Quant

open Idealize.ShloMosaic Idealize.ShloMosaic.ValueIdx Idealize.ShloMosaic.TcCoe
open scoped BigOperators

/-! ## Constants -/

theorem c126 : Ideal.ofBits .f32 0x42FC0000#32 = ((126 : ℝ) : EReal) := by
  simp [Ideal.ofBits, Ideal.ieee]
  rw [← EReal.coe_mul]; congr 1; norm_num

theorem c128 : Ideal.ofBits .f32 0x43000000#32 = ((128 : ℝ) : EReal) := by
  simp [Ideal.ofBits, Ideal.ieee]
  rw [← EReal.coe_mul]; congr 1; norm_num

theorem cm125 : Ideal.ofBits .f32 0xC2FA0000#32 = ((-125 : ℝ) : EReal) := by
  simp [Ideal.ofBits, Ideal.ieee]
  rw [← EReal.coe_mul]; congr 1; norm_num

theorem c2 : Ideal.ofBits .f32 0x40000000#32 = ((2 : ℝ) : EReal) := by
  simp [Ideal.ofBits, Ideal.ieee]
  rw [← EReal.coe_mul]; congr 1; norm_num

theorem c1 : Ideal.ofBits .f32 0x3F800000#32 = 1 := by
  simp [Ideal.ofBits, Ideal.ieee]
  rw [← EReal.coe_mul, ← EReal.coe_one]; congr 1; norm_num

theorem ctiny : Ideal.ofBits .f32 0x00800000#32 = (((2 : ℝ) ^ (-126 : ℝ) : ℝ) : EReal) := by
  simp [Ideal.ofBits, Ideal.ieee]
  rw [← EReal.coe_mul]; congr 1
  norm_num

/-- The `k`-th power of two, from `2^-126` on. -/
def power (k : ℕ) : EReal := Ideal.exp2 (((k : ℝ) : EReal) - Ideal.ofBits .f32 0x42FC0000#32)

/-- How many of the powers `2^-126 … 2^127` are not above `x`. -/
def count (x : EReal) : EReal := ∑ k : Fin 254, if power k.val ≤ x then 1 else 0

/-- The count's powers are real. -/
theorem power_eq (k : ℕ) : power k = (((2 : ℝ) ^ ((k : ℝ) - 126) : ℝ) : EReal) := by
  unfold power
  rw [c126, ← EReal.coe_sub]
  rfl

theorem count_eq (x : EReal) (n : ℕ) (h : (Finset.univ.filter fun k : Fin 254 => power k.val ≤ x).card = n) : count x = ((n : ℝ) : EReal) := by
  unfold count
  rw [Finset.sum_boole, h, EReal.coe_natCast]

theorem rpow_le (y r : ℝ) (hr : 0 < r) : (2 : ℝ) ^ y ≤ r ↔ y ≤ Real.log r / Real.log 2 := by
  have hl : 0 < Real.log 2 := Real.log_pos (by norm_num)
  rw [Real.rpow_def_of_pos (by norm_num), ← Real.le_log_iff_exp_le hr, le_div_iff₀' hl]

/-- The powers not above a real are those up to the floor of its binary logarithm. -/
theorem power_le (k : ℕ) (r : ℝ) (hr : 0 < r) : power k ≤ (r : EReal) ↔ (k : ℤ) ≤ ⌊Real.log r / Real.log 2⌋ + 126 := by
  rw [power_eq, EReal.coe_le_coe_iff, rpow_le _ _ hr]
  have : (k : ℤ) ≤ ⌊Real.log r / Real.log 2⌋ + 126 ↔ (k : ℤ) - 126 ≤ ⌊Real.log r / Real.log 2⌋ := by omega
  rw [this, Int.le_floor]
  push_cast
  rfl

theorem card_upto (f : ℤ) : (Finset.univ.filter fun k : Fin 254 => (k.val : ℤ) ≤ f).card = min 254 (f + 1).toNat := by
  have : (Finset.univ.filter fun k : Fin 254 => (k.val : ℤ) ≤ f) = Finset.univ.filter fun k : Fin 254 => k.val < (f + 1).toNat := by
    refine Finset.filter_congr fun k _ => ?_
    omega
  rw [this, Fin.card_filter_val_lt]

/-- The reference's exponent. -/
def expR (x : EReal) : EReal :=
  min (Ideal.ofBits .f32 0x43000000#32) (max (Ideal.ofBits .f32 0xC2FA0000#32)
    (Ideal.liftRound Int.floor (Ideal.div (Ideal.log x) (Ideal.log (Ideal.ofBits .f32 0x40000000#32))) + 1))

theorem log2 : Ideal.log (Ideal.ofBits .f32 0x40000000#32) = ((Real.log 2 : ℝ) : EReal) := by
  rw [c2]
  show (if (2 : ℝ) ≤ 0 then (⊥ : EReal) else _) = _
  rw [if_neg (by norm_num)]

theorem log2_pos : 0 < Real.log 2 := Real.log_pos (by norm_num)

/-- Below `2^-126` the kernel counts no power. -/
theorem count_small (x : EReal) (h : x < Ideal.ofBits .f32 0x00800000#32) : count x = 0 := by
  have : count x = ((0 : ℕ) : ℝ) := count_eq x 0 (by
    rw [Finset.card_eq_zero, Finset.filter_eq_empty_iff]
    intro k _ hk
    refine absurd (lt_of_le_of_lt hk h) (not_lt.2 ?_)
    rw [ctiny, power_eq, EReal.coe_le_coe_iff]
    exact Real.rpow_le_rpow_of_exponent_le (by norm_num) (by linarith [(Nat.cast_nonneg k.val : (0 : ℝ) ≤ _)]))
  rw [this]; simp

/-- From `2^-126` on the count is the reference's exponent, moved by 126, and not zero. -/
theorem count_large (x : EReal) (h : ¬ x < Ideal.ofBits .f32 0x00800000#32) :
    ∃ n : ℕ, 0 < n ∧ count x = ((n : ℝ) : EReal) ∧ expR x = (((n : ℝ) - 126 : ℝ) : EReal) := by
  have hl := log2_pos
  induction x with
  | bot => exact absurd (by rw [ctiny]; exact EReal.bot_lt_coe _) h
  | top =>
    refine ⟨254, by norm_num, count_eq _ _ ?_, ?_⟩
    · rw [Finset.filter_true_of_mem (fun k _ => le_top)]; simp
    · unfold expR
      rw [log2, c128]
      have : Ideal.div (Ideal.log ⊤) ((Real.log 2 : ℝ) : EReal) = ⊤ := by
        show (if ((Real.log 2 : ℝ) : EReal) = 0 then _ else (⊤ : EReal) * ((Real.log 2 : ℝ) : EReal)⁻¹) = ⊤
        rw [if_neg (by exact_mod_cast hl.ne'), ← EReal.coe_inv, EReal.top_mul_coe_of_pos (inv_pos.2 hl)]
      rw [this]
      show min ((128 : ℝ) : EReal) (max _ ((⊤ : EReal) + 1)) = _
      rw [EReal.top_add_of_ne_bot (by decide), max_eq_right le_top, min_eq_left le_top]
      norm_num
  | coe r =>
    rw [ctiny, EReal.coe_lt_coe_iff, not_lt] at h
    have hr : 0 < r := lt_of_lt_of_le (by positivity) h
    have hf : -126 ≤ ⌊Real.log r / Real.log 2⌋ := by
      rw [Int.le_floor]
      have := (rpow_le _ _ hr).1 h
      push_cast
      exact this
    set f := ⌊Real.log r / Real.log 2⌋ with hfd
    refine ⟨min 254 (f + 126 + 1).toNat, by omega, count_eq _ _ ?_, ?_⟩
    · rw [← card_upto]
      exact congrArg _ (Finset.filter_congr fun k _ => power_le k.val r hr)
    · unfold expR
      rw [log2, c128, cm125]
      have : Ideal.div (Ideal.log (r : EReal)) ((Real.log 2 : ℝ) : EReal) = ((Real.log r / Real.log 2 : ℝ) : EReal) := by
        show (if ((Real.log 2 : ℝ) : EReal) = 0 then _ else (if r ≤ 0 then (⊥ : EReal) else ((Real.log r : ℝ) : EReal)) * ((Real.log 2 : ℝ) : EReal)⁻¹) = _
        rw [if_neg (by exact_mod_cast hl.ne'), if_neg (not_le.2 hr), ← EReal.coe_inv, ← EReal.coe_mul, div_eq_mul_inv]
      rw [this]
      show min ((128 : ℝ) : EReal) (max ((-125 : ℝ) : EReal) (((f : ℝ) : EReal) + 1)) = _
      rw [← EReal.coe_one, ← EReal.coe_add, ← EReal.coe_strictMono.monotone.map_max, ← EReal.coe_strictMono.monotone.map_min]
      congr 1
      have e : (min 254 (f + 126 + 1).toNat : ℕ) = (min 128 (max (-125) (f + 1)) + 126 : ℤ) := by omega
      have e' : ((min 254 (f + 126 + 1).toNat : ℕ) : ℝ) = ((min 128 (max (-125) (f + 1)) + 126 : ℤ) : ℝ) := by exact_mod_cast e
      rw [e']
      push_cast
      ring

/-- The kernels' scale and its inverse. -/
def scaleK (x : EReal) : EReal := if count x = 0 then 1 else Ideal.exp2 (count x - Ideal.ofBits .f32 0x42FC0000#32)
def invK (x : EReal) : EReal := if count x = 0 then 1 else Ideal.exp2 (Ideal.ofBits .f32 0x42FC0000#32 - count x)

/-- The references' scale and its inverse. -/
def scaleR (x : EReal) : EReal := if x < Ideal.ofBits .f32 0x00800000#32 then 1 else Ideal.exp2 (expR x)
def invR (x : EReal) : EReal := if x < Ideal.ofBits .f32 0x00800000#32 then 1 else Ideal.exp2 (0 - expR x)

theorem count_ne (n : ℕ) (h : 0 < n) : ¬ ((n : ℝ) : EReal) = 0 := by
  exact_mod_cast h.ne'

theorem scale_eq : scaleK = scaleR := by
  funext x
  unfold scaleK scaleR
  by_cases h : x < Ideal.ofBits .f32 0x00800000#32
  · rw [if_pos h, if_pos (count_small x h)]
  · obtain ⟨n, hn, hc, he⟩ := count_large x h
    rw [if_neg h, hc, he, if_neg (count_ne n hn), c126, ← EReal.coe_sub]

theorem inv_eq : invK = invR := by
  funext x
  unfold invK invR
  by_cases h : x < Ideal.ofBits .f32 0x00800000#32
  · rw [if_pos h, if_pos (count_small x h)]
  · obtain ⟨n, hn, hc, he⟩ := count_large x h
    rw [if_neg h, hc, he, if_neg (count_ne n hn), c126, ← EReal.coe_sub, ← EReal.coe_zero, ← EReal.coe_sub]
    congr 2
    ring

/-! ## The vector operations at an index -/

theorem toInt_small (n : ℕ) (h : n < 254) : (BitVec.ofNat 32 n).toInt = n := by
  rw [BitVec.toInt_eq_toNat_of_lt (by rw [BitVec.toNat_ofNat]; omega), BitVec.toNat_ofNat]; omega

theorem countV {n : ℕ} (x : FVec Ideal ⟨2, ![1, n]⟩ .f32) (hi hb1 hb2 hlt) (hr : Shape.Reduces ⟨2, ![254, n]⟩ [0] ⟨1, ![n]⟩) (hφ hacc hc) :
    shapeCast ⟨2, ![1, n]⟩ (multiReduction .add [0] ⟨1, ![n]⟩ (sitofp (F := Ideal) .f32 (extui 32 (cmpf .oge (broadcastTo ⟨2, ![254, n]⟩ x hb1)
      (broadcastTo ⟨2, ![254, n]⟩ (exp2 (subf (sitofp .f32 (iota .tc ⟨2, ![254, 1]⟩ 32 [0] hi))
        (broadcast ⟨2, ![254, 1]⟩ (Scalar.ofBits (F := Ideal) .f32 0x42FC0000#32)))) hb2)) hlt)) 0x00000000#32 hr hφ hacc) hc = fun j => count (x j) := by
  funext j
  obtain ⟨c0, c, rfl⟩ : ∃ (a : Fin 1) (c : Fin n), j = ix2 a c := ⟨j 0, j 1, eq_ix2 j⟩
  obtain rfl : c0 = 0 := Subsingleton.elim _ _
  rw [shapeCast_a_1a_apply]
  rw [Ideal.multiReduction_add_single]
  unfold count
  have key : ∀ k : Fin 254, sitofp (F := Ideal) .f32 (extui 32 (cmpf .oge (broadcastTo ⟨2, ![254, n]⟩ x hb1)
      (broadcastTo ⟨2, ![254, n]⟩ (exp2 (subf (sitofp .f32 (iota .tc ⟨2, ![254, 1]⟩ 32 [0] hi))
        (broadcast ⟨2, ![254, 1]⟩ (Scalar.ofBits (F := Ideal) .f32 0x42FC0000#32)))) hb2)) hlt) (hr.lift (ix1 c) k) = if power k.val ≤ x (ix2 0 c) then 1 else 0 := by
    intro k
    have hl : hr.lift (ix1 c) k = ix2 k c := by
      funext a
      fin_cases a <;> exact Fin.ext rfl
    rw [hl]
    show FloatOps.sitofp (F := Ideal) .f32 ((FloatOps.cmpf (F := Ideal) (φ := .f32) .oge (broadcastTo ⟨2, ![254, n]⟩ x hb1 (ix2 k c)) (broadcastTo ⟨2, ![254, n]⟩ _ hb2 (ix2 k c))).setWidth 32) = _
    rw [broadcastTo_1b_ab_apply, broadcastTo_apply _ hb2 (ix2 k c) (ix2 k 0) (fun a => by fin_cases a <;> rfl)]
    have hp : exp2 (subf (sitofp (F := Ideal) .f32 (iota .tc ⟨2, ![254, 1]⟩ 32 [0] hi))
        (broadcast ⟨2, ![254, 1]⟩ (Scalar.ofBits (F := Ideal) .f32 0x42FC0000#32))) (ix2 k 0) = power k.val := by
      show Ideal.exp2 ((((iota .tc ⟨2, ![254, 1]⟩ 32 [0] hi (ix2 k 0)).toInt : ℝ) : EReal) - Ideal.ofBits .f32 0x42FC0000#32) = _
      have : (iota .tc ⟨2, ![254, 1]⟩ 32 [0] hi (ix2 k 0)).toInt = (k.val : ℤ) := by
        rw [iota_single_apply]; exact toInt_small k.val k.isLt
      rw [this]
      rfl
    rw [hp]
    show ((((BitVec.ofBool (decide (power k.val ≤ x (ix2 0 c)))).setWidth 32).toInt : ℝ) : EReal) = _
    by_cases h : power k.val ≤ x (ix2 0 c)
    · rw [if_pos h, decide_eq_true h]; simp
    · rw [if_neg h, decide_eq_false h]; simp
  exact Finset.sum_congr rfl fun k _ => key k

/-! ## A group's maximum, scale, codes and widened codes -/

/-- The greatest magnitude of a group of 32. -/
def gmax (f : Fin 32 → EReal) : EReal :=
  (Finset.univ : Finset (Fin 32)).fold max (FloatOps.ofBits (F := Ideal) .f32 0xFF800000#32) fun k => FloatOps.absf (F := Ideal) (φ := .f32) (f k)

/-- Its scale (`q` is the word of the reciprocal of the greatest code), its codes, its widened codes. -/
def gscale (q : BitVec 32) (f : Fin 32 → EReal) : EReal := scaleK (gmax f * Ideal.ofBits .f32 q)
def gcode (q lo hi : BitVec 32) (f : Fin 32 → EReal) (k : Fin 32) : EReal :=
  min (max (f k * invK (gmax f * Ideal.ofBits .f32 q)) (Ideal.ofBits .f32 lo)) (Ideal.ofBits .f32 hi)
def gwide (q lo hi : BitVec 32) (f : Fin 32 → EReal) (k : Fin 32) : EReal := gcode q lo hi f k * gscale q f

/-! ## A kernel's group: 32 rows, its columns apart -/

section Kernel

variable {n : ℕ} (x : FVec Ideal ⟨2, ![32, n]⟩ .f32) (q : BitVec 32)

/-- The count of a column, as the kernels write it. -/
theorem expV (hr' hφ' hacc' hc') (hi hb1 hb2 hlt) (hr : Shape.Reduces ⟨2, ![254, n]⟩ [0] ⟨1, ![n]⟩) (hφ hacc hc) :
    shapeCast ⟨2, ![1, n]⟩ (multiReduction .add [0] ⟨1, ![n]⟩ (sitofp (F := Ideal) .f32 (extui 32 (cmpf .oge (broadcastTo ⟨2, ![254, n]⟩
      (mulf (shapeCast ⟨2, ![1, n]⟩ (multiReduction .maximumf [0] ⟨1, ![n]⟩ (absf x) 0xFF800000#32 hr' hφ' hacc') hc')
        (broadcast ⟨2, ![1, n]⟩ (Scalar.ofBits (F := Ideal) .f32 q))) hb1)
      (broadcastTo ⟨2, ![254, n]⟩ (exp2 (subf (sitofp .f32 (iota .tc ⟨2, ![254, 1]⟩ 32 [0] hi))
        (broadcast ⟨2, ![254, 1]⟩ (Scalar.ofBits (F := Ideal) .f32 0x42FC0000#32)))) hb2)) hlt)) 0x00000000#32 hr hφ hacc) hc
      = fun j => count (gmax (fun k => x (ix2 k (j 1))) * Ideal.ofBits .f32 q) := by
  rw [countV]
  funext j
  obtain ⟨c0, c, rfl⟩ : ∃ (a : Fin 1) (c : Fin n), j = ix2 a c := ⟨j 0, j 1, eq_ix2 j⟩
  refine congrArg (fun z => count (z * Ideal.ofBits .f32 q)) ?_
  refine (shapeCast_a_1a_apply _ _ _ _).trans ?_
  rw [Ideal.multiReduction_maximumf_single]
  refine congrArg (Finset.fold max (FloatOps.ofBits (F := Ideal) .f32 0xFF800000#32) · Finset.univ) (funext fun k => ?_)
  refine congrArg (fun i => FloatOps.absf (F := Ideal) (φ := .f32) (x i)) (funext fun a => ?_)
  fin_cases a <;> exact Fin.ext rfl

variable (e : FVec Ideal ⟨2, ![1, n]⟩ .f32) (he : e = fun j => count (gmax (fun k => x (ix2 k (j 1))) * Ideal.ofBits .f32 q))

theorem select_zero (a b c : EReal) : Scalar.select (FloatOps.cmpf (F := Ideal) (φ := .f32) .oeq a (Ideal.ofBits .f32 0x00000000#32)) b c = if a = 0 then b else c := by
  rw [Ideal.ofBits_zero_f32]
  show Scalar.select (BitVec.ofBool (decide (a = 0))) b c = _
  by_cases h : a = 0
  · rw [if_pos h, decide_eq_true h]; rfl
  · rw [if_neg h, decide_eq_false h]; rfl

include he in
theorem scaleV : select (cmpf .oeq e (broadcast ⟨2, ![1, n]⟩ (Scalar.ofBits (F := Ideal) .f32 0x00000000#32))) (broadcast ⟨2, ![1, n]⟩ (Scalar.ofBits (F := Ideal) .f32 0x3F800000#32))
      (exp2 (subf e (broadcast ⟨2, ![1, n]⟩ (Scalar.ofBits (F := Ideal) .f32 0x42FC0000#32)))) = fun j => gscale q (fun k => x (ix2 k (j 1))) := by
  funext j
  refine (select_zero _ _ _).trans ?_
  rw [he]
  show (if _ = _ then Ideal.ofBits .f32 0x3F800000#32 else _) = _
  rw [c1]
  rfl

include he in
theorem codeV (lo hi : BitVec 32) (hb) :
    minimumf (maximumf (mulf x (broadcastTo ⟨2, ![32, n]⟩ (select (cmpf .oeq e (broadcast ⟨2, ![1, n]⟩ (Scalar.ofBits (F := Ideal) .f32 0x00000000#32))) (broadcast ⟨2, ![1, n]⟩ (Scalar.ofBits (F := Ideal) .f32 0x3F800000#32))
      (exp2 (subf (broadcast ⟨2, ![1, n]⟩ (Scalar.ofBits (F := Ideal) .f32 0x42FC0000#32)) e))) hb)) (broadcast ⟨2, ![32, n]⟩ (Scalar.ofBits (F := Ideal) .f32 lo)))
      (broadcast ⟨2, ![32, n]⟩ (Scalar.ofBits (F := Ideal) .f32 hi)) = fun j => gcode q lo hi (fun k => x (ix2 k (j 1))) (j 0) := by
  funext j
  obtain ⟨r, c, rfl⟩ : ∃ (a : Fin 32) (c : Fin n), j = ix2 a c := ⟨j 0, j 1, eq_ix2 j⟩
  show min (max (x (ix2 r c) * broadcastTo ⟨2, ![32, n]⟩ _ hb (ix2 r c)) (Ideal.ofBits .f32 lo)) (Ideal.ofBits .f32 hi) = _
  rw [broadcastTo_1b_ab_apply]
  refine congrArg (fun z => min (max (x (ix2 r c) * z) (Ideal.ofBits .f32 lo)) (Ideal.ofBits .f32 hi)) ?_
  refine (select_zero _ _ _).trans ?_
  rw [he]
  show (if _ = _ then Ideal.ofBits .f32 0x3F800000#32 else _) = _
  rw [c1]
  rfl

/-- The widened codes, as the kernels write them. -/
theorem wideV (y : FVec Ideal ⟨2, ![32, n]⟩ .bf16) (s : FVec Ideal ⟨2, ![1, n]⟩ .bf16) (lo hi : BitVec 32) (hb)
    (hy : y = fun j => gcode q lo hi (fun k => x (ix2 k (j 1))) (j 0)) (hs : s = fun j => gscale q (fun k => x (ix2 k (j 1)))) :
    mulf y (broadcastTo ⟨2, ![32, n]⟩ s hb) = fun j => gwide q lo hi (fun k => x (ix2 k (j 1))) (j 0) := by
  funext j
  obtain ⟨r, c, rfl⟩ : ∃ (a : Fin 32) (c : Fin n), j = ix2 a c := ⟨j 0, j 1, eq_ix2 j⟩
  show y (ix2 r c) * broadcastTo ⟨2, ![32, n]⟩ s hb (ix2 r c) = _
  rw [broadcastTo_1b_ab_apply, hy, hs]
  rfl

end Kernel

/-! ## A reference's groups: the last axis of a rank-3 array -/

section Reference

/-- A trailing unit axis added, then repeated 32 times. -/
theorem bcast3 {T G : ℕ} {α : Type} (x : (⟨3, ![T, G, 1]⟩ : Shape).Idx → α) (hb) (t : Fin T) (g : Fin G) (k : Fin 32) :
    broadcastTo ⟨3, ![T, G, 32]⟩ x hb (ix3 t g k) = x (ix3 t g 0) :=
  broadcastTo_apply x hb _ _ fun a => by
    fin_cases a
    · show t.val = if T = 1 then 0 else t.val
      split <;> omega
    · show g.val = if G = 1 then 0 else g.val
      split <;> omega
    · rfl

theorem cast3 {T G : ℕ} {α : Type} (x : (⟨2, ![T, G]⟩ : Shape).Idx → α) (hc) (t : Fin T) (g : Fin G) :
    shapeCast ⟨3, ![T, G, 1]⟩ x hc (ix3 t g 0) = x (ix2 t g) :=
  shapeCast_apply x hc _ _ (by
    rw [Shape.rowMajor_val_two, Shape.rowMajor_val_three]
    show t.val * G + g.val = (t.val * G + g.val) * 1 + 0
    omega)

/-- The last axis split into groups of 32, and back. -/
theorem split3 {T G K : ℕ} (hK : K = 32 * G) {α : Type} (x : (⟨2, ![T, K]⟩ : Shape).Idx → α) (hc) (t : Fin T) (g : Fin G) (k : Fin 32) :
    shapeCast ⟨3, ![T, G, 32]⟩ x hc (ix3 t g k) = x (ix2 t ⟨32 * g.val + k.val, by omega⟩) :=
  shapeCast_apply x hc _ _ (by
    rw [Shape.rowMajor_val_two, Shape.rowMajor_val_three]
    show t.val * K + (32 * g.val + k.val) = (t.val * G + g.val) * 32 + k.val
    subst hK
    ring)

theorem join3 {T G K : ℕ} (hK : K = 32 * G) {α : Type} (x : (⟨3, ![T, G, 32]⟩ : Shape).Idx → α) (hc) (t : Fin T) (f : Fin K) :
    shapeCast ⟨2, ![T, K]⟩ x hc (ix2 t f) = x (ix3 t ⟨f.val / 32, by omega⟩ ⟨f.val % 32, by omega⟩) :=
  shapeCast_apply x hc _ _ (by
    rw [Shape.rowMajor_val_two, Shape.rowMajor_val_three]
    show (t.val * G + f.val / 32) * 32 + f.val % 32 = t.val * K + f.val
    subst hK
    have := Nat.div_add_mod f.val 32
    nlinarith)

variable {T G : ℕ} (v : FVec Ideal ⟨3, ![T, G, 32]⟩ .f32) (q : BitVec 32)

theorem rowMaxV (hr : Shape.Reduces ⟨3, ![T, G, 32]⟩ [2] ⟨2, ![T, G]⟩) (hφ hacc) :
    mulf (multiReduction .maximumf [2] ⟨2, ![T, G]⟩ (absf v) 0xFF800000#32 hr hφ hacc) (broadcast ⟨2, ![T, G]⟩ (Scalar.ofBits (F := Ideal) .f32 q))
      = fun j => gmax (fun k => v (ix3 (j 0) (j 1) k)) * Ideal.ofBits .f32 q := by
  funext j
  refine congrArg (· * Ideal.ofBits .f32 q) ?_
  rw [Ideal.multiReduction_maximumf_single]
  refine congrArg (Finset.fold max (FloatOps.ofBits (F := Ideal) .f32 0xFF800000#32) · Finset.univ) (funext fun k => ?_)
  refine congrArg (fun i => FloatOps.absf (F := Ideal) (φ := .f32) (v i)) (funext fun a => ?_)
  fin_cases a <;> exact Fin.ext rfl

variable (x : FVec Ideal ⟨2, ![T, G]⟩ .f32) (hx : x = fun j => gmax (fun k => v (ix3 (j 0) (j 1) k)) * Ideal.ofBits .f32 q)

theorem select_lt (a b c d : EReal) : Scalar.select (FloatOps.cmpf (F := Ideal) (φ := .f32) .olt a d) b c = if a < d then b else c := by
  show Scalar.select (BitVec.ofBool (decide (a < d))) b c = _
  by_cases h : a < d
  · rw [if_pos h, decide_eq_true h]; rfl
  · rw [if_neg h, decide_eq_false h]; rfl

/-- The exponent's vector. -/
theorem exponentV : minimumf (broadcast ⟨2, ![T, G]⟩ (Scalar.ofBits (F := Ideal) .f32 0x43000000#32)) (maximumf (broadcast ⟨2, ![T, G]⟩ (Scalar.ofBits (F := Ideal) .f32 0xC2FA0000#32))
      (addf (floor (divf (log x) (broadcast ⟨2, ![T, G]⟩ (Scalar.log (Scalar.ofBits (F := Ideal) .f32 0x40000000#32))))) (broadcast ⟨2, ![T, G]⟩ (Scalar.ofBits (F := Ideal) .f32 0x3F800000#32))))
      = fun j => expR (x j) := by
  funext j
  show min (Ideal.ofBits .f32 0x43000000#32) (max (Ideal.ofBits .f32 0xC2FA0000#32) (Ideal.liftRound Int.floor (Ideal.div (Ideal.log (x j)) (Ideal.log (Ideal.ofBits .f32 0x40000000#32))) + Ideal.ofBits .f32 0x3F800000#32)) = _
  rw [c1]
  rfl

variable (e : FVec Ideal ⟨2, ![T, G]⟩ .f32) (he : e = fun j => expR (x j))

include hx he in
theorem refScaleV : select (cmpf .olt x (broadcast ⟨2, ![T, G]⟩ (Scalar.ofBits (F := Ideal) .f32 0x00800000#32))) (broadcast ⟨2, ![T, G]⟩ (Scalar.ofBits (F := Ideal) .f32 0x3F800000#32)) (exp2 e)
      = fun j => gscale q (fun k => v (ix3 (j 0) (j 1) k)) := by
  funext j
  refine (select_lt _ _ _ _).trans ?_
  unfold gscale
  rw [scale_eq, he, hx]
  show (if _ < _ then Ideal.ofBits .f32 0x3F800000#32 else _) = _
  rw [c1]
  rfl

include hx he in
theorem refCodeV (lo hi : BitVec 32) (hc hb) :
    minimumf (broadcast ⟨3, ![T, G, 32]⟩ (Scalar.ofBits (F := Ideal) .f32 hi)) (maximumf (broadcast ⟨3, ![T, G, 32]⟩ (Scalar.ofBits (F := Ideal) .f32 lo))
      (mulf v (broadcastTo ⟨3, ![T, G, 32]⟩ (shapeCast ⟨3, ![T, G, 1]⟩
        (select (cmpf .olt x (broadcast ⟨2, ![T, G]⟩ (Scalar.ofBits (F := Ideal) .f32 0x00800000#32))) (broadcast ⟨2, ![T, G]⟩ (Scalar.ofBits (F := Ideal) .f32 0x3F800000#32))
          (exp2 (subf (broadcast ⟨2, ![T, G]⟩ (Scalar.ofBits (F := Ideal) .f32 0x00000000#32)) e))) hc) hb)))
      = fun j => gcode q lo hi (fun k => v (ix3 (j 0) (j 1) k)) (j 2) := by
  funext j
  obtain ⟨t, g, k, rfl⟩ : ∃ (t : Fin T) (g : Fin G) (k : Fin 32), j = ix3 t g k := ⟨j 0, j 1, j 2, eq_ix3 j⟩
  show min (Ideal.ofBits .f32 hi) (max (Ideal.ofBits .f32 lo) (v (ix3 t g k) * broadcastTo ⟨3, ![T, G, 32]⟩ _ hb (ix3 t g k))) = _
  rw [min_comm, max_comm, bcast3, cast3]
  refine congrArg (fun z => min (max (v (ix3 t g k) * z) (Ideal.ofBits .f32 lo)) (Ideal.ofBits .f32 hi)) ?_
  refine (select_lt _ _ _ _).trans ?_
  rw [inv_eq, he, hx]
  show (if _ < _ then Ideal.ofBits .f32 0x3F800000#32 else Ideal.exp2 (Ideal.ofBits .f32 0x00000000#32 - _)) = _
  rw [c1, Ideal.ofBits_zero_f32]
  rfl

theorem refWideV (y : FVec Ideal ⟨3, ![T, G, 32]⟩ .bf16) (s : FVec Ideal ⟨2, ![T, G]⟩ .bf16) (lo hi : BitVec 32) (hc hb)
    (hy : y = fun j => gcode q lo hi (fun k => v (ix3 (j 0) (j 1) k)) (j 2)) (hs : s = fun j => gscale q (fun k => v (ix3 (j 0) (j 1) k))) :
    mulf y (broadcastTo ⟨3, ![T, G, 32]⟩ (shapeCast ⟨3, ![T, G, 1]⟩ s hc) hb) = fun j => gwide q lo hi (fun k => v (ix3 (j 0) (j 1) k)) (j 2) := by
  funext j
  obtain ⟨t, g, k, rfl⟩ : ∃ (t : Fin T) (g : Fin G) (k : Fin 32), j = ix3 t g k := ⟨j 0, j 1, j 2, eq_ix3 j⟩
  show y (ix3 t g k) * broadcastTo ⟨3, ![T, G, 32]⟩ _ hb (ix3 t g k) = _
  rw [bcast3, cast3, hy, hs]
  rfl

end Reference

end Cert.Quant
end
-- ==== Proof.MlpSpec.lean ====
/-
  What the MLP's call computes, element by element: the activation and the two gradients from a gate value, an up value and
  a gradient entering the down projection, then the groups of 32 along the features quantised — their codes token by token,
  their scales and widened codes feature by feature. The kernel's blocks and the reference's arrays are both of this form.
-/
module

public import proofs.«01_k».proof.Proof.Quant

@[expose] public section

noncomputable section

namespace Cert.Mlp

open Idealize.ShloMosaic Idealize.ShloMosaic.ValueIdx Cert.Quant
open scoped BigOperators

/-- The logistic function. -/
def sgm (z : EReal) : EReal := Ideal.div 1 (1 + Ideal.exp (-z))

/-- The activation, and the gradients of the gate and of the up projection. -/
def act (g u : EReal) : EReal := g * sgm g * u
def dgate (g u d : EReal) : EReal := d * u * sgm g * (1 + g * (1 - sgm g))
def dup (g d : EReal) : EReal := d * g * sgm g

section Grouped

variable {T K G : ℕ} (hK : K = 32 * G) (q lo hi : BitVec 32) (V : Fin T → Fin K → EReal)

/-- Group `g` of token `t`'s row. -/
def group (t : Fin T) (g : Fin G) : Fin 32 → EReal := fun k => V t ⟨32 * g.val + k.val, by omega⟩

/-- Codes token by token; scales feature group by feature group; widened codes feature by feature. -/
def codes (j : (⟨2, ![T, K]⟩ : Shape).Idx) : EReal :=
  gcode q lo hi (group hK V (j 0) ⟨(j 1).val / 32, by have : (j 1).val < K := (j 1).isLt; omega⟩) ⟨(j 1).val % 32, by omega⟩
def scales (j : (⟨2, ![G, T]⟩ : Shape).Idx) : EReal := gscale q (group hK V (j 1) (j 0))
def wide (j : (⟨2, ![K, T]⟩ : Shape).Idx) : EReal :=
  gwide q lo hi (group hK V (j 1) ⟨(j 0).val / 32, by have : (j 0).val < K := (j 0).isLt; omega⟩) ⟨(j 0).val % 32, by omega⟩

end Grouped

section Blocks

variable {T K G T' K' G' : ℕ} (hK : K = 32 * G) (hK' : K' = 32 * G') (q lo hi : BitVec 32)
  (V : Fin T → Fin K → EReal) (V' : Fin T' → Fin K' → EReal) (a b : ℕ)
  (h : ∀ (t : Fin T) (k : Fin K) (t' : Fin T') (k' : Fin K'), t'.val = a + t.val → k'.val = 32 * b + k.val → V t k = V' t' k')

include h in
theorem group_eq (t : Fin T) (g : Fin G) (t' : Fin T') (g' : Fin G') (ht : t'.val = a + t.val) (hg : g'.val = b + g.val) :
    group hK V t g = group hK' V' t' g' :=
  funext fun k => h _ _ _ _ ht (by show 32 * g'.val + k.val = 32 * b + (32 * g.val + k.val); omega)

include h in
/-- A block of whole groups, read in the array. -/
theorem codes_eq (j : (⟨2, ![T, K]⟩ : Shape).Idx) (i : (⟨2, ![T', K']⟩ : Shape).Idx) (h0 : (i 0).val = a + (j 0).val) (h1 : (i 1).val = 32 * b + (j 1).val) :
    codes hK q lo hi V j = codes hK' q lo hi V' i := by
  unfold codes
  rw [group_eq hK hK' V V' a b h (j 0) _ (i 0) ⟨(i 1).val / 32, by have : (i 1).val < K' := (i 1).isLt; omega⟩ h0 (by show (i 1).val / 32 = b + (j 1).val / 32; omega)]
  exact congrArg _ (Fin.ext (by show (j 1).val % 32 = (i 1).val % 32; omega))

include h in
theorem scales_eq (j : (⟨2, ![G, T]⟩ : Shape).Idx) (i : (⟨2, ![G', T']⟩ : Shape).Idx) (h0 : (i 0).val = b + (j 0).val) (h1 : (i 1).val = a + (j 1).val) :
    scales hK q V j = scales hK' q V' i := by
  unfold scales
  rw [group_eq hK hK' V V' a b h (j 1) (j 0) (i 1) (i 0) h1 h0]

include h in
theorem wide_eq (j : (⟨2, ![K, T]⟩ : Shape).Idx) (i : (⟨2, ![K', T']⟩ : Shape).Idx) (h0 : (i 0).val = 32 * b + (j 0).val) (h1 : (i 1).val = a + (j 1).val) :
    wide hK q lo hi V j = wide hK' q lo hi V' i := by
  unfold wide
  rw [group_eq hK hK' V V' a b h (j 1) _ (i 1) ⟨(i 0).val / 32, by have : (i 0).val < K' := (i 0).isLt; omega⟩ h1 (by show (i 0).val / 32 = b + (j 0).val / 32; omega)]
  exact congrArg _ (Fin.ext (by show (j 0).val % 32 = (i 0).val % 32; omega))

end Blocks

/-! ## The whole arrays -/

section Arrays

variable (s : (⟨1, ![3]⟩ : Shape).Idx → EReal) (a : (⟨2, ![2048, 6400]⟩ : Shape).Idx → EReal) (y : (⟨2, ![2048, 6400]⟩ : Shape).Idx → EReal)
  (wg wu : (⟨2, ![2048, 11008]⟩ : Shape).Idx → EReal) (wd : (⟨2, ![11008, 2048]⟩ : Shape).Idx → EReal)

/-- The gate, the up projection and the gradient entering the down projection's input, at a token and a feature. -/
def gateA (t : Fin 6400) (f : Fin 11008) : EReal := (∑ d : Fin 2048, a (ix2 d t) * wg (ix2 d f)) * s (ix1 0)
def upA (t : Fin 6400) (f : Fin 11008) : EReal := (∑ d : Fin 2048, a (ix2 d t) * wu (ix2 d f)) * s (ix1 1)
def duA (t : Fin 6400) (f : Fin 11008) : EReal := (∑ d : Fin 2048, y (ix2 d t) * wd (ix2 f d)) * s (ix1 2)

def actA (t : Fin 6400) (f : Fin 11008) : EReal := act (gateA s a wg t f) (upA s a wu t f)
def dgateA (t : Fin 6400) (f : Fin 11008) : EReal := dgate (gateA s a wg t f) (upA s a wu t f) (duA s y wd t f)
def dupA (t : Fin 6400) (f : Fin 11008) : EReal := dup (gateA s a wg t f) (duA s y wd t f)

end Arrays

end Cert.Mlp
end
-- ==== Proof.MlpGroup.lean ====
/-
  One group of the MLP's kernel — 32 features, 256 tokens — over the extended reals: the scales, codes and widened codes that
  the body's operations give, from the group's gate, up and gradient values.
-/
module

public import proofs.«01_k».proof.Proof.MlpSpec
public import proofs.«01_k».proof.Proof.Gen.MlpIdeal.Frame

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

variable (g u d : FVec Ideal S32x256 .f32)

theorem sigV (i : S32x256.Idx) : k0_pay11 g i = sgm (g i) := by
  show Ideal.div (Ideal.ofBits .f32 0x3F800000#32) (Ideal.ofBits .f32 0x3F800000#32 + Ideal.exp (Ideal.ofBits .f32 0x00000000#32 - g i)) = _
  rw [c1, Ideal.ofBits_zero_f32, zero_sub]
  rfl

theorem actV (i : S32x256.Idx) : k0_pay13 g u i = act (g i) (u i) := by
  show g i * k0_pay11 g i * u i = _
  rw [sigV]
  rfl

theorem dgateV (i : S32x256.Idx) : k0_pay20 g u d (k0_pay11 g) i = dgate (g i) (u i) (d i) := by
  show d i * u i * k0_pay11 g i * (Ideal.ofBits .f32 0x3F800000#32 + g i * (Ideal.ofBits .f32 0x3F800000#32 - k0_pay11 g i)) = _
  rw [sigV, c1]
  rfl

theorem dupV (i : S32x256.Idx) : k0_pay27 d (k0_pay12 g) i = dup (g i) (d i) := by
  show d i * (g i * k0_pay11 g i) = _
  rw [sigV, ← mul_assoc]
  rfl

/-- The activation's scales, codes, widened codes. -/
abbrev scaleA : FVec Ideal S1x256 .f32 := k0_pay16 g u
abbrev codeA : FVec Ideal S32x256 .bf16 := k0_pay19 (k0_pay17 g u)
abbrev wideA : FVec Ideal S32x256 .bf16 := k0_pay18 (k0_pay16 g u) (k0_pay17 g u)

theorem countA : k0_pay14 g u = fun j => count (gmax (fun k => k0_pay13 g u (ix2 k (j 1))) * Ideal.ofBits .f32 0x3B124925#32) :=
  expV (n := 256) (k0_pay13 g u) _ _ _ _ _ _ _ _ _ _ _ _ _

theorem scaleA_eq : scaleA g u = fun j => gscale 0x3B124925#32 (fun k => act (g (ix2 k (j 1))) (u (ix2 k (j 1)))) := by
  refine (scaleV (n := 256) (k0_pay13 g u) _ _ (countA g u)).trans ?_
  simp only [actV]

theorem codeA_eq' : k0_pay17 g u = fun j => gcode 0x3B124925#32 0xC3E00000#32 0x43E00000#32 (fun k => act (g (ix2 k (j 1))) (u (ix2 k (j 1)))) (j 0) := by
  refine (codeV (n := 256) (k0_pay13 g u) _ _ (countA g u) _ _ _).trans ?_
  simp only [actV]

theorem castB (v : FVec Ideal S32x256 .bf16) (h) : shapeCast S32x256 v h = v := funext fun j => shapeCast_apply v h j j rfl

theorem codeA_eq : codeA g u = fun j => gcode 0x3B124925#32 0xC3E00000#32 0x43E00000#32 (fun k => act (g (ix2 k (j 1))) (u (ix2 k (j 1)))) (j 0) :=
  (castB _ _).trans (codeA_eq' g u)

theorem wideA_eq : wideA g u = fun j => gwide 0x3B124925#32 0xC3E00000#32 0x43E00000#32 (fun k => act (g (ix2 k (j 1))) (u (ix2 k (j 1)))) (j 0) := by
  refine (wideV (n := 256) (k0_pay13 g u) 0x3B124925#32 _ _ 0xC3E00000#32 0x43E00000#32 _ (codeV (n := 256) (k0_pay13 g u) _ _ (countA g u) _ _ _) (scaleV (n := 256) (k0_pay13 g u) _ _ (countA g u))).trans ?_
  simp only [actV]

/-- The gate's gradient. -/
abbrev scaleG : FVec Ideal S1x256 .f32 := k0_pay23 g u d (k0_pay11 g)
abbrev countG : FVec Ideal S1x256 .f32 := k0_pay21 g u d (k0_pay11 g)
abbrev codeG : FVec Ideal S32x256 .bf16 :=
  k0_pay26 (k0_pay20 g u d (k0_pay11 g)) (countG g u d) (k0_pay22 g u d (k0_pay11 g)) (FloatOps.ofBits .f32 0x42FC0000#32)
abbrev wideG : FVec Ideal S32x256 .bf16 :=
  k0_pay25 (k0_pay20 g u d (k0_pay11 g)) (countG g u d) (k0_pay22 g u d (k0_pay11 g)) (scaleG g u d) (FloatOps.ofBits .f32 0x42FC0000#32)

theorem countG_eq : countG g u d = fun j => count (gmax (fun k => k0_pay20 g u d (k0_pay11 g) (ix2 k (j 1))) * Ideal.ofBits .f32 0x37924925#32) :=
  expV (n := 256) (k0_pay20 g u d (k0_pay11 g)) _ _ _ _ _ _ _ _ _ _ _ _ _

theorem scaleG_eq : scaleG g u d = fun j => gscale 0x37924925#32 (fun k => dgate (g (ix2 k (j 1))) (u (ix2 k (j 1))) (d (ix2 k (j 1)))) := by
  refine (scaleV (n := 256) (k0_pay20 g u d (k0_pay11 g)) _ _ (countG_eq g u d)).trans ?_
  simp only [dgateV]

theorem codeG_eq : codeG g u d = fun j => gcode 0x37924925#32 0xC7600000#32 0x47600000#32 (fun k => dgate (g (ix2 k (j 1))) (u (ix2 k (j 1))) (d (ix2 k (j 1)))) (j 0) := by
  refine (castB _ _).trans ((codeV (n := 256) (k0_pay20 g u d (k0_pay11 g)) _ _ (countG_eq g u d) _ _ _).trans ?_)
  simp only [dgateV]

theorem wideG_eq : wideG g u d = fun j => gwide 0x37924925#32 0xC7600000#32 0x47600000#32 (fun k => dgate (g (ix2 k (j 1))) (u (ix2 k (j 1))) (d (ix2 k (j 1)))) (j 0) := by
  refine (wideV (n := 256) (k0_pay20 g u d (k0_pay11 g)) 0x37924925#32 _ _ 0xC7600000#32 0x47600000#32 _ (codeV (n := 256) (k0_pay20 g u d (k0_pay11 g)) _ _ (countG_eq g u d) _ _ _) (scaleV (n := 256) (k0_pay20 g u d (k0_pay11 g)) _ _ (countG_eq g u d))).trans ?_
  simp only [dgateV]

/-- The up projection's gradient. -/
abbrev countU : FVec Ideal S1x256 .f32 := k0_pay28 d (k0_pay12 g)
abbrev scaleU : FVec Ideal S1x256 .f32 := k0_pay30 (countU g d) (k0_pay29 d (k0_pay12 g)) (FloatOps.ofBits .f32 0x42FC0000#32)
abbrev codeU : FVec Ideal S32x256 .bf16 := k0_pay33 (k0_pay27 d (k0_pay12 g)) (countU g d) (k0_pay29 d (k0_pay12 g))
abbrev wideU : FVec Ideal S32x256 .bf16 := k0_pay32 (k0_pay27 d (k0_pay12 g)) (countU g d) (k0_pay29 d (k0_pay12 g)) (FloatOps.ofBits .f32 0x42FC0000#32)

theorem countU_eq : countU g d = fun j => count (gmax (fun k => k0_pay27 d (k0_pay12 g) (ix2 k (j 1))) * Ideal.ofBits .f32 0x37924925#32) :=
  expV (n := 256) (k0_pay27 d (k0_pay12 g)) _ _ _ _ _ _ _ _ _ _ _ _ _

theorem scaleU_eq : scaleU g d = fun j => gscale 0x37924925#32 (fun k => dup (g (ix2 k (j 1))) (d (ix2 k (j 1)))) := by
  refine (scaleV (n := 256) (k0_pay27 d (k0_pay12 g)) _ _ (countU_eq g d)).trans ?_
  simp only [dupV]

theorem codeU_eq : codeU g d = fun j => gcode 0x37924925#32 0xC7600000#32 0x47600000#32 (fun k => dup (g (ix2 k (j 1))) (d (ix2 k (j 1)))) (j 0) := by
  refine (castB _ _).trans ((codeV (n := 256) (k0_pay27 d (k0_pay12 g)) _ _ (countU_eq g d) _ _ _).trans ?_)
  simp only [dupV]

theorem wideU_eq : wideU g d = fun j => gwide 0x37924925#32 0xC7600000#32 0x47600000#32 (fun k => dup (g (ix2 k (j 1))) (d (ix2 k (j 1)))) (j 0) := by
  refine (wideV (n := 256) (k0_pay27 d (k0_pay12 g)) 0x37924925#32 _ _ 0xC7600000#32 0x47600000#32 _ (codeV (n := 256) (k0_pay27 d (k0_pay12 g)) _ _ (countU_eq g d) _ _ _) (scaleV (n := 256) (k0_pay27 d (k0_pay12 g)) _ _ (countU_eq g d))).trans ?_
  simp only [dupV]

end Cert.MlpIdeal.RefValue
end
-- ==== Proof.MlpLoads.lean ====
/-
  What the MLP's kernel reads of its carried products: a group's gate, up and gradient values, scaled, as functions of the
  features and tokens of the block; and the group's operations on them, read where they are stored.
-/
module

public import proofs.«01_k».proof.Proof.MlpGroup
public import Idealize.ShloMosaic.Lib.Pipeline.ValueKit.Tiles

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

section Values

variable (x0 : Vec Ideal S3 .f32) (xs2 : Vec Ideal S512x1280 .f32) (xs3 : Vec Ideal S256x1280 .f32)

/-- The block's gate, up and gradient values, from the carried products: gate rows 0–255, up rows 256–511. -/
def gateB (r : Fin 1280) (f : Fin 256) : EReal := xs2 (ix2 ⟨f.val, by omega⟩ r) * x0 (ix1 0)
def upB (r : Fin 1280) (f : Fin 256) : EReal := xs2 (ix2 ⟨256 + f.val, by omega⟩ r) * x0 (ix1 1)
def duB (r : Fin 1280) (f : Fin 256) : EReal := xs3 (ix2 f r) * x0 (ix1 2)

def actB (r : Fin 1280) (f : Fin 256) : EReal := act (gateB x0 xs2 r f) (upB x0 xs2 r f)
def dgateB (r : Fin 1280) (f : Fin 256) : EReal := dgate (gateB x0 xs2 r f) (upB x0 xs2 r f) (duB x0 xs3 r f)
def dupB (r : Fin 1280) (f : Fin 256) : EReal := dup (gateB x0 xs2 r f) (duB x0 xs3 r f)

end Values

section Loads

variable (t : Fin cfg0.N) (x0 : Vec Ideal S3 .f32) (xs2 : Vec Ideal S512x1280 .f32) (xs3 : Vec Ideal S256x1280 .f32)

/-- The three scales and the carried products, as the body reads them. -/
abbrev s0L : Elt Ideal .f32 := View.readAt (Elt Ideal) (ms0_0 t).view (Rect.unit (s := S3) ![0] S1.size inb_S3_S1_0).toLoadRect ((hs0_0 t).unread x0) (Shape.Idx.first (by decide))
abbrev s1L : Elt Ideal .f32 := View.readAt (Elt Ideal) (ms0_0 t).view (Rect.unit (s := S3) ![1] S1.size inb_S3_S1_1).toLoadRect ((hs0_0 t).unread x0) (Shape.Idx.first (by decide))
abbrev s2L : Elt Ideal .f32 := View.readAt (Elt Ideal) (ms0_0 t).view (Rect.unit (s := S3) ![2] S1.size inb_S3_S1_2).toLoadRect ((hs0_0 t).unread x0) (Shape.Idx.first (by decide))
abbrev guL (r c : ℕ) (inb : ∀ a, (![r, c] : Fin 2 → ℕ) a + S32x256.size a ≤ S512x1280.size a) : Vec Ideal S32x256 .f32 :=
  View.readAt (Elt Ideal) scM0_2.view (Rect.unit (s := S512x1280) ![r, c] S32x256.size inb).toLoadRect ((Memref.isWhole_whole _).unread xs2)
abbrev duL (r c : ℕ) (inb : ∀ a, (![r, c] : Fin 2 → ℕ) a + S32x256.size a ≤ S256x1280.size a) : Vec Ideal S32x256 .f32 :=
  View.readAt (Elt Ideal) scM0_3.view (Rect.unit (s := S256x1280) ![r, c] S32x256.size inb).toLoadRect ((Memref.isWhole_whole _).unread xs3)

theorem s0L_eq : s0L t x0 = x0 (ix1 0) := by
  unfold s0L
  rw [View.readAt_eq_ld, (hs0_0 t).read_unread]
  exact congrArg x0 (funext fun a => by fin_cases a; rfl)
theorem s1L_eq : s1L t x0 = x0 (ix1 1) := by
  unfold s1L
  rw [View.readAt_eq_ld, (hs0_0 t).read_unread]
  exact congrArg x0 (funext fun a => by fin_cases a; rfl)
theorem s2L_eq : s2L t x0 = x0 (ix1 2) := by
  unfold s2L
  rw [View.readAt_eq_ld, (hs0_0 t).read_unread]
  exact congrArg x0 (funext fun a => by fin_cases a; rfl)
theorem guL_eq (r c inb) (k : Fin 32) (e : Fin 256) (f : Fin 512) (o : Fin 1280) (hf : f.val = r + k.val) (ho : o.val = c + e.val) :
    guL xs2 r c inb (ix2 k e) = xs2 (ix2 f o) := by
  unfold guL
  rw [View.readAt_eq_ld, (Memref.isWhole_whole _).read_unread]
  exact View.ld_unit_apply_of xs2 _ _ _ _ _ (fun a => by fin_cases a; exact hf; exact ho)
theorem duL_eq (r c inb) (k : Fin 32) (e : Fin 256) (f : Fin 256) (o : Fin 1280) (hf : f.val = r + k.val) (ho : o.val = c + e.val) :
    duL xs3 r c inb (ix2 k e) = xs3 (ix2 f o) := by
  unfold duL
  rw [View.readAt_eq_ld, (Memref.isWhole_whole _).read_unread]
  exact View.ld_unit_apply_of xs3 _ _ _ _ _ (fun a => by fin_cases a; exact hf; exact ho)

/-- Group `gi`'s values at columns from `c` on. -/
abbrev gateL (r c : ℕ) (inb : ∀ a, (![r, c] : Fin 2 → ℕ) a + S32x256.size a ≤ S512x1280.size a) : FVec Ideal S32x256 .f32 := k0_pay8 (s0L t x0) (guL xs2 r c inb)
abbrev upL (r c : ℕ) (inb : ∀ a, (![r, c] : Fin 2 → ℕ) a + S32x256.size a ≤ S512x1280.size a) : FVec Ideal S32x256 .f32 := k0_pay9 (s1L t x0) (guL xs2 r c inb)
abbrev duSL (r c : ℕ) (inb : ∀ a, (![r, c] : Fin 2 → ℕ) a + S32x256.size a ≤ S256x1280.size a) : FVec Ideal S32x256 .f32 := k0_pay10 (s2L t x0) (duL xs3 r c inb)

variable (r c : ℕ) (i0 : ∀ a, (![r, c] : Fin 2 → ℕ) a + S32x256.size a ≤ S512x1280.size a)
  (i2 : ∀ a, (![r, c] : Fin 2 → ℕ) a + S32x256.size a ≤ S256x1280.size a)
  (k : Fin 32) (e : Fin 256) (o : Fin 1280) (f : Fin 256) (ho : o.val = c + e.val)

include ho in
theorem gateL_eq (hf : f.val = r + k.val) : gateL t x0 xs2 r c i0 (ix2 k e) = gateB x0 xs2 o f := by
  show guL xs2 r c i0 (ix2 k e) * s0L t x0 = _
  rw [s0L_eq, guL_eq xs2 r c i0 k e ⟨f.val, Nat.lt_trans f.isLt (by decide)⟩ o hf ho]
  rfl
include ho in
theorem upL_eq (hf : 256 + f.val = r + k.val) : upL t x0 xs2 r c i0 (ix2 k e) = upB x0 xs2 o f := by
  show guL xs2 r c i0 (ix2 k e) * s1L t x0 = _
  rw [s1L_eq, guL_eq xs2 r c i0 k e ⟨256 + f.val, Nat.add_lt_add_left f.isLt 256⟩ o hf ho]
  rfl
include ho in
theorem duSL_eq (hf : f.val = r + k.val) : duSL t x0 xs3 r c i2 (ix2 k e) = duB x0 xs3 o f := by
  show duL xs3 r c i2 (ix2 k e) * s2L t x0 = _
  rw [s2L_eq, duL_eq xs3 r c i2 k e f o hf ho]
  rfl

end Loads

/-! ## A group's stores, read in the block -/

section Pieces

variable (t : Fin cfg0.N) (x0 : Vec Ideal S3 .f32) (xs2 : Vec Ideal S512x1280 .f32) (xs3 : Vec Ideal S256x1280 .f32)
  (gi c r0 r1 : ℕ) (hr0 : r0 = 32 * gi) (hr1 : r1 = 256 + 32 * gi) (i0 : ∀ a, (![r0, c] : Fin 2 → ℕ) a + S32x256.size a ≤ S512x1280.size a) (i1 : ∀ a, (![r1, c] : Fin 2 → ℕ) a + S32x256.size a ≤ S512x1280.size a) (i2 : ∀ a, (![r0, c] : Fin 2 → ℕ) a + S32x256.size a ≤ S256x1280.size a)

include hr0 hr1 in
theorem scaleA_at (x : S1x256.Idx) (y : S8x1280.Idx) (h0 : (y 0).val = gi + (x 0).val) (h1 : (y 1).val = c + (x 1).val) :
    scaleA (gateL t x0 xs2 r0 c i0) (upL t x0 xs2 r1 c i1) x = scales (T := 1280) (K := 256) (G := 8) rfl 0x3B124925#32 (actB x0 xs2) y := by
  have hx : (x 0).val < 1 := (x 0).isLt
  rw [scaleA_eq]
  exact congrArg (gscale _) (funext fun k => congrArg₂ act (gateL_eq t x0 xs2 r0 c i0 k _ _ _ h1 (show 32 * ((y 0).val) + k.val = r0 + k.val from by omega)) (upL_eq t x0 xs2 r1 c i1 k _ _ _ h1 (show 256 + (32 * ((y 0).val) + k.val) = r1 + k.val from by omega)))

include hr0 hr1 in
theorem wideA_at (x : S32x256.Idx) (y : S256x1280.Idx) (h0 : (y 0).val = r0 + (x 0).val) (h1 : (y 1).val = c + (x 1).val) :
    wideA (gateL t x0 xs2 r0 c i0) (upL t x0 xs2 r1 c i1) x = wide (T := 1280) (K := 256) (G := 8) rfl 0x3B124925#32 0xC3E00000#32 0x43E00000#32 (actB x0 xs2) y := by
  have hx : (x 0).val < 32 := (x 0).isLt
  have hy : (y 0).val < 256 := (y 0).isLt
  rw [wideA_eq]
  exact congrArg₂ (gwide _ _ _) (funext fun k => congrArg₂ act (gateL_eq t x0 xs2 r0 c i0 k _ _ _ h1 (show 32 * ((y 0).val / 32) + k.val = r0 + k.val from by omega)) (upL_eq t x0 xs2 r1 c i1 k _ _ _ h1 (show 256 + (32 * ((y 0).val / 32) + k.val) = r1 + k.val from by omega))) (Fin.ext (by show (x 0).val = (y 0).val % 32; omega))

include hr0 hr1 in
theorem codeA_at (x : S32x256.Idx) (y : S256x1280.Idx) (j : S1280x256.Idx) (hj0 : (j 0).val = (y 1).val) (hj1 : (j 1).val = (y 0).val)
    (h0 : (y 0).val = r0 + (x 0).val) (h1 : (y 1).val = c + (x 1).val) :
    codeA (gateL t x0 xs2 r0 c i0) (upL t x0 xs2 r1 c i1) x = codes (T := 1280) (K := 256) (G := 8) rfl 0x3B124925#32 0xC3E00000#32 0x43E00000#32 (actB x0 xs2) j := by
  have hx : (x 0).val < 32 := (x 0).isLt
  have hy : (y 0).val < 256 := (y 0).isLt
  rw [codeA_eq]
  exact congrArg₂ (gcode _ _ _) (funext fun k => congrArg₂ act (gateL_eq t x0 xs2 r0 c i0 k _ _ _ (hj0.trans h1) (show 32 * ((j 1).val / 32) + k.val = r0 + k.val from by omega)) (upL_eq t x0 xs2 r1 c i1 k _ _ _ (hj0.trans h1) (show 256 + (32 * ((j 1).val / 32) + k.val) = r1 + k.val from by omega))) (Fin.ext (by show (x 0).val = (j 1).val % 32; omega))

include hr0 hr1 in
theorem scaleG_at (x : S1x256.Idx) (y : S8x1280.Idx) (h0 : (y 0).val = gi + (x 0).val) (h1 : (y 1).val = c + (x 1).val) :
    scaleG (gateL t x0 xs2 r0 c i0) (upL t x0 xs2 r1 c i1) (duSL t x0 xs3 r0 c i2) x = scales (T := 1280) (K := 256) (G := 8) rfl 0x37924925#32 (dgateB x0 xs2 xs3) y := by
  have hx : (x 0).val < 1 := (x 0).isLt
  rw [scaleG_eq]
  exact congrArg (gscale _) (funext fun k => congr (congrArg₂ dgate (gateL_eq t x0 xs2 r0 c i0 k _ _ _ h1 (show 32 * ((y 0).val) + k.val = r0 + k.val from by omega)) (upL_eq t x0 xs2 r1 c i1 k _ _ _ h1 (show 256 + (32 * ((y 0).val) + k.val) = r1 + k.val from by omega))) (duSL_eq t x0 xs3 r0 c i2 k _ _ _ h1 (show 32 * ((y 0).val) + k.val = r0 + k.val from by omega)))

include hr0 hr1 in
theorem wideG_at (x : S32x256.Idx) (y : S256x1280.Idx) (h0 : (y 0).val = r0 + (x 0).val) (h1 : (y 1).val = c + (x 1).val) :
    wideG (gateL t x0 xs2 r0 c i0) (upL t x0 xs2 r1 c i1) (duSL t x0 xs3 r0 c i2) x = wide (T := 1280) (K := 256) (G := 8) rfl 0x37924925#32 0xC7600000#32 0x47600000#32 (dgateB x0 xs2 xs3) y := by
  have hx : (x 0).val < 32 := (x 0).isLt
  have hy : (y 0).val < 256 := (y 0).isLt
  rw [wideG_eq]
  exact congrArg₂ (gwide _ _ _) (funext fun k => congr (congrArg₂ dgate (gateL_eq t x0 xs2 r0 c i0 k _ _ _ h1 (show 32 * ((y 0).val / 32) + k.val = r0 + k.val from by omega)) (upL_eq t x0 xs2 r1 c i1 k _ _ _ h1 (show 256 + (32 * ((y 0).val / 32) + k.val) = r1 + k.val from by omega))) (duSL_eq t x0 xs3 r0 c i2 k _ _ _ h1 (show 32 * ((y 0).val / 32) + k.val = r0 + k.val from by omega))) (Fin.ext (by show (x 0).val = (y 0).val % 32; omega))

include hr0 hr1 in
theorem codeG_at (x : S32x256.Idx) (y : S256x1280.Idx) (j : S1280x256.Idx) (hj0 : (j 0).val = (y 1).val) (hj1 : (j 1).val = (y 0).val)
    (h0 : (y 0).val = r0 + (x 0).val) (h1 : (y 1).val = c + (x 1).val) :
    codeG (gateL t x0 xs2 r0 c i0) (upL t x0 xs2 r1 c i1) (duSL t x0 xs3 r0 c i2) x = codes (T := 1280) (K := 256) (G := 8) rfl 0x37924925#32 0xC7600000#32 0x47600000#32 (dgateB x0 xs2 xs3) j := by
  have hx : (x 0).val < 32 := (x 0).isLt
  have hy : (y 0).val < 256 := (y 0).isLt
  rw [codeG_eq]
  exact congrArg₂ (gcode _ _ _) (funext fun k => congr (congrArg₂ dgate (gateL_eq t x0 xs2 r0 c i0 k _ _ _ (hj0.trans h1) (show 32 * ((j 1).val / 32) + k.val = r0 + k.val from by omega)) (upL_eq t x0 xs2 r1 c i1 k _ _ _ (hj0.trans h1) (show 256 + (32 * ((j 1).val / 32) + k.val) = r1 + k.val from by omega))) (duSL_eq t x0 xs3 r0 c i2 k _ _ _ (hj0.trans h1) (show 32 * ((j 1).val / 32) + k.val = r0 + k.val from by omega))) (Fin.ext (by show (x 0).val = (j 1).val % 32; omega))

include hr0 in
theorem scaleU_at (x : S1x256.Idx) (y : S8x1280.Idx) (h0 : (y 0).val = gi + (x 0).val) (h1 : (y 1).val = c + (x 1).val) :
    scaleU (gateL t x0 xs2 r0 c i0) (duSL t x0 xs3 r0 c i2) x = scales (T := 1280) (K := 256) (G := 8) rfl 0x37924925#32 (dupB x0 xs2 xs3) y := by
  have hx : (x 0).val < 1 := (x 0).isLt
  rw [scaleU_eq]
  exact congrArg (gscale _) (funext fun k => congrArg₂ dup (gateL_eq t x0 xs2 r0 c i0 k _ _ _ h1 (show 32 * ((y 0).val) + k.val = r0 + k.val from by omega)) (duSL_eq t x0 xs3 r0 c i2 k _ _ _ h1 (show 32 * ((y 0).val) + k.val = r0 + k.val from by omega)))

include hr0 in
theorem wideU_at (x : S32x256.Idx) (y : S256x1280.Idx) (h0 : (y 0).val = r0 + (x 0).val) (h1 : (y 1).val = c + (x 1).val) :
    wideU (gateL t x0 xs2 r0 c i0) (duSL t x0 xs3 r0 c i2) x = wide (T := 1280) (K := 256) (G := 8) rfl 0x37924925#32 0xC7600000#32 0x47600000#32 (dupB x0 xs2 xs3) y := by
  have hx : (x 0).val < 32 := (x 0).isLt
  have hy : (y 0).val < 256 := (y 0).isLt
  rw [wideU_eq]
  exact congrArg₂ (gwide _ _ _) (funext fun k => congrArg₂ dup (gateL_eq t x0 xs2 r0 c i0 k _ _ _ h1 (show 32 * ((y 0).val / 32) + k.val = r0 + k.val from by omega)) (duSL_eq t x0 xs3 r0 c i2 k _ _ _ h1 (show 32 * ((y 0).val / 32) + k.val = r0 + k.val from by omega))) (Fin.ext (by show (x 0).val = (y 0).val % 32; omega))

include hr0 in
theorem codeU_at (x : S32x256.Idx) (y : S256x1280.Idx) (j : S1280x256.Idx) (hj0 : (j 0).val = (y 1).val) (hj1 : (j 1).val = (y 0).val)
    (h0 : (y 0).val = r0 + (x 0).val) (h1 : (y 1).val = c + (x 1).val) :
    codeU (gateL t x0 xs2 r0 c i0) (duSL t x0 xs3 r0 c i2) x = codes (T := 1280) (K := 256) (G := 8) rfl 0x37924925#32 0xC7600000#32 0x47600000#32 (dupB x0 xs2 xs3) j := by
  have hx : (x 0).val < 32 := (x 0).isLt
  have hy : (y 0).val < 256 := (y 0).isLt
  rw [codeU_eq]
  exact congrArg₂ (gcode _ _ _) (funext fun k => congrArg₂ dup (gateL_eq t x0 xs2 r0 c i0 k _ _ _ (hj0.trans h1) (show 32 * ((j 1).val / 32) + k.val = r0 + k.val from by omega)) (duSL_eq t x0 xs3 r0 c i2 k _ _ _ (hj0.trans h1) (show 32 * ((j 1).val / 32) + k.val = r0 + k.val from by omega))) (Fin.ext (by show (x 0).val = (j 1).val % 32; omega))

end Pieces

/-- A chain of stores, read where one of them may lie: that store's value there, or the value of the rest. -/
theorem canon_step {A B p q : ℕ} {e : EltTy} (r c : ℕ)
    (inb : ∀ a, (![r, c] : Fin 2 → ℕ) a + (![p, q] : Fin 2 → ℕ) a ≤ (⟨2, ![A, B]⟩ : Shape).size a)
    (w : (⟨2, ![p, q]⟩ : Shape).Idx → Elt Ideal e) (L : List (View.Piece (Elt Ideal) ⟨2, ![A, B]⟩ e)) (y : (⟨2, ![A, B]⟩ : Shape).Idx) (v : Elt Ideal e)
    (h1 : ∀ x : (⟨2, ![p, q]⟩ : Shape).Idx, (y 0).val = r + (x 0).val → (y 1).val = c + (x 1).val → w x = v)
    (h2 : ¬(r ≤ (y 0).val ∧ (y 0).val < r + p ∧ c ≤ (y 1).val ∧ (y 1).val < c + q) → View.canon L y = v) :
    View.canon ((⟨Rect.unit (s := ⟨2, ![A, B]⟩) ![r, c] ![p, q] inb, w⟩ : View.Piece (Elt Ideal) ⟨2, ![A, B]⟩ e) :: L) y = v := by
  by_cases hm : y ∈ (Rect.unit (s := ⟨2, ![A, B]⟩) ![r, c] ![p, q] inb).set
  · obtain ⟨x, hx⟩ := (Rect.unit (s := ⟨2, ![A, B]⟩) ![r, c] ![p, q] inb).toLoadRect.exists_idx_of_mem hm
    have hx' : (Rect.unit (s := ⟨2, ![A, B]⟩) ![r, c] ![p, q] inb).emb x = y := hx
    have e0 := Rect.idx_unit_val (s := ⟨2, ![A, B]⟩) ![r, c] ![p, q] inb x 0
    have e1 := Rect.idx_unit_val (s := ⟨2, ![A, B]⟩) ![r, c] ![p, q] inb x 1
    refine (congrArg _ hx'.symm).trans ((View.canon_cons_emb _ w L x).trans ?_)
    exact h1 x ((congrArg (fun z : (⟨2, ![A, B]⟩ : Shape).Idx => (z 0).val) hx).symm.trans e0) ((congrArg (fun z : (⟨2, ![A, B]⟩ : Shape).Idx => (z 1).val) hx).symm.trans e1)
  · refine (View.canon_cons_of_not_mem _ _ hm).trans (h2 fun h => hm (Rect.mem_set_unit.mpr fun a => ?_))
    match a with
    | ⟨0, _⟩ => exact ⟨h.1, h.2.1⟩
    | ⟨1, _⟩ => exact ⟨h.2.2.1, h.2.2.2⟩

/-- A square of stored codes, turned. -/
abbrev turnA (v : Vec Ideal S256x256 .bf16) : FVec Ideal S256x256 .fp8e4m3 := k0_pay1209 v
abbrev turnG (v : Vec Ideal S256x256 .bf16) : FVec Ideal S256x256 .fp8e5m2 := k0_pay1210 v
theorem turnA_eq (v : Vec Ideal S256x256 .bf16) (x : S256x256.Idx) : turnA v x = v (ix2 (x 1) (x 0)) := by
  obtain ⟨a, b, rfl⟩ : ∃ a b, x = ix2 a b := ⟨x 0, x 1, Shape.idx_ext₂ rfl rfl⟩
  exact transpose_ix2_apply v transposes_S256x256_p1_0_S256x256 a b
theorem turnG_eq (v : Vec Ideal S256x256 .bf16) (x : S256x256.Idx) : turnG v x = v (ix2 (x 1) (x 0)) := by
  obtain ⟨a, b, rfl⟩ : ∃ a b, x = ix2 a b := ⟨x 0, x 1, Shape.idx_ext₂ rfl rfl⟩
  exact transpose_ix2_apply v transposes_S256x256_p1_0_S256x256 a b

end Cert.MlpIdeal.RefValue
end
-- ==== Proof.MlpBlock6.lean ====
/-
  The MLP's kernel: codes of the activation of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

set_option maxHeartbeats 4000000 in
/-- The codes of the activation that a later point leaves: stored group by group, read back turned. -/
theorem out6_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = codes (T := 1280) (K := 256) (G := 8) rfl 0x3B124925#32 0xC3E00000#32 0x43E00000#32 (actB x0 xs2) := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  have hy0 : (y 0).val < 1280 := (y 0).isLt
  have hy1 : (y 1).val < 256 := (y 1).isLt
  unfold kernelRun0_B
  dsimp only
  sl_unfold_words
  canon_tiles x h using (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · have hx0 : (x 0).val < 256 := (x 0).isLt
    refine (turnA_eq _ x).trans ?_
    rw [View.readCov_eq_canon']
    have e0 := Rect.idx_unit_val (s := S256x1280) ![0, 1024] S256x256.size inb_S256x1280_S256x256_0_1024 (ix2 (x 1) (x 0)) 0
    have e1 := Rect.idx_unit_val (s := S256x1280) ![0, 1024] S256x256.size inb_S256x1280_S256x256_0_1024 (ix2 (x 1) (x 0)) 1
    replace e0 := e0.trans (Nat.zero_add (x 1).val)
    show View.canon _ ((Rect.unit (s := S256x1280) ![0, 1024] S256x256.size inb_S256x1280_S256x256_0_1024).idx (ix2 (x 1) (x 0))) = _
    generalize (Rect.unit (s := S256x1280) ![0, 1024] S256x256.size inb_S256x1280_S256x256_0_1024).idx (ix2 (x 1) (x 0)) = z at e0 e1 ⊢
    replace e1 : (z 1).val = 1024 + (x 0).val := e1
    refine canon_step 224 1024 _ _ _ _ _ (fun w w0 w1 => codeA_at t x0 xs2 7 1024 224 480 rfl rfl inb_S512x1280_S32x256_224_1024 inb_S512x1280_S32x256_480_1024 w z y (by omega) (by omega) w0 w1) (fun n7 => ?_)
    refine canon_step 192 1024 _ _ _ _ _ (fun w w0 w1 => codeA_at t x0 xs2 6 1024 192 448 rfl rfl inb_S512x1280_S32x256_192_1024 inb_S512x1280_S32x256_448_1024 w z y (by omega) (by omega) w0 w1) (fun n6 => ?_)
    refine canon_step 160 1024 _ _ _ _ _ (fun w w0 w1 => codeA_at t x0 xs2 5 1024 160 416 rfl rfl inb_S512x1280_S32x256_160_1024 inb_S512x1280_S32x256_416_1024 w z y (by omega) (by omega) w0 w1) (fun n5 => ?_)
    refine canon_step 128 1024 _ _ _ _ _ (fun w w0 w1 => codeA_at t x0 xs2 4 1024 128 384 rfl rfl inb_S512x1280_S32x256_128_1024 inb_S512x1280_S32x256_384_1024 w z y (by omega) (by omega) w0 w1) (fun n4 => ?_)
    refine canon_step 96 1024 _ _ _ _ _ (fun w w0 w1 => codeA_at t x0 xs2 3 1024 96 352 rfl rfl inb_S512x1280_S32x256_96_1024 inb_S512x1280_S32x256_352_1024 w z y (by omega) (by omega) w0 w1) (fun n3 => ?_)
    refine canon_step 64 1024 _ _ _ _ _ (fun w w0 w1 => codeA_at t x0 xs2 2 1024 64 320 rfl rfl inb_S512x1280_S32x256_64_1024 inb_S512x1280_S32x256_320_1024 w z y (by omega) (by omega) w0 w1) (fun n2 => ?_)
    refine canon_step 32 1024 _ _ _ _ _ (fun w w0 w1 => codeA_at t x0 xs2 1 1024 32 288 rfl rfl inb_S512x1280_S32x256_32_1024 inb_S512x1280_S32x256_288_1024 w z y (by omega) (by omega) w0 w1) (fun n1 => ?_)
    refine canon_step 0 1024 _ _ _ _ _ (fun w w0 w1 => codeA_at t x0 xs2 0 1024 0 256 rfl rfl inb_S512x1280_S32x256_0_1024 inb_S512x1280_S32x256_256_1024 w z y (by omega) (by omega) w0 w1) (fun n0 => ?_)
    omega
  · have hx0 : (x 0).val < 256 := (x 0).isLt
    refine (turnA_eq _ x).trans ?_
    rw [View.readCov_eq_canon']
    have e0 := Rect.idx_unit_val (s := S256x1280) ![0, 768] S256x256.size inb_S256x1280_S256x256_0_768 (ix2 (x 1) (x 0)) 0
    have e1 := Rect.idx_unit_val (s := S256x1280) ![0, 768] S256x256.size inb_S256x1280_S256x256_0_768 (ix2 (x 1) (x 0)) 1
    replace e0 := e0.trans (Nat.zero_add (x 1).val)
    show View.canon _ ((Rect.unit (s := S256x1280) ![0, 768] S256x256.size inb_S256x1280_S256x256_0_768).idx (ix2 (x 1) (x 0))) = _
    generalize (Rect.unit (s := S256x1280) ![0, 768] S256x256.size inb_S256x1280_S256x256_0_768).idx (ix2 (x 1) (x 0)) = z at e0 e1 ⊢
    replace e1 : (z 1).val = 768 + (x 0).val := e1
    refine canon_step 224 768 _ _ _ _ _ (fun w w0 w1 => codeA_at t x0 xs2 7 768 224 480 rfl rfl inb_S512x1280_S32x256_224_768 inb_S512x1280_S32x256_480_768 w z y (by omega) (by omega) w0 w1) (fun n7 => ?_)
    refine canon_step 192 768 _ _ _ _ _ (fun w w0 w1 => codeA_at t x0 xs2 6 768 192 448 rfl rfl inb_S512x1280_S32x256_192_768 inb_S512x1280_S32x256_448_768 w z y (by omega) (by omega) w0 w1) (fun n6 => ?_)
    refine canon_step 160 768 _ _ _ _ _ (fun w w0 w1 => codeA_at t x0 xs2 5 768 160 416 rfl rfl inb_S512x1280_S32x256_160_768 inb_S512x1280_S32x256_416_768 w z y (by omega) (by omega) w0 w1) (fun n5 => ?_)
    refine canon_step 128 768 _ _ _ _ _ (fun w w0 w1 => codeA_at t x0 xs2 4 768 128 384 rfl rfl inb_S512x1280_S32x256_128_768 inb_S512x1280_S32x256_384_768 w z y (by omega) (by omega) w0 w1) (fun n4 => ?_)
    refine canon_step 96 768 _ _ _ _ _ (fun w w0 w1 => codeA_at t x0 xs2 3 768 96 352 rfl rfl inb_S512x1280_S32x256_96_768 inb_S512x1280_S32x256_352_768 w z y (by omega) (by omega) w0 w1) (fun n3 => ?_)
    refine canon_step 64 768 _ _ _ _ _ (fun w w0 w1 => codeA_at t x0 xs2 2 768 64 320 rfl rfl inb_S512x1280_S32x256_64_768 inb_S512x1280_S32x256_320_768 w z y (by omega) (by omega) w0 w1) (fun n2 => ?_)
    refine canon_step 32 768 _ _ _ _ _ (fun w w0 w1 => codeA_at t x0 xs2 1 768 32 288 rfl rfl inb_S512x1280_S32x256_32_768 inb_S512x1280_S32x256_288_768 w z y (by omega) (by omega) w0 w1) (fun n1 => ?_)
    refine canon_step 0 768 _ _ _ _ _ (fun w w0 w1 => codeA_at t x0 xs2 0 768 0 256 rfl rfl inb_S512x1280_S32x256_0_768 inb_S512x1280_S32x256_256_768 w z y (by omega) (by omega) w0 w1) (fun n0 => ?_)
    omega
  · have hx0 : (x 0).val < 256 := (x 0).isLt
    refine (turnA_eq _ x).trans ?_
    rw [View.readCov_eq_canon']
    have e0 := Rect.idx_unit_val (s := S256x1280) ![0, 512] S256x256.size inb_S256x1280_S256x256_0_512 (ix2 (x 1) (x 0)) 0
    have e1 := Rect.idx_unit_val (s := S256x1280) ![0, 512] S256x256.size inb_S256x1280_S256x256_0_512 (ix2 (x 1) (x 0)) 1
    replace e0 := e0.trans (Nat.zero_add (x 1).val)
    show View.canon _ ((Rect.unit (s := S256x1280) ![0, 512] S256x256.size inb_S256x1280_S256x256_0_512).idx (ix2 (x 1) (x 0))) = _
    generalize (Rect.unit (s := S256x1280) ![0, 512] S256x256.size inb_S256x1280_S256x256_0_512).idx (ix2 (x 1) (x 0)) = z at e0 e1 ⊢
    replace e1 : (z 1).val = 512 + (x 0).val := e1
    refine canon_step 224 512 _ _ _ _ _ (fun w w0 w1 => codeA_at t x0 xs2 7 512 224 480 rfl rfl inb_S512x1280_S32x256_224_512 inb_S512x1280_S32x256_480_512 w z y (by omega) (by omega) w0 w1) (fun n7 => ?_)
    refine canon_step 192 512 _ _ _ _ _ (fun w w0 w1 => codeA_at t x0 xs2 6 512 192 448 rfl rfl inb_S512x1280_S32x256_192_512 inb_S512x1280_S32x256_448_512 w z y (by omega) (by omega) w0 w1) (fun n6 => ?_)
    refine canon_step 160 512 _ _ _ _ _ (fun w w0 w1 => codeA_at t x0 xs2 5 512 160 416 rfl rfl inb_S512x1280_S32x256_160_512 inb_S512x1280_S32x256_416_512 w z y (by omega) (by omega) w0 w1) (fun n5 => ?_)
    refine canon_step 128 512 _ _ _ _ _ (fun w w0 w1 => codeA_at t x0 xs2 4 512 128 384 rfl rfl inb_S512x1280_S32x256_128_512 inb_S512x1280_S32x256_384_512 w z y (by omega) (by omega) w0 w1) (fun n4 => ?_)
    refine canon_step 96 512 _ _ _ _ _ (fun w w0 w1 => codeA_at t x0 xs2 3 512 96 352 rfl rfl inb_S512x1280_S32x256_96_512 inb_S512x1280_S32x256_352_512 w z y (by omega) (by omega) w0 w1) (fun n3 => ?_)
    refine canon_step 64 512 _ _ _ _ _ (fun w w0 w1 => codeA_at t x0 xs2 2 512 64 320 rfl rfl inb_S512x1280_S32x256_64_512 inb_S512x1280_S32x256_320_512 w z y (by omega) (by omega) w0 w1) (fun n2 => ?_)
    refine canon_step 32 512 _ _ _ _ _ (fun w w0 w1 => codeA_at t x0 xs2 1 512 32 288 rfl rfl inb_S512x1280_S32x256_32_512 inb_S512x1280_S32x256_288_512 w z y (by omega) (by omega) w0 w1) (fun n1 => ?_)
    refine canon_step 0 512 _ _ _ _ _ (fun w w0 w1 => codeA_at t x0 xs2 0 512 0 256 rfl rfl inb_S512x1280_S32x256_0_512 inb_S512x1280_S32x256_256_512 w z y (by omega) (by omega) w0 w1) (fun n0 => ?_)
    omega
  · have hx0 : (x 0).val < 256 := (x 0).isLt
    refine (turnA_eq _ x).trans ?_
    rw [View.readCov_eq_canon']
    have e0 := Rect.idx_unit_val (s := S256x1280) ![0, 256] S256x256.size inb_S256x1280_S256x256_0_256 (ix2 (x 1) (x 0)) 0
    have e1 := Rect.idx_unit_val (s := S256x1280) ![0, 256] S256x256.size inb_S256x1280_S256x256_0_256 (ix2 (x 1) (x 0)) 1
    replace e0 := e0.trans (Nat.zero_add (x 1).val)
    show View.canon _ ((Rect.unit (s := S256x1280) ![0, 256] S256x256.size inb_S256x1280_S256x256_0_256).idx (ix2 (x 1) (x 0))) = _
    generalize (Rect.unit (s := S256x1280) ![0, 256] S256x256.size inb_S256x1280_S256x256_0_256).idx (ix2 (x 1) (x 0)) = z at e0 e1 ⊢
    replace e1 : (z 1).val = 256 + (x 0).val := e1
    refine canon_step 224 256 _ _ _ _ _ (fun w w0 w1 => codeA_at t x0 xs2 7 256 224 480 rfl rfl inb_S512x1280_S32x256_224_256 inb_S512x1280_S32x256_480_256 w z y (by omega) (by omega) w0 w1) (fun n7 => ?_)
    refine canon_step 192 256 _ _ _ _ _ (fun w w0 w1 => codeA_at t x0 xs2 6 256 192 448 rfl rfl inb_S512x1280_S32x256_192_256 inb_S512x1280_S32x256_448_256 w z y (by omega) (by omega) w0 w1) (fun n6 => ?_)
    refine canon_step 160 256 _ _ _ _ _ (fun w w0 w1 => codeA_at t x0 xs2 5 256 160 416 rfl rfl inb_S512x1280_S32x256_160_256 inb_S512x1280_S32x256_416_256 w z y (by omega) (by omega) w0 w1) (fun n5 => ?_)
    refine canon_step 128 256 _ _ _ _ _ (fun w w0 w1 => codeA_at t x0 xs2 4 256 128 384 rfl rfl inb_S512x1280_S32x256_128_256 inb_S512x1280_S32x256_384_256 w z y (by omega) (by omega) w0 w1) (fun n4 => ?_)
    refine canon_step 96 256 _ _ _ _ _ (fun w w0 w1 => codeA_at t x0 xs2 3 256 96 352 rfl rfl inb_S512x1280_S32x256_96_256 inb_S512x1280_S32x256_352_256 w z y (by omega) (by omega) w0 w1) (fun n3 => ?_)
    refine canon_step 64 256 _ _ _ _ _ (fun w w0 w1 => codeA_at t x0 xs2 2 256 64 320 rfl rfl inb_S512x1280_S32x256_64_256 inb_S512x1280_S32x256_320_256 w z y (by omega) (by omega) w0 w1) (fun n2 => ?_)
    refine canon_step 32 256 _ _ _ _ _ (fun w w0 w1 => codeA_at t x0 xs2 1 256 32 288 rfl rfl inb_S512x1280_S32x256_32_256 inb_S512x1280_S32x256_288_256 w z y (by omega) (by omega) w0 w1) (fun n1 => ?_)
    refine canon_step 0 256 _ _ _ _ _ (fun w w0 w1 => codeA_at t x0 xs2 0 256 0 256 rfl rfl inb_S512x1280_S32x256_0_256 inb_S512x1280_S32x256_256_256 w z y (by omega) (by omega) w0 w1) (fun n0 => ?_)
    omega
  · have hx0 : (x 0).val < 256 := (x 0).isLt
    refine (turnA_eq _ x).trans ?_
    rw [View.readCov_eq_canon']
    have e0 := Rect.idx_unit_val (s := S256x1280) ![0, 0] S256x256.size inb_S256x1280_S256x256_0_0 (ix2 (x 1) (x 0)) 0
    have e1 := Rect.idx_unit_val (s := S256x1280) ![0, 0] S256x256.size inb_S256x1280_S256x256_0_0 (ix2 (x 1) (x 0)) 1
    replace e0 := e0.trans (Nat.zero_add (x 1).val)
    show View.canon _ ((Rect.unit (s := S256x1280) ![0, 0] S256x256.size inb_S256x1280_S256x256_0_0).idx (ix2 (x 1) (x 0))) = _
    generalize (Rect.unit (s := S256x1280) ![0, 0] S256x256.size inb_S256x1280_S256x256_0_0).idx (ix2 (x 1) (x 0)) = z at e0 e1 ⊢
    replace e1 : (z 1).val = 0 + (x 0).val := e1
    refine canon_step 224 0 _ _ _ _ _ (fun w w0 w1 => codeA_at t x0 xs2 7 0 224 480 rfl rfl inb_S512x1280_S32x256_224_0 inb_S512x1280_S32x256_480_0 w z y (by omega) (by omega) w0 w1) (fun n7 => ?_)
    refine canon_step 192 0 _ _ _ _ _ (fun w w0 w1 => codeA_at t x0 xs2 6 0 192 448 rfl rfl inb_S512x1280_S32x256_192_0 inb_S512x1280_S32x256_448_0 w z y (by omega) (by omega) w0 w1) (fun n6 => ?_)
    refine canon_step 160 0 _ _ _ _ _ (fun w w0 w1 => codeA_at t x0 xs2 5 0 160 416 rfl rfl inb_S512x1280_S32x256_160_0 inb_S512x1280_S32x256_416_0 w z y (by omega) (by omega) w0 w1) (fun n5 => ?_)
    refine canon_step 128 0 _ _ _ _ _ (fun w w0 w1 => codeA_at t x0 xs2 4 0 128 384 rfl rfl inb_S512x1280_S32x256_128_0 inb_S512x1280_S32x256_384_0 w z y (by omega) (by omega) w0 w1) (fun n4 => ?_)
    refine canon_step 96 0 _ _ _ _ _ (fun w w0 w1 => codeA_at t x0 xs2 3 0 96 352 rfl rfl inb_S512x1280_S32x256_96_0 inb_S512x1280_S32x256_352_0 w z y (by omega) (by omega) w0 w1) (fun n3 => ?_)
    refine canon_step 64 0 _ _ _ _ _ (fun w w0 w1 => codeA_at t x0 xs2 2 0 64 320 rfl rfl inb_S512x1280_S32x256_64_0 inb_S512x1280_S32x256_320_0 w z y (by omega) (by omega) w0 w1) (fun n2 => ?_)
    refine canon_step 32 0 _ _ _ _ _ (fun w w0 w1 => codeA_at t x0 xs2 1 0 32 288 rfl rfl inb_S512x1280_S32x256_32_0 inb_S512x1280_S32x256_288_0 w z y (by omega) (by omega) w0 w1) (fun n1 => ?_)
    refine canon_step 0 0 _ _ _ _ _ (fun w w0 w1 => codeA_at t x0 xs2 0 0 0 256 rfl rfl inb_S512x1280_S32x256_0_0 inb_S512x1280_S32x256_256_0 w z y (by omega) (by omega) w0 w1) (fun n0 => ?_)
    omega

end Cert.MlpIdeal.RefValue
end
-- ==== Proof.MlpBlock7.lean ====
/-
  The MLP's kernel: codes of the gate's gradient of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

set_option maxHeartbeats 4000000 in
/-- The codes of the gate's gradient that a later point leaves: stored group by group, read back turned. -/
theorem out7_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = codes (T := 1280) (K := 256) (G := 8) rfl 0x37924925#32 0xC7600000#32 0x47600000#32 (dgateB x0 xs2 xs3) := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  have hy0 : (y 0).val < 1280 := (y 0).isLt
  have hy1 : (y 1).val < 256 := (y 1).isLt
  unfold kernelRun0_B
  dsimp only
  sl_unfold_words
  canon_tiles x h using (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · have hx0 : (x 0).val < 256 := (x 0).isLt
    refine (turnG_eq _ x).trans ?_
    rw [View.readCov_eq_canon']
    have e0 := Rect.idx_unit_val (s := S256x1280) ![0, 1024] S256x256.size inb_S256x1280_S256x256_0_1024 (ix2 (x 1) (x 0)) 0
    have e1 := Rect.idx_unit_val (s := S256x1280) ![0, 1024] S256x256.size inb_S256x1280_S256x256_0_1024 (ix2 (x 1) (x 0)) 1
    replace e0 := e0.trans (Nat.zero_add (x 1).val)
    show View.canon _ ((Rect.unit (s := S256x1280) ![0, 1024] S256x256.size inb_S256x1280_S256x256_0_1024).idx (ix2 (x 1) (x 0))) = _
    generalize (Rect.unit (s := S256x1280) ![0, 1024] S256x256.size inb_S256x1280_S256x256_0_1024).idx (ix2 (x 1) (x 0)) = z at e0 e1 ⊢
    replace e1 : (z 1).val = 1024 + (x 0).val := e1
    refine canon_step 224 1024 _ _ _ _ _ (fun w w0 w1 => codeG_at t x0 xs2 xs3 7 1024 224 480 rfl rfl inb_S512x1280_S32x256_224_1024 inb_S512x1280_S32x256_480_1024 inb_S256x1280_S32x256_224_1024 w z y (by omega) (by omega) w0 w1) (fun n7 => ?_)
    refine canon_step 192 1024 _ _ _ _ _ (fun w w0 w1 => codeG_at t x0 xs2 xs3 6 1024 192 448 rfl rfl inb_S512x1280_S32x256_192_1024 inb_S512x1280_S32x256_448_1024 inb_S256x1280_S32x256_192_1024 w z y (by omega) (by omega) w0 w1) (fun n6 => ?_)
    refine canon_step 160 1024 _ _ _ _ _ (fun w w0 w1 => codeG_at t x0 xs2 xs3 5 1024 160 416 rfl rfl inb_S512x1280_S32x256_160_1024 inb_S512x1280_S32x256_416_1024 inb_S256x1280_S32x256_160_1024 w z y (by omega) (by omega) w0 w1) (fun n5 => ?_)
    refine canon_step 128 1024 _ _ _ _ _ (fun w w0 w1 => codeG_at t x0 xs2 xs3 4 1024 128 384 rfl rfl inb_S512x1280_S32x256_128_1024 inb_S512x1280_S32x256_384_1024 inb_S256x1280_S32x256_128_1024 w z y (by omega) (by omega) w0 w1) (fun n4 => ?_)
    refine canon_step 96 1024 _ _ _ _ _ (fun w w0 w1 => codeG_at t x0 xs2 xs3 3 1024 96 352 rfl rfl inb_S512x1280_S32x256_96_1024 inb_S512x1280_S32x256_352_1024 inb_S256x1280_S32x256_96_1024 w z y (by omega) (by omega) w0 w1) (fun n3 => ?_)
    refine canon_step 64 1024 _ _ _ _ _ (fun w w0 w1 => codeG_at t x0 xs2 xs3 2 1024 64 320 rfl rfl inb_S512x1280_S32x256_64_1024 inb_S512x1280_S32x256_320_1024 inb_S256x1280_S32x256_64_1024 w z y (by omega) (by omega) w0 w1) (fun n2 => ?_)
    refine canon_step 32 1024 _ _ _ _ _ (fun w w0 w1 => codeG_at t x0 xs2 xs3 1 1024 32 288 rfl rfl inb_S512x1280_S32x256_32_1024 inb_S512x1280_S32x256_288_1024 inb_S256x1280_S32x256_32_1024 w z y (by omega) (by omega) w0 w1) (fun n1 => ?_)
    refine canon_step 0 1024 _ _ _ _ _ (fun w w0 w1 => codeG_at t x0 xs2 xs3 0 1024 0 256 rfl rfl inb_S512x1280_S32x256_0_1024 inb_S512x1280_S32x256_256_1024 inb_S256x1280_S32x256_0_1024 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 768] S256x256.size inb_S256x1280_S256x256_0_768 (ix2 (x 1) (x 0)) 0
    have e1 := Rect.idx_unit_val (s := S256x1280) ![0, 768] S256x256.size inb_S256x1280_S256x256_0_768 (ix2 (x 1) (x 0)) 1
    replace e0 := e0.trans (Nat.zero_add (x 1).val)
    show View.canon _ ((Rect.unit (s := S256x1280) ![0, 768] S256x256.size inb_S256x1280_S256x256_0_768).idx (ix2 (x 1) (x 0))) = _
    generalize (Rect.unit (s := S256x1280) ![0, 768] S256x256.size inb_S256x1280_S256x256_0_768).idx (ix2 (x 1) (x 0)) = z at e0 e1 ⊢
    replace e1 : (z 1).val = 768 + (x 0).val := e1
    refine canon_step 224 768 _ _ _ _ _ (fun w w0 w1 => codeG_at t x0 xs2 xs3 7 768 224 480 rfl rfl inb_S512x1280_S32x256_224_768 inb_S512x1280_S32x256_480_768 inb_S256x1280_S32x256_224_768 w z y (by omega) (by omega) w0 w1) (fun n7 => ?_)
    refine canon_step 192 768 _ _ _ _ _ (fun w w0 w1 => codeG_at t x0 xs2 xs3 6 768 192 448 rfl rfl inb_S512x1280_S32x256_192_768 inb_S512x1280_S32x256_448_768 inb_S256x1280_S32x256_192_768 w z y (by omega) (by omega) w0 w1) (fun n6 => ?_)
    refine canon_step 160 768 _ _ _ _ _ (fun w w0 w1 => codeG_at t x0 xs2 xs3 5 768 160 416 rfl rfl inb_S512x1280_S32x256_160_768 inb_S512x1280_S32x256_416_768 inb_S256x1280_S32x256_160_768 w z y (by omega) (by omega) w0 w1) (fun n5 => ?_)
    refine canon_step 128 768 _ _ _ _ _ (fun w w0 w1 => codeG_at t x0 xs2 xs3 4 768 128 384 rfl rfl inb_S512x1280_S32x256_128_768 inb_S512x1280_S32x256_384_768 inb_S256x1280_S32x256_128_768 w z y (by omega) (by omega) w0 w1) (fun n4 => ?_)
    refine canon_step 96 768 _ _ _ _ _ (fun w w0 w1 => codeG_at t x0 xs2 xs3 3 768 96 352 rfl rfl inb_S512x1280_S32x256_96_768 inb_S512x1280_S32x256_352_768 inb_S256x1280_S32x256_96_768 w z y (by omega) (by omega) w0 w1) (fun n3 => ?_)
    refine canon_step 64 768 _ _ _ _ _ (fun w w0 w1 => codeG_at t x0 xs2 xs3 2 768 64 320 rfl rfl inb_S512x1280_S32x256_64_768 inb_S512x1280_S32x256_320_768 inb_S256x1280_S32x256_64_768 w z y (by omega) (by omega) w0 w1) (fun n2 => ?_)
    refine canon_step 32 768 _ _ _ _ _ (fun w w0 w1 => codeG_at t x0 xs2 xs3 1 768 32 288 rfl rfl inb_S512x1280_S32x256_32_768 inb_S512x1280_S32x256_288_768 inb_S256x1280_S32x256_32_768 w z y (by omega) (by omega) w0 w1) (fun n1 => ?_)
    refine canon_step 0 768 _ _ _ _ _ (fun w w0 w1 => codeG_at t x0 xs2 xs3 0 768 0 256 rfl rfl inb_S512x1280_S32x256_0_768 inb_S512x1280_S32x256_256_768 inb_S256x1280_S32x256_0_768 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 512] S256x256.size inb_S256x1280_S256x256_0_512 (ix2 (x 1) (x 0)) 0
    have e1 := Rect.idx_unit_val (s := S256x1280) ![0, 512] S256x256.size inb_S256x1280_S256x256_0_512 (ix2 (x 1) (x 0)) 1
    replace e0 := e0.trans (Nat.zero_add (x 1).val)
    show View.canon _ ((Rect.unit (s := S256x1280) ![0, 512] S256x256.size inb_S256x1280_S256x256_0_512).idx (ix2 (x 1) (x 0))) = _
    generalize (Rect.unit (s := S256x1280) ![0, 512] S256x256.size inb_S256x1280_S256x256_0_512).idx (ix2 (x 1) (x 0)) = z at e0 e1 ⊢
    replace e1 : (z 1).val = 512 + (x 0).val := e1
    refine canon_step 224 512 _ _ _ _ _ (fun w w0 w1 => codeG_at t x0 xs2 xs3 7 512 224 480 rfl rfl inb_S512x1280_S32x256_224_512 inb_S512x1280_S32x256_480_512 inb_S256x1280_S32x256_224_512 w z y (by omega) (by omega) w0 w1) (fun n7 => ?_)
    refine canon_step 192 512 _ _ _ _ _ (fun w w0 w1 => codeG_at t x0 xs2 xs3 6 512 192 448 rfl rfl inb_S512x1280_S32x256_192_512 inb_S512x1280_S32x256_448_512 inb_S256x1280_S32x256_192_512 w z y (by omega) (by omega) w0 w1) (fun n6 => ?_)
    refine canon_step 160 512 _ _ _ _ _ (fun w w0 w1 => codeG_at t x0 xs2 xs3 5 512 160 416 rfl rfl inb_S512x1280_S32x256_160_512 inb_S512x1280_S32x256_416_512 inb_S256x1280_S32x256_160_512 w z y (by omega) (by omega) w0 w1) (fun n5 => ?_)
    refine canon_step 128 512 _ _ _ _ _ (fun w w0 w1 => codeG_at t x0 xs2 xs3 4 512 128 384 rfl rfl inb_S512x1280_S32x256_128_512 inb_S512x1280_S32x256_384_512 inb_S256x1280_S32x256_128_512 w z y (by omega) (by omega) w0 w1) (fun n4 => ?_)
    refine canon_step 96 512 _ _ _ _ _ (fun w w0 w1 => codeG_at t x0 xs2 xs3 3 512 96 352 rfl rfl inb_S512x1280_S32x256_96_512 inb_S512x1280_S32x256_352_512 inb_S256x1280_S32x256_96_512 w z y (by omega) (by omega) w0 w1) (fun n3 => ?_)
    refine canon_step 64 512 _ _ _ _ _ (fun w w0 w1 => codeG_at t x0 xs2 xs3 2 512 64 320 rfl rfl inb_S512x1280_S32x256_64_512 inb_S512x1280_S32x256_320_512 inb_S256x1280_S32x256_64_512 w z y (by omega) (by omega) w0 w1) (fun n2 => ?_)
    refine canon_step 32 512 _ _ _ _ _ (fun w w0 w1 => codeG_at t x0 xs2 xs3 1 512 32 288 rfl rfl inb_S512x1280_S32x256_32_512 inb_S512x1280_S32x256_288_512 inb_S256x1280_S32x256_32_512 w z y (by omega) (by omega) w0 w1) (fun n1 => ?_)
    refine canon_step 0 512 _ _ _ _ _ (fun w w0 w1 => codeG_at t x0 xs2 xs3 0 512 0 256 rfl rfl inb_S512x1280_S32x256_0_512 inb_S512x1280_S32x256_256_512 inb_S256x1280_S32x256_0_512 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 256] S256x256.size inb_S256x1280_S256x256_0_256 (ix2 (x 1) (x 0)) 0
    have e1 := Rect.idx_unit_val (s := S256x1280) ![0, 256] S256x256.size inb_S256x1280_S256x256_0_256 (ix2 (x 1) (x 0)) 1
    replace e0 := e0.trans (Nat.zero_add (x 1).val)
    show View.canon _ ((Rect.unit (s := S256x1280) ![0, 256] S256x256.size inb_S256x1280_S256x256_0_256).idx (ix2 (x 1) (x 0))) = _
    generalize (Rect.unit (s := S256x1280) ![0, 256] S256x256.size inb_S256x1280_S256x256_0_256).idx (ix2 (x 1) (x 0)) = z at e0 e1 ⊢
    replace e1 : (z 1).val = 256 + (x 0).val := e1
    refine canon_step 224 256 _ _ _ _ _ (fun w w0 w1 => codeG_at t x0 xs2 xs3 7 256 224 480 rfl rfl inb_S512x1280_S32x256_224_256 inb_S512x1280_S32x256_480_256 inb_S256x1280_S32x256_224_256 w z y (by omega) (by omega) w0 w1) (fun n7 => ?_)
    refine canon_step 192 256 _ _ _ _ _ (fun w w0 w1 => codeG_at t x0 xs2 xs3 6 256 192 448 rfl rfl inb_S512x1280_S32x256_192_256 inb_S512x1280_S32x256_448_256 inb_S256x1280_S32x256_192_256 w z y (by omega) (by omega) w0 w1) (fun n6 => ?_)
    refine canon_step 160 256 _ _ _ _ _ (fun w w0 w1 => codeG_at t x0 xs2 xs3 5 256 160 416 rfl rfl inb_S512x1280_S32x256_160_256 inb_S512x1280_S32x256_416_256 inb_S256x1280_S32x256_160_256 w z y (by omega) (by omega) w0 w1) (fun n5 => ?_)
    refine canon_step 128 256 _ _ _ _ _ (fun w w0 w1 => codeG_at t x0 xs2 xs3 4 256 128 384 rfl rfl inb_S512x1280_S32x256_128_256 inb_S512x1280_S32x256_384_256 inb_S256x1280_S32x256_128_256 w z y (by omega) (by omega) w0 w1) (fun n4 => ?_)
    refine canon_step 96 256 _ _ _ _ _ (fun w w0 w1 => codeG_at t x0 xs2 xs3 3 256 96 352 rfl rfl inb_S512x1280_S32x256_96_256 inb_S512x1280_S32x256_352_256 inb_S256x1280_S32x256_96_256 w z y (by omega) (by omega) w0 w1) (fun n3 => ?_)
    refine canon_step 64 256 _ _ _ _ _ (fun w w0 w1 => codeG_at t x0 xs2 xs3 2 256 64 320 rfl rfl inb_S512x1280_S32x256_64_256 inb_S512x1280_S32x256_320_256 inb_S256x1280_S32x256_64_256 w z y (by omega) (by omega) w0 w1) (fun n2 => ?_)
    refine canon_step 32 256 _ _ _ _ _ (fun w w0 w1 => codeG_at t x0 xs2 xs3 1 256 32 288 rfl rfl inb_S512x1280_S32x256_32_256 inb_S512x1280_S32x256_288_256 inb_S256x1280_S32x256_32_256 w z y (by omega) (by omega) w0 w1) (fun n1 => ?_)
    refine canon_step 0 256 _ _ _ _ _ (fun w w0 w1 => codeG_at t x0 xs2 xs3 0 256 0 256 rfl rfl inb_S512x1280_S32x256_0_256 inb_S512x1280_S32x256_256_256 inb_S256x1280_S32x256_0_256 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 0] S256x256.size inb_S256x1280_S256x256_0_0 (ix2 (x 1) (x 0)) 0
    have e1 := Rect.idx_unit_val (s := S256x1280) ![0, 0] S256x256.size inb_S256x1280_S256x256_0_0 (ix2 (x 1) (x 0)) 1
    replace e0 := e0.trans (Nat.zero_add (x 1).val)
    show View.canon _ ((Rect.unit (s := S256x1280) ![0, 0] S256x256.size inb_S256x1280_S256x256_0_0).idx (ix2 (x 1) (x 0))) = _
    generalize (Rect.unit (s := S256x1280) ![0, 0] S256x256.size inb_S256x1280_S256x256_0_0).idx (ix2 (x 1) (x 0)) = z at e0 e1 ⊢
    replace e1 : (z 1).val = 0 + (x 0).val := e1
    refine canon_step 224 0 _ _ _ _ _ (fun w w0 w1 => codeG_at t x0 xs2 xs3 7 0 224 480 rfl rfl inb_S512x1280_S32x256_224_0 inb_S512x1280_S32x256_480_0 inb_S256x1280_S32x256_224_0 w z y (by omega) (by omega) w0 w1) (fun n7 => ?_)
    refine canon_step 192 0 _ _ _ _ _ (fun w w0 w1 => codeG_at t x0 xs2 xs3 6 0 192 448 rfl rfl inb_S512x1280_S32x256_192_0 inb_S512x1280_S32x256_448_0 inb_S256x1280_S32x256_192_0 w z y (by omega) (by omega) w0 w1) (fun n6 => ?_)
    refine canon_step 160 0 _ _ _ _ _ (fun w w0 w1 => codeG_at t x0 xs2 xs3 5 0 160 416 rfl rfl inb_S512x1280_S32x256_160_0 inb_S512x1280_S32x256_416_0 inb_S256x1280_S32x256_160_0 w z y (by omega) (by omega) w0 w1) (fun n5 => ?_)
    refine canon_step 128 0 _ _ _ _ _ (fun w w0 w1 => codeG_at t x0 xs2 xs3 4 0 128 384 rfl rfl inb_S512x1280_S32x256_128_0 inb_S512x1280_S32x256_384_0 inb_S256x1280_S32x256_128_0 w z y (by omega) (by omega) w0 w1) (fun n4 => ?_)
    refine canon_step 96 0 _ _ _ _ _ (fun w w0 w1 => codeG_at t x0 xs2 xs3 3 0 96 352 rfl rfl inb_S512x1280_S32x256_96_0 inb_S512x1280_S32x256_352_0 inb_S256x1280_S32x256_96_0 w z y (by omega) (by omega) w0 w1) (fun n3 => ?_)
    refine canon_step 64 0 _ _ _ _ _ (fun w w0 w1 => codeG_at t x0 xs2 xs3 2 0 64 320 rfl rfl inb_S512x1280_S32x256_64_0 inb_S512x1280_S32x256_320_0 inb_S256x1280_S32x256_64_0 w z y (by omega) (by omega) w0 w1) (fun n2 => ?_)
    refine canon_step 32 0 _ _ _ _ _ (fun w w0 w1 => codeG_at t x0 xs2 xs3 1 0 32 288 rfl rfl inb_S512x1280_S32x256_32_0 inb_S512x1280_S32x256_288_0 inb_S256x1280_S32x256_32_0 w z y (by omega) (by omega) w0 w1) (fun n1 => ?_)
    refine canon_step 0 0 _ _ _ _ _ (fun w w0 w1 => codeG_at t x0 xs2 xs3 0 0 0 256 rfl rfl inb_S512x1280_S32x256_0_0 inb_S512x1280_S32x256_256_0 inb_S256x1280_S32x256_0_0 w z y (by omega) (by omega) w0 w1) (fun n0 => ?_)
    omega

end Cert.MlpIdeal.RefValue
end
-- ==== Proof.MlpBlock8.lean ====
/-
  The MLP's kernel: codes of the up projection's gradient of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

set_option maxHeartbeats 4000000 in
/-- The codes of the up projection's gradient that a later point leaves: stored group by group, read back turned. -/
theorem out8_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = codes (T := 1280) (K := 256) (G := 8) rfl 0x37924925#32 0xC7600000#32 0x47600000#32 (dupB x0 xs2 xs3) := by
  unfold out0_B_8
  rw [View.read_writes_eq_canon _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  have hy0 : (y 0).val < 1280 := (y 0).isLt
  have hy1 : (y 1).val < 256 := (y 1).isLt
  unfold kernelRun0_B
  dsimp only
  sl_unfold_words
  canon_tiles x h using (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · have hx0 : (x 0).val < 256 := (x 0).isLt
    refine (turnG_eq _ x).trans ?_
    rw [View.readCov_eq_canon']
    have e0 := Rect.idx_unit_val (s := S256x1280) ![0, 1024] S256x256.size inb_S256x1280_S256x256_0_1024 (ix2 (x 1) (x 0)) 0
    have e1 := Rect.idx_unit_val (s := S256x1280) ![0, 1024] S256x256.size inb_S256x1280_S256x256_0_1024 (ix2 (x 1) (x 0)) 1
    replace e0 := e0.trans (Nat.zero_add (x 1).val)
    show View.canon _ ((Rect.unit (s := S256x1280) ![0, 1024] S256x256.size inb_S256x1280_S256x256_0_1024).idx (ix2 (x 1) (x 0))) = _
    generalize (Rect.unit (s := S256x1280) ![0, 1024] S256x256.size inb_S256x1280_S256x256_0_1024).idx (ix2 (x 1) (x 0)) = z at e0 e1 ⊢
    replace e1 : (z 1).val = 1024 + (x 0).val := e1
    refine canon_step 224 1024 _ _ _ _ _ (fun w w0 w1 => codeU_at t x0 xs2 xs3 7 1024 224 rfl inb_S512x1280_S32x256_224_1024 inb_S256x1280_S32x256_224_1024 w z y (by omega) (by omega) w0 w1) (fun n7 => ?_)
    refine canon_step 192 1024 _ _ _ _ _ (fun w w0 w1 => codeU_at t x0 xs2 xs3 6 1024 192 rfl inb_S512x1280_S32x256_192_1024 inb_S256x1280_S32x256_192_1024 w z y (by omega) (by omega) w0 w1) (fun n6 => ?_)
    refine canon_step 160 1024 _ _ _ _ _ (fun w w0 w1 => codeU_at t x0 xs2 xs3 5 1024 160 rfl inb_S512x1280_S32x256_160_1024 inb_S256x1280_S32x256_160_1024 w z y (by omega) (by omega) w0 w1) (fun n5 => ?_)
    refine canon_step 128 1024 _ _ _ _ _ (fun w w0 w1 => codeU_at t x0 xs2 xs3 4 1024 128 rfl inb_S512x1280_S32x256_128_1024 inb_S256x1280_S32x256_128_1024 w z y (by omega) (by omega) w0 w1) (fun n4 => ?_)
    refine canon_step 96 1024 _ _ _ _ _ (fun w w0 w1 => codeU_at t x0 xs2 xs3 3 1024 96 rfl inb_S512x1280_S32x256_96_1024 inb_S256x1280_S32x256_96_1024 w z y (by omega) (by omega) w0 w1) (fun n3 => ?_)
    refine canon_step 64 1024 _ _ _ _ _ (fun w w0 w1 => codeU_at t x0 xs2 xs3 2 1024 64 rfl inb_S512x1280_S32x256_64_1024 inb_S256x1280_S32x256_64_1024 w z y (by omega) (by omega) w0 w1) (fun n2 => ?_)
    refine canon_step 32 1024 _ _ _ _ _ (fun w w0 w1 => codeU_at t x0 xs2 xs3 1 1024 32 rfl inb_S512x1280_S32x256_32_1024 inb_S256x1280_S32x256_32_1024 w z y (by omega) (by omega) w0 w1) (fun n1 => ?_)
    refine canon_step 0 1024 _ _ _ _ _ (fun w w0 w1 => codeU_at t x0 xs2 xs3 0 1024 0 rfl inb_S512x1280_S32x256_0_1024 inb_S256x1280_S32x256_0_1024 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 768] S256x256.size inb_S256x1280_S256x256_0_768 (ix2 (x 1) (x 0)) 0
    have e1 := Rect.idx_unit_val (s := S256x1280) ![0, 768] S256x256.size inb_S256x1280_S256x256_0_768 (ix2 (x 1) (x 0)) 1
    replace e0 := e0.trans (Nat.zero_add (x 1).val)
    show View.canon _ ((Rect.unit (s := S256x1280) ![0, 768] S256x256.size inb_S256x1280_S256x256_0_768).idx (ix2 (x 1) (x 0))) = _
    generalize (Rect.unit (s := S256x1280) ![0, 768] S256x256.size inb_S256x1280_S256x256_0_768).idx (ix2 (x 1) (x 0)) = z at e0 e1 ⊢
    replace e1 : (z 1).val = 768 + (x 0).val := e1
    refine canon_step 224 768 _ _ _ _ _ (fun w w0 w1 => codeU_at t x0 xs2 xs3 7 768 224 rfl inb_S512x1280_S32x256_224_768 inb_S256x1280_S32x256_224_768 w z y (by omega) (by omega) w0 w1) (fun n7 => ?_)
    refine canon_step 192 768 _ _ _ _ _ (fun w w0 w1 => codeU_at t x0 xs2 xs3 6 768 192 rfl inb_S512x1280_S32x256_192_768 inb_S256x1280_S32x256_192_768 w z y (by omega) (by omega) w0 w1) (fun n6 => ?_)
    refine canon_step 160 768 _ _ _ _ _ (fun w w0 w1 => codeU_at t x0 xs2 xs3 5 768 160 rfl inb_S512x1280_S32x256_160_768 inb_S256x1280_S32x256_160_768 w z y (by omega) (by omega) w0 w1) (fun n5 => ?_)
    refine canon_step 128 768 _ _ _ _ _ (fun w w0 w1 => codeU_at t x0 xs2 xs3 4 768 128 rfl inb_S512x1280_S32x256_128_768 inb_S256x1280_S32x256_128_768 w z y (by omega) (by omega) w0 w1) (fun n4 => ?_)
    refine canon_step 96 768 _ _ _ _ _ (fun w w0 w1 => codeU_at t x0 xs2 xs3 3 768 96 rfl inb_S512x1280_S32x256_96_768 inb_S256x1280_S32x256_96_768 w z y (by omega) (by omega) w0 w1) (fun n3 => ?_)
    refine canon_step 64 768 _ _ _ _ _ (fun w w0 w1 => codeU_at t x0 xs2 xs3 2 768 64 rfl inb_S512x1280_S32x256_64_768 inb_S256x1280_S32x256_64_768 w z y (by omega) (by omega) w0 w1) (fun n2 => ?_)
    refine canon_step 32 768 _ _ _ _ _ (fun w w0 w1 => codeU_at t x0 xs2 xs3 1 768 32 rfl inb_S512x1280_S32x256_32_768 inb_S256x1280_S32x256_32_768 w z y (by omega) (by omega) w0 w1) (fun n1 => ?_)
    refine canon_step 0 768 _ _ _ _ _ (fun w w0 w1 => codeU_at t x0 xs2 xs3 0 768 0 rfl inb_S512x1280_S32x256_0_768 inb_S256x1280_S32x256_0_768 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 512] S256x256.size inb_S256x1280_S256x256_0_512 (ix2 (x 1) (x 0)) 0
    have e1 := Rect.idx_unit_val (s := S256x1280) ![0, 512] S256x256.size inb_S256x1280_S256x256_0_512 (ix2 (x 1) (x 0)) 1
    replace e0 := e0.trans (Nat.zero_add (x 1).val)
    show View.canon _ ((Rect.unit (s := S256x1280) ![0, 512] S256x256.size inb_S256x1280_S256x256_0_512).idx (ix2 (x 1) (x 0))) = _
    generalize (Rect.unit (s := S256x1280) ![0, 512] S256x256.size inb_S256x1280_S256x256_0_512).idx (ix2 (x 1) (x 0)) = z at e0 e1 ⊢
    replace e1 : (z 1).val = 512 + (x 0).val := e1
    refine canon_step 224 512 _ _ _ _ _ (fun w w0 w1 => codeU_at t x0 xs2 xs3 7 512 224 rfl inb_S512x1280_S32x256_224_512 inb_S256x1280_S32x256_224_512 w z y (by omega) (by omega) w0 w1) (fun n7 => ?_)
    refine canon_step 192 512 _ _ _ _ _ (fun w w0 w1 => codeU_at t x0 xs2 xs3 6 512 192 rfl inb_S512x1280_S32x256_192_512 inb_S256x1280_S32x256_192_512 w z y (by omega) (by omega) w0 w1) (fun n6 => ?_)
    refine canon_step 160 512 _ _ _ _ _ (fun w w0 w1 => codeU_at t x0 xs2 xs3 5 512 160 rfl inb_S512x1280_S32x256_160_512 inb_S256x1280_S32x256_160_512 w z y (by omega) (by omega) w0 w1) (fun n5 => ?_)
    refine canon_step 128 512 _ _ _ _ _ (fun w w0 w1 => codeU_at t x0 xs2 xs3 4 512 128 rfl inb_S512x1280_S32x256_128_512 inb_S256x1280_S32x256_128_512 w z y (by omega) (by omega) w0 w1) (fun n4 => ?_)
    refine canon_step 96 512 _ _ _ _ _ (fun w w0 w1 => codeU_at t x0 xs2 xs3 3 512 96 rfl inb_S512x1280_S32x256_96_512 inb_S256x1280_S32x256_96_512 w z y (by omega) (by omega) w0 w1) (fun n3 => ?_)
    refine canon_step 64 512 _ _ _ _ _ (fun w w0 w1 => codeU_at t x0 xs2 xs3 2 512 64 rfl inb_S512x1280_S32x256_64_512 inb_S256x1280_S32x256_64_512 w z y (by omega) (by omega) w0 w1) (fun n2 => ?_)
    refine canon_step 32 512 _ _ _ _ _ (fun w w0 w1 => codeU_at t x0 xs2 xs3 1 512 32 rfl inb_S512x1280_S32x256_32_512 inb_S256x1280_S32x256_32_512 w z y (by omega) (by omega) w0 w1) (fun n1 => ?_)
    refine canon_step 0 512 _ _ _ _ _ (fun w w0 w1 => codeU_at t x0 xs2 xs3 0 512 0 rfl inb_S512x1280_S32x256_0_512 inb_S256x1280_S32x256_0_512 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 256] S256x256.size inb_S256x1280_S256x256_0_256 (ix2 (x 1) (x 0)) 0
    have e1 := Rect.idx_unit_val (s := S256x1280) ![0, 256] S256x256.size inb_S256x1280_S256x256_0_256 (ix2 (x 1) (x 0)) 1
    replace e0 := e0.trans (Nat.zero_add (x 1).val)
    show View.canon _ ((Rect.unit (s := S256x1280) ![0, 256] S256x256.size inb_S256x1280_S256x256_0_256).idx (ix2 (x 1) (x 0))) = _
    generalize (Rect.unit (s := S256x1280) ![0, 256] S256x256.size inb_S256x1280_S256x256_0_256).idx (ix2 (x 1) (x 0)) = z at e0 e1 ⊢
    replace e1 : (z 1).val = 256 + (x 0).val := e1
    refine canon_step 224 256 _ _ _ _ _ (fun w w0 w1 => codeU_at t x0 xs2 xs3 7 256 224 rfl inb_S512x1280_S32x256_224_256 inb_S256x1280_S32x256_224_256 w z y (by omega) (by omega) w0 w1) (fun n7 => ?_)
    refine canon_step 192 256 _ _ _ _ _ (fun w w0 w1 => codeU_at t x0 xs2 xs3 6 256 192 rfl inb_S512x1280_S32x256_192_256 inb_S256x1280_S32x256_192_256 w z y (by omega) (by omega) w0 w1) (fun n6 => ?_)
    refine canon_step 160 256 _ _ _ _ _ (fun w w0 w1 => codeU_at t x0 xs2 xs3 5 256 160 rfl inb_S512x1280_S32x256_160_256 inb_S256x1280_S32x256_160_256 w z y (by omega) (by omega) w0 w1) (fun n5 => ?_)
    refine canon_step 128 256 _ _ _ _ _ (fun w w0 w1 => codeU_at t x0 xs2 xs3 4 256 128 rfl inb_S512x1280_S32x256_128_256 inb_S256x1280_S32x256_128_256 w z y (by omega) (by omega) w0 w1) (fun n4 => ?_)
    refine canon_step 96 256 _ _ _ _ _ (fun w w0 w1 => codeU_at t x0 xs2 xs3 3 256 96 rfl inb_S512x1280_S32x256_96_256 inb_S256x1280_S32x256_96_256 w z y (by omega) (by omega) w0 w1) (fun n3 => ?_)
    refine canon_step 64 256 _ _ _ _ _ (fun w w0 w1 => codeU_at t x0 xs2 xs3 2 256 64 rfl inb_S512x1280_S32x256_64_256 inb_S256x1280_S32x256_64_256 w z y (by omega) (by omega) w0 w1) (fun n2 => ?_)
    refine canon_step 32 256 _ _ _ _ _ (fun w w0 w1 => codeU_at t x0 xs2 xs3 1 256 32 rfl inb_S512x1280_S32x256_32_256 inb_S256x1280_S32x256_32_256 w z y (by omega) (by omega) w0 w1) (fun n1 => ?_)
    refine canon_step 0 256 _ _ _ _ _ (fun w w0 w1 => codeU_at t x0 xs2 xs3 0 256 0 rfl inb_S512x1280_S32x256_0_256 inb_S256x1280_S32x256_0_256 w z y (by omega) (by omega) w0 w1) (fun n0 => ?_)
    omega
  · have hx0 : (x 0).val < 256 := (x 0).isLt
    refine (turnG_eq _ x).trans ?_
    rw [View.readCov_eq_canon']
    have e0 := Rect.idx_unit_val (s := S256x1280) ![0, 0] S256x256.size inb_S256x1280_S256x256_0_0 (ix2 (x 1) (x 0)) 0
    have e1 := Rect.idx_unit_val (s := S256x1280) ![0, 0] S256x256.size inb_S256x1280_S256x256_0_0 (ix2 (x 1) (x 0)) 1
    replace e0 := e0.trans (Nat.zero_add (x 1).val)
    show View.canon _ ((Rect.unit (s := S256x1280) ![0, 0] S256x256.size inb_S256x1280_S256x256_0_0).idx (ix2 (x 1) (x 0))) = _
    generalize (Rect.unit (s := S256x1280) ![0, 0] S256x256.size inb_S256x1280_S256x256_0_0).idx (ix2 (x 1) (x 0)) = z at e0 e1 ⊢
    replace e1 : (z 1).val = 0 + (x 0).val := e1
    refine canon_step 224 0 _ _ _ _ _ (fun w w0 w1 => codeU_at t x0 xs2 xs3 7 0 224 rfl inb_S512x1280_S32x256_224_0 inb_S256x1280_S32x256_224_0 w z y (by omega) (by omega) w0 w1) (fun n7 => ?_)
    refine canon_step 192 0 _ _ _ _ _ (fun w w0 w1 => codeU_at t x0 xs2 xs3 6 0 192 rfl inb_S512x1280_S32x256_192_0 inb_S256x1280_S32x256_192_0 w z y (by omega) (by omega) w0 w1) (fun n6 => ?_)
    refine canon_step 160 0 _ _ _ _ _ (fun w w0 w1 => codeU_at t x0 xs2 xs3 5 0 160 rfl inb_S512x1280_S32x256_160_0 inb_S256x1280_S32x256_160_0 w z y (by omega) (by omega) w0 w1) (fun n5 => ?_)
    refine canon_step 128 0 _ _ _ _ _ (fun w w0 w1 => codeU_at t x0 xs2 xs3 4 0 128 rfl inb_S512x1280_S32x256_128_0 inb_S256x1280_S32x256_128_0 w z y (by omega) (by omega) w0 w1) (fun n4 => ?_)
    refine canon_step 96 0 _ _ _ _ _ (fun w w0 w1 => codeU_at t x0 xs2 xs3 3 0 96 rfl inb_S512x1280_S32x256_96_0 inb_S256x1280_S32x256_96_0 w z y (by omega) (by omega) w0 w1) (fun n3 => ?_)
    refine canon_step 64 0 _ _ _ _ _ (fun w w0 w1 => codeU_at t x0 xs2 xs3 2 0 64 rfl inb_S512x1280_S32x256_64_0 inb_S256x1280_S32x256_64_0 w z y (by omega) (by omega) w0 w1) (fun n2 => ?_)
    refine canon_step 32 0 _ _ _ _ _ (fun w w0 w1 => codeU_at t x0 xs2 xs3 1 0 32 rfl inb_S512x1280_S32x256_32_0 inb_S256x1280_S32x256_32_0 w z y (by omega) (by omega) w0 w1) (fun n1 => ?_)
    refine canon_step 0 0 _ _ _ _ _ (fun w w0 w1 => codeU_at t x0 xs2 xs3 0 0 0 rfl inb_S512x1280_S32x256_0_0 inb_S256x1280_S32x256_0_0 w z y (by omega) (by omega) w0 w1) (fun n0 => ?_)
    omega

end Cert.MlpIdeal.RefValue
end
-- ==== Proof.MlpStore.lean ====
/-
  What every point of the MLP's kernel leaves in the two carried scratch buffers: the products of its own blocks, whatever
  they held before.
-/
module

public import proofs.«01_k».proof.Proof.MlpLoads
public import proofs.«01_k».proof.Proof.Products

@[expose] public section

set_option maxRecDepth 16384

noncomputable section

namespace Cert.MlpIdeal.RefValue

open Cert.MlpIdeal Cert.MlpIdeal.Gen Cert.Mlp Cert.Products Idealize.ShloMosaic Idealize.ShloMosaic.TcCoe Idealize.ShloMosaic.ValueIdx
open scoped BigOperators

section Values

variable (x1 x2 : Vec Ideal S2048x1280 .bf16) (x3 x4 : Vec Ideal S2048x256 .fp8e4m3) (x5 : Vec Ideal S256x2048 .fp8e4m3)

/-- The block's gate and up weights, one above the other, feature by feature. -/
def guW (j : S512x2048.Idx) : EReal :=
  if h : (j 0).val < 256 then x3 (ix2 (j 1) ⟨(j 0).val, h⟩)
  else x4 (ix2 (j 1) ⟨(j 0).val - 256, by have : (j 0).val < 512 := (j 0).isLt; omega⟩)

/-- The block's gate and up products, and its gradient's. -/
def guP : S512x1280.Idx → EReal := nn (M := 512) (K := 2048) (N := 1280) (guW x3 x4) x1
def duP : S256x1280.Idx → EReal := nn (M := 256) (K := 2048) (N := 1280) x5 x2

theorem guP_gate (r : Fin 256) (o : Fin 1280) : guP x1 x3 x4 (ix2 ⟨r.val, by omega⟩ o) = ∑ d : Fin 2048, x3 (ix2 d r) * x1 (ix2 d o) := by
  show (∑ d : Fin 2048, (guW x3 x4 (ix2 ⟨r.val, by omega⟩ d) * x1 (ix2 d o) : EReal)) = _
  refine Finset.sum_congr rfl fun d _ => ?_
  have e : guW x3 x4 (ix2 ⟨r.val, by omega⟩ d) = x3 (ix2 d r) := dif_pos r.isLt
  exact congrArg (fun z : EReal => z * x1 (ix2 d o)) e

theorem guP_up (r : Fin 256) (o : Fin 1280) : guP x1 x3 x4 (ix2 ⟨256 + r.val, by omega⟩ o) = ∑ d : Fin 2048, x4 (ix2 d r) * x1 (ix2 d o) := by
  show (∑ d : Fin 2048, (guW x3 x4 (ix2 ⟨256 + r.val, by omega⟩ d) * x1 (ix2 d o) : EReal)) = _
  refine Finset.sum_congr rfl fun d _ => ?_
  have e : guW x3 x4 (ix2 ⟨256 + r.val, by omega⟩ d) = x4 (ix2 d r) := by
    have hn : ¬ (256 + r.val < 256) := by omega
    refine (dif_neg hn).trans (congrArg x4 (Shape.idx_ext₂ rfl ?_))
    show 256 + r.val - 256 = r.val
    omega
  exact congrArg (fun z : EReal => z * x1 (ix2 d o)) e

end Values

section Stores

variable (t : Fin cfg0.N) (x1 x2 : Vec Ideal S2048x1280 .bf16) (x3 x4 : Vec Ideal S2048x256 .fp8e4m3) (x5 : Vec Ideal S256x2048 .fp8e4m3)

theorem turnW_eq (v : Vec Ideal S2048x256 .fp8e4m3) (f : Fin 256) (d : Fin 2048) : k0_pay5 v (ix2 f d) = v (ix2 d f) := by
  unfold k0_pay5
  dsimp only
  rw [shapeCast_self]
  exact transpose_ix2_apply (a := 2048) (b := 256) v transposes_S2048x256_p1_0_S256x2048 f d

/-- The weights as the body stores them for the products. -/
abbrev guWL : Vec Ideal S512x2048 .bf16 :=
  scM0_0.view.readCov [⟨Rect.unit (s := S512x2048) ![256, 0] S256x2048.size inb_S512x2048_S256x2048_256_0,
      k0_pay6 (View.readAt (Elt Ideal) (ms0_4 t).view (Rect.unit (s := S2048x256) ![0, 0] S2048x256.size inb_S2048x256_S2048x256_0_0).toLoadRect ((hs0_4 t).unread x4))⟩,
    ⟨Rect.unit (s := S512x2048) ![0, 0] S256x2048.size inb_S512x2048_S256x2048_0_0,
      k0_pay5 (View.readAt (Elt Ideal) (ms0_3 t).view (Rect.unit (s := S2048x256) ![0, 0] S2048x256.size inb_S2048x256_S2048x256_0_0).toLoadRect ((hs0_3 t).unread x3))⟩]
    (Rect.unit (s := S512x2048) ![0, 0] S512x2048.size inb_S512x2048_S512x2048_0_0).toLoadRect

theorem guWL_eq : guWL t x3 x4 = guW x3 x4 := by
  unfold guWL
  rw [View.readCov_eq_canon']
  funext j
  have hj : (Rect.unit (s := S512x2048) ![0, 0] S512x2048.size inb_S512x2048_S512x2048_0_0).idx j = j :=
    Shape.idx_ext₂ ((Rect.idx_unit_val (s := S512x2048) ![0, 0] S512x2048.size inb_S512x2048_S512x2048_0_0 j 0).trans (Nat.zero_add _))
      ((Rect.idx_unit_val (s := S512x2048) ![0, 0] S512x2048.size inb_S512x2048_S512x2048_0_0 j 1).trans (Nat.zero_add _))
  refine (congrArg (View.canon _) hj).trans ?_
  have hj0 : (j 0).val < 512 := (j 0).isLt
  have hj1 : (j 1).val < 2048 := (j 1).isLt
  simp only [View.readAt_eq_ld, (hs0_3 t).read_unread, (hs0_4 t).read_unread, View.ld_unit_zero (S := S2048x256) hz]
  refine canon_step 256 0 _ _ _ _ _ (fun w w0 w1 => ?_) (fun n1 => ?_)
  · obtain ⟨f, d, rfl⟩ : ∃ (f : Fin 256) (d : Fin 2048), w = ix2 f d := ⟨w 0, w 1, Shape.idx_ext₂ rfl rfl⟩
    have w0' : (j 0).val = 256 + f.val := w0
    have w1' : (j 1).val = 0 + d.val := w1
    refine (turnW_eq x4 f d).trans ((dif_neg (by omega)).trans (congrArg x4 (Shape.idx_ext₂ (by show (j 1).val = d.val; omega) (by show (j 0).val - 256 = f.val; omega)))).symm
  · refine canon_step 0 0 _ _ _ _ _ (fun w w0 w1 => ?_) (fun n2 => ?_)
    · obtain ⟨f, d, rfl⟩ : ∃ (f : Fin 256) (d : Fin 2048), w = ix2 f d := ⟨w 0, w 1, Shape.idx_ext₂ rfl rfl⟩
      have w0' : (j 0).val = 0 + f.val := w0
      have w1' : (j 1).val = 0 + d.val := w1
      refine (turnW_eq x3 f d).trans ((dif_pos (by omega)).trans (congrArg x3 (Shape.idx_ext₂ (by show (j 1).val = d.val; omega) (by show (j 0).val = f.val; omega)))).symm
    · omega

variable (c : ℕ) (i : ∀ a, (![0, c] : Fin 2 → ℕ) a + S2048x256.size a ≤ S2048x1280.size a)

/-- Columns from `c` on of the two token blocks. -/
abbrev atL : Vec Ideal S2048x256 .bf16 := View.readAt (Elt Ideal) (ms0_1 t).view (Rect.unit (s := S2048x1280) ![0, c] S2048x256.size i).toLoadRect ((hs0_1 t).unread x1)
abbrev dytL : Vec Ideal S2048x256 .bf16 := View.readAt (Elt Ideal) (ms0_2 t).view (Rect.unit (s := S2048x1280) ![0, c] S2048x256.size i).toLoadRect ((hs0_2 t).unread x2)

theorem atL_eq (d : Fin 2048) (e : Fin 256) (o : Fin 1280) (ho : o.val = c + e.val) : atL t x1 c i (ix2 d e) = x1 (ix2 d o) := by
  unfold atL
  rw [View.readAt_eq_ld, (hs0_1 t).read_unread]
  exact View.ld_unit_apply_of x1 _ _ _ _ _ (fun a => by fin_cases a; exact (Nat.zero_add _).symm; exact ho)
theorem dytL_eq (d : Fin 2048) (e : Fin 256) (o : Fin 1280) (ho : o.val = c + e.val) : dytL t x2 c i (ix2 d e) = x2 (ix2 d o) := by
  unfold dytL
  rw [View.readAt_eq_ld, (hs0_2 t).read_unread]
  exact View.ld_unit_apply_of x2 _ _ _ _ _ (fun a => by fin_cases a; exact (Nat.zero_add _).symm; exact ho)

theorem pay1_eq (a : Vec Ideal S512x2048 .bf16) (b : Vec Ideal S2048x256 .bf16) : k0_pay1 a b = nn (M := 512) (K := 2048) (N := 256) a b := by
  unfold k0_pay1
  dsimp only
  rw [shapeCast_self]
  exact matmul_nn (M := 512) (K := 2048) (N := 256) (φ₁ := .bf16) (φ₂ := .bf16) a b
theorem pay2_eq (a : Vec Ideal S256x2048 .bf16) (b : Vec Ideal S2048x256 .bf16) : k0_pay2 a b = nn (M := 256) (K := 2048) (N := 256) a b := by
  unfold k0_pay2
  dsimp only
  rw [shapeCast_self]
  exact matmul_nn (M := 256) (K := 2048) (N := 256) (φ₁ := .bf16) (φ₂ := .bf16) a b

theorem guP_at (x : S512x256.Idx) (y : S512x1280.Idx) (h0 : (y 0).val = (x 0).val) (h1 : (y 1).val = c + (x 1).val) :
    k0_pay1 (guWL t x3 x4) (atL t x1 c i) x = guP x1 x3 x4 y := by
  rw [pay1_eq, guWL_eq]
  exact nn_congr (M := 512) (K := 2048) (N := 256) (M' := 512) (N' := 1280) x y (fun k => congrArg (fun r => guW x3 x4 (ix2 r k)) (Fin.ext h0.symm)) (fun k => atL_eq t x1 c i k _ _ h1)

/-- The down weights as the body stores them. -/
abbrev duWL : Vec Ideal S256x2048 .bf16 :=
  scM0_1.view.readCov [⟨Rect.unit (s := S256x2048) ![0, 0] S256x2048.size inb_S256x2048_S256x2048_0_0,
      k0_pay7 (View.readAt (Elt Ideal) (ms0_5 t).view (Rect.unit (s := S256x2048) ![0, 0] S256x2048.size inb_S256x2048_S256x2048_0_0).toLoadRect ((hs0_5 t).unread x5))⟩]
    (Rect.unit (s := S256x2048) ![0, 0] S256x2048.size inb_S256x2048_S256x2048_0_0).toLoadRect

theorem duWL_eq : duWL t x5 = x5 := by
  unfold duWL
  simp only [View.readAt_eq_ld, (hs0_5 t).read_unread, View.ld_unit_zero (S := S256x2048) hz]
  rw [View.readCov_unit_zero scM0_1.view hz]
  unfold k0_pay7
  dsimp only
  rw [shapeCast_self]
  rfl

theorem duP_at (x : S256x256.Idx) (y : S256x1280.Idx) (h0 : (y 0).val = (x 0).val) (h1 : (y 1).val = c + (x 1).val) :
    k0_pay2 (duWL t x5) (dytL t x2 c i) x = duP x2 x5 y := by
  rw [pay2_eq, duWL_eq]
  exact nn_congr (M := 256) (K := 2048) (N := 256) (M' := 256) (N' := 1280) x y (fun k => congrArg (fun r => x5 (ix2 r k)) (Fin.ext h0.symm)) (fun k => dytL_eq t x2 c i k _ _ h1)

end Stores

/-- After the first point, -/
theorem sout2_A (c : Dev nD) (t : Fin cfg0.N) (hc0 : cond0_0 (grid0.coords t)) (x0 : Vec Ideal S3 .f32) (x1 x2 : Vec Ideal S2048x1280 .bf16) (x3 x4 : Vec Ideal S2048x256 .fp8e4m3) (x5 : Vec Ideal S256x2048 .fp8e4m3) :
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 = guP x1 x3 x4 := by
  unfold sout0_A_2
  rw [View.read_writes_eq_canon _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5)]
  funext y
  unfold kernelRun0_A
  dsimp only
  sl_unfold_words
  have hy0 : (y 0).val < 512 := (y 0).isLt
  have hy1 : (y 1).val < 1280 := (y 1).isLt
  refine canon_step 0 1024 _ _ _ _ _ (fun x h0 h1 => guP_at t x1 x3 x4 1024 inb_S2048x1280_S2048x256_0_1024 x y (h0.trans (Nat.zero_add _)) (h1.trans rfl)) (fun n4 => ?_)
  refine canon_step 0 768 _ _ _ _ _ (fun x h0 h1 => guP_at t x1 x3 x4 768 inb_S2048x1280_S2048x256_0_768 x y (h0.trans (Nat.zero_add _)) (h1.trans rfl)) (fun n3 => ?_)
  refine canon_step 0 512 _ _ _ _ _ (fun x h0 h1 => guP_at t x1 x3 x4 512 inb_S2048x1280_S2048x256_0_512 x y (h0.trans (Nat.zero_add _)) (h1.trans rfl)) (fun n2 => ?_)
  refine canon_step 0 256 _ _ _ _ _ (fun x h0 h1 => guP_at t x1 x3 x4 256 inb_S2048x1280_S2048x256_0_256 x y (h0.trans (Nat.zero_add _)) (h1.trans rfl)) (fun n1 => ?_)
  refine canon_step 0 0 _ _ _ _ _ (fun x h0 h1 => guP_at t x1 x3 x4 0 inb_S2048x1280_S2048x256_0_0 x y (h0.trans (Nat.zero_add _)) (h1.trans rfl)) (fun n0 => ?_)
  omega

theorem sout3_A (c : Dev nD) (t : Fin cfg0.N) (hc0 : cond0_0 (grid0.coords t)) (x0 : Vec Ideal S3 .f32) (x1 x2 : Vec Ideal S2048x1280 .bf16) (x3 x4 : Vec Ideal S2048x256 .fp8e4m3) (x5 : Vec Ideal S256x2048 .fp8e4m3) :
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 = duP x2 x5 := by
  unfold sout0_A_3
  rw [View.read_writes_eq_canon _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5)]
  funext y
  unfold kernelRun0_A
  dsimp only
  sl_unfold_words
  have hy0 : (y 0).val < 256 := (y 0).isLt
  have hy1 : (y 1).val < 1280 := (y 1).isLt
  refine canon_step 0 1024 _ _ _ _ _ (fun x h0 h1 => duP_at t x2 x5 1024 inb_S2048x1280_S2048x256_0_1024 x y (h0.trans (Nat.zero_add _)) (h1.trans rfl)) (fun n4 => ?_)
  refine canon_step 0 768 _ _ _ _ _ (fun x h0 h1 => duP_at t x2 x5 768 inb_S2048x1280_S2048x256_0_768 x y (h0.trans (Nat.zero_add _)) (h1.trans rfl)) (fun n3 => ?_)
  refine canon_step 0 512 _ _ _ _ _ (fun x h0 h1 => duP_at t x2 x5 512 inb_S2048x1280_S2048x256_0_512 x y (h0.trans (Nat.zero_add _)) (h1.trans rfl)) (fun n2 => ?_)
  refine canon_step 0 256 _ _ _ _ _ (fun x h0 h1 => duP_at t x2 x5 256 inb_S2048x1280_S2048x256_0_256 x y (h0.trans (Nat.zero_add _)) (h1.trans rfl)) (fun n1 => ?_)
  refine canon_step 0 0 _ _ _ _ _ (fun x h0 h1 => duP_at t x2 x5 0 inb_S2048x1280_S2048x256_0_0 x y (h0.trans (Nat.zero_add _)) (h1.trans rfl)) (fun n0 => ?_)
  omega

/-- and after a later one. -/
theorem sout2_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = guP x1 x3 x4 := by
  unfold sout0_B_2
  rw [View.read_writes_eq_canon _ _ _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact guP_at t x1 x3 x4 1024 inb_S2048x1280_S2048x256_0_1024 x y (by omega) (by omega)
  · exact guP_at t x1 x3 x4 768 inb_S2048x1280_S2048x256_0_768 x y (by omega) (by omega)
  · exact guP_at t x1 x3 x4 512 inb_S2048x1280_S2048x256_0_512 x y (by omega) (by omega)
  · exact guP_at t x1 x3 x4 256 inb_S2048x1280_S2048x256_0_256 x y (by omega) (by omega)
  · exact guP_at t x1 x3 x4 0 inb_S2048x1280_S2048x256_0_0 x y (by omega) (by omega)

theorem sout3_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = duP x2 x5 := by
  unfold sout0_B_3
  rw [View.read_writes_eq_canon _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact duP_at t x2 x5 1024 inb_S2048x1280_S2048x256_0_1024 x y (by omega) (by omega)
  · exact duP_at t x2 x5 768 inb_S2048x1280_S2048x256_0_768 x y (by omega) (by omega)
  · exact duP_at t x2 x5 512 inb_S2048x1280_S2048x256_0_512 x y (by omega) (by omega)
  · exact duP_at t x2 x5 256 inb_S2048x1280_S2048x256_0_256 x y (by omega) (by omega)
  · exact duP_at t x2 x5 0 inb_S2048x1280_S2048x256_0_0 x y (by omega) (by omega)

end Cert.MlpIdeal.RefValue
end
-- ==== Proof.MlpScratch.lean ====
/-
  The MLP's kernel, point by point: where its windows sit, and what the carried products hold after a point — the gate, up
  and down products of that point's block of tokens and features.
-/
module

public import proofs.«01_k».proof.Proof.MlpStore
public import proofs.«01_k».proof.Proof.Gen.MlpIdeal.Value

@[expose] public section

set_option maxRecDepth 16384

noncomputable section

namespace Cert.MlpIdeal.RefValue

open Cert.MlpIdeal Cert.MlpIdeal.Gen Cert.Mlp Cert.Products Idealize.ShloMosaic Idealize.ShloMosaic.TcCoe Idealize.SL.Sem Idealize.ShloMosaic.ValueIdx
open scoped BigOperators

variable (m : (ℓ : Loc nD τ sig) → Buf (Elt Ideal) ℓ)

/-- Where the input blocks sit: point `t` multiplies token block `min t 214 / 43`, feature block `min t 214 % 43`. -/
theorem in_facts : ∀ t : Fin cfg0.N, (win0_0.index t 0 = 0)
    ∧ (win0_1.index t 0 = 0 ∧ win0_1.index t 1 = min t.val 214 / 43) ∧ (win0_2.index t 0 = 0 ∧ win0_2.index t 1 = min t.val 214 / 43)
    ∧ (win0_3.index t 0 = 0 ∧ win0_3.index t 1 = min t.val 214 % 43) ∧ (win0_4.index t 0 = 0 ∧ win0_4.index t 1 = min t.val 214 % 43)
    ∧ (win0_5.index t 0 = min t.val 214 % 43 ∧ win0_5.index t 1 = 0) :=
  (by decide +kernel : ∀ t : Fin grid0.N, (win0_0.index t 0 = 0)
    ∧ (win0_1.index t 0 = 0 ∧ win0_1.index t 1 = min t.val 214 / 43) ∧ (win0_2.index t 0 = 0 ∧ win0_2.index t 1 = min t.val 214 / 43)
    ∧ (win0_3.index t 0 = 0 ∧ win0_3.index t 1 = min t.val 214 % 43) ∧ (win0_4.index t 0 = 0 ∧ win0_4.index t 1 = min t.val 214 % 43)
    ∧ (win0_5.index t 0 = min t.val 214 % 43 ∧ win0_5.index t 1 = 0))

/-- The scales are held whole; -/
theorem iblk0 (c : Dev nD) (t : Fin cfg0.N) (k : Fin 3) :
    iblk m c 0 t (ix1 k) = m ((c : Thread nD τ).loc main_arg0) (ix1 k) := by
  show m ((c : Thread nD τ).loc main_arg0) ((win0_0.rect t).emb (ix1 k)) = _
  refine congrArg _ (funext fun a => Fin.ext ?_)
  match a with
  | ⟨0, _⟩ => exact win0_0.rect_emb_val_of_index_zero t 0 (in_facts t).1 _

/-- the tokens are read 1280 columns at a time, -/
theorem iblk1 (c : Dev nD) (t : Fin cfg0.N) (k : Fin 2048) (q : Fin 1280) (q' : Fin 6400) (hq : q'.val = min t.val 214 / 43 * 1280 + q.val) :
    iblk m c 1 t (ix2 k q) = m ((c : Thread nD τ).loc main_arg1) (ix2 k q') := by
  show m ((c : Thread nD τ).loc main_arg1) ((win0_1.rect t).emb (ix2 k q)) = _
  refine congrArg _ (Shape.idx_ext₂ ?_ ?_)
  · exact win0_1.rect_emb_val_of_index_zero t 0 (in_facts t).2.1.1 _
  · exact (win0_1.rect_emb_val t _ 1).trans (by rw [(in_facts t).2.1.2]; exact hq.symm)

theorem iblk2 (c : Dev nD) (t : Fin cfg0.N) (k : Fin 2048) (q : Fin 1280) (q' : Fin 6400) (hq : q'.val = min t.val 214 / 43 * 1280 + q.val) :
    iblk m c 2 t (ix2 k q) = m ((c : Thread nD τ).loc main_arg2) (ix2 k q') := by
  show m ((c : Thread nD τ).loc main_arg2) ((win0_2.rect t).emb (ix2 k q)) = _
  refine congrArg _ (Shape.idx_ext₂ ?_ ?_)
  · exact win0_2.rect_emb_val_of_index_zero t 0 (in_facts t).2.2.1.1 _
  · exact (win0_2.rect_emb_val t _ 1).trans (by rw [(in_facts t).2.2.1.2]; exact hq.symm)

/-- and the weights 256 features at a time. -/
theorem iblk3 (c : Dev nD) (t : Fin cfg0.N) (k : Fin 2048) (q : Fin 256) (q' : Fin 11008) (hq : q'.val = min t.val 214 % 43 * 256 + q.val) :
    iblk m c 3 t (ix2 k q) = m ((c : Thread nD τ).loc main_arg3) (ix2 k q') := by
  show m ((c : Thread nD τ).loc main_arg3) ((win0_3.rect t).emb (ix2 k q)) = _
  refine congrArg _ (Shape.idx_ext₂ ?_ ?_)
  · exact win0_3.rect_emb_val_of_index_zero t 0 (in_facts t).2.2.2.1.1 _
  · exact (win0_3.rect_emb_val t _ 1).trans (by rw [(in_facts t).2.2.2.1.2]; exact hq.symm)

theorem iblk4 (c : Dev nD) (t : Fin cfg0.N) (k : Fin 2048) (q : Fin 256) (q' : Fin 11008) (hq : q'.val = min t.val 214 % 43 * 256 + q.val) :
    iblk m c 4 t (ix2 k q) = m ((c : Thread nD τ).loc main_arg4) (ix2 k q') := by
  show m ((c : Thread nD τ).loc main_arg4) ((win0_4.rect t).emb (ix2 k q)) = _
  refine congrArg _ (Shape.idx_ext₂ ?_ ?_)
  · exact win0_4.rect_emb_val_of_index_zero t 0 (in_facts t).2.2.2.2.1.1 _
  · exact (win0_4.rect_emb_val t _ 1).trans (by rw [(in_facts t).2.2.2.2.1.2]; exact hq.symm)

theorem iblk5 (c : Dev nD) (t : Fin cfg0.N) (q : Fin 256) (k : Fin 2048) (q' : Fin 11008) (hq : q'.val = min t.val 214 % 43 * 256 + q.val) :
    iblk m c 5 t (ix2 q k) = m ((c : Thread nD τ).loc main_arg5) (ix2 q' k) := by
  show m ((c : Thread nD τ).loc main_arg5) ((win0_5.rect t).emb (ix2 q k)) = _
  refine congrArg _ (Shape.idx_ext₂ ?_ ?_)
  · exact (win0_5.rect_emb_val t _ 0).trans (by rw [(in_facts t).2.2.2.2.2.1]; exact hq.symm)
  · exact win0_5.rect_emb_val_of_index_zero t 1 (in_facts t).2.2.2.2.2.2 _

/-- After any point the first carried scratch holds that point's gate and up products, -/
theorem scratch2 (c : Dev nD) (t : Fin cfg0.N) :
    (outsAt0 m c t.val t.isLt).2.2.2.2.2.2.2.2.2.1 = guP (iblk m c 1 t) (iblk m c 3 t) (iblk m c 4 t) := by
  by_cases h0 : t.val % 216 = 0
  · rw [outsAt0_A m c t h0]
    dsimp only
    exact sout2_A c t ((hcond0_0 t).mpr h0) (iblk m c 0 t) (iblk m c 1 t) (iblk m c 2 t) (iblk m c 3 t) (iblk m c 4 t) (iblk m c 5 t)
  · rw [outsAt0_B m c t h0]
    dsimp only
    exact sout2_B c t (fun h => h0 ((hcond0_0 t).mp h)) (iblk m c 0 t) (iblk m c 1 t) (iblk m c 2 t) (iblk m c 3 t) (iblk m c 4 t) (iblk m c 5 t) _ _

/-- and the second its down products. -/
theorem scratch3 (c : Dev nD) (t : Fin cfg0.N) :
    (outsAt0 m c t.val t.isLt).2.2.2.2.2.2.2.2.2.2 = duP (iblk m c 2 t) (iblk m c 5 t) := by
  by_cases h0 : t.val % 216 = 0
  · rw [outsAt0_A m c t h0]
    dsimp only
    exact sout3_A c t ((hcond0_0 t).mpr h0) (iblk m c 0 t) (iblk m c 1 t) (iblk m c 2 t) (iblk m c 3 t) (iblk m c 4 t) (iblk m c 5 t)
  · rw [outsAt0_B m c t h0]
    dsimp only
    exact sout3_B c t (fun h => h0 ((hcond0_0 t).mp h)) (iblk m c 0 t) (iblk m c 1 t) (iblk m c 2 t) (iblk m c 3 t) (iblk m c 4 t) (iblk m c 5 t) _ _

theorem duP_at_ix (x2 : Vec Ideal S2048x1280 .bf16) (x5 : Vec Ideal S256x2048 .fp8e4m3) (r : Fin 1280) (f : Fin 256) :
    duP x2 x5 (ix2 f r) = ∑ d : Fin 2048, x5 (ix2 f d) * x2 (ix2 d r) := rfl

/-! ## A later point's values: those of the block the point before multiplied -/

section Values

variable (c : Dev nD) (t s : Fin cfg0.N) (hs : s.val + 1 = t.val) (r : Fin 1280) (f : Fin 256) (r' : Fin 6400) (f' : Fin 11008)
  (hr : r'.val = s.val / 43 * 1280 + r.val) (hf : f'.val = s.val % 43 * 256 + f.val)

include hs hr hf

theorem gate_eq : gateB (iblk m c 0 t) (guP (iblk m c 1 s) (iblk m c 3 s) (iblk m c 4 s)) r f
    = gateA (m ((c : Thread nD τ).loc main_arg0)) (m ((c : Thread nD τ).loc main_arg1)) (m ((c : Thread nD τ).loc main_arg3)) r' f' := by
  have hN : t.val < 216 := lt_of_lt_of_eq t.isLt N_0
  have hm : min s.val 214 = s.val := by omega
  unfold gateB gateA
  rw [iblk0 m c t 0, guP_gate]
  refine congrArg (· * _) (Finset.sum_congr rfl fun d _ => ?_)
  rw [iblk3 m c s d f f' (by rw [hm]; exact hf), iblk1 m c s d r r' (by rw [hm]; exact hr)]
  exact mul_comm (G := EReal) _ _

theorem up_eq : upB (iblk m c 0 t) (guP (iblk m c 1 s) (iblk m c 3 s) (iblk m c 4 s)) r f
    = upA (m ((c : Thread nD τ).loc main_arg0)) (m ((c : Thread nD τ).loc main_arg1)) (m ((c : Thread nD τ).loc main_arg4)) r' f' := by
  have hN : t.val < 216 := lt_of_lt_of_eq t.isLt N_0
  have hm : min s.val 214 = s.val := by omega
  unfold upB upA
  rw [iblk0 m c t 1, guP_up]
  refine congrArg (· * _) (Finset.sum_congr rfl fun d _ => ?_)
  rw [iblk4 m c s d f f' (by rw [hm]; exact hf), iblk1 m c s d r r' (by rw [hm]; exact hr)]
  exact mul_comm (G := EReal) _ _

theorem du_eq : duB (iblk m c 0 t) (duP (iblk m c 2 s) (iblk m c 5 s)) r f
    = duA (m ((c : Thread nD τ).loc main_arg0)) (m ((c : Thread nD τ).loc main_arg2)) (m ((c : Thread nD τ).loc main_arg5)) r' f' := by
  have hN : t.val < 216 := lt_of_lt_of_eq t.isLt N_0
  have hm : min s.val 214 = s.val := by omega
  unfold duB duA
  rw [iblk0 m c t 2]
  rw [duP_at_ix]
  refine congrArg (· * _) (Finset.sum_congr rfl fun d _ => ?_)
  rw [iblk5 m c s f d f' (by rw [hm]; exact hf), iblk2 m c s d r r' (by rw [hm]; exact hr)]
  exact mul_comm (G := EReal) _ _

theorem act_eq : actB (iblk m c 0 t) (guP (iblk m c 1 s) (iblk m c 3 s) (iblk m c 4 s)) r f
    = actA (m ((c : Thread nD τ).loc main_arg0)) (m ((c : Thread nD τ).loc main_arg1)) (m ((c : Thread nD τ).loc main_arg3)) (m ((c : Thread nD τ).loc main_arg4)) r' f' := by
  unfold actB actA
  rw [gate_eq m c t s hs r f r' f' hr hf, up_eq m c t s hs r f r' f' hr hf]

theorem dgate_eq : dgateB (iblk m c 0 t) (guP (iblk m c 1 s) (iblk m c 3 s) (iblk m c 4 s)) (duP (iblk m c 2 s) (iblk m c 5 s)) r f
    = dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' f' := by
  unfold dgateB dgateA
  rw [gate_eq m c t s hs r f r' f' hr hf, up_eq m c t s hs r f r' f' hr hf, du_eq m c t s hs r f r' f' hr hf]

theorem dup_eq : dupB (iblk m c 0 t) (guP (iblk m c 1 s) (iblk m c 3 s) (iblk m c 4 s)) (duP (iblk m c 2 s) (iblk m c 5 s)) r f
    = dupA (m ((c : Thread nD τ).loc main_arg0)) (m ((c : Thread nD τ).loc main_arg1)) (m ((c : Thread nD τ).loc main_arg2)) (m ((c : Thread nD τ).loc main_arg3)) (m ((c : Thread nD τ).loc main_arg5)) r' f' := by
  unfold dupB dupA
  rw [gate_eq m c t s hs r f r' f' hr hf, du_eq m c t s hs r f r' f' hr hf]

end Values

end Cert.MlpIdeal.RefValue
end
-- ==== Proof.MlpCodes.lean ====
/-
  The MLP's kernel: the result arrays of the codes after the run. Every point but the first writes back the block
  of the point before, and the blocks cover the arrays.
-/
module

public import proofs.«01_k».proof.Proof.MlpBlock6
public import proofs.«01_k».proof.Proof.MlpBlock7
public import proofs.«01_k».proof.Proof.MlpBlock8
public import proofs.«01_k».proof.Proof.MlpScratch

@[expose] public section

set_option maxRecDepth 16384

noncomputable section

namespace Cert.MlpIdeal.RefValue

open Cert.MlpIdeal Cert.MlpIdeal.Gen Cert.Mlp Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Window 6: the activation -/

theorem facts6 : ∀ t : Fin cfg0.N, win0_6.index t 0 = (t.val - 1) / 43 ∧ win0_6.index t 1 = (t.val - 1) % 43 ∧ win0_6.index t 0 * win0_6.size 0 = (t.val - 1) / 43 * 1280 ∧ win0_6.xsize (grid0.coords t) 0 = 1280
    ∧ win0_6.index t 1 * win0_6.size 1 = (t.val - 1) % 43 * 256 ∧ win0_6.xsize (grid0.coords t) 1 = 256 ∧ (win0_6.flush t = true ↔ t.val ≠ 0) :=
  (by decide +kernel : ∀ t : Fin grid0.N, win0_6.index t 0 = (t.val - 1) / 43 ∧ win0_6.index t 1 = (t.val - 1) % 43 ∧ win0_6.index t 0 * win0_6.size 0 = (t.val - 1) / 43 * 1280 ∧ win0_6.xsize (grid0.coords t) 0 = 1280
    ∧ win0_6.index t 1 * win0_6.size 1 = (t.val - 1) % 43 * 256 ∧ win0_6.xsize (grid0.coords t) 1 = 256 ∧ (win0_6.flush t = true ↔ t.val ≠ 0))

/-- The whole array. -/
abbrev val6 (c : Dev nD) : Buf (Elt Ideal) ((c : Thread nD τ).loc main_v0_0) :=
  codes (T := 6400) (K := 11008) (G := 344) rfl 0x3B124925#32 0xC3E00000#32 0x43E00000#32 (actA (m ((c : Thread nD τ).loc main_arg0)) (m ((c : Thread nD τ).loc main_arg1)) (m ((c : Thread nD τ).loc main_arg3)) (m ((c : Thread nD τ).loc main_arg4)))

/-- A later point writes back its block of the whole array. -/
theorem flushed6 (c : Dev nD) (t : Fin cfg0.N) (h : t.val ≠ 0) :
    (dats m 0 c).flushed 6 t = (win0_6.blk t).view.read (Elt Ideal) (val6 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed6_B m c t (by omega), e2, e3]
  rw [out6_B c t _ (iblk m c 0 t) (iblk m c 1 t) (iblk m c 2 t) (iblk m c 3 t) (iblk m c 4 t) (iblk m c 5 t)]
  funext j
  rw [View.read_apply]
  have h0 : ((win0_6.rect t).emb j 0).val = (t.val - 1) / 43 * 1280 + (j 0).val :=
    (win0_6.rect_emb_val t j 0).trans (by rw [(facts6 t).1]; rfl)
  have h1 : ((win0_6.rect t).emb j 1).val = (t.val - 1) % 43 * 256 + (j 1).val :=
    (win0_6.rect_emb_val t j 1).trans (by rw [(facts6 t).2.1]; rfl)
  exact codes_eq (T := 1280) (K := 256) (G := 8) (T' := 6400) (K' := 11008) (G' := 344) rfl rfl 0x3B124925#32 0xC3E00000#32 0x43E00000#32 (actB (iblk m c 0 t) (guP (iblk m c 1 s) (iblk m c 3 s) (iblk m c 4 s)))
    (actA (m ((c : Thread nD τ).loc main_arg0)) (m ((c : Thread nD τ).loc main_arg1)) (m ((c : Thread nD τ).loc main_arg3)) (m ((c : Thread nD τ).loc main_arg4))) (s.val / 43 * 1280) (s.val % 43 * 8)
    (fun r f r' f' hr hf => act_eq m c t s (by omega) r f r' f' hr (by omega)) j ((win0_6.rect t).emb j) (by rw [h0, hv]) (by rw [h1, hv]; omega)

/-- The blocks cover the array. -/
theorem cover6 (i : S6400x11008.Idx) : ∃ t : Fin cfg0.N, (cfg0.win 6).flush t = true ∧ i ∈ ((cfg0.win 6).blk t).view.set := by
  have h0 : (i 0 : Nat) < 6400 := (i 0).isLt
  have h1 : (i 1 : Nat) < 11008 := (i 1).isLt
  obtain ⟨n, hn⟩ : ∃ n, n = (i 0 : Nat) / 1280 * 43 + (i 1 : Nat) / 256 + 1 := ⟨_, rfl⟩
  have hlt : n < 216 := by omega
  have ht : n < cfg0.N := lt_of_lt_of_eq hlt N_0.symm
  have e := facts6 ⟨n, ht⟩
  refine ⟨⟨n, ht⟩, e.2.2.2.2.2.2.mpr (by show n ≠ 0; omega), ?_⟩
  show i ∈ ((View.whole main_v0_0).slice (win0_6.rect ⟨n, ht⟩)).set
  rw [View.set_slice_whole, Rect.mem_set_unit]
  intro a
  match a with
  | ⟨0, _⟩ => show win0_6.index _ 0 * win0_6.size 0 ≤ (i 0 : Nat) ∧ (i 0 : Nat) < win0_6.index _ 0 * win0_6.size 0 + win0_6.xsize (grid0.coords _) 0
              rw [e.2.2.1, e.2.2.2.1]; show (n - 1) / 43 * 1280 ≤ _ ∧ _ < (n - 1) / 43 * 1280 + 1280; omega
  | ⟨1, _⟩ => show win0_6.index _ 1 * win0_6.size 1 ≤ (i 1 : Nat) ∧ (i 1 : Nat) < win0_6.index _ 1 * win0_6.size 1 + win0_6.xsize (grid0.coords _) 1
              rw [e.2.2.2.2.1, e.2.2.2.2.2.1]; show (n - 1) % 43 * 256 ≤ _ ∧ _ < (n - 1) % 43 * 256 + 256; omega

theorem final6 (c : Dev nD) : (dats m 0 c).arrAt 6 cfg0.N = val6 m c :=
  (dats m 0 c).arrAt_eq_of_cover 6 (val6 m c) (fun t hf => flushed6 m c t ((facts6 t).2.2.2.2.2.2.mp hf)) cover6

/-! ## Window 7: the gate's gradient -/

theorem facts7 : ∀ t : Fin cfg0.N, win0_7.index t 0 = (t.val - 1) / 43 ∧ win0_7.index t 1 = (t.val - 1) % 43 ∧ win0_7.index t 0 * win0_7.size 0 = (t.val - 1) / 43 * 1280 ∧ win0_7.xsize (grid0.coords t) 0 = 1280
    ∧ win0_7.index t 1 * win0_7.size 1 = (t.val - 1) % 43 * 256 ∧ win0_7.xsize (grid0.coords t) 1 = 256 ∧ (win0_7.flush t = true ↔ t.val ≠ 0) :=
  (by decide +kernel : ∀ t : Fin grid0.N, win0_7.index t 0 = (t.val - 1) / 43 ∧ win0_7.index t 1 = (t.val - 1) % 43 ∧ win0_7.index t 0 * win0_7.size 0 = (t.val - 1) / 43 * 1280 ∧ win0_7.xsize (grid0.coords t) 0 = 1280
    ∧ win0_7.index t 1 * win0_7.size 1 = (t.val - 1) % 43 * 256 ∧ win0_7.xsize (grid0.coords t) 1 = 256 ∧ (win0_7.flush t = true ↔ t.val ≠ 0))

/-- The whole array. -/
abbrev val7 (c : Dev nD) : Buf (Elt Ideal) ((c : Thread nD τ).loc main_v0_1) :=
  codes (T := 6400) (K := 11008) (G := 344) rfl 0x37924925#32 0xC7600000#32 0x47600000#32 (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

/-- A later point writes back its block of the whole array. -/
theorem flushed7 (c : Dev nD) (t : Fin cfg0.N) (h : t.val ≠ 0) :
    (dats m 0 c).flushed 7 t = (win0_7.blk t).view.read (Elt Ideal) (val7 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed7_B m c t (by omega), e2, e3]
  rw [out7_B c t _ (iblk m c 0 t) (iblk m c 1 t) (iblk m c 2 t) (iblk m c 3 t) (iblk m c 4 t) (iblk m c 5 t)]
  funext j
  rw [View.read_apply]
  have h0 : ((win0_7.rect t).emb j 0).val = (t.val - 1) / 43 * 1280 + (j 0).val :=
    (win0_7.rect_emb_val t j 0).trans (by rw [(facts7 t).1]; rfl)
  have h1 : ((win0_7.rect t).emb j 1).val = (t.val - 1) % 43 * 256 + (j 1).val :=
    (win0_7.rect_emb_val t j 1).trans (by rw [(facts7 t).2.1]; rfl)
  exact codes_eq (T := 1280) (K := 256) (G := 8) (T' := 6400) (K' := 11008) (G' := 344) rfl rfl 0x37924925#32 0xC7600000#32 0x47600000#32 (dgateB (iblk m c 0 t) (guP (iblk m c 1 s) (iblk m c 3 s) (iblk m c 4 s)) (duP (iblk m c 2 s) (iblk m c 5 s)))
    (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (s.val / 43 * 1280) (s.val % 43 * 8)
    (fun r f r' f' hr hf => dgate_eq m c t s (by omega) r f r' f' hr (by omega)) j ((win0_7.rect t).emb j) (by rw [h0, hv]) (by rw [h1, hv]; omega)

/-- The blocks cover the array. -/
theorem cover7 (i : S6400x11008.Idx) : ∃ t : Fin cfg0.N, (cfg0.win 7).flush t = true ∧ i ∈ ((cfg0.win 7).blk t).view.set := by
  have h0 : (i 0 : Nat) < 6400 := (i 0).isLt
  have h1 : (i 1 : Nat) < 11008 := (i 1).isLt
  obtain ⟨n, hn⟩ : ∃ n, n = (i 0 : Nat) / 1280 * 43 + (i 1 : Nat) / 256 + 1 := ⟨_, rfl⟩
  have hlt : n < 216 := by omega
  have ht : n < cfg0.N := lt_of_lt_of_eq hlt N_0.symm
  have e := facts7 ⟨n, ht⟩
  refine ⟨⟨n, ht⟩, e.2.2.2.2.2.2.mpr (by show n ≠ 0; omega), ?_⟩
  show i ∈ ((View.whole main_v0_1).slice (win0_7.rect ⟨n, ht⟩)).set
  rw [View.set_slice_whole, Rect.mem_set_unit]
  intro a
  match a with
  | ⟨0, _⟩ => show win0_7.index _ 0 * win0_7.size 0 ≤ (i 0 : Nat) ∧ (i 0 : Nat) < win0_7.index _ 0 * win0_7.size 0 + win0_7.xsize (grid0.coords _) 0
              rw [e.2.2.1, e.2.2.2.1]; show (n - 1) / 43 * 1280 ≤ _ ∧ _ < (n - 1) / 43 * 1280 + 1280; omega
  | ⟨1, _⟩ => show win0_7.index _ 1 * win0_7.size 1 ≤ (i 1 : Nat) ∧ (i 1 : Nat) < win0_7.index _ 1 * win0_7.size 1 + win0_7.xsize (grid0.coords _) 1
              rw [e.2.2.2.2.1, e.2.2.2.2.2.1]; show (n - 1) % 43 * 256 ≤ _ ∧ _ < (n - 1) % 43 * 256 + 256; omega

theorem final7 (c : Dev nD) : (dats m 0 c).arrAt 7 cfg0.N = val7 m c :=
  (dats m 0 c).arrAt_eq_of_cover 7 (val7 m c) (fun t hf => flushed7 m c t ((facts7 t).2.2.2.2.2.2.mp hf)) cover7

/-! ## Window 8: the up projection's gradient -/

theorem facts8 : ∀ t : Fin cfg0.N, win0_8.index t 0 = (t.val - 1) / 43 ∧ win0_8.index t 1 = (t.val - 1) % 43 ∧ win0_8.index t 0 * win0_8.size 0 = (t.val - 1) / 43 * 1280 ∧ win0_8.xsize (grid0.coords t) 0 = 1280
    ∧ win0_8.index t 1 * win0_8.size 1 = (t.val - 1) % 43 * 256 ∧ win0_8.xsize (grid0.coords t) 1 = 256 ∧ (win0_8.flush t = true ↔ t.val ≠ 0) :=
  (by decide +kernel : ∀ t : Fin grid0.N, win0_8.index t 0 = (t.val - 1) / 43 ∧ win0_8.index t 1 = (t.val - 1) % 43 ∧ win0_8.index t 0 * win0_8.size 0 = (t.val - 1) / 43 * 1280 ∧ win0_8.xsize (grid0.coords t) 0 = 1280
    ∧ win0_8.index t 1 * win0_8.size 1 = (t.val - 1) % 43 * 256 ∧ win0_8.xsize (grid0.coords t) 1 = 256 ∧ (win0_8.flush t = true ↔ t.val ≠ 0))

/-- The whole array. -/
abbrev val8 (c : Dev nD) : Buf (Elt Ideal) ((c : Thread nD τ).loc main_v0_2) :=
  codes (T := 6400) (K := 11008) (G := 344) rfl 0x37924925#32 0xC7600000#32 0x47600000#32 (dupA (m ((c : Thread nD τ).loc main_arg0)) (m ((c : Thread nD τ).loc main_arg1)) (m ((c : Thread nD τ).loc main_arg2)) (m ((c : Thread nD τ).loc main_arg3)) (m ((c : Thread nD τ).loc main_arg5)))

/-- A later point writes back its block of the whole array. -/
theorem flushed8 (c : Dev nD) (t : Fin cfg0.N) (h : t.val ≠ 0) :
    (dats m 0 c).flushed 8 t = (win0_8.blk t).view.read (Elt Ideal) (val8 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed8_B m c t (by omega), e2, e3]
  rw [out8_B c t _ (iblk m c 0 t) (iblk m c 1 t) (iblk m c 2 t) (iblk m c 3 t) (iblk m c 4 t) (iblk m c 5 t)]
  funext j
  rw [View.read_apply]
  have h0 : ((win0_8.rect t).emb j 0).val = (t.val - 1) / 43 * 1280 + (j 0).val :=
    (win0_8.rect_emb_val t j 0).trans (by rw [(facts8 t).1]; rfl)
  have h1 : ((win0_8.rect t).emb j 1).val = (t.val - 1) % 43 * 256 + (j 1).val :=
    (win0_8.rect_emb_val t j 1).trans (by rw [(facts8 t).2.1]; rfl)
  exact codes_eq (T := 1280) (K := 256) (G := 8) (T' := 6400) (K' := 11008) (G' := 344) rfl rfl 0x37924925#32 0xC7600000#32 0x47600000#32 (dupB (iblk m c 0 t) (guP (iblk m c 1 s) (iblk m c 3 s) (iblk m c 4 s)) (duP (iblk m c 2 s) (iblk m c 5 s)))
    (dupA (m ((c : Thread nD τ).loc main_arg0)) (m ((c : Thread nD τ).loc main_arg1)) (m ((c : Thread nD τ).loc main_arg2)) (m ((c : Thread nD τ).loc main_arg3)) (m ((c : Thread nD τ).loc main_arg5))) (s.val / 43 * 1280) (s.val % 43 * 8)
    (fun r f r' f' hr hf => dup_eq m c t s (by omega) r f r' f' hr (by omega)) j ((win0_8.rect t).emb j) (by rw [h0, hv]) (by rw [h1, hv]; omega)

/-- The blocks cover the array. -/
theorem cover8 (i : S6400x11008.Idx) : ∃ t : Fin cfg0.N, (cfg0.win 8).flush t = true ∧ i ∈ ((cfg0.win 8).blk t).view.set := by
  have h0 : (i 0 : Nat) < 6400 := (i 0).isLt
  have h1 : (i 1 : Nat) < 11008 := (i 1).isLt
  obtain ⟨n, hn⟩ : ∃ n, n = (i 0 : Nat) / 1280 * 43 + (i 1 : Nat) / 256 + 1 := ⟨_, rfl⟩
  have hlt : n < 216 := by omega
  have ht : n < cfg0.N := lt_of_lt_of_eq hlt N_0.symm
  have e := facts8 ⟨n, ht⟩
  refine ⟨⟨n, ht⟩, e.2.2.2.2.2.2.mpr (by show n ≠ 0; omega), ?_⟩
  show i ∈ ((View.whole main_v0_2).slice (win0_8.rect ⟨n, ht⟩)).set
  rw [View.set_slice_whole, Rect.mem_set_unit]
  intro a
  match a with
  | ⟨0, _⟩ => show win0_8.index _ 0 * win0_8.size 0 ≤ (i 0 : Nat) ∧ (i 0 : Nat) < win0_8.index _ 0 * win0_8.size 0 + win0_8.xsize (grid0.coords _) 0
              rw [e.2.2.1, e.2.2.2.1]; show (n - 1) / 43 * 1280 ≤ _ ∧ _ < (n - 1) / 43 * 1280 + 1280; omega
  | ⟨1, _⟩ => show win0_8.index _ 1 * win0_8.size 1 ≤ (i 1 : Nat) ∧ (i 1 : Nat) < win0_8.index _ 1 * win0_8.size 1 + win0_8.xsize (grid0.coords _) 1
              rw [e.2.2.2.2.1, e.2.2.2.2.2.1]; show (n - 1) % 43 * 256 ≤ _ ∧ _ < (n - 1) % 43 * 256 + 256; omega

theorem final8 (c : Dev nD) : (dats m 0 c).arrAt 8 cfg0.N = val8 m c :=
  (dats m 0 c).arrAt_eq_of_cover 8 (val8 m c) (fun t hf => flushed8 m c t ((facts8 t).2.2.2.2.2.2.mp hf)) cover8

end Cert.MlpIdeal.RefValue
end
-- ==== Proof.MlpBlock9.lean ====
/-
  The MLP's kernel: scales of the activation of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

/-- The scales of the activation that a later point leaves. -/
theorem out9_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = scales (T := 1280) (K := 256) (G := 8) rfl 0x3B124925#32 (actB x0 xs2) := by
  unfold out0_B_9
  rw [View.read_writes_eq_canon _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact scaleA_at t x0 xs2 7 1024 224 480 rfl rfl inb_S512x1280_S32x256_224_1024 inb_S512x1280_S32x256_480_1024 x y (by omega) (by omega)
  · exact scaleA_at t x0 xs2 6 1024 192 448 rfl rfl inb_S512x1280_S32x256_192_1024 inb_S512x1280_S32x256_448_1024 x y (by omega) (by omega)
  · exact scaleA_at t x0 xs2 5 1024 160 416 rfl rfl inb_S512x1280_S32x256_160_1024 inb_S512x1280_S32x256_416_1024 x y (by omega) (by omega)
  · exact scaleA_at t x0 xs2 4 1024 128 384 rfl rfl inb_S512x1280_S32x256_128_1024 inb_S512x1280_S32x256_384_1024 x y (by omega) (by omega)
  · exact scaleA_at t x0 xs2 3 1024 96 352 rfl rfl inb_S512x1280_S32x256_96_1024 inb_S512x1280_S32x256_352_1024 x y (by omega) (by omega)
  · exact scaleA_at t x0 xs2 2 1024 64 320 rfl rfl inb_S512x1280_S32x256_64_1024 inb_S512x1280_S32x256_320_1024 x y (by omega) (by omega)
  · exact scaleA_at t x0 xs2 1 1024 32 288 rfl rfl inb_S512x1280_S32x256_32_1024 inb_S512x1280_S32x256_288_1024 x y (by omega) (by omega)
  · exact scaleA_at t x0 xs2 0 1024 0 256 rfl rfl inb_S512x1280_S32x256_0_1024 inb_S512x1280_S32x256_256_1024 x y (by omega) (by omega)
  · exact scaleA_at t x0 xs2 7 768 224 480 rfl rfl inb_S512x1280_S32x256_224_768 inb_S512x1280_S32x256_480_768 x y (by omega) (by omega)
  · exact scaleA_at t x0 xs2 6 768 192 448 rfl rfl inb_S512x1280_S32x256_192_768 inb_S512x1280_S32x256_448_768 x y (by omega) (by omega)
  · exact scaleA_at t x0 xs2 5 768 160 416 rfl rfl inb_S512x1280_S32x256_160_768 inb_S512x1280_S32x256_416_768 x y (by omega) (by omega)
  · exact scaleA_at t x0 xs2 4 768 128 384 rfl rfl inb_S512x1280_S32x256_128_768 inb_S512x1280_S32x256_384_768 x y (by omega) (by omega)
  · exact scaleA_at t x0 xs2 3 768 96 352 rfl rfl inb_S512x1280_S32x256_96_768 inb_S512x1280_S32x256_352_768 x y (by omega) (by omega)
  · exact scaleA_at t x0 xs2 2 768 64 320 rfl rfl inb_S512x1280_S32x256_64_768 inb_S512x1280_S32x256_320_768 x y (by omega) (by omega)
  · exact scaleA_at t x0 xs2 1 768 32 288 rfl rfl inb_S512x1280_S32x256_32_768 inb_S512x1280_S32x256_288_768 x y (by omega) (by omega)
  · exact scaleA_at t x0 xs2 0 768 0 256 rfl rfl inb_S512x1280_S32x256_0_768 inb_S512x1280_S32x256_256_768 x y (by omega) (by omega)
  · exact scaleA_at t x0 xs2 7 512 224 480 rfl rfl inb_S512x1280_S32x256_224_512 inb_S512x1280_S32x256_480_512 x y (by omega) (by omega)
  · exact scaleA_at t x0 xs2 6 512 192 448 rfl rfl inb_S512x1280_S32x256_192_512 inb_S512x1280_S32x256_448_512 x y (by omega) (by omega)
  · exact scaleA_at t x0 xs2 5 512 160 416 rfl rfl inb_S512x1280_S32x256_160_512 inb_S512x1280_S32x256_416_512 x y (by omega) (by omega)
  · exact scaleA_at t x0 xs2 4 512 128 384 rfl rfl inb_S512x1280_S32x256_128_512 inb_S512x1280_S32x256_384_512 x y (by omega) (by omega)
  · exact scaleA_at t x0 xs2 3 512 96 352 rfl rfl inb_S512x1280_S32x256_96_512 inb_S512x1280_S32x256_352_512 x y (by omega) (by omega)
  · exact scaleA_at t x0 xs2 2 512 64 320 rfl rfl inb_S512x1280_S32x256_64_512 inb_S512x1280_S32x256_320_512 x y (by omega) (by omega)
  · exact scaleA_at t x0 xs2 1 512 32 288 rfl rfl inb_S512x1280_S32x256_32_512 inb_S512x1280_S32x256_288_512 x y (by omega) (by omega)
  · exact scaleA_at t x0 xs2 0 512 0 256 rfl rfl inb_S512x1280_S32x256_0_512 inb_S512x1280_S32x256_256_512 x y (by omega) (by omega)
  · exact scaleA_at t x0 xs2 7 256 224 480 rfl rfl inb_S512x1280_S32x256_224_256 inb_S512x1280_S32x256_480_256 x y (by omega) (by omega)
  · exact scaleA_at t x0 xs2 6 256 192 448 rfl rfl inb_S512x1280_S32x256_192_256 inb_S512x1280_S32x256_448_256 x y (by omega) (by omega)
  · exact scaleA_at t x0 xs2 5 256 160 416 rfl rfl inb_S512x1280_S32x256_160_256 inb_S512x1280_S32x256_416_256 x y (by omega) (by omega)
  · exact scaleA_at t x0 xs2 4 256 128 384 rfl rfl inb_S512x1280_S32x256_128_256 inb_S512x1280_S32x256_384_256 x y (by omega) (by omega)
  · exact scaleA_at t x0 xs2 3 256 96 352 rfl rfl inb_S512x1280_S32x256_96_256 inb_S512x1280_S32x256_352_256 x y (by omega) (by omega)
  · exact scaleA_at t x0 xs2 2 256 64 320 rfl rfl inb_S512x1280_S32x256_64_256 inb_S512x1280_S32x256_320_256 x y (by omega) (by omega)
  · exact scaleA_at t x0 xs2 1 256 32 288 rfl rfl inb_S512x1280_S32x256_32_256 inb_S512x1280_S32x256_288_256 x y (by omega) (by omega)
  · exact scaleA_at t x0 xs2 0 256 0 256 rfl rfl inb_S512x1280_S32x256_0_256 inb_S512x1280_S32x256_256_256 x y (by omega) (by omega)
  · exact scaleA_at t x0 xs2 7 0 224 480 rfl rfl inb_S512x1280_S32x256_224_0 inb_S512x1280_S32x256_480_0 x y (by omega) (by omega)
  · exact scaleA_at t x0 xs2 6 0 192 448 rfl rfl inb_S512x1280_S32x256_192_0 inb_S512x1280_S32x256_448_0 x y (by omega) (by omega)
  · exact scaleA_at t x0 xs2 5 0 160 416 rfl rfl inb_S512x1280_S32x256_160_0 inb_S512x1280_S32x256_416_0 x y (by omega) (by omega)
  · exact scaleA_at t x0 xs2 4 0 128 384 rfl rfl inb_S512x1280_S32x256_128_0 inb_S512x1280_S32x256_384_0 x y (by omega) (by omega)
  · exact scaleA_at t x0 xs2 3 0 96 352 rfl rfl inb_S512x1280_S32x256_96_0 inb_S512x1280_S32x256_352_0 x y (by omega) (by omega)
  · exact scaleA_at t x0 xs2 2 0 64 320 rfl rfl inb_S512x1280_S32x256_64_0 inb_S512x1280_S32x256_320_0 x y (by omega) (by omega)
  · exact scaleA_at t x0 xs2 1 0 32 288 rfl rfl inb_S512x1280_S32x256_32_0 inb_S512x1280_S32x256_288_0 x y (by omega) (by omega)
  · exact scaleA_at t x0 xs2 0 0 0 256 rfl rfl inb_S512x1280_S32x256_0_0 inb_S512x1280_S32x256_256_0 x y (by omega) (by omega)

end Cert.MlpIdeal.RefValue
end
-- ==== Proof.MlpBlock10.lean ====
/-
  The MLP's kernel: scales of the gate's gradient of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

/-- The scales of the gate's gradient that a later point leaves. -/
theorem out10_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = scales (T := 1280) (K := 256) (G := 8) rfl 0x37924925#32 (dgateB x0 xs2 xs3) := by
  unfold out0_B_10
  rw [View.read_writes_eq_canon _ _ _ (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact scaleG_at t x0 xs2 xs3 7 1024 224 480 rfl rfl inb_S512x1280_S32x256_224_1024 inb_S512x1280_S32x256_480_1024 inb_S256x1280_S32x256_224_1024 x y (by omega) (by omega)
  · exact scaleG_at t x0 xs2 xs3 6 1024 192 448 rfl rfl inb_S512x1280_S32x256_192_1024 inb_S512x1280_S32x256_448_1024 inb_S256x1280_S32x256_192_1024 x y (by omega) (by omega)
  · exact scaleG_at t x0 xs2 xs3 5 1024 160 416 rfl rfl inb_S512x1280_S32x256_160_1024 inb_S512x1280_S32x256_416_1024 inb_S256x1280_S32x256_160_1024 x y (by omega) (by omega)
  · exact scaleG_at t x0 xs2 xs3 4 1024 128 384 rfl rfl inb_S512x1280_S32x256_128_1024 inb_S512x1280_S32x256_384_1024 inb_S256x1280_S32x256_128_1024 x y (by omega) (by omega)
  · exact scaleG_at t x0 xs2 xs3 3 1024 96 352 rfl rfl inb_S512x1280_S32x256_96_1024 inb_S512x1280_S32x256_352_1024 inb_S256x1280_S32x256_96_1024 x y (by omega) (by omega)
  · exact scaleG_at t x0 xs2 xs3 2 1024 64 320 rfl rfl inb_S512x1280_S32x256_64_1024 inb_S512x1280_S32x256_320_1024 inb_S256x1280_S32x256_64_1024 x y (by omega) (by omega)
  · exact scaleG_at t x0 xs2 xs3 1 1024 32 288 rfl rfl inb_S512x1280_S32x256_32_1024 inb_S512x1280_S32x256_288_1024 inb_S256x1280_S32x256_32_1024 x y (by omega) (by omega)
  · exact scaleG_at t x0 xs2 xs3 0 1024 0 256 rfl rfl inb_S512x1280_S32x256_0_1024 inb_S512x1280_S32x256_256_1024 inb_S256x1280_S32x256_0_1024 x y (by omega) (by omega)
  · exact scaleG_at t x0 xs2 xs3 7 768 224 480 rfl rfl inb_S512x1280_S32x256_224_768 inb_S512x1280_S32x256_480_768 inb_S256x1280_S32x256_224_768 x y (by omega) (by omega)
  · exact scaleG_at t x0 xs2 xs3 6 768 192 448 rfl rfl inb_S512x1280_S32x256_192_768 inb_S512x1280_S32x256_448_768 inb_S256x1280_S32x256_192_768 x y (by omega) (by omega)
  · exact scaleG_at t x0 xs2 xs3 5 768 160 416 rfl rfl inb_S512x1280_S32x256_160_768 inb_S512x1280_S32x256_416_768 inb_S256x1280_S32x256_160_768 x y (by omega) (by omega)
  · exact scaleG_at t x0 xs2 xs3 4 768 128 384 rfl rfl inb_S512x1280_S32x256_128_768 inb_S512x1280_S32x256_384_768 inb_S256x1280_S32x256_128_768 x y (by omega) (by omega)
  · exact scaleG_at t x0 xs2 xs3 3 768 96 352 rfl rfl inb_S512x1280_S32x256_96_768 inb_S512x1280_S32x256_352_768 inb_S256x1280_S32x256_96_768 x y (by omega) (by omega)
  · exact scaleG_at t x0 xs2 xs3 2 768 64 320 rfl rfl inb_S512x1280_S32x256_64_768 inb_S512x1280_S32x256_320_768 inb_S256x1280_S32x256_64_768 x y (by omega) (by omega)
  · exact scaleG_at t x0 xs2 xs3 1 768 32 288 rfl rfl inb_S512x1280_S32x256_32_768 inb_S512x1280_S32x256_288_768 inb_S256x1280_S32x256_32_768 x y (by omega) (by omega)
  · exact scaleG_at t x0 xs2 xs3 0 768 0 256 rfl rfl inb_S512x1280_S32x256_0_768 inb_S512x1280_S32x256_256_768 inb_S256x1280_S32x256_0_768 x y (by omega) (by omega)
  · exact scaleG_at t x0 xs2 xs3 7 512 224 480 rfl rfl inb_S512x1280_S32x256_224_512 inb_S512x1280_S32x256_480_512 inb_S256x1280_S32x256_224_512 x y (by omega) (by omega)
  · exact scaleG_at t x0 xs2 xs3 6 512 192 448 rfl rfl inb_S512x1280_S32x256_192_512 inb_S512x1280_S32x256_448_512 inb_S256x1280_S32x256_192_512 x y (by omega) (by omega)
  · exact scaleG_at t x0 xs2 xs3 5 512 160 416 rfl rfl inb_S512x1280_S32x256_160_512 inb_S512x1280_S32x256_416_512 inb_S256x1280_S32x256_160_512 x y (by omega) (by omega)
  · exact scaleG_at t x0 xs2 xs3 4 512 128 384 rfl rfl inb_S512x1280_S32x256_128_512 inb_S512x1280_S32x256_384_512 inb_S256x1280_S32x256_128_512 x y (by omega) (by omega)
  · exact scaleG_at t x0 xs2 xs3 3 512 96 352 rfl rfl inb_S512x1280_S32x256_96_512 inb_S512x1280_S32x256_352_512 inb_S256x1280_S32x256_96_512 x y (by omega) (by omega)
  · exact scaleG_at t x0 xs2 xs3 2 512 64 320 rfl rfl inb_S512x1280_S32x256_64_512 inb_S512x1280_S32x256_320_512 inb_S256x1280_S32x256_64_512 x y (by omega) (by omega)
  · exact scaleG_at t x0 xs2 xs3 1 512 32 288 rfl rfl inb_S512x1280_S32x256_32_512 inb_S512x1280_S32x256_288_512 inb_S256x1280_S32x256_32_512 x y (by omega) (by omega)
  · exact scaleG_at t x0 xs2 xs3 0 512 0 256 rfl rfl inb_S512x1280_S32x256_0_512 inb_S512x1280_S32x256_256_512 inb_S256x1280_S32x256_0_512 x y (by omega) (by omega)
  · exact scaleG_at t x0 xs2 xs3 7 256 224 480 rfl rfl inb_S512x1280_S32x256_224_256 inb_S512x1280_S32x256_480_256 inb_S256x1280_S32x256_224_256 x y (by omega) (by omega)
  · exact scaleG_at t x0 xs2 xs3 6 256 192 448 rfl rfl inb_S512x1280_S32x256_192_256 inb_S512x1280_S32x256_448_256 inb_S256x1280_S32x256_192_256 x y (by omega) (by omega)
  · exact scaleG_at t x0 xs2 xs3 5 256 160 416 rfl rfl inb_S512x1280_S32x256_160_256 inb_S512x1280_S32x256_416_256 inb_S256x1280_S32x256_160_256 x y (by omega) (by omega)
  · exact scaleG_at t x0 xs2 xs3 4 256 128 384 rfl rfl inb_S512x1280_S32x256_128_256 inb_S512x1280_S32x256_384_256 inb_S256x1280_S32x256_128_256 x y (by omega) (by omega)
  · exact scaleG_at t x0 xs2 xs3 3 256 96 352 rfl rfl inb_S512x1280_S32x256_96_256 inb_S512x1280_S32x256_352_256 inb_S256x1280_S32x256_96_256 x y (by omega) (by omega)
  · exact scaleG_at t x0 xs2 xs3 2 256 64 320 rfl rfl inb_S512x1280_S32x256_64_256 inb_S512x1280_S32x256_320_256 inb_S256x1280_S32x256_64_256 x y (by omega) (by omega)
  · exact scaleG_at t x0 xs2 xs3 1 256 32 288 rfl rfl inb_S512x1280_S32x256_32_256 inb_S512x1280_S32x256_288_256 inb_S256x1280_S32x256_32_256 x y (by omega) (by omega)
  · exact scaleG_at t x0 xs2 xs3 0 256 0 256 rfl rfl inb_S512x1280_S32x256_0_256 inb_S512x1280_S32x256_256_256 inb_S256x1280_S32x256_0_256 x y (by omega) (by omega)
  · exact scaleG_at t x0 xs2 xs3 7 0 224 480 rfl rfl inb_S512x1280_S32x256_224_0 inb_S512x1280_S32x256_480_0 inb_S256x1280_S32x256_224_0 x y (by omega) (by omega)
  · exact scaleG_at t x0 xs2 xs3 6 0 192 448 rfl rfl inb_S512x1280_S32x256_192_0 inb_S512x1280_S32x256_448_0 inb_S256x1280_S32x256_192_0 x y (by omega) (by omega)
  · exact scaleG_at t x0 xs2 xs3 5 0 160 416 rfl rfl inb_S512x1280_S32x256_160_0 inb_S512x1280_S32x256_416_0 inb_S256x1280_S32x256_160_0 x y (by omega) (by omega)
  · exact scaleG_at t x0 xs2 xs3 4 0 128 384 rfl rfl inb_S512x1280_S32x256_128_0 inb_S512x1280_S32x256_384_0 inb_S256x1280_S32x256_128_0 x y (by omega) (by omega)
  · exact scaleG_at t x0 xs2 xs3 3 0 96 352 rfl rfl inb_S512x1280_S32x256_96_0 inb_S512x1280_S32x256_352_0 inb_S256x1280_S32x256_96_0 x y (by omega) (by omega)
  · exact scaleG_at t x0 xs2 xs3 2 0 64 320 rfl rfl inb_S512x1280_S32x256_64_0 inb_S512x1280_S32x256_320_0 inb_S256x1280_S32x256_64_0 x y (by omega) (by omega)
  · exact scaleG_at t x0 xs2 xs3 1 0 32 288 rfl rfl inb_S512x1280_S32x256_32_0 inb_S512x1280_S32x256_288_0 inb_S256x1280_S32x256_32_0 x y (by omega) (by omega)
  · exact scaleG_at t x0 xs2 xs3 0 0 0 256 rfl rfl inb_S512x1280_S32x256_0_0 inb_S512x1280_S32x256_256_0 inb_S256x1280_S32x256_0_0 x y (by omega) (by omega)

end Cert.MlpIdeal.RefValue
end
-- ==== Proof.MlpBlock11.lean ====
/-
  The MLP's kernel: scales of the up projection's gradient of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

/-- The scales of the up projection's gradient that a later point leaves. -/
theorem out11_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = scales (T := 1280) (K := 256) (G := 8) rfl 0x37924925#32 (dupB x0 xs2 xs3) := by
  unfold out0_B_11
  rw [View.read_writes_eq_canon _ _ _ (cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact scaleU_at t x0 xs2 xs3 7 1024 224 rfl inb_S512x1280_S32x256_224_1024 inb_S256x1280_S32x256_224_1024 x y (by omega) (by omega)
  · exact scaleU_at t x0 xs2 xs3 6 1024 192 rfl inb_S512x1280_S32x256_192_1024 inb_S256x1280_S32x256_192_1024 x y (by omega) (by omega)
  · exact scaleU_at t x0 xs2 xs3 5 1024 160 rfl inb_S512x1280_S32x256_160_1024 inb_S256x1280_S32x256_160_1024 x y (by omega) (by omega)
  · exact scaleU_at t x0 xs2 xs3 4 1024 128 rfl inb_S512x1280_S32x256_128_1024 inb_S256x1280_S32x256_128_1024 x y (by omega) (by omega)
  · exact scaleU_at t x0 xs2 xs3 3 1024 96 rfl inb_S512x1280_S32x256_96_1024 inb_S256x1280_S32x256_96_1024 x y (by omega) (by omega)
  · exact scaleU_at t x0 xs2 xs3 2 1024 64 rfl inb_S512x1280_S32x256_64_1024 inb_S256x1280_S32x256_64_1024 x y (by omega) (by omega)
  · exact scaleU_at t x0 xs2 xs3 1 1024 32 rfl inb_S512x1280_S32x256_32_1024 inb_S256x1280_S32x256_32_1024 x y (by omega) (by omega)
  · exact scaleU_at t x0 xs2 xs3 0 1024 0 rfl inb_S512x1280_S32x256_0_1024 inb_S256x1280_S32x256_0_1024 x y (by omega) (by omega)
  · exact scaleU_at t x0 xs2 xs3 7 768 224 rfl inb_S512x1280_S32x256_224_768 inb_S256x1280_S32x256_224_768 x y (by omega) (by omega)
  · exact scaleU_at t x0 xs2 xs3 6 768 192 rfl inb_S512x1280_S32x256_192_768 inb_S256x1280_S32x256_192_768 x y (by omega) (by omega)
  · exact scaleU_at t x0 xs2 xs3 5 768 160 rfl inb_S512x1280_S32x256_160_768 inb_S256x1280_S32x256_160_768 x y (by omega) (by omega)
  · exact scaleU_at t x0 xs2 xs3 4 768 128 rfl inb_S512x1280_S32x256_128_768 inb_S256x1280_S32x256_128_768 x y (by omega) (by omega)
  · exact scaleU_at t x0 xs2 xs3 3 768 96 rfl inb_S512x1280_S32x256_96_768 inb_S256x1280_S32x256_96_768 x y (by omega) (by omega)
  · exact scaleU_at t x0 xs2 xs3 2 768 64 rfl inb_S512x1280_S32x256_64_768 inb_S256x1280_S32x256_64_768 x y (by omega) (by omega)
  · exact scaleU_at t x0 xs2 xs3 1 768 32 rfl inb_S512x1280_S32x256_32_768 inb_S256x1280_S32x256_32_768 x y (by omega) (by omega)
  · exact scaleU_at t x0 xs2 xs3 0 768 0 rfl inb_S512x1280_S32x256_0_768 inb_S256x1280_S32x256_0_768 x y (by omega) (by omega)
  · exact scaleU_at t x0 xs2 xs3 7 512 224 rfl inb_S512x1280_S32x256_224_512 inb_S256x1280_S32x256_224_512 x y (by omega) (by omega)
  · exact scaleU_at t x0 xs2 xs3 6 512 192 rfl inb_S512x1280_S32x256_192_512 inb_S256x1280_S32x256_192_512 x y (by omega) (by omega)
  · exact scaleU_at t x0 xs2 xs3 5 512 160 rfl inb_S512x1280_S32x256_160_512 inb_S256x1280_S32x256_160_512 x y (by omega) (by omega)
  · exact scaleU_at t x0 xs2 xs3 4 512 128 rfl inb_S512x1280_S32x256_128_512 inb_S256x1280_S32x256_128_512 x y (by omega) (by omega)
  · exact scaleU_at t x0 xs2 xs3 3 512 96 rfl inb_S512x1280_S32x256_96_512 inb_S256x1280_S32x256_96_512 x y (by omega) (by omega)
  · exact scaleU_at t x0 xs2 xs3 2 512 64 rfl inb_S512x1280_S32x256_64_512 inb_S256x1280_S32x256_64_512 x y (by omega) (by omega)
  · exact scaleU_at t x0 xs2 xs3 1 512 32 rfl inb_S512x1280_S32x256_32_512 inb_S256x1280_S32x256_32_512 x y (by omega) (by omega)
  · exact scaleU_at t x0 xs2 xs3 0 512 0 rfl inb_S512x1280_S32x256_0_512 inb_S256x1280_S32x256_0_512 x y (by omega) (by omega)
  · exact scaleU_at t x0 xs2 xs3 7 256 224 rfl inb_S512x1280_S32x256_224_256 inb_S256x1280_S32x256_224_256 x y (by omega) (by omega)
  · exact scaleU_at t x0 xs2 xs3 6 256 192 rfl inb_S512x1280_S32x256_192_256 inb_S256x1280_S32x256_192_256 x y (by omega) (by omega)
  · exact scaleU_at t x0 xs2 xs3 5 256 160 rfl inb_S512x1280_S32x256_160_256 inb_S256x1280_S32x256_160_256 x y (by omega) (by omega)
  · exact scaleU_at t x0 xs2 xs3 4 256 128 rfl inb_S512x1280_S32x256_128_256 inb_S256x1280_S32x256_128_256 x y (by omega) (by omega)
  · exact scaleU_at t x0 xs2 xs3 3 256 96 rfl inb_S512x1280_S32x256_96_256 inb_S256x1280_S32x256_96_256 x y (by omega) (by omega)
  · exact scaleU_at t x0 xs2 xs3 2 256 64 rfl inb_S512x1280_S32x256_64_256 inb_S256x1280_S32x256_64_256 x y (by omega) (by omega)
  · exact scaleU_at t x0 xs2 xs3 1 256 32 rfl inb_S512x1280_S32x256_32_256 inb_S256x1280_S32x256_32_256 x y (by omega) (by omega)
  · exact scaleU_at t x0 xs2 xs3 0 256 0 rfl inb_S512x1280_S32x256_0_256 inb_S256x1280_S32x256_0_256 x y (by omega) (by omega)
  · exact scaleU_at t x0 xs2 xs3 7 0 224 rfl inb_S512x1280_S32x256_224_0 inb_S256x1280_S32x256_224_0 x y (by omega) (by omega)
  · exact scaleU_at t x0 xs2 xs3 6 0 192 rfl inb_S512x1280_S32x256_192_0 inb_S256x1280_S32x256_192_0 x y (by omega) (by omega)
  · exact scaleU_at t x0 xs2 xs3 5 0 160 rfl inb_S512x1280_S32x256_160_0 inb_S256x1280_S32x256_160_0 x y (by omega) (by omega)
  · exact scaleU_at t x0 xs2 xs3 4 0 128 rfl inb_S512x1280_S32x256_128_0 inb_S256x1280_S32x256_128_0 x y (by omega) (by omega)
  · exact scaleU_at t x0 xs2 xs3 3 0 96 rfl inb_S512x1280_S32x256_96_0 inb_S256x1280_S32x256_96_0 x y (by omega) (by omega)
  · exact scaleU_at t x0 xs2 xs3 2 0 64 rfl inb_S512x1280_S32x256_64_0 inb_S256x1280_S32x256_64_0 x y (by omega) (by omega)
  · exact scaleU_at t x0 xs2 xs3 1 0 32 rfl inb_S512x1280_S32x256_32_0 inb_S256x1280_S32x256_32_0 x y (by omega) (by omega)
  · exact scaleU_at t x0 xs2 xs3 0 0 0 rfl inb_S512x1280_S32x256_0_0 inb_S256x1280_S32x256_0_0 x y (by omega) (by omega)

end Cert.MlpIdeal.RefValue
end
-- ==== Proof.MlpScales.lean ====
/-
  The MLP's kernel: the result arrays of the scales after the run. Every point but the first writes back the block
  of the point before, and the blocks cover the arrays.
-/
module

public import proofs.«01_k».proof.Proof.MlpBlock9
public import proofs.«01_k».proof.Proof.MlpBlock10
public import proofs.«01_k».proof.Proof.MlpBlock11
public import proofs.«01_k».proof.Proof.MlpScratch

@[expose] public section

set_option maxRecDepth 16384

noncomputable section

namespace Cert.MlpIdeal.RefValue

open Cert.MlpIdeal Cert.MlpIdeal.Gen Cert.Mlp Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Window 9: the activation -/

theorem facts9 : ∀ t : Fin cfg0.N, win0_9.index t 0 = (t.val - 1) % 43 ∧ win0_9.index t 1 = (t.val - 1) / 43 ∧ win0_9.index t 0 * win0_9.size 0 = (t.val - 1) % 43 * 8 ∧ win0_9.xsize (grid0.coords t) 0 = 8
    ∧ win0_9.index t 1 * win0_9.size 1 = (t.val - 1) / 43 * 1280 ∧ win0_9.xsize (grid0.coords t) 1 = 1280 ∧ (win0_9.flush t = true ↔ t.val ≠ 0) :=
  (by decide +kernel : ∀ t : Fin grid0.N, win0_9.index t 0 = (t.val - 1) % 43 ∧ win0_9.index t 1 = (t.val - 1) / 43 ∧ win0_9.index t 0 * win0_9.size 0 = (t.val - 1) % 43 * 8 ∧ win0_9.xsize (grid0.coords t) 0 = 8
    ∧ win0_9.index t 1 * win0_9.size 1 = (t.val - 1) / 43 * 1280 ∧ win0_9.xsize (grid0.coords t) 1 = 1280 ∧ (win0_9.flush t = true ↔ t.val ≠ 0))

/-- The whole array. -/
abbrev val9 (c : Dev nD) : Buf (Elt Ideal) ((c : Thread nD τ).loc main_v0_3) :=
  scales (T := 6400) (K := 11008) (G := 344) rfl 0x3B124925#32 (actA (m ((c : Thread nD τ).loc main_arg0)) (m ((c : Thread nD τ).loc main_arg1)) (m ((c : Thread nD τ).loc main_arg3)) (m ((c : Thread nD τ).loc main_arg4)))

/-- A later point writes back its block of the whole array. -/
theorem flushed9 (c : Dev nD) (t : Fin cfg0.N) (h : t.val ≠ 0) :
    (dats m 0 c).flushed 9 t = (win0_9.blk t).view.read (Elt Ideal) (val9 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed9_B m c t (by omega), e2, e3]
  rw [out9_B c t _ (iblk m c 0 t) (iblk m c 1 t) (iblk m c 2 t) (iblk m c 3 t) (iblk m c 4 t) (iblk m c 5 t)]
  funext j
  rw [View.read_apply]
  have h0 : ((win0_9.rect t).emb j 0).val = (t.val - 1) % 43 * 8 + (j 0).val :=
    (win0_9.rect_emb_val t j 0).trans (by rw [(facts9 t).1]; rfl)
  have h1 : ((win0_9.rect t).emb j 1).val = (t.val - 1) / 43 * 1280 + (j 1).val :=
    (win0_9.rect_emb_val t j 1).trans (by rw [(facts9 t).2.1]; rfl)
  exact scales_eq (T := 1280) (K := 256) (G := 8) (T' := 6400) (K' := 11008) (G' := 344) rfl rfl 0x3B124925#32 (actB (iblk m c 0 t) (guP (iblk m c 1 s) (iblk m c 3 s) (iblk m c 4 s)))
    (actA (m ((c : Thread nD τ).loc main_arg0)) (m ((c : Thread nD τ).loc main_arg1)) (m ((c : Thread nD τ).loc main_arg3)) (m ((c : Thread nD τ).loc main_arg4))) (s.val / 43 * 1280) (s.val % 43 * 8)
    (fun r f r' f' hr hf => act_eq m c t s (by omega) r f r' f' hr (by omega)) j ((win0_9.rect t).emb j) (by rw [h0, hv]) (by rw [h1, hv])

/-- The blocks cover the array. -/
theorem cover9 (i : S344x6400.Idx) : ∃ t : Fin cfg0.N, (cfg0.win 9).flush t = true ∧ i ∈ ((cfg0.win 9).blk t).view.set := by
  have h0 : (i 0 : Nat) < 344 := (i 0).isLt
  have h1 : (i 1 : Nat) < 6400 := (i 1).isLt
  obtain ⟨n, hn⟩ : ∃ n, n = (i 1 : Nat) / 1280 * 43 + (i 0 : Nat) / 8 + 1 := ⟨_, rfl⟩
  have hlt : n < 216 := by omega
  have ht : n < cfg0.N := lt_of_lt_of_eq hlt N_0.symm
  have e := facts9 ⟨n, ht⟩
  refine ⟨⟨n, ht⟩, e.2.2.2.2.2.2.mpr (by show n ≠ 0; omega), ?_⟩
  show i ∈ ((View.whole main_v0_3).slice (win0_9.rect ⟨n, ht⟩)).set
  rw [View.set_slice_whole, Rect.mem_set_unit]
  intro a
  match a with
  | ⟨0, _⟩ => show win0_9.index _ 0 * win0_9.size 0 ≤ (i 0 : Nat) ∧ (i 0 : Nat) < win0_9.index _ 0 * win0_9.size 0 + win0_9.xsize (grid0.coords _) 0
              rw [e.2.2.1, e.2.2.2.1]; show (n - 1) % 43 * 8 ≤ _ ∧ _ < (n - 1) % 43 * 8 + 8; omega
  | ⟨1, _⟩ => show win0_9.index _ 1 * win0_9.size 1 ≤ (i 1 : Nat) ∧ (i 1 : Nat) < win0_9.index _ 1 * win0_9.size 1 + win0_9.xsize (grid0.coords _) 1
              rw [e.2.2.2.2.1, e.2.2.2.2.2.1]; show (n - 1) / 43 * 1280 ≤ _ ∧ _ < (n - 1) / 43 * 1280 + 1280; omega

theorem final9 (c : Dev nD) : (dats m 0 c).arrAt 9 cfg0.N = val9 m c :=
  (dats m 0 c).arrAt_eq_of_cover 9 (val9 m c) (fun t hf => flushed9 m c t ((facts9 t).2.2.2.2.2.2.mp hf)) cover9

/-! ## Window 10: the gate's gradient -/

theorem facts10 : ∀ t : Fin cfg0.N, win0_10.index t 0 = (t.val - 1) % 43 ∧ win0_10.index t 1 = (t.val - 1) / 43 ∧ win0_10.index t 0 * win0_10.size 0 = (t.val - 1) % 43 * 8 ∧ win0_10.xsize (grid0.coords t) 0 = 8
    ∧ win0_10.index t 1 * win0_10.size 1 = (t.val - 1) / 43 * 1280 ∧ win0_10.xsize (grid0.coords t) 1 = 1280 ∧ (win0_10.flush t = true ↔ t.val ≠ 0) :=
  (by decide +kernel : ∀ t : Fin grid0.N, win0_10.index t 0 = (t.val - 1) % 43 ∧ win0_10.index t 1 = (t.val - 1) / 43 ∧ win0_10.index t 0 * win0_10.size 0 = (t.val - 1) % 43 * 8 ∧ win0_10.xsize (grid0.coords t) 0 = 8
    ∧ win0_10.index t 1 * win0_10.size 1 = (t.val - 1) / 43 * 1280 ∧ win0_10.xsize (grid0.coords t) 1 = 1280 ∧ (win0_10.flush t = true ↔ t.val ≠ 0))

/-- The whole array. -/
abbrev val10 (c : Dev nD) : Buf (Elt Ideal) ((c : Thread nD τ).loc main_v0_4) :=
  scales (T := 6400) (K := 11008) (G := 344) rfl 0x37924925#32 (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

/-- A later point writes back its block of the whole array. -/
theorem flushed10 (c : Dev nD) (t : Fin cfg0.N) (h : t.val ≠ 0) :
    (dats m 0 c).flushed 10 t = (win0_10.blk t).view.read (Elt Ideal) (val10 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed10_B m c t (by omega), e2, e3]
  rw [out10_B c t _ (iblk m c 0 t) (iblk m c 1 t) (iblk m c 2 t) (iblk m c 3 t) (iblk m c 4 t) (iblk m c 5 t)]
  funext j
  rw [View.read_apply]
  have h0 : ((win0_10.rect t).emb j 0).val = (t.val - 1) % 43 * 8 + (j 0).val :=
    (win0_10.rect_emb_val t j 0).trans (by rw [(facts10 t).1]; rfl)
  have h1 : ((win0_10.rect t).emb j 1).val = (t.val - 1) / 43 * 1280 + (j 1).val :=
    (win0_10.rect_emb_val t j 1).trans (by rw [(facts10 t).2.1]; rfl)
  exact scales_eq (T := 1280) (K := 256) (G := 8) (T' := 6400) (K' := 11008) (G' := 344) rfl rfl 0x37924925#32 (dgateB (iblk m c 0 t) (guP (iblk m c 1 s) (iblk m c 3 s) (iblk m c 4 s)) (duP (iblk m c 2 s) (iblk m c 5 s)))
    (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (s.val / 43 * 1280) (s.val % 43 * 8)
    (fun r f r' f' hr hf => dgate_eq m c t s (by omega) r f r' f' hr (by omega)) j ((win0_10.rect t).emb j) (by rw [h0, hv]) (by rw [h1, hv])

/-- The blocks cover the array. -/
theorem cover10 (i : S344x6400.Idx) : ∃ t : Fin cfg0.N, (cfg0.win 10).flush t = true ∧ i ∈ ((cfg0.win 10).blk t).view.set := by
  have h0 : (i 0 : Nat) < 344 := (i 0).isLt
  have h1 : (i 1 : Nat) < 6400 := (i 1).isLt
  obtain ⟨n, hn⟩ : ∃ n, n = (i 1 : Nat) / 1280 * 43 + (i 0 : Nat) / 8 + 1 := ⟨_, rfl⟩
  have hlt : n < 216 := by omega
  have ht : n < cfg0.N := lt_of_lt_of_eq hlt N_0.symm
  have e := facts10 ⟨n, ht⟩
  refine ⟨⟨n, ht⟩, e.2.2.2.2.2.2.mpr (by show n ≠ 0; omega), ?_⟩
  show i ∈ ((View.whole main_v0_4).slice (win0_10.rect ⟨n, ht⟩)).set
  rw [View.set_slice_whole, Rect.mem_set_unit]
  intro a
  match a with
  | ⟨0, _⟩ => show win0_10.index _ 0 * win0_10.size 0 ≤ (i 0 : Nat) ∧ (i 0 : Nat) < win0_10.index _ 0 * win0_10.size 0 + win0_10.xsize (grid0.coords _) 0
              rw [e.2.2.1, e.2.2.2.1]; show (n - 1) % 43 * 8 ≤ _ ∧ _ < (n - 1) % 43 * 8 + 8; omega
  | ⟨1, _⟩ => show win0_10.index _ 1 * win0_10.size 1 ≤ (i 1 : Nat) ∧ (i 1 : Nat) < win0_10.index _ 1 * win0_10.size 1 + win0_10.xsize (grid0.coords _) 1
              rw [e.2.2.2.2.1, e.2.2.2.2.2.1]; show (n - 1) / 43 * 1280 ≤ _ ∧ _ < (n - 1) / 43 * 1280 + 1280; omega

theorem final10 (c : Dev nD) : (dats m 0 c).arrAt 10 cfg0.N = val10 m c :=
  (dats m 0 c).arrAt_eq_of_cover 10 (val10 m c) (fun t hf => flushed10 m c t ((facts10 t).2.2.2.2.2.2.mp hf)) cover10

/-! ## Window 11: the up projection's gradient -/

theorem facts11 : ∀ t : Fin cfg0.N, win0_11.index t 0 = (t.val - 1) % 43 ∧ win0_11.index t 1 = (t.val - 1) / 43 ∧ win0_11.index t 0 * win0_11.size 0 = (t.val - 1) % 43 * 8 ∧ win0_11.xsize (grid0.coords t) 0 = 8
    ∧ win0_11.index t 1 * win0_11.size 1 = (t.val - 1) / 43 * 1280 ∧ win0_11.xsize (grid0.coords t) 1 = 1280 ∧ (win0_11.flush t = true ↔ t.val ≠ 0) :=
  (by decide +kernel : ∀ t : Fin grid0.N, win0_11.index t 0 = (t.val - 1) % 43 ∧ win0_11.index t 1 = (t.val - 1) / 43 ∧ win0_11.index t 0 * win0_11.size 0 = (t.val - 1) % 43 * 8 ∧ win0_11.xsize (grid0.coords t) 0 = 8
    ∧ win0_11.index t 1 * win0_11.size 1 = (t.val - 1) / 43 * 1280 ∧ win0_11.xsize (grid0.coords t) 1 = 1280 ∧ (win0_11.flush t = true ↔ t.val ≠ 0))

/-- The whole array. -/
abbrev val11 (c : Dev nD) : Buf (Elt Ideal) ((c : Thread nD τ).loc main_v0_5) :=
  scales (T := 6400) (K := 11008) (G := 344) rfl 0x37924925#32 (dupA (m ((c : Thread nD τ).loc main_arg0)) (m ((c : Thread nD τ).loc main_arg1)) (m ((c : Thread nD τ).loc main_arg2)) (m ((c : Thread nD τ).loc main_arg3)) (m ((c : Thread nD τ).loc main_arg5)))

/-- A later point writes back its block of the whole array. -/
theorem flushed11 (c : Dev nD) (t : Fin cfg0.N) (h : t.val ≠ 0) :
    (dats m 0 c).flushed 11 t = (win0_11.blk t).view.read (Elt Ideal) (val11 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed11_B m c t (by omega), e2, e3]
  rw [out11_B c t _ (iblk m c 0 t) (iblk m c 1 t) (iblk m c 2 t) (iblk m c 3 t) (iblk m c 4 t) (iblk m c 5 t)]
  funext j
  rw [View.read_apply]
  have h0 : ((win0_11.rect t).emb j 0).val = (t.val - 1) % 43 * 8 + (j 0).val :=
    (win0_11.rect_emb_val t j 0).trans (by rw [(facts11 t).1]; rfl)
  have h1 : ((win0_11.rect t).emb j 1).val = (t.val - 1) / 43 * 1280 + (j 1).val :=
    (win0_11.rect_emb_val t j 1).trans (by rw [(facts11 t).2.1]; rfl)
  exact scales_eq (T := 1280) (K := 256) (G := 8) (T' := 6400) (K' := 11008) (G' := 344) rfl rfl 0x37924925#32 (dupB (iblk m c 0 t) (guP (iblk m c 1 s) (iblk m c 3 s) (iblk m c 4 s)) (duP (iblk m c 2 s) (iblk m c 5 s)))
    (dupA (m ((c : Thread nD τ).loc main_arg0)) (m ((c : Thread nD τ).loc main_arg1)) (m ((c : Thread nD τ).loc main_arg2)) (m ((c : Thread nD τ).loc main_arg3)) (m ((c : Thread nD τ).loc main_arg5))) (s.val / 43 * 1280) (s.val % 43 * 8)
    (fun r f r' f' hr hf => dup_eq m c t s (by omega) r f r' f' hr (by omega)) j ((win0_11.rect t).emb j) (by rw [h0, hv]) (by rw [h1, hv])

/-- The blocks cover the array. -/
theorem cover11 (i : S344x6400.Idx) : ∃ t : Fin cfg0.N, (cfg0.win 11).flush t = true ∧ i ∈ ((cfg0.win 11).blk t).view.set := by
  have h0 : (i 0 : Nat) < 344 := (i 0).isLt
  have h1 : (i 1 : Nat) < 6400 := (i 1).isLt
  obtain ⟨n, hn⟩ : ∃ n, n = (i 1 : Nat) / 1280 * 43 + (i 0 : Nat) / 8 + 1 := ⟨_, rfl⟩
  have hlt : n < 216 := by omega
  have ht : n < cfg0.N := lt_of_lt_of_eq hlt N_0.symm
  have e := facts11 ⟨n, ht⟩
  refine ⟨⟨n, ht⟩, e.2.2.2.2.2.2.mpr (by show n ≠ 0; omega), ?_⟩
  show i ∈ ((View.whole main_v0_5).slice (win0_11.rect ⟨n, ht⟩)).set
  rw [View.set_slice_whole, Rect.mem_set_unit]
  intro a
  match a with
  | ⟨0, _⟩ => show win0_11.index _ 0 * win0_11.size 0 ≤ (i 0 : Nat) ∧ (i 0 : Nat) < win0_11.index _ 0 * win0_11.size 0 + win0_11.xsize (grid0.coords _) 0
              rw [e.2.2.1, e.2.2.2.1]; show (n - 1) % 43 * 8 ≤ _ ∧ _ < (n - 1) % 43 * 8 + 8; omega
  | ⟨1, _⟩ => show win0_11.index _ 1 * win0_11.size 1 ≤ (i 1 : Nat) ∧ (i 1 : Nat) < win0_11.index _ 1 * win0_11.size 1 + win0_11.xsize (grid0.coords _) 1
              rw [e.2.2.2.2.1, e.2.2.2.2.2.1]; show (n - 1) / 43 * 1280 ≤ _ ∧ _ < (n - 1) / 43 * 1280 + 1280; omega

theorem final11 (c : Dev nD) : (dats m 0 c).arrAt 11 cfg0.N = val11 m c :=
  (dats m 0 c).arrAt_eq_of_cover 11 (val11 m c) (fun t hf => flushed11 m c t ((facts11 t).2.2.2.2.2.2.mp hf)) cover11

end Cert.MlpIdeal.RefValue
end
-- ==== Proof.MlpBlock12.lean ====
/-
  The MLP's kernel: widened codes of the activation of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

/-- The widened codes of the activation that a later point leaves. -/
theorem out12_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = wide (T := 1280) (K := 256) (G := 8) rfl 0x3B124925#32 0xC3E00000#32 0x43E00000#32 (actB x0 xs2) := by
  unfold out0_B_12
  rw [View.read_writes_eq_canon _ _ _ (cover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (cover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact wideA_at t x0 xs2 7 1024 224 480 rfl rfl inb_S512x1280_S32x256_224_1024 inb_S512x1280_S32x256_480_1024 x y (by omega) (by omega)
  · exact wideA_at t x0 xs2 6 1024 192 448 rfl rfl inb_S512x1280_S32x256_192_1024 inb_S512x1280_S32x256_448_1024 x y (by omega) (by omega)
  · exact wideA_at t x0 xs2 5 1024 160 416 rfl rfl inb_S512x1280_S32x256_160_1024 inb_S512x1280_S32x256_416_1024 x y (by omega) (by omega)
  · exact wideA_at t x0 xs2 4 1024 128 384 rfl rfl inb_S512x1280_S32x256_128_1024 inb_S512x1280_S32x256_384_1024 x y (by omega) (by omega)
  · exact wideA_at t x0 xs2 3 1024 96 352 rfl rfl inb_S512x1280_S32x256_96_1024 inb_S512x1280_S32x256_352_1024 x y (by omega) (by omega)
  · exact wideA_at t x0 xs2 2 1024 64 320 rfl rfl inb_S512x1280_S32x256_64_1024 inb_S512x1280_S32x256_320_1024 x y (by omega) (by omega)
  · exact wideA_at t x0 xs2 1 1024 32 288 rfl rfl inb_S512x1280_S32x256_32_1024 inb_S512x1280_S32x256_288_1024 x y (by omega) (by omega)
  · exact wideA_at t x0 xs2 0 1024 0 256 rfl rfl inb_S512x1280_S32x256_0_1024 inb_S512x1280_S32x256_256_1024 x y (by omega) (by omega)
  · exact wideA_at t x0 xs2 7 768 224 480 rfl rfl inb_S512x1280_S32x256_224_768 inb_S512x1280_S32x256_480_768 x y (by omega) (by omega)
  · exact wideA_at t x0 xs2 6 768 192 448 rfl rfl inb_S512x1280_S32x256_192_768 inb_S512x1280_S32x256_448_768 x y (by omega) (by omega)
  · exact wideA_at t x0 xs2 5 768 160 416 rfl rfl inb_S512x1280_S32x256_160_768 inb_S512x1280_S32x256_416_768 x y (by omega) (by omega)
  · exact wideA_at t x0 xs2 4 768 128 384 rfl rfl inb_S512x1280_S32x256_128_768 inb_S512x1280_S32x256_384_768 x y (by omega) (by omega)
  · exact wideA_at t x0 xs2 3 768 96 352 rfl rfl inb_S512x1280_S32x256_96_768 inb_S512x1280_S32x256_352_768 x y (by omega) (by omega)
  · exact wideA_at t x0 xs2 2 768 64 320 rfl rfl inb_S512x1280_S32x256_64_768 inb_S512x1280_S32x256_320_768 x y (by omega) (by omega)
  · exact wideA_at t x0 xs2 1 768 32 288 rfl rfl inb_S512x1280_S32x256_32_768 inb_S512x1280_S32x256_288_768 x y (by omega) (by omega)
  · exact wideA_at t x0 xs2 0 768 0 256 rfl rfl inb_S512x1280_S32x256_0_768 inb_S512x1280_S32x256_256_768 x y (by omega) (by omega)
  · exact wideA_at t x0 xs2 7 512 224 480 rfl rfl inb_S512x1280_S32x256_224_512 inb_S512x1280_S32x256_480_512 x y (by omega) (by omega)
  · exact wideA_at t x0 xs2 6 512 192 448 rfl rfl inb_S512x1280_S32x256_192_512 inb_S512x1280_S32x256_448_512 x y (by omega) (by omega)
  · exact wideA_at t x0 xs2 5 512 160 416 rfl rfl inb_S512x1280_S32x256_160_512 inb_S512x1280_S32x256_416_512 x y (by omega) (by omega)
  · exact wideA_at t x0 xs2 4 512 128 384 rfl rfl inb_S512x1280_S32x256_128_512 inb_S512x1280_S32x256_384_512 x y (by omega) (by omega)
  · exact wideA_at t x0 xs2 3 512 96 352 rfl rfl inb_S512x1280_S32x256_96_512 inb_S512x1280_S32x256_352_512 x y (by omega) (by omega)
  · exact wideA_at t x0 xs2 2 512 64 320 rfl rfl inb_S512x1280_S32x256_64_512 inb_S512x1280_S32x256_320_512 x y (by omega) (by omega)
  · exact wideA_at t x0 xs2 1 512 32 288 rfl rfl inb_S512x1280_S32x256_32_512 inb_S512x1280_S32x256_288_512 x y (by omega) (by omega)
  · exact wideA_at t x0 xs2 0 512 0 256 rfl rfl inb_S512x1280_S32x256_0_512 inb_S512x1280_S32x256_256_512 x y (by omega) (by omega)
  · exact wideA_at t x0 xs2 7 256 224 480 rfl rfl inb_S512x1280_S32x256_224_256 inb_S512x1280_S32x256_480_256 x y (by omega) (by omega)
  · exact wideA_at t x0 xs2 6 256 192 448 rfl rfl inb_S512x1280_S32x256_192_256 inb_S512x1280_S32x256_448_256 x y (by omega) (by omega)
  · exact wideA_at t x0 xs2 5 256 160 416 rfl rfl inb_S512x1280_S32x256_160_256 inb_S512x1280_S32x256_416_256 x y (by omega) (by omega)
  · exact wideA_at t x0 xs2 4 256 128 384 rfl rfl inb_S512x1280_S32x256_128_256 inb_S512x1280_S32x256_384_256 x y (by omega) (by omega)
  · exact wideA_at t x0 xs2 3 256 96 352 rfl rfl inb_S512x1280_S32x256_96_256 inb_S512x1280_S32x256_352_256 x y (by omega) (by omega)
  · exact wideA_at t x0 xs2 2 256 64 320 rfl rfl inb_S512x1280_S32x256_64_256 inb_S512x1280_S32x256_320_256 x y (by omega) (by omega)
  · exact wideA_at t x0 xs2 1 256 32 288 rfl rfl inb_S512x1280_S32x256_32_256 inb_S512x1280_S32x256_288_256 x y (by omega) (by omega)
  · exact wideA_at t x0 xs2 0 256 0 256 rfl rfl inb_S512x1280_S32x256_0_256 inb_S512x1280_S32x256_256_256 x y (by omega) (by omega)
  · exact wideA_at t x0 xs2 7 0 224 480 rfl rfl inb_S512x1280_S32x256_224_0 inb_S512x1280_S32x256_480_0 x y (by omega) (by omega)
  · exact wideA_at t x0 xs2 6 0 192 448 rfl rfl inb_S512x1280_S32x256_192_0 inb_S512x1280_S32x256_448_0 x y (by omega) (by omega)
  · exact wideA_at t x0 xs2 5 0 160 416 rfl rfl inb_S512x1280_S32x256_160_0 inb_S512x1280_S32x256_416_0 x y (by omega) (by omega)
  · exact wideA_at t x0 xs2 4 0 128 384 rfl rfl inb_S512x1280_S32x256_128_0 inb_S512x1280_S32x256_384_0 x y (by omega) (by omega)
  · exact wideA_at t x0 xs2 3 0 96 352 rfl rfl inb_S512x1280_S32x256_96_0 inb_S512x1280_S32x256_352_0 x y (by omega) (by omega)
  · exact wideA_at t x0 xs2 2 0 64 320 rfl rfl inb_S512x1280_S32x256_64_0 inb_S512x1280_S32x256_320_0 x y (by omega) (by omega)
  · exact wideA_at t x0 xs2 1 0 32 288 rfl rfl inb_S512x1280_S32x256_32_0 inb_S512x1280_S32x256_288_0 x y (by omega) (by omega)
  · exact wideA_at t x0 xs2 0 0 0 256 rfl rfl inb_S512x1280_S32x256_0_0 inb_S512x1280_S32x256_256_0 x y (by omega) (by omega)

end Cert.MlpIdeal.RefValue
end
-- ==== Proof.MlpBlock13.lean ====
/-
  The MLP's kernel: widened codes of the gate's gradient of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

/-- The widened codes of the gate's gradient that a later point leaves. -/
theorem out13_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = wide (T := 1280) (K := 256) (G := 8) rfl 0x37924925#32 0xC7600000#32 0x47600000#32 (dgateB x0 xs2 xs3) := by
  unfold out0_B_13
  rw [View.read_writes_eq_canon _ _ _ (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact wideG_at t x0 xs2 xs3 7 1024 224 480 rfl rfl inb_S512x1280_S32x256_224_1024 inb_S512x1280_S32x256_480_1024 inb_S256x1280_S32x256_224_1024 x y (by omega) (by omega)
  · exact wideG_at t x0 xs2 xs3 6 1024 192 448 rfl rfl inb_S512x1280_S32x256_192_1024 inb_S512x1280_S32x256_448_1024 inb_S256x1280_S32x256_192_1024 x y (by omega) (by omega)
  · exact wideG_at t x0 xs2 xs3 5 1024 160 416 rfl rfl inb_S512x1280_S32x256_160_1024 inb_S512x1280_S32x256_416_1024 inb_S256x1280_S32x256_160_1024 x y (by omega) (by omega)
  · exact wideG_at t x0 xs2 xs3 4 1024 128 384 rfl rfl inb_S512x1280_S32x256_128_1024 inb_S512x1280_S32x256_384_1024 inb_S256x1280_S32x256_128_1024 x y (by omega) (by omega)
  · exact wideG_at t x0 xs2 xs3 3 1024 96 352 rfl rfl inb_S512x1280_S32x256_96_1024 inb_S512x1280_S32x256_352_1024 inb_S256x1280_S32x256_96_1024 x y (by omega) (by omega)
  · exact wideG_at t x0 xs2 xs3 2 1024 64 320 rfl rfl inb_S512x1280_S32x256_64_1024 inb_S512x1280_S32x256_320_1024 inb_S256x1280_S32x256_64_1024 x y (by omega) (by omega)
  · exact wideG_at t x0 xs2 xs3 1 1024 32 288 rfl rfl inb_S512x1280_S32x256_32_1024 inb_S512x1280_S32x256_288_1024 inb_S256x1280_S32x256_32_1024 x y (by omega) (by omega)
  · exact wideG_at t x0 xs2 xs3 0 1024 0 256 rfl rfl inb_S512x1280_S32x256_0_1024 inb_S512x1280_S32x256_256_1024 inb_S256x1280_S32x256_0_1024 x y (by omega) (by omega)
  · exact wideG_at t x0 xs2 xs3 7 768 224 480 rfl rfl inb_S512x1280_S32x256_224_768 inb_S512x1280_S32x256_480_768 inb_S256x1280_S32x256_224_768 x y (by omega) (by omega)
  · exact wideG_at t x0 xs2 xs3 6 768 192 448 rfl rfl inb_S512x1280_S32x256_192_768 inb_S512x1280_S32x256_448_768 inb_S256x1280_S32x256_192_768 x y (by omega) (by omega)
  · exact wideG_at t x0 xs2 xs3 5 768 160 416 rfl rfl inb_S512x1280_S32x256_160_768 inb_S512x1280_S32x256_416_768 inb_S256x1280_S32x256_160_768 x y (by omega) (by omega)
  · exact wideG_at t x0 xs2 xs3 4 768 128 384 rfl rfl inb_S512x1280_S32x256_128_768 inb_S512x1280_S32x256_384_768 inb_S256x1280_S32x256_128_768 x y (by omega) (by omega)
  · exact wideG_at t x0 xs2 xs3 3 768 96 352 rfl rfl inb_S512x1280_S32x256_96_768 inb_S512x1280_S32x256_352_768 inb_S256x1280_S32x256_96_768 x y (by omega) (by omega)
  · exact wideG_at t x0 xs2 xs3 2 768 64 320 rfl rfl inb_S512x1280_S32x256_64_768 inb_S512x1280_S32x256_320_768 inb_S256x1280_S32x256_64_768 x y (by omega) (by omega)
  · exact wideG_at t x0 xs2 xs3 1 768 32 288 rfl rfl inb_S512x1280_S32x256_32_768 inb_S512x1280_S32x256_288_768 inb_S256x1280_S32x256_32_768 x y (by omega) (by omega)
  · exact wideG_at t x0 xs2 xs3 0 768 0 256 rfl rfl inb_S512x1280_S32x256_0_768 inb_S512x1280_S32x256_256_768 inb_S256x1280_S32x256_0_768 x y (by omega) (by omega)
  · exact wideG_at t x0 xs2 xs3 7 512 224 480 rfl rfl inb_S512x1280_S32x256_224_512 inb_S512x1280_S32x256_480_512 inb_S256x1280_S32x256_224_512 x y (by omega) (by omega)
  · exact wideG_at t x0 xs2 xs3 6 512 192 448 rfl rfl inb_S512x1280_S32x256_192_512 inb_S512x1280_S32x256_448_512 inb_S256x1280_S32x256_192_512 x y (by omega) (by omega)
  · exact wideG_at t x0 xs2 xs3 5 512 160 416 rfl rfl inb_S512x1280_S32x256_160_512 inb_S512x1280_S32x256_416_512 inb_S256x1280_S32x256_160_512 x y (by omega) (by omega)
  · exact wideG_at t x0 xs2 xs3 4 512 128 384 rfl rfl inb_S512x1280_S32x256_128_512 inb_S512x1280_S32x256_384_512 inb_S256x1280_S32x256_128_512 x y (by omega) (by omega)
  · exact wideG_at t x0 xs2 xs3 3 512 96 352 rfl rfl inb_S512x1280_S32x256_96_512 inb_S512x1280_S32x256_352_512 inb_S256x1280_S32x256_96_512 x y (by omega) (by omega)
  · exact wideG_at t x0 xs2 xs3 2 512 64 320 rfl rfl inb_S512x1280_S32x256_64_512 inb_S512x1280_S32x256_320_512 inb_S256x1280_S32x256_64_512 x y (by omega) (by omega)
  · exact wideG_at t x0 xs2 xs3 1 512 32 288 rfl rfl inb_S512x1280_S32x256_32_512 inb_S512x1280_S32x256_288_512 inb_S256x1280_S32x256_32_512 x y (by omega) (by omega)
  · exact wideG_at t x0 xs2 xs3 0 512 0 256 rfl rfl inb_S512x1280_S32x256_0_512 inb_S512x1280_S32x256_256_512 inb_S256x1280_S32x256_0_512 x y (by omega) (by omega)
  · exact wideG_at t x0 xs2 xs3 7 256 224 480 rfl rfl inb_S512x1280_S32x256_224_256 inb_S512x1280_S32x256_480_256 inb_S256x1280_S32x256_224_256 x y (by omega) (by omega)
  · exact wideG_at t x0 xs2 xs3 6 256 192 448 rfl rfl inb_S512x1280_S32x256_192_256 inb_S512x1280_S32x256_448_256 inb_S256x1280_S32x256_192_256 x y (by omega) (by omega)
  · exact wideG_at t x0 xs2 xs3 5 256 160 416 rfl rfl inb_S512x1280_S32x256_160_256 inb_S512x1280_S32x256_416_256 inb_S256x1280_S32x256_160_256 x y (by omega) (by omega)
  · exact wideG_at t x0 xs2 xs3 4 256 128 384 rfl rfl inb_S512x1280_S32x256_128_256 inb_S512x1280_S32x256_384_256 inb_S256x1280_S32x256_128_256 x y (by omega) (by omega)
  · exact wideG_at t x0 xs2 xs3 3 256 96 352 rfl rfl inb_S512x1280_S32x256_96_256 inb_S512x1280_S32x256_352_256 inb_S256x1280_S32x256_96_256 x y (by omega) (by omega)
  · exact wideG_at t x0 xs2 xs3 2 256 64 320 rfl rfl inb_S512x1280_S32x256_64_256 inb_S512x1280_S32x256_320_256 inb_S256x1280_S32x256_64_256 x y (by omega) (by omega)
  · exact wideG_at t x0 xs2 xs3 1 256 32 288 rfl rfl inb_S512x1280_S32x256_32_256 inb_S512x1280_S32x256_288_256 inb_S256x1280_S32x256_32_256 x y (by omega) (by omega)
  · exact wideG_at t x0 xs2 xs3 0 256 0 256 rfl rfl inb_S512x1280_S32x256_0_256 inb_S512x1280_S32x256_256_256 inb_S256x1280_S32x256_0_256 x y (by omega) (by omega)
  · exact wideG_at t x0 xs2 xs3 7 0 224 480 rfl rfl inb_S512x1280_S32x256_224_0 inb_S512x1280_S32x256_480_0 inb_S256x1280_S32x256_224_0 x y (by omega) (by omega)
  · exact wideG_at t x0 xs2 xs3 6 0 192 448 rfl rfl inb_S512x1280_S32x256_192_0 inb_S512x1280_S32x256_448_0 inb_S256x1280_S32x256_192_0 x y (by omega) (by omega)
  · exact wideG_at t x0 xs2 xs3 5 0 160 416 rfl rfl inb_S512x1280_S32x256_160_0 inb_S512x1280_S32x256_416_0 inb_S256x1280_S32x256_160_0 x y (by omega) (by omega)
  · exact wideG_at t x0 xs2 xs3 4 0 128 384 rfl rfl inb_S512x1280_S32x256_128_0 inb_S512x1280_S32x256_384_0 inb_S256x1280_S32x256_128_0 x y (by omega) (by omega)
  · exact wideG_at t x0 xs2 xs3 3 0 96 352 rfl rfl inb_S512x1280_S32x256_96_0 inb_S512x1280_S32x256_352_0 inb_S256x1280_S32x256_96_0 x y (by omega) (by omega)
  · exact wideG_at t x0 xs2 xs3 2 0 64 320 rfl rfl inb_S512x1280_S32x256_64_0 inb_S512x1280_S32x256_320_0 inb_S256x1280_S32x256_64_0 x y (by omega) (by omega)
  · exact wideG_at t x0 xs2 xs3 1 0 32 288 rfl rfl inb_S512x1280_S32x256_32_0 inb_S512x1280_S32x256_288_0 inb_S256x1280_S32x256_32_0 x y (by omega) (by omega)
  · exact wideG_at t x0 xs2 xs3 0 0 0 256 rfl rfl inb_S512x1280_S32x256_0_0 inb_S512x1280_S32x256_256_0 inb_S256x1280_S32x256_0_0 x y (by omega) (by omega)

end Cert.MlpIdeal.RefValue
end
-- ==== Proof.MlpBlock14.lean ====
/-
  The MLP's kernel: widened codes of the up projection's gradient of a block, from the carried products.
-/
module

public import proofs.«01_k».proof.Proof.MlpLoads

@[expose] public section

set_option maxRecDepth 16384

noncomputable section

namespace Cert.MlpIdeal.RefValue

open Cert.MlpIdeal Cert.MlpIdeal.Gen Cert.Mlp Cert.Quant Idealize.ShloMosaic Idealize.ShloMosaic.TcCoe Idealize.ShloMosaic.ValueIdx

/-- The widened codes of the up projection's gradient that a later point leaves. -/
theorem out14_B (c : Dev nD) (t : Fin cfg0.N) (hc0 : ¬cond0_0 (grid0.coords t)) (x0 : Vec Ideal S3 .f32) (x1 x2 : Vec Ideal S2048x1280 .bf16) (x3 x4 : Vec Ideal S2048x256 .fp8e4m3) (x5 : Vec Ideal S256x2048 .fp8e4m3) (xs2 : Vec Ideal S512x1280 .f32) (xs3 : Vec Ideal S256x1280 .f32) :
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 = wide (T := 1280) (K := 256) (G := 8) rfl 0x37924925#32 0xC7600000#32 0x47600000#32 (dupB x0 xs2 xs3) := by
  unfold out0_B_14
  rw [View.read_writes_eq_canon _ _ _ (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3)]
  funext y
  unfold kernelRun0_B
  dsimp only
  sl_unfold_words
  canon_tiles x h using (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 x0 x1 x2 x3 x4 x5 xs2 xs3 y)
  · exact wideU_at t x0 xs2 xs3 7 1024 224 rfl inb_S512x1280_S32x256_224_1024 inb_S256x1280_S32x256_224_1024 x y (by omega) (by omega)
  · exact wideU_at t x0 xs2 xs3 6 1024 192 rfl inb_S512x1280_S32x256_192_1024 inb_S256x1280_S32x256_192_1024 x y (by omega) (by omega)
  · exact wideU_at t x0 xs2 xs3 5 1024 160 rfl inb_S512x1280_S32x256_160_1024 inb_S256x1280_S32x256_160_1024 x y (by omega) (by omega)
  · exact wideU_at t x0 xs2 xs3 4 1024 128 rfl inb_S512x1280_S32x256_128_1024 inb_S256x1280_S32x256_128_1024 x y (by omega) (by omega)
  · exact wideU_at t x0 xs2 xs3 3 1024 96 rfl inb_S512x1280_S32x256_96_1024 inb_S256x1280_S32x256_96_1024 x y (by omega) (by omega)
  · exact wideU_at t x0 xs2 xs3 2 1024 64 rfl inb_S512x1280_S32x256_64_1024 inb_S256x1280_S32x256_64_1024 x y (by omega) (by omega)
  · exact wideU_at t x0 xs2 xs3 1 1024 32 rfl inb_S512x1280_S32x256_32_1024 inb_S256x1280_S32x256_32_1024 x y (by omega) (by omega)
  · exact wideU_at t x0 xs2 xs3 0 1024 0 rfl inb_S512x1280_S32x256_0_1024 inb_S256x1280_S32x256_0_1024 x y (by omega) (by omega)
  · exact wideU_at t x0 xs2 xs3 7 768 224 rfl inb_S512x1280_S32x256_224_768 inb_S256x1280_S32x256_224_768 x y (by omega) (by omega)
  · exact wideU_at t x0 xs2 xs3 6 768 192 rfl inb_S512x1280_S32x256_192_768 inb_S256x1280_S32x256_192_768 x y (by omega) (by omega)
  · exact wideU_at t x0 xs2 xs3 5 768 160 rfl inb_S512x1280_S32x256_160_768 inb_S256x1280_S32x256_160_768 x y (by omega) (by omega)
  · exact wideU_at t x0 xs2 xs3 4 768 128 rfl inb_S512x1280_S32x256_128_768 inb_S256x1280_S32x256_128_768 x y (by omega) (by omega)
  · exact wideU_at t x0 xs2 xs3 3 768 96 rfl inb_S512x1280_S32x256_96_768 inb_S256x1280_S32x256_96_768 x y (by omega) (by omega)
  · exact wideU_at t x0 xs2 xs3 2 768 64 rfl inb_S512x1280_S32x256_64_768 inb_S256x1280_S32x256_64_768 x y (by omega) (by omega)
  · exact wideU_at t x0 xs2 xs3 1 768 32 rfl inb_S512x1280_S32x256_32_768 inb_S256x1280_S32x256_32_768 x y (by omega) (by omega)
  · exact wideU_at t x0 xs2 xs3 0 768 0 rfl inb_S512x1280_S32x256_0_768 inb_S256x1280_S32x256_0_768 x y (by omega) (by omega)
  · exact wideU_at t x0 xs2 xs3 7 512 224 rfl inb_S512x1280_S32x256_224_512 inb_S256x1280_S32x256_224_512 x y (by omega) (by omega)
  · exact wideU_at t x0 xs2 xs3 6 512 192 rfl inb_S512x1280_S32x256_192_512 inb_S256x1280_S32x256_192_512 x y (by omega) (by omega)
  · exact wideU_at t x0 xs2 xs3 5 512 160 rfl inb_S512x1280_S32x256_160_512 inb_S256x1280_S32x256_160_512 x y (by omega) (by omega)
  · exact wideU_at t x0 xs2 xs3 4 512 128 rfl inb_S512x1280_S32x256_128_512 inb_S256x1280_S32x256_128_512 x y (by omega) (by omega)
  · exact wideU_at t x0 xs2 xs3 3 512 96 rfl inb_S512x1280_S32x256_96_512 inb_S256x1280_S32x256_96_512 x y (by omega) (by omega)
  · exact wideU_at t x0 xs2 xs3 2 512 64 rfl inb_S512x1280_S32x256_64_512 inb_S256x1280_S32x256_64_512 x y (by omega) (by omega)
  · exact wideU_at t x0 xs2 xs3 1 512 32 rfl inb_S512x1280_S32x256_32_512 inb_S256x1280_S32x256_32_512 x y (by omega) (by omega)
  · exact wideU_at t x0 xs2 xs3 0 512 0 rfl inb_S512x1280_S32x256_0_512 inb_S256x1280_S32x256_0_512 x y (by omega) (by omega)
  · exact wideU_at t x0 xs2 xs3 7 256 224 rfl inb_S512x1280_S32x256_224_256 inb_S256x1280_S32x256_224_256 x y (by omega) (by omega)
  · exact wideU_at t x0 xs2 xs3 6 256 192 rfl inb_S512x1280_S32x256_192_256 inb_S256x1280_S32x256_192_256 x y (by omega) (by omega)
  · exact wideU_at t x0 xs2 xs3 5 256 160 rfl inb_S512x1280_S32x256_160_256 inb_S256x1280_S32x256_160_256 x y (by omega) (by omega)
  · exact wideU_at t x0 xs2 xs3 4 256 128 rfl inb_S512x1280_S32x256_128_256 inb_S256x1280_S32x256_128_256 x y (by omega) (by omega)
  · exact wideU_at t x0 xs2 xs3 3 256 96 rfl inb_S512x1280_S32x256_96_256 inb_S256x1280_S32x256_96_256 x y (by omega) (by omega)
  · exact wideU_at t x0 xs2 xs3 2 256 64 rfl inb_S512x1280_S32x256_64_256 inb_S256x1280_S32x256_64_256 x y (by omega) (by omega)
  · exact wideU_at t x0 xs2 xs3 1 256 32 rfl inb_S512x1280_S32x256_32_256 inb_S256x1280_S32x256_32_256 x y (by omega) (by omega)
  · exact wideU_at t x0 xs2 xs3 0 256 0 rfl inb_S512x1280_S32x256_0_256 inb_S256x1280_S32x256_0_256 x y (by omega) (by omega)
  · exact wideU_at t x0 xs2 xs3 7 0 224 rfl inb_S512x1280_S32x256_224_0 inb_S256x1280_S32x256_224_0 x y (by omega) (by omega)
  · exact wideU_at t x0 xs2 xs3 6 0 192 rfl inb_S512x1280_S32x256_192_0 inb_S256x1280_S32x256_192_0 x y (by omega) (by omega)
  · exact wideU_at t x0 xs2 xs3 5 0 160 rfl inb_S512x1280_S32x256_160_0 inb_S256x1280_S32x256_160_0 x y (by omega) (by omega)
  · exact wideU_at t x0 xs2 xs3 4 0 128 rfl inb_S512x1280_S32x256_128_0 inb_S256x1280_S32x256_128_0 x y (by omega) (by omega)
  · exact wideU_at t x0 xs2 xs3 3 0 96 rfl inb_S512x1280_S32x256_96_0 inb_S256x1280_S32x256_96_0 x y (by omega) (by omega)
  · exact wideU_at t x0 xs2 xs3 2 0 64 rfl inb_S512x1280_S32x256_64_0 inb_S256x1280_S32x256_64_0 x y (by omega) (by omega)
  · exact wideU_at t x0 xs2 xs3 1 0 32 rfl inb_S512x1280_S32x256_32_0 inb_S256x1280_S32x256_32_0 x y (by omega) (by omega)
  · exact wideU_at t x0 xs2 xs3 0 0 0 rfl inb_S512x1280_S32x256_0_0 inb_S256x1280_S32x256_0_0 x y (by omega) (by omega)

end Cert.MlpIdeal.RefValue
end
-- ==== Proof.MlpWide.lean ====
/-
  The MLP's kernel: the result arrays of the widened codes after the run. Every point but the first writes back the block
  of the point before, and the blocks cover the arrays.
-/
module

public import proofs.«01_k».proof.Proof.MlpBlock12
public import proofs.«01_k».proof.Proof.MlpBlock13
public import proofs.«01_k».proof.Proof.MlpBlock14
public import proofs.«01_k».proof.Proof.MlpScratch

@[expose] public section

set_option maxRecDepth 16384

noncomputable section

namespace Cert.MlpIdeal.RefValue

open Cert.MlpIdeal Cert.MlpIdeal.Gen Cert.Mlp Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Window 12: the activation -/

theorem facts12 : ∀ t : Fin cfg0.N, win0_12.index t 0 = (t.val - 1) % 43 ∧ win0_12.index t 1 = (t.val - 1) / 43 ∧ win0_12.index t 0 * win0_12.size 0 = (t.val - 1) % 43 * 256 ∧ win0_12.xsize (grid0.coords t) 0 = 256
    ∧ win0_12.index t 1 * win0_12.size 1 = (t.val - 1) / 43 * 1280 ∧ win0_12.xsize (grid0.coords t) 1 = 1280 ∧ (win0_12.flush t = true ↔ t.val ≠ 0) :=
  (by decide +kernel : ∀ t : Fin grid0.N, win0_12.index t 0 = (t.val - 1) % 43 ∧ win0_12.index t 1 = (t.val - 1) / 43 ∧ win0_12.index t 0 * win0_12.size 0 = (t.val - 1) % 43 * 256 ∧ win0_12.xsize (grid0.coords t) 0 = 256
    ∧ win0_12.index t 1 * win0_12.size 1 = (t.val - 1) / 43 * 1280 ∧ win0_12.xsize (grid0.coords t) 1 = 1280 ∧ (win0_12.flush t = true ↔ t.val ≠ 0))

/-- The whole array. -/
abbrev val12 (c : Dev nD) : Buf (Elt Ideal) ((c : Thread nD τ).loc main_v0_6) :=
  wide (T := 6400) (K := 11008) (G := 344) rfl 0x3B124925#32 0xC3E00000#32 0x43E00000#32 (actA (m ((c : Thread nD τ).loc main_arg0)) (m ((c : Thread nD τ).loc main_arg1)) (m ((c : Thread nD τ).loc main_arg3)) (m ((c : Thread nD τ).loc main_arg4)))

/-- A later point writes back its block of the whole array. -/
theorem flushed12 (c : Dev nD) (t : Fin cfg0.N) (h : t.val ≠ 0) :
    (dats m 0 c).flushed 12 t = (win0_12.blk t).view.read (Elt Ideal) (val12 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed12_B m c t (by omega), e2, e3]
  rw [out12_B c t _ (iblk m c 0 t) (iblk m c 1 t) (iblk m c 2 t) (iblk m c 3 t) (iblk m c 4 t) (iblk m c 5 t)]
  funext j
  rw [View.read_apply]
  have h0 : ((win0_12.rect t).emb j 0).val = (t.val - 1) % 43 * 256 + (j 0).val :=
    (win0_12.rect_emb_val t j 0).trans (by rw [(facts12 t).1]; rfl)
  have h1 : ((win0_12.rect t).emb j 1).val = (t.val - 1) / 43 * 1280 + (j 1).val :=
    (win0_12.rect_emb_val t j 1).trans (by rw [(facts12 t).2.1]; rfl)
  exact wide_eq (T := 1280) (K := 256) (G := 8) (T' := 6400) (K' := 11008) (G' := 344) rfl rfl 0x3B124925#32 0xC3E00000#32 0x43E00000#32 (actB (iblk m c 0 t) (guP (iblk m c 1 s) (iblk m c 3 s) (iblk m c 4 s)))
    (actA (m ((c : Thread nD τ).loc main_arg0)) (m ((c : Thread nD τ).loc main_arg1)) (m ((c : Thread nD τ).loc main_arg3)) (m ((c : Thread nD τ).loc main_arg4))) (s.val / 43 * 1280) (s.val % 43 * 8)
    (fun r f r' f' hr hf => act_eq m c t s (by omega) r f r' f' hr (by omega)) j ((win0_12.rect t).emb j) (by rw [h0, hv]; omega) (by rw [h1, hv])

/-- The blocks cover the array. -/
theorem cover12 (i : S11008x6400.Idx) : ∃ t : Fin cfg0.N, (cfg0.win 12).flush t = true ∧ i ∈ ((cfg0.win 12).blk t).view.set := by
  have h0 : (i 0 : Nat) < 11008 := (i 0).isLt
  have h1 : (i 1 : Nat) < 6400 := (i 1).isLt
  obtain ⟨n, hn⟩ : ∃ n, n = (i 1 : Nat) / 1280 * 43 + (i 0 : Nat) / 256 + 1 := ⟨_, rfl⟩
  have hlt : n < 216 := by omega
  have ht : n < cfg0.N := lt_of_lt_of_eq hlt N_0.symm
  have e := facts12 ⟨n, ht⟩
  refine ⟨⟨n, ht⟩, e.2.2.2.2.2.2.mpr (by show n ≠ 0; omega), ?_⟩
  show i ∈ ((View.whole main_v0_6).slice (win0_12.rect ⟨n, ht⟩)).set
  rw [View.set_slice_whole, Rect.mem_set_unit]
  intro a
  match a with
  | ⟨0, _⟩ => show win0_12.index _ 0 * win0_12.size 0 ≤ (i 0 : Nat) ∧ (i 0 : Nat) < win0_12.index _ 0 * win0_12.size 0 + win0_12.xsize (grid0.coords _) 0
              rw [e.2.2.1, e.2.2.2.1]; show (n - 1) % 43 * 256 ≤ _ ∧ _ < (n - 1) % 43 * 256 + 256; omega
  | ⟨1, _⟩ => show win0_12.index _ 1 * win0_12.size 1 ≤ (i 1 : Nat) ∧ (i 1 : Nat) < win0_12.index _ 1 * win0_12.size 1 + win0_12.xsize (grid0.coords _) 1
              rw [e.2.2.2.2.1, e.2.2.2.2.2.1]; show (n - 1) / 43 * 1280 ≤ _ ∧ _ < (n - 1) / 43 * 1280 + 1280; omega

theorem final12 (c : Dev nD) : (dats m 0 c).arrAt 12 cfg0.N = val12 m c :=
  (dats m 0 c).arrAt_eq_of_cover 12 (val12 m c) (fun t hf => flushed12 m c t ((facts12 t).2.2.2.2.2.2.mp hf)) cover12

/-! ## Window 13: the gate's gradient -/

theorem facts13 : ∀ t : Fin cfg0.N, win0_13.index t 0 = (t.val - 1) % 43 ∧ win0_13.index t 1 = (t.val - 1) / 43 ∧ win0_13.index t 0 * win0_13.size 0 = (t.val - 1) % 43 * 256 ∧ win0_13.xsize (grid0.coords t) 0 = 256
    ∧ win0_13.index t 1 * win0_13.size 1 = (t.val - 1) / 43 * 1280 ∧ win0_13.xsize (grid0.coords t) 1 = 1280 ∧ (win0_13.flush t = true ↔ t.val ≠ 0) :=
  (by decide +kernel : ∀ t : Fin grid0.N, win0_13.index t 0 = (t.val - 1) % 43 ∧ win0_13.index t 1 = (t.val - 1) / 43 ∧ win0_13.index t 0 * win0_13.size 0 = (t.val - 1) % 43 * 256 ∧ win0_13.xsize (grid0.coords t) 0 = 256
    ∧ win0_13.index t 1 * win0_13.size 1 = (t.val - 1) / 43 * 1280 ∧ win0_13.xsize (grid0.coords t) 1 = 1280 ∧ (win0_13.flush t = true ↔ t.val ≠ 0))

/-- The whole array. -/
abbrev val13 (c : Dev nD) : Buf (Elt Ideal) ((c : Thread nD τ).loc main_v0_7) :=
  wide (T := 6400) (K := 11008) (G := 344) rfl 0x37924925#32 0xC7600000#32 0x47600000#32 (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

/-- A later point writes back its block of the whole array. -/
theorem flushed13 (c : Dev nD) (t : Fin cfg0.N) (h : t.val ≠ 0) :
    (dats m 0 c).flushed 13 t = (win0_13.blk t).view.read (Elt Ideal) (val13 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed13_B m c t (by omega), e2, e3]
  rw [out13_B c t _ (iblk m c 0 t) (iblk m c 1 t) (iblk m c 2 t) (iblk m c 3 t) (iblk m c 4 t) (iblk m c 5 t)]
  funext j
  rw [View.read_apply]
  have h0 : ((win0_13.rect t).emb j 0).val = (t.val - 1) % 43 * 256 + (j 0).val :=
    (win0_13.rect_emb_val t j 0).trans (by rw [(facts13 t).1]; rfl)
  have h1 : ((win0_13.rect t).emb j 1).val = (t.val - 1) / 43 * 1280 + (j 1).val :=
    (win0_13.rect_emb_val t j 1).trans (by rw [(facts13 t).2.1]; rfl)
  exact wide_eq (T := 1280) (K := 256) (G := 8) (T' := 6400) (K' := 11008) (G' := 344) rfl rfl 0x37924925#32 0xC7600000#32 0x47600000#32 (dgateB (iblk m c 0 t) (guP (iblk m c 1 s) (iblk m c 3 s) (iblk m c 4 s)) (duP (iblk m c 2 s) (iblk m c 5 s)))
    (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (s.val / 43 * 1280) (s.val % 43 * 8)
    (fun r f r' f' hr hf => dgate_eq m c t s (by omega) r f r' f' hr (by omega)) j ((win0_13.rect t).emb j) (by rw [h0, hv]; omega) (by rw [h1, hv])

/-- The blocks cover the array. -/
theorem cover13 (i : S11008x6400.Idx) : ∃ t : Fin cfg0.N, (cfg0.win 13).flush t = true ∧ i ∈ ((cfg0.win 13).blk t).view.set := by
  have h0 : (i 0 : Nat) < 11008 := (i 0).isLt
  have h1 : (i 1 : Nat) < 6400 := (i 1).isLt
  obtain ⟨n, hn⟩ : ∃ n, n = (i 1 : Nat) / 1280 * 43 + (i 0 : Nat) / 256 + 1 := ⟨_, rfl⟩
  have hlt : n < 216 := by omega
  have ht : n < cfg0.N := lt_of_lt_of_eq hlt N_0.symm
  have e := facts13 ⟨n, ht⟩
  refine ⟨⟨n, ht⟩, e.2.2.2.2.2.2.mpr (by show n ≠ 0; omega), ?_⟩
  show i ∈ ((View.whole main_v0_7).slice (win0_13.rect ⟨n, ht⟩)).set
  rw [View.set_slice_whole, Rect.mem_set_unit]
  intro a
  match a with
  | ⟨0, _⟩ => show win0_13.index _ 0 * win0_13.size 0 ≤ (i 0 : Nat) ∧ (i 0 : Nat) < win0_13.index _ 0 * win0_13.size 0 + win0_13.xsize (grid0.coords _) 0
              rw [e.2.2.1, e.2.2.2.1]; show (n - 1) % 43 * 256 ≤ _ ∧ _ < (n - 1) % 43 * 256 + 256; omega
  | ⟨1, _⟩ => show win0_13.index _ 1 * win0_13.size 1 ≤ (i 1 : Nat) ∧ (i 1 : Nat) < win0_13.index _ 1 * win0_13.size 1 + win0_13.xsize (grid0.coords _) 1
              rw [e.2.2.2.2.1, e.2.2.2.2.2.1]; show (n - 1) / 43 * 1280 ≤ _ ∧ _ < (n - 1) / 43 * 1280 + 1280; omega

theorem final13 (c : Dev nD) : (dats m 0 c).arrAt 13 cfg0.N = val13 m c :=
  (dats m 0 c).arrAt_eq_of_cover 13 (val13 m c) (fun t hf => flushed13 m c t ((facts13 t).2.2.2.2.2.2.mp hf)) cover13

/-! ## Window 14: the up projection's gradient -/

theorem facts14 : ∀ t : Fin cfg0.N, win0_14.index t 0 = (t.val - 1) % 43 ∧ win0_14.index t 1 = (t.val - 1) / 43 ∧ win0_14.index t 0 * win0_14.size 0 = (t.val - 1) % 43 * 256 ∧ win0_14.xsize (grid0.coords t) 0 = 256
    ∧ win0_14.index t 1 * win0_14.size 1 = (t.val - 1) / 43 * 1280 ∧ win0_14.xsize (grid0.coords t) 1 = 1280 ∧ (win0_14.flush t = true ↔ t.val ≠ 0) :=
  (by decide +kernel : ∀ t : Fin grid0.N, win0_14.index t 0 = (t.val - 1) % 43 ∧ win0_14.index t 1 = (t.val - 1) / 43 ∧ win0_14.index t 0 * win0_14.size 0 = (t.val - 1) % 43 * 256 ∧ win0_14.xsize (grid0.coords t) 0 = 256
    ∧ win0_14.index t 1 * win0_14.size 1 = (t.val - 1) / 43 * 1280 ∧ win0_14.xsize (grid0.coords t) 1 = 1280 ∧ (win0_14.flush t = true ↔ t.val ≠ 0))

/-- The whole array. -/
abbrev val14 (c : Dev nD) : Buf (Elt Ideal) ((c : Thread nD τ).loc main_v0_8) :=
  wide (T := 6400) (K := 11008) (G := 344) rfl 0x37924925#32 0xC7600000#32 0x47600000#32 (dupA (m ((c : Thread nD τ).loc main_arg0)) (m ((c : Thread nD τ).loc main_arg1)) (m ((c : Thread nD τ).loc main_arg2)) (m ((c : Thread nD τ).loc main_arg3)) (m ((c : Thread nD τ).loc main_arg5)))

/-- A later point writes back its block of the whole array. -/
theorem flushed14 (c : Dev nD) (t : Fin cfg0.N) (h : t.val ≠ 0) :
    (dats m 0 c).flushed 14 t = (win0_14.blk t).view.read (Elt Ideal) (val14 m c) := by
  have hN : t.val < 216 := lt_of_lt_of_eq t.isLt N_0
  have hlt : t.val - 1 < cfg0.N := Nat.lt_of_le_of_lt (Nat.sub_le _ _) t.isLt
  obtain ⟨s, hs⟩ : ∃ s : Fin cfg0.N, s = ⟨t.val - 1, hlt⟩ := ⟨_, rfl⟩
  have hv : s.val = t.val - 1 := by rw [hs]
  have e2 : (outsAt0 m c (t.val - 1) hlt).2.2.2.2.2.2.2.2.2.1 = guP (iblk m c 1 s) (iblk m c 3 s) (iblk m c 4 s) := by subst hs; exact scratch2 m c ⟨t.val - 1, hlt⟩
  have e3 : (outsAt0 m c (t.val - 1) hlt).2.2.2.2.2.2.2.2.2.2 = duP (iblk m c 2 s) (iblk m c 5 s) := by subst hs; exact scratch3 m c ⟨t.val - 1, hlt⟩
  rw [Value.flushed14_B m c t (by omega), e2, e3]
  rw [out14_B c t _ (iblk m c 0 t) (iblk m c 1 t) (iblk m c 2 t) (iblk m c 3 t) (iblk m c 4 t) (iblk m c 5 t)]
  funext j
  rw [View.read_apply]
  have h0 : ((win0_14.rect t).emb j 0).val = (t.val - 1) % 43 * 256 + (j 0).val :=
    (win0_14.rect_emb_val t j 0).trans (by rw [(facts14 t).1]; rfl)
  have h1 : ((win0_14.rect t).emb j 1).val = (t.val - 1) / 43 * 1280 + (j 1).val :=
    (win0_14.rect_emb_val t j 1).trans (by rw [(facts14 t).2.1]; rfl)
  exact wide_eq (T := 1280) (K := 256) (G := 8) (T' := 6400) (K' := 11008) (G' := 344) rfl rfl 0x37924925#32 0xC7600000#32 0x47600000#32 (dupB (iblk m c 0 t) (guP (iblk m c 1 s) (iblk m c 3 s) (iblk m c 4 s)) (duP (iblk m c 2 s) (iblk m c 5 s)))
    (dupA (m ((c : Thread nD τ).loc main_arg0)) (m ((c : Thread nD τ).loc main_arg1)) (m ((c : Thread nD τ).loc main_arg2)) (m ((c : Thread nD τ).loc main_arg3)) (m ((c : Thread nD τ).loc main_arg5))) (s.val / 43 * 1280) (s.val % 43 * 8)
    (fun r f r' f' hr hf => dup_eq m c t s (by omega) r f r' f' hr (by omega)) j ((win0_14.rect t).emb j) (by rw [h0, hv]; omega) (by rw [h1, hv])

/-- The blocks cover the array. -/
theorem cover14 (i : S11008x6400.Idx) : ∃ t : Fin cfg0.N, (cfg0.win 14).flush t = true ∧ i ∈ ((cfg0.win 14).blk t).view.set := by
  have h0 : (i 0 : Nat) < 11008 := (i 0).isLt
  have h1 : (i 1 : Nat) < 6400 := (i 1).isLt
  obtain ⟨n, hn⟩ : ∃ n, n = (i 1 : Nat) / 1280 * 43 + (i 0 : Nat) / 256 + 1 := ⟨_, rfl⟩
  have hlt : n < 216 := by omega
  have ht : n < cfg0.N := lt_of_lt_of_eq hlt N_0.symm
  have e := facts14 ⟨n, ht⟩
  refine ⟨⟨n, ht⟩, e.2.2.2.2.2.2.mpr (by show n ≠ 0; omega), ?_⟩
  show i ∈ ((View.whole main_v0_8).slice (win0_14.rect ⟨n, ht⟩)).set
  rw [View.set_slice_whole, Rect.mem_set_unit]
  intro a
  match a with
  | ⟨0, _⟩ => show win0_14.index _ 0 * win0_14.size 0 ≤ (i 0 : Nat) ∧ (i 0 : Nat) < win0_14.index _ 0 * win0_14.size 0 + win0_14.xsize (grid0.coords _) 0
              rw [e.2.2.1, e.2.2.2.1]; show (n - 1) % 43 * 256 ≤ _ ∧ _ < (n - 1) % 43 * 256 + 256; omega
  | ⟨1, _⟩ => show win0_14.index _ 1 * win0_14.size 1 ≤ (i 1 : Nat) ∧ (i 1 : Nat) < win0_14.index _ 1 * win0_14.size 1 + win0_14.xsize (grid0.coords _) 1
              rw [e.2.2.2.2.1, e.2.2.2.2.2.1]; show (n - 1) / 43 * 1280 ≤ _ ∧ _ < (n - 1) / 43 * 1280 + 1280; omega

theorem final14 (c : Dev nD) : (dats m 0 c).arrAt 14 cfg0.N = val14 m c :=
  (dats m 0 c).arrAt_eq_of_cover 14 (val14 m c) (fun t hf => flushed14 m c t ((facts14 t).2.2.2.2.2.2.mp hf)) cover14

end Cert.MlpIdeal.RefValue
end
-- ==== Proof.MlpGroups.lean ====
/-
  A reference's quantised array, from its groups: the codes put back in rows, the scales and the widened codes transposed.
-/
module

public import proofs.«01_k».proof.Proof.MlpSpec

@[expose] public section

noncomputable section

namespace Cert.Mlp

open Idealize.ShloMosaic Idealize.ShloMosaic.ValueIdx Cert.Quant

variable {T K G : ℕ} (hK : K = 32 * G) (q lo hi : BitVec 32) (V : Fin T → Fin K → EReal)
  (W : (⟨2, ![T, K]⟩ : Shape).Idx → EReal) (hW : ∀ t f, W (ix2 t f) = V t f) (v : (⟨3, ![T, G, 32]⟩ : Shape).Idx → EReal) (hc) (hv : v = shapeCast ⟨3, ![T, G, 32]⟩ W hc)

include hW hv in
theorem split_eq (t : Fin T) (g : Fin G) : (fun k => v (ix3 t g k)) = group hK V t g :=
  funext fun k => by rw [hv, split3 hK, hW]; rfl

include hW hv in
theorem codes_of (y : (⟨3, ![T, G, 32]⟩ : Shape).Idx → EReal) (hy : y = fun j => gcode q lo hi (fun k => v (ix3 (j 0) (j 1) k)) (j 2)) (hc') :
    shapeCast ⟨2, ![T, K]⟩ y hc' = codes hK q lo hi V := by
  funext j
  obtain ⟨t, f, rfl⟩ : ∃ (t : Fin T) (f : Fin K), j = ix2 t f := ⟨j 0, j 1, eq_ix2 j⟩
  rw [join3 hK, hy]
  exact congrArg (fun z => gcode q lo hi z _) (split_eq hK V W hW v hc hv _ _)

include hW hv in
theorem scales_of (y : (⟨2, ![T, G]⟩ : Shape).Idx → EReal) (hy : y = fun j => gscale q (fun k => v (ix3 (j 0) (j 1) k))) (hp) :
    transpose ⟨2, ![G, T]⟩ [1, 0] y hp = scales hK q V := by
  funext j
  obtain ⟨g, t, rfl⟩ : ∃ (g : Fin G) (t : Fin T), j = ix2 g t := ⟨j 0, j 1, eq_ix2 j⟩
  rw [transpose_ix2_apply, hy]
  exact congrArg (gscale q) (split_eq hK V W hW v hc hv _ _)

include hW hv in
theorem wide_of (y : (⟨3, ![T, G, 32]⟩ : Shape).Idx → EReal) (hy : y = fun j => gwide q lo hi (fun k => v (ix3 (j 0) (j 1) k)) (j 2)) (hc' hp) :
    transpose ⟨2, ![K, T]⟩ [1, 0] (shapeCast ⟨2, ![T, K]⟩ y hc') hp = wide hK q lo hi V := by
  funext j
  obtain ⟨f, t, rfl⟩ : ∃ (f : Fin K) (t : Fin T), j = ix2 f t := ⟨j 0, j 1, eq_ix2 j⟩
  rw [transpose_ix2_apply, join3 hK, hy]
  exact congrArg (fun z => gwide q lo hi z _) (split_eq hK V W hW v hc hv _ _)

theorem widened (v : FVec Ideal ⟨3, ![T, G, 32]⟩ .f32) {φ : FTy} (y : FVec Ideal ⟨3, ![T, G, 32]⟩ φ) (s : FVec Ideal ⟨2, ![T, G]⟩ .f32) (hφ : φ.bits < FTy.bf16.bits) (hs' hc hb)
    (hy : y = fun j => gcode q lo hi (fun k => v (ix3 (j 0) (j 1) k)) (j 2)) (hs : s = fun j => gscale q (fun k => v (ix3 (j 0) (j 1) k))) :
    mulf (extf .bf16 y hφ) (broadcastTo ⟨3, ![T, G, 32]⟩ (shapeCast ⟨3, ![T, G, 1]⟩ (truncf .bf16 s hs') hc) hb) = fun j => gwide q lo hi (fun k => v (ix3 (j 0) (j 1) k)) (j 2) :=
  refWideV v q (extf .bf16 y hφ) (truncf .bf16 s hs') lo hi hc hb hy hs

end Cert.Mlp
end
-- ==== Proof.MlpRefValues.lean ====
/-
  The MLP's reference on whole arrays: the gate, up and down products with their scales, and the three arrays that are
  quantised, are the element-by-element values of the specification.
-/
module

public import proofs.«01_k».proof.Proof.MlpGroups
public import proofs.«01_k».proof.Proof.Products
public import proofs.«01_k».proof.Proof.Gen.RefMlpIdeal.Value

@[expose] public section

set_option maxRecDepth 16384

noncomputable section

namespace Cert.RefMlpIdeal.RefValue

open Cert.RefMlpIdeal Cert.RefMlpIdeal.Gen Cert.Products Cert.Mlp Cert.Quant Idealize.ShloMosaic Idealize.ShloMosaic.TcCoe Idealize.SL.Sem Idealize.ShloMosaic.ValueIdx
open Idealize.ShloMosaic.Pipeline (Dat)
open scoped BigOperators

/-- `aᵀ · bᵀ`: entry (r, c) is the sum over k of `a[k,r] · b[c,k]`. -/
def tt {M K N : ℕ} (a : (⟨2, ![K, M]⟩ : Shape).Idx → EReal) (b : (⟨2, ![N, K]⟩ : Shape).Idx → EReal) :
    (⟨2, ![M, N]⟩ : Shape).Idx → EReal :=
  fun i => ∑ k : Fin K, a (ix2 k (i 0)) * b (ix2 (i 1) k)

/-- A product contracting its left operand's first axis with its right operand's last, into a zero accumulator, is `tt`. -/
theorem matmul_tt {M K N : ℕ} {φ₁ φ₂ : FTy} (d : DotDims ⟨2, ![K, M]⟩ ⟨2, ![N, K]⟩ ⟨2, ![M, N]⟩) (hr : d.contr.rank = 1) (hs : d.contr.size ⟨0, by rw [hr]; exact Nat.one_pos⟩ = K)
    (hl : ∀ i q, (d.lhsIdx i q 0).val = (q ⟨0, by rw [hr]; exact Nat.one_pos⟩).val ∧ (d.lhsIdx i q 1).val = (i 0).val)
    (hq : ∀ i q, (d.rhsIdx i q 1).val = (q ⟨0, by rw [hr]; exact Nat.one_pos⟩).val ∧ (d.rhsIdx i q 0).val = (i 1).val)
    (a : FVec Ideal ⟨2, ![K, M]⟩ φ₁) (b : FVec Ideal ⟨2, ![N, K]⟩ φ₂) :
    FloatOps.matmul (F := Ideal) d none a b (constant ⟨2, ![M, N]⟩ .f32 0x00000000#32) = tt a b := by
  funext i
  rw [Ideal.matmul_apply]
  show Ideal.ofBits .f32 0x00000000#32 + _ = _
  rw [Ideal.ofBits_zero_f32, zero_add, ← Equiv.sum_comp (contrEquiv1 d K hr hs).symm]
  refine Finset.sum_congr rfl fun k _ => ?_
  have hk := contrEquiv1_symm_val d K hr hs k
  exact congrArg₂ (· * ·) (congrArg a (Shape.idx_ext₂ ((hl _ _).1.trans hk) (hl _ _).2)) (congrArg b (Shape.idx_ext₂ (hq _ _).2 ((hq _ _).1.trans hk)))

variable (x0 : Vec Ideal S3 .f32) (x1 x2 : Vec Ideal S2048x6400 .bf16) (x3 x4 : Vec Ideal S2048x11008 .fp8e4m3) (x5 : Vec Ideal S11008x2048 .fp8e4m3)

/-- The three scales. -/
abbrev s0 : Elt Ideal .f32 := View.ld x0 (Rect.unit (s := S3) ![0] S1.size inb_S3_S1_0) (Shape.Idx.first (by decide))
abbrev s1 : Elt Ideal .f32 := View.ld x0 (Rect.unit (s := S3) ![1] S1.size inb_S3_S1_1) (Shape.Idx.first (by decide))
abbrev s2 : Elt Ideal .f32 := View.ld x0 (Rect.unit (s := S3) ![2] S1.size inb_S3_S1_2) (Shape.Idx.first (by decide))

theorem s0_eq : s0 x0 = x0 (ix1 0) := congrArg x0 (funext fun a => by fin_cases a; rfl)
theorem s1_eq : s1 x0 = x0 (ix1 1) := congrArg x0 (funext fun a => by fin_cases a; rfl)
theorem s2_eq : s2 x0 = x0 (ix1 2) := congrArg x0 (funext fun a => by fin_cases a; rfl)

/-- The two products contracted over the first axis of both operands, and the one over the last axis of its right operand. -/
theorem dot_tn (a : FVec Ideal S2048x6400 .bf16) (w : FVec Ideal S2048x11008 .bf16) :
    FloatOps.matmul (F := Ideal) dot_S2048x6400_S2048x11008_S6400x11008_0_0_1_1_n_n none a w (constant S6400x11008 .f32 0x00000000#32)
      = tn (M := 6400) (K := 2048) (N := 11008) a w :=
  matmul_tn (M := 6400) (K := 2048) (N := 11008) dot_S2048x6400_S2048x11008_S6400x11008_0_0_1_1_n_n rfl rfl
    (fun i q => ⟨dot_S2048x6400_S2048x11008_S6400x11008_0_0_1_1_n_n.lhsIdx_val_of_single rfl i q, by
      unfold DotDims.lhsIdx
      rw [dif_neg (by decide), dif_pos (by decide)]
      rfl⟩)
    (fun i q => ⟨dot_S2048x6400_S2048x11008_S6400x11008_0_0_1_1_n_n.rhsIdx_val_of_single rfl i q, by
      unfold DotDims.rhsIdx
      rw [dif_neg (by decide), dif_pos (by decide)]
      rfl⟩) a w

theorem dot_tt (a : FVec Ideal S2048x6400 .bf16) (w : FVec Ideal S11008x2048 .bf16) :
    FloatOps.matmul (F := Ideal) dot_S2048x6400_S11008x2048_S6400x11008_0_1_1_0_n_n none a w (constant S6400x11008 .f32 0x00000000#32)
      = tt (M := 6400) (K := 2048) (N := 11008) a w :=
  matmul_tt (M := 6400) (K := 2048) (N := 11008) dot_S2048x6400_S11008x2048_S6400x11008_0_1_1_0_n_n rfl rfl
    (fun i q => ⟨dot_S2048x6400_S11008x2048_S6400x11008_0_1_1_0_n_n.lhsIdx_val_of_single rfl i q, by
      unfold DotDims.lhsIdx
      rw [dif_neg (by decide), dif_pos (by decide)]
      rfl⟩)
    (fun i q => ⟨dot_S2048x6400_S11008x2048_S6400x11008_0_1_1_0_n_n.rhsIdx_val_of_single rfl i q, by
      unfold DotDims.rhsIdx
      rw [dif_neg (by decide), dif_pos (by decide)]
      rfl⟩) a w

theorem gate_at (t : Fin 6400) (f : Fin 11008) : k0_pay5 x1 x3 (s0 x0) (ix2 t f) = gateA x0 x1 x3 t f :=
  congrArg₂ (· * ·) (congrFun (dot_tn x1 x3) (ix2 t f)) (s0_eq x0)
theorem up_at (t : Fin 6400) (f : Fin 11008) : k0_pay6 x1 x4 (s1 x0) (ix2 t f) = upA x0 x1 x4 t f :=
  congrArg₂ (· * ·) (congrFun (dot_tn x1 x4) (ix2 t f)) (s1_eq x0)
theorem du_at (t : Fin 6400) (f : Fin 11008) : k0_pay7 x2 x5 (s2 x0) (ix2 t f) = duA x0 x2 x5 t f :=
  congrArg₂ (· * ·) (congrFun (dot_tt x2 x5) (ix2 t f)) (s2_eq x0)
theorem sig_at (t : Fin 6400) (f : Fin 11008) : k0_pay8 x1 x3 (s0 x0) (ix2 t f) = sgm (gateA x0 x1 x3 t f) := by
  show Ideal.div _ _ = _
  unfold sgm
  rw [← gate_at]

/-- The three arrays before quantisation. -/
abbrev actW : FVec Ideal S6400x11008 .f32 := mulf (mulf (k0_pay5 x1 x3 (s0 x0)) (k0_pay8 x1 x3 (s0 x0))) (k0_pay6 x1 x4 (s1 x0))
abbrev dgateW : FVec Ideal S6400x11008 .f32 :=
  mulf (k0_pay18 (k0_pay6 x1 x4 (s1 x0)) (k0_pay7 x2 x5 (s2 x0)) (k0_pay8 x1 x3 (s0 x0))) (addf k0_pay20 (k0_pay19 (k0_pay5 x1 x3 (s0 x0)) (k0_pay8 x1 x3 (s0 x0))))
abbrev dupW : FVec Ideal S6400x11008 .f32 := mulf (mulf (k0_pay7 x2 x5 (s2 x0)) (k0_pay5 x1 x3 (s0 x0))) (k0_pay8 x1 x3 (s0 x0))

theorem act_at (t : Fin 6400) (f : Fin 11008) : actW x0 x1 x3 x4 (ix2 t f) = actA x0 x1 x3 x4 t f := by
  show k0_pay5 x1 x3 (s0 x0) (ix2 t f) * k0_pay8 x1 x3 (s0 x0) (ix2 t f) * k0_pay6 x1 x4 (s1 x0) (ix2 t f) = _
  rw [gate_at, sig_at, up_at]
  rfl

theorem dgate_at (t : Fin 6400) (f : Fin 11008) : dgateW x0 x1 x2 x3 x4 x5 (ix2 t f) = dgateA x0 x1 x2 x3 x4 x5 t f := by
  show k0_pay7 x2 x5 (s2 x0) (ix2 t f) * k0_pay6 x1 x4 (s1 x0) (ix2 t f) * k0_pay8 x1 x3 (s0 x0) (ix2 t f)
    * (Ideal.ofBits .f32 0x3F800000#32 + k0_pay5 x1 x3 (s0 x0) (ix2 t f) * (Ideal.ofBits .f32 0x3F800000#32 - k0_pay8 x1 x3 (s0 x0) (ix2 t f))) = _
  rw [gate_at, sig_at, up_at, du_at, c1]
  rfl

theorem dup_at (t : Fin 6400) (f : Fin 11008) : dupW x0 x1 x2 x3 x5 (ix2 t f) = dupA x0 x1 x2 x3 x5 t f := by
  show k0_pay7 x2 x5 (s2 x0) (ix2 t f) * k0_pay5 x1 x3 (s0 x0) (ix2 t f) * k0_pay8 x1 x3 (s0 x0) (ix2 t f) = _
  rw [gate_at, sig_at, du_at]
  rfl

end Cert.RefMlpIdeal.RefValue
end
-- ==== Proof.MlpRefQuant.lean ====
/-
  The MLP's reference on whole arrays: its codes, scales and widened codes are those of the specification.
-/
module

public import proofs.«01_k».proof.Proof.MlpRefValues

@[expose] public section

set_option maxRecDepth 16384

noncomputable section

namespace Cert.RefMlpIdeal.RefValue

open Cert.RefMlpIdeal Cert.RefMlpIdeal.Gen Cert.Products Cert.Mlp Cert.Quant Idealize.ShloMosaic Idealize.ShloMosaic.TcCoe Idealize.SL.Sem Idealize.ShloMosaic.ValueIdx
open Idealize.ShloMosaic.Pipeline (Dat)
open scoped BigOperators

variable (x0 : Vec Ideal S3 .f32) (x1 x2 : Vec Ideal S2048x6400 .bf16) (x3 x4 : Vec Ideal S2048x11008 .fp8e4m3) (x5 : Vec Ideal S11008x2048 .fp8e4m3)

/-! ## The activation -/

theorem act_max : k0_pay10 x1 x3 (s0 x0) x1 x4 (s1 x0) = fun j => gmax (fun k => k0_pay9 x1 x3 (s0 x0) x1 x4 (s1 x0) (ix3 (j 0) (j 1) k)) * Ideal.ofBits .f32 0x3B124925#32 :=
  rowMaxV (T := 6400) (G := 344) (k0_pay9 x1 x3 (s0 x0) x1 x4 (s1 x0)) 0x3B124925#32 reduces_S6400x344x32_S6400x344 (.inl rfl) rfl

theorem act_exp : k0_pay12 (k0_pay11 x1 x3 (s0 x0) x1 x4 (s1 x0)) (FloatOps.ofBits (F := Ideal) .f32 0xC2FA0000#32) (FloatOps.ofBits (F := Ideal) .f32 0x43000000#32) = fun j => expR (k0_pay10 x1 x3 (s0 x0) x1 x4 (s1 x0) j) :=
  exponentV (T := 6400) (G := 344) (k0_pay10 x1 x3 (s0 x0) x1 x4 (s1 x0))

theorem act_scale : k0_pay13 (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32) = fun j => gscale 0x3B124925#32 (fun k => k0_pay9 x1 x3 (s0 x0) x1 x4 (s1 x0) (ix3 (j 0) (j 1) k)) :=
  refScaleV (T := 6400) (G := 344) (k0_pay9 x1 x3 (s0 x0) x1 x4 (s1 x0)) 0x3B124925#32 (k0_pay10 x1 x3 (s0 x0) x1 x4 (s1 x0)) (act_max x0 x1 x3 x4) (k0_pay12 (k0_pay11 x1 x3 (s0 x0) x1 x4 (s1 x0)) (FloatOps.ofBits (F := Ideal) .f32 0xC2FA0000#32) (FloatOps.ofBits (F := Ideal) .f32 0x43000000#32)) (act_exp x0 x1 x3 x4)

theorem act_code : k0_pay14 (k0_pay9 x1 x3 (s0 x0) x1 x4 (s1 x0)) (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32) = fun j => gcode 0x3B124925#32 0xC3E00000#32 0x43E00000#32 (fun k => k0_pay9 x1 x3 (s0 x0) x1 x4 (s1 x0) (ix3 (j 0) (j 1) k)) (j 2) :=
  refCodeV (T := 6400) (G := 344) (k0_pay9 x1 x3 (s0 x0) x1 x4 (s1 x0)) 0x3B124925#32 (k0_pay10 x1 x3 (s0 x0) x1 x4 (s1 x0)) (act_max x0 x1 x3 x4) (k0_pay12 (k0_pay11 x1 x3 (s0 x0) x1 x4 (s1 x0)) (FloatOps.ofBits (F := Ideal) .f32 0xC2FA0000#32) (FloatOps.ofBits (F := Ideal) .f32 0x43000000#32)) (act_exp x0 x1 x3 x4) 0xC3E00000#32 0x43E00000#32 shapeCasts_S6400x344_S6400x344x1 broadcasts_S6400x344x1_S6400x344x32

theorem act_codes : k0_pay15 (k0_pay9 x1 x3 (s0 x0) x1 x4 (s1 x0)) (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32) = codes (T := 6400) (K := 11008) (G := 344) rfl 0x3B124925#32 0xC3E00000#32 0x43E00000#32 (actA x0 x1 x3 x4) :=
  codes_of (T := 6400) (K := 11008) (G := 344) rfl 0x3B124925#32 0xC3E00000#32 0x43E00000#32 (actA x0 x1 x3 x4) (actW x0 x1 x3 x4) (act_at x0 x1 x3 x4) _ shapeCasts_S6400x11008_S6400x344x32 rfl (k0_pay14 (k0_pay9 x1 x3 (s0 x0) x1 x4 (s1 x0)) (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) (act_code x0 x1 x3 x4) shapeCasts_S6400x344x32_S6400x11008

theorem act_scales : k0_pay16 (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32) = scales (T := 6400) (K := 11008) (G := 344) rfl 0x3B124925#32 (actA x0 x1 x3 x4) :=
  scales_of (T := 6400) (K := 11008) (G := 344) rfl 0x3B124925#32 (actA x0 x1 x3 x4) (actW x0 x1 x3 x4) (act_at x0 x1 x3 x4) _ shapeCasts_S6400x11008_S6400x344x32 rfl (k0_pay13 (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) (act_scale x0 x1 x3 x4) transposes_S6400x344_p1_0_S344x6400

theorem act_widened : mulf (extf .bf16 (k0_pay14 (k0_pay9 x1 x3 (s0 x0) x1 x4 (s1 x0)) (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) bitsLt_fp8e4m3_bf16) (broadcastTo S6400x344x32 (shapeCast S6400x344x1 (truncf .bf16 (k0_pay13 (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) bitsLt_bf16_f32) shapeCasts_S6400x344_S6400x344x1) broadcasts_S6400x344x1_S6400x344x32)
    = fun j => gwide 0x3B124925#32 0xC3E00000#32 0x43E00000#32 (fun k => k0_pay9 x1 x3 (s0 x0) x1 x4 (s1 x0) (ix3 (j 0) (j 1) k)) (j 2) :=
  widened (T := 6400) (G := 344) 0x3B124925#32 0xC3E00000#32 0x43E00000#32 (k0_pay9 x1 x3 (s0 x0) x1 x4 (s1 x0)) (k0_pay14 (k0_pay9 x1 x3 (s0 x0) x1 x4 (s1 x0)) (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) (k0_pay13 (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) bitsLt_fp8e4m3_bf16 bitsLt_bf16_f32 shapeCasts_S6400x344_S6400x344x1 broadcasts_S6400x344x1_S6400x344x32
    (act_code x0 x1 x3 x4) (act_scale x0 x1 x3 x4)

theorem act_wide : k0_pay17 (k0_pay9 x1 x3 (s0 x0) x1 x4 (s1 x0)) (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32) = wide (T := 6400) (K := 11008) (G := 344) rfl 0x3B124925#32 0xC3E00000#32 0x43E00000#32 (actA x0 x1 x3 x4) :=
  wide_of (T := 6400) (K := 11008) (G := 344) rfl 0x3B124925#32 0xC3E00000#32 0x43E00000#32 (actA x0 x1 x3 x4) (actW x0 x1 x3 x4) (act_at x0 x1 x3 x4) _ shapeCasts_S6400x11008_S6400x344x32 rfl
    (mulf (extf .bf16 (k0_pay14 (k0_pay9 x1 x3 (s0 x0) x1 x4 (s1 x0)) (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) bitsLt_fp8e4m3_bf16) (broadcastTo S6400x344x32 (shapeCast S6400x344x1 (truncf .bf16 (k0_pay13 (k0_pay10 x1 x3 (s0 x0) x1 x4 (s1 x0)) (k0_pay11 x1 x3 (s0 x0) x1 x4 (s1 x0)) (FloatOps.ofBits (F := Ideal) .f32 0xC2FA0000#32) (FloatOps.ofBits (F := Ideal) .f32 0x43000000#32)) bitsLt_bf16_f32) shapeCasts_S6400x344_S6400x344x1) broadcasts_S6400x344x1_S6400x344x32))
    (act_widened x0 x1 x3 x4) shapeCasts_S6400x344x32_S6400x11008 transposes_S6400x11008_p1_0_S11008x6400

/-! ## The gate's gradient -/

theorem dgate_max : k0_pay22 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 = fun j => gmax (fun k => k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 (ix3 (j 0) (j 1) k)) * Ideal.ofBits .f32 0x37924925#32 :=
  rowMaxV (T := 6400) (G := 344) (k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) 0x37924925#32 reduces_S6400x344x32_S6400x344 (.inl rfl) rfl

theorem dgate_exp : k0_pay23 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 = fun j => expR (k0_pay22 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 j) :=
  exponentV (T := 6400) (G := 344) (k0_pay22 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20)

theorem dgate_scale : k0_pay24 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 = fun j => gscale 0x37924925#32 (fun k => k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 (ix3 (j 0) (j 1) k)) :=
  refScaleV (T := 6400) (G := 344) (k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) 0x37924925#32 (k0_pay22 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (dgate_max x0 x1 x2 x3 x4 x5) (k0_pay23 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (dgate_exp x0 x1 x2 x3 x4 x5)

theorem dgate_code : k0_pay25 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 = fun j => gcode 0x37924925#32 0xC7600000#32 0x47600000#32 (fun k => k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 (ix3 (j 0) (j 1) k)) (j 2) :=
  refCodeV (T := 6400) (G := 344) (k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) 0x37924925#32 (k0_pay22 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (dgate_max x0 x1 x2 x3 x4 x5) (k0_pay23 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (dgate_exp x0 x1 x2 x3 x4 x5) 0xC7600000#32 0x47600000#32 shapeCasts_S6400x344_S6400x344x1 broadcasts_S6400x344x1_S6400x344x32

theorem dgate_codes : k0_pay26 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 = codes (T := 6400) (K := 11008) (G := 344) rfl 0x37924925#32 0xC7600000#32 0x47600000#32 (dgateA x0 x1 x2 x3 x4 x5) :=
  codes_of (T := 6400) (K := 11008) (G := 344) rfl 0x37924925#32 0xC7600000#32 0x47600000#32 (dgateA x0 x1 x2 x3 x4 x5) (dgateW x0 x1 x2 x3 x4 x5) (dgate_at x0 x1 x2 x3 x4 x5) _ shapeCasts_S6400x11008_S6400x344x32 rfl (k0_pay25 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (dgate_code x0 x1 x2 x3 x4 x5) shapeCasts_S6400x344x32_S6400x11008

theorem dgate_scales : k0_pay27 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 = scales (T := 6400) (K := 11008) (G := 344) rfl 0x37924925#32 (dgateA x0 x1 x2 x3 x4 x5) :=
  scales_of (T := 6400) (K := 11008) (G := 344) rfl 0x37924925#32 (dgateA x0 x1 x2 x3 x4 x5) (dgateW x0 x1 x2 x3 x4 x5) (dgate_at x0 x1 x2 x3 x4 x5) _ shapeCasts_S6400x11008_S6400x344x32 rfl (k0_pay24 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (dgate_scale x0 x1 x2 x3 x4 x5) transposes_S6400x344_p1_0_S344x6400

theorem dgate_widened : mulf (extf .bf16 (k0_pay25 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) bitsLt_fp8e5m2_bf16) (broadcastTo S6400x344x32 (shapeCast S6400x344x1 (truncf .bf16 (k0_pay24 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) bitsLt_bf16_f32) shapeCasts_S6400x344_S6400x344x1) broadcasts_S6400x344x1_S6400x344x32)
    = fun j => gwide 0x37924925#32 0xC7600000#32 0x47600000#32 (fun k => k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 (ix3 (j 0) (j 1) k)) (j 2) :=
  widened (T := 6400) (G := 344) 0x37924925#32 0xC7600000#32 0x47600000#32 (k0_pay21 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (k0_pay25 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) (k0_pay24 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) bitsLt_fp8e5m2_bf16 bitsLt_bf16_f32 shapeCasts_S6400x344_S6400x344x1 broadcasts_S6400x344x1_S6400x344x32
    (dgate_code x0 x1 x2 x3 x4 x5) (dgate_scale x0 x1 x2 x3 x4 x5)

theorem dgate_wide : k0_pay28 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20 = wide (T := 6400) (K := 11008) (G := 344) rfl 0x37924925#32 0xC7600000#32 0x47600000#32 (dgateA x0 x1 x2 x3 x4 x5) :=
  wide_of (T := 6400) (K := 11008) (G := 344) rfl 0x37924925#32 0xC7600000#32 0x47600000#32 (dgateA x0 x1 x2 x3 x4 x5) (dgateW x0 x1 x2 x3 x4 x5) (dgate_at x0 x1 x2 x3 x4 x5) _ shapeCasts_S6400x11008_S6400x344x32 rfl
    (mulf (extf .bf16 (k0_pay25 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) bitsLt_fp8e5m2_bf16) (broadcastTo S6400x344x32 (shapeCast S6400x344x1 (truncf .bf16 (k0_pay24 (k0_pay18 (k0_pay6 x1 x4 (s1 x0)) (k0_pay7 x2 x5 (s2 x0)) (k0_pay8 x1 x3 (s0 x0))) (k0_pay19 (k0_pay5 x1 x3 (s0 x0)) (k0_pay8 x1 x3 (s0 x0))) k0_pay20) bitsLt_bf16_f32) shapeCasts_S6400x344_S6400x344x1) broadcasts_S6400x344x1_S6400x344x32))
    (dgate_widened x0 x1 x2 x3 x4 x5) shapeCasts_S6400x344x32_S6400x11008 transposes_S6400x11008_p1_0_S11008x6400

/-! ## The up projection's gradient -/

theorem dup_max : k0_pay30 (k0_pay5 x1 x3 (s0 x0)) (k0_pay7 x2 x5 (s2 x0)) (k0_pay8 x1 x3 (s0 x0)) = fun j => gmax (fun k => k0_pay29 (k0_pay5 x1 x3 (s0 x0)) (k0_pay7 x2 x5 (s2 x0)) (k0_pay8 x1 x3 (s0 x0)) (ix3 (j 0) (j 1) k)) * Ideal.ofBits .f32 0x37924925#32 :=
  rowMaxV (T := 6400) (G := 344) (k0_pay29 (k0_pay5 x1 x3 (s0 x0)) (k0_pay7 x2 x5 (s2 x0)) (k0_pay8 x1 x3 (s0 x0))) 0x37924925#32 reduces_S6400x344x32_S6400x344 (.inl rfl) rfl

theorem dup_exp : k0_pay31 (k0_pay5 x1 x3 (s0 x0)) (k0_pay7 x2 x5 (s2 x0)) (k0_pay8 x1 x3 (s0 x0)) = fun j => expR (k0_pay30 (k0_pay5 x1 x3 (s0 x0)) (k0_pay7 x2 x5 (s2 x0)) (k0_pay8 x1 x3 (s0 x0)) j) :=
  exponentV (T := 6400) (G := 344) (k0_pay30 (k0_pay5 x1 x3 (s0 x0)) (k0_pay7 x2 x5 (s2 x0)) (k0_pay8 x1 x3 (s0 x0)))

theorem dup_scale : k0_pay32 (k0_pay5 x1 x3 (s0 x0)) (k0_pay7 x2 x5 (s2 x0)) (k0_pay8 x1 x3 (s0 x0)) = fun j => gscale 0x37924925#32 (fun k => k0_pay29 (k0_pay5 x1 x3 (s0 x0)) (k0_pay7 x2 x5 (s2 x0)) (k0_pay8 x1 x3 (s0 x0)) (ix3 (j 0) (j 1) k)) :=
  refScaleV (T := 6400) (G := 344) (k0_pay29 (k0_pay5 x1 x3 (s0 x0)) (k0_pay7 x2 x5 (s2 x0)) (k0_pay8 x1 x3 (s0 x0))) 0x37924925#32 (k0_pay30 (k0_pay5 x1 x3 (s0 x0)) (k0_pay7 x2 x5 (s2 x0)) (k0_pay8 x1 x3 (s0 x0))) (dup_max x0 x1 x2 x3 x5) (k0_pay31 (k0_pay5 x1 x3 (s0 x0)) (k0_pay7 x2 x5 (s2 x0)) (k0_pay8 x1 x3 (s0 x0))) (dup_exp x0 x1 x2 x3 x5)

theorem dup_code : k0_pay1 (FloatOps.ofBits (F := Ideal) .f32 0x47600000#32) (k0_pay33 (k0_pay5 x1 x3 (s0 x0)) (k0_pay7 x2 x5 (s2 x0)) (k0_pay8 x1 x3 (s0 x0))) = fun j => gcode 0x37924925#32 0xC7600000#32 0x47600000#32 (fun k => k0_pay29 (k0_pay5 x1 x3 (s0 x0)) (k0_pay7 x2 x5 (s2 x0)) (k0_pay8 x1 x3 (s0 x0)) (ix3 (j 0) (j 1) k)) (j 2) :=
  refCodeV (T := 6400) (G := 344) (k0_pay29 (k0_pay5 x1 x3 (s0 x0)) (k0_pay7 x2 x5 (s2 x0)) (k0_pay8 x1 x3 (s0 x0))) 0x37924925#32 (k0_pay30 (k0_pay5 x1 x3 (s0 x0)) (k0_pay7 x2 x5 (s2 x0)) (k0_pay8 x1 x3 (s0 x0))) (dup_max x0 x1 x2 x3 x5) (k0_pay31 (k0_pay5 x1 x3 (s0 x0)) (k0_pay7 x2 x5 (s2 x0)) (k0_pay8 x1 x3 (s0 x0))) (dup_exp x0 x1 x2 x3 x5) 0xC7600000#32 0x47600000#32 shapeCasts_S6400x344_S6400x344x1 broadcasts_S6400x344x1_S6400x344x32

theorem dup_codes : k0_pay2 (FloatOps.ofBits (F := Ideal) .f32 0x47600000#32) (k0_pay33 (k0_pay5 x1 x3 (s0 x0)) (k0_pay7 x2 x5 (s2 x0)) (k0_pay8 x1 x3 (s0 x0))) = codes (T := 6400) (K := 11008) (G := 344) rfl 0x37924925#32 0xC7600000#32 0x47600000#32 (dupA x0 x1 x2 x3 x5) :=
  codes_of (T := 6400) (K := 11008) (G := 344) rfl 0x37924925#32 0xC7600000#32 0x47600000#32 (dupA x0 x1 x2 x3 x5) (dupW x0 x1 x2 x3 x5) (dup_at x0 x1 x2 x3 x5) _ shapeCasts_S6400x11008_S6400x344x32 rfl (k0_pay1 (FloatOps.ofBits (F := Ideal) .f32 0x47600000#32) (k0_pay33 (k0_pay5 x1 x3 (s0 x0)) (k0_pay7 x2 x5 (s2 x0)) (k0_pay8 x1 x3 (s0 x0)))) (dup_code x0 x1 x2 x3 x5) shapeCasts_S6400x344x32_S6400x11008

theorem dup_scales : k0_pay3 (k0_pay32 (k0_pay5 x1 x3 (s0 x0)) (k0_pay7 x2 x5 (s2 x0)) (k0_pay8 x1 x3 (s0 x0))) = scales (T := 6400) (K := 11008) (G := 344) rfl 0x37924925#32 (dupA x0 x1 x2 x3 x5) :=
  scales_of (T := 6400) (K := 11008) (G := 344) rfl 0x37924925#32 (dupA x0 x1 x2 x3 x5) (dupW x0 x1 x2 x3 x5) (dup_at x0 x1 x2 x3 x5) _ shapeCasts_S6400x11008_S6400x344x32 rfl (k0_pay32 (k0_pay5 x1 x3 (s0 x0)) (k0_pay7 x2 x5 (s2 x0)) (k0_pay8 x1 x3 (s0 x0))) (dup_scale x0 x1 x2 x3 x5) transposes_S6400x344_p1_0_S344x6400

theorem dup_widened : mulf (extf .bf16 (k0_pay1 (FloatOps.ofBits (F := Ideal) .f32 0x47600000#32) (k0_pay33 (k0_pay5 x1 x3 (s0 x0)) (k0_pay7 x2 x5 (s2 x0)) (k0_pay8 x1 x3 (s0 x0)))) bitsLt_fp8e5m2_bf16) (broadcastTo S6400x344x32 (shapeCast S6400x344x1 (truncf .bf16 (k0_pay32 (k0_pay5 x1 x3 (s0 x0)) (k0_pay7 x2 x5 (s2 x0)) (k0_pay8 x1 x3 (s0 x0))) bitsLt_bf16_f32) shapeCasts_S6400x344_S6400x344x1) broadcasts_S6400x344x1_S6400x344x32)
    = fun j => gwide 0x37924925#32 0xC7600000#32 0x47600000#32 (fun k => k0_pay29 (k0_pay5 x1 x3 (s0 x0)) (k0_pay7 x2 x5 (s2 x0)) (k0_pay8 x1 x3 (s0 x0)) (ix3 (j 0) (j 1) k)) (j 2) :=
  widened (T := 6400) (G := 344) 0x37924925#32 0xC7600000#32 0x47600000#32 (k0_pay29 (k0_pay5 x1 x3 (s0 x0)) (k0_pay7 x2 x5 (s2 x0)) (k0_pay8 x1 x3 (s0 x0))) (k0_pay1 (FloatOps.ofBits (F := Ideal) .f32 0x47600000#32) (k0_pay33 (k0_pay5 x1 x3 (s0 x0)) (k0_pay7 x2 x5 (s2 x0)) (k0_pay8 x1 x3 (s0 x0)))) (k0_pay32 (k0_pay5 x1 x3 (s0 x0)) (k0_pay7 x2 x5 (s2 x0)) (k0_pay8 x1 x3 (s0 x0))) bitsLt_fp8e5m2_bf16 bitsLt_bf16_f32 shapeCasts_S6400x344_S6400x344x1 broadcasts_S6400x344x1_S6400x344x32
    (dup_code x0 x1 x2 x3 x5) (dup_scale x0 x1 x2 x3 x5)

theorem dup_wide : k0_pay4 (k0_pay32 (k0_pay5 x1 x3 (s0 x0)) (k0_pay7 x2 x5 (s2 x0)) (k0_pay8 x1 x3 (s0 x0))) (FloatOps.ofBits (F := Ideal) .f32 0x47600000#32) (k0_pay33 (k0_pay5 x1 x3 (s0 x0)) (k0_pay7 x2 x5 (s2 x0)) (k0_pay8 x1 x3 (s0 x0))) = wide (T := 6400) (K := 11008) (G := 344) rfl 0x37924925#32 0xC7600000#32 0x47600000#32 (dupA x0 x1 x2 x3 x5) :=
  wide_of (T := 6400) (K := 11008) (G := 344) rfl 0x37924925#32 0xC7600000#32 0x47600000#32 (dupA x0 x1 x2 x3 x5) (dupW x0 x1 x2 x3 x5) (dup_at x0 x1 x2 x3 x5) _ shapeCasts_S6400x11008_S6400x344x32 rfl
    (mulf (extf .bf16 (k0_pay1 (FloatOps.ofBits (F := Ideal) .f32 0x47600000#32) (k0_pay33 (k0_pay5 x1 x3 (s0 x0)) (k0_pay7 x2 x5 (s2 x0)) (k0_pay8 x1 x3 (s0 x0)))) bitsLt_fp8e5m2_bf16) (broadcastTo S6400x344x32 (shapeCast S6400x344x1 (truncf .bf16 (k0_pay32 (k0_pay5 x1 x3 (s0 x0)) (k0_pay7 x2 x5 (s2 x0)) (k0_pay8 x1 x3 (s0 x0))) bitsLt_bf16_f32) shapeCasts_S6400x344_S6400x344x1) broadcasts_S6400x344x1_S6400x344x32))
    (dup_widened x0 x1 x2 x3 x5) shapeCasts_S6400x344x32_S6400x11008 transposes_S6400x11008_p1_0_S11008x6400

end Cert.RefMlpIdeal.RefValue
end
-- ==== Proof.MlpRef.lean ====
/-
  The MLP's reference: what its nine result arrays hold after the run.
-/
module

public import proofs.«01_k».proof.Proof.MlpRefQuant

@[expose] public section

set_option maxRecDepth 16384

noncomputable section

namespace Cert.RefMlpIdeal.RefValue

open Cert.RefMlpIdeal Cert.RefMlpIdeal.Gen Cert.Products Cert.Mlp Cert.Quant Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- Every window is its whole array. -/
theorem idx_facts : ∀ t : Fin cfg0.N, win0_0.index t 0 = 0
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0) :=
  (by decide +kernel : ∀ t : Fin grid0.N, win0_0.index t 0 = 0
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0))
theorem iblk0 (c : Dev nD) (t : Fin cfg0.N) : iblk m c 0 t = m ((c : Thread nD τ).loc main_arg0) := funext fun y =>
  congrArg (m ((c : Thread nD τ).loc main_arg0)) (a₁ := (win0_0.rect t).emb y) (funext fun a => Fin.ext (by
    match a with
    | ⟨0, _⟩ => exact win0_0.rect_emb_val_of_index_zero t 0 (idx_facts t).1 _))
theorem iblk1 (c : Dev nD) (t : Fin cfg0.N) : iblk m c 1 t = m ((c : Thread nD τ).loc main_arg1) := funext fun y =>
  congrArg (m ((c : Thread nD τ).loc main_arg1)) (a₁ := (win0_1.rect t).emb y) (Shape.idx_ext₂
    (win0_1.rect_emb_val_of_index_zero t 0 (idx_facts t).2.1.1 _) (win0_1.rect_emb_val_of_index_zero t 1 (idx_facts t).2.1.2 _))
theorem iblk2 (c : Dev nD) (t : Fin cfg0.N) : iblk m c 2 t = m ((c : Thread nD τ).loc main_arg2) := funext fun y =>
  congrArg (m ((c : Thread nD τ).loc main_arg2)) (a₁ := (win0_2.rect t).emb y) (Shape.idx_ext₂
    (win0_2.rect_emb_val_of_index_zero t 0 (idx_facts t).2.2.1.1 _) (win0_2.rect_emb_val_of_index_zero t 1 (idx_facts t).2.2.1.2 _))
theorem iblk3 (c : Dev nD) (t : Fin cfg0.N) : iblk m c 3 t = m ((c : Thread nD τ).loc main_arg3) := funext fun y =>
  congrArg (m ((c : Thread nD τ).loc main_arg3)) (a₁ := (win0_3.rect t).emb y) (Shape.idx_ext₂
    (win0_3.rect_emb_val_of_index_zero t 0 (idx_facts t).2.2.2.1.1 _) (win0_3.rect_emb_val_of_index_zero t 1 (idx_facts t).2.2.2.1.2 _))
theorem iblk4 (c : Dev nD) (t : Fin cfg0.N) : iblk m c 4 t = m ((c : Thread nD τ).loc main_arg4) := funext fun y =>
  congrArg (m ((c : Thread nD τ).loc main_arg4)) (a₁ := (win0_4.rect t).emb y) (Shape.idx_ext₂
    (win0_4.rect_emb_val_of_index_zero t 0 (idx_facts t).2.2.2.2.1.1 _) (win0_4.rect_emb_val_of_index_zero t 1 (idx_facts t).2.2.2.2.1.2 _))
theorem iblk5 (c : Dev nD) (t : Fin cfg0.N) : iblk m c 5 t = m ((c : Thread nD τ).loc main_arg5) := funext fun y =>
  congrArg (m ((c : Thread nD τ).loc main_arg5)) (a₁ := (win0_5.rect t).emb y) (Shape.idx_ext₂
    (win0_5.rect_emb_val_of_index_zero t 0 (idx_facts t).2.2.2.2.2.1.1 _) (win0_5.rect_emb_val_of_index_zero t 1 (idx_facts t).2.2.2.2.2.1.2 _))

/-! ## Window 6: the activation -/

theorem out6_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = codes (T := 6400) (K := 11008) (G := 344) rfl 0x3B124925#32 0xC3E00000#32 0x43E00000#32 (actA x0 x1 x3 x4) := by
  unfold out0_A_6
  rw [View.read_writes_eq_canon _ _ _ (cover0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact act_codes x0 x1 x3 x4

/-- The whole array. -/
abbrev val6 (c : Dev nD) : Buf (Elt Ideal) ((c : Thread nD τ).loc main_v0_0) :=
  codes (T := 6400) (K := 11008) (G := 344) rfl 0x3B124925#32 0xC3E00000#32 0x43E00000#32 (actA (m ((c : Thread nD τ).loc main_arg0)) (m ((c : Thread nD τ).loc main_arg1)) (m ((c : Thread nD τ).loc main_arg3)) (m ((c : Thread nD τ).loc main_arg4)))

theorem flushed6 (c : Dev nD) (t : Fin cfg0.N) :
    (dats m 0 c).flushed 6 t = (win0_6.blk t).view.read (Elt Ideal) (val6 m c) := by
  rw [Value.flushed6_A, out6_A, iblk0, iblk1, iblk3, iblk4]
  funext j
  rw [View.read_apply]
  exact congrArg (val6 m c) (a₂ := (win0_6.rect t).emb j) (Shape.idx_ext₂
    (win0_6.rect_emb_val_of_index_zero t 0 (idx_facts t).2.2.2.2.2.2.1.1 _).symm (win0_6.rect_emb_val_of_index_zero t 1 (idx_facts t).2.2.2.2.2.2.1.2 _).symm)

theorem rect6 : ∀ t : Fin cfg0.N, win0_6.index t 0 * win0_6.size 0 = 0 ∧ win0_6.xsize (grid0.coords t) 0 = 6400 ∧ win0_6.index t 1 * win0_6.size 1 = 0 ∧ win0_6.xsize (grid0.coords t) 1 = 11008 :=
  (by decide +kernel : ∀ t : Fin grid0.N, win0_6.index t 0 * win0_6.size 0 = 0 ∧ win0_6.xsize (grid0.coords t) 0 = 6400 ∧ win0_6.index t 1 * win0_6.size 1 = 0 ∧ win0_6.xsize (grid0.coords t) 1 = 11008)

theorem cover6 (i : S6400x11008.Idx) : ∃ t : Fin cfg0.N, (cfg0.win 6).flush t = true ∧ i ∈ ((cfg0.win 6).blk t).view.set := by
  have h0 : (i 0 : Nat) < 6400 := (i 0).isLt
  have h1 : (i 1 : Nat) < 11008 := (i 1).isLt
  have ht : 0 < cfg0.N := by decide
  refine ⟨⟨0, ht⟩, flush0_6 _, ?_⟩
  show i ∈ ((View.whole main_v0_0).slice (win0_6.rect ⟨0, ht⟩)).set
  rw [View.set_slice_whole, Rect.mem_set_unit]
  have e := rect6 ⟨0, ht⟩
  intro a
  match a with
  | ⟨0, _⟩ => show win0_6.index _ 0 * win0_6.size 0 ≤ (i 0 : Nat) ∧ (i 0 : Nat) < win0_6.index _ 0 * win0_6.size 0 + win0_6.xsize (grid0.coords _) 0
              rw [e.1, e.2.1]; omega
  | ⟨1, _⟩ => show win0_6.index _ 1 * win0_6.size 1 ≤ (i 1 : Nat) ∧ (i 1 : Nat) < win0_6.index _ 1 * win0_6.size 1 + win0_6.xsize (grid0.coords _) 1
              rw [e.2.2.1, e.2.2.2]; omega

theorem final6 (c : Dev nD) : (dats m 0 c).arrAt 6 cfg0.N = val6 m c :=
  (dats m 0 c).arrAt_eq_of_cover 6 (val6 m c) (fun t _ => flushed6 m c t) cover6

/-! ## Window 7: the gate's gradient -/

theorem out7_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = codes (T := 6400) (K := 11008) (G := 344) rfl 0x37924925#32 0xC7600000#32 0x47600000#32 (dgateA x0 x1 x2 x3 x4 x5) := by
  unfold out0_A_7
  rw [View.read_writes_eq_canon _ _ _ (cover0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact dgate_codes x0 x1 x2 x3 x4 x5

/-- The whole array. -/
abbrev val7 (c : Dev nD) : Buf (Elt Ideal) ((c : Thread nD τ).loc main_v0_1) :=
  codes (T := 6400) (K := 11008) (G := 344) rfl 0x37924925#32 0xC7600000#32 0x47600000#32 (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

theorem flushed7 (c : Dev nD) (t : Fin cfg0.N) :
    (dats m 0 c).flushed 7 t = (win0_7.blk t).view.read (Elt Ideal) (val7 m c) := by
  rw [Value.flushed7_A, out7_A, iblk0, iblk1, iblk2, iblk3, iblk4, iblk5]
  funext j
  rw [View.read_apply]
  exact congrArg (val7 m c) (a₂ := (win0_7.rect t).emb j) (Shape.idx_ext₂
    (win0_7.rect_emb_val_of_index_zero t 0 (idx_facts t).2.2.2.2.2.2.2.1.1 _).symm (win0_7.rect_emb_val_of_index_zero t 1 (idx_facts t).2.2.2.2.2.2.2.1.2 _).symm)

theorem rect7 : ∀ t : Fin cfg0.N, win0_7.index t 0 * win0_7.size 0 = 0 ∧ win0_7.xsize (grid0.coords t) 0 = 6400 ∧ win0_7.index t 1 * win0_7.size 1 = 0 ∧ win0_7.xsize (grid0.coords t) 1 = 11008 :=
  (by decide +kernel : ∀ t : Fin grid0.N, win0_7.index t 0 * win0_7.size 0 = 0 ∧ win0_7.xsize (grid0.coords t) 0 = 6400 ∧ win0_7.index t 1 * win0_7.size 1 = 0 ∧ win0_7.xsize (grid0.coords t) 1 = 11008)

theorem cover7 (i : S6400x11008.Idx) : ∃ t : Fin cfg0.N, (cfg0.win 7).flush t = true ∧ i ∈ ((cfg0.win 7).blk t).view.set := by
  have h0 : (i 0 : Nat) < 6400 := (i 0).isLt
  have h1 : (i 1 : Nat) < 11008 := (i 1).isLt
  have ht : 0 < cfg0.N := by decide
  refine ⟨⟨0, ht⟩, flush0_7 _, ?_⟩
  show i ∈ ((View.whole main_v0_1).slice (win0_7.rect ⟨0, ht⟩)).set
  rw [View.set_slice_whole, Rect.mem_set_unit]
  have e := rect7 ⟨0, ht⟩
  intro a
  match a with
  | ⟨0, _⟩ => show win0_7.index _ 0 * win0_7.size 0 ≤ (i 0 : Nat) ∧ (i 0 : Nat) < win0_7.index _ 0 * win0_7.size 0 + win0_7.xsize (grid0.coords _) 0
              rw [e.1, e.2.1]; omega
  | ⟨1, _⟩ => show win0_7.index _ 1 * win0_7.size 1 ≤ (i 1 : Nat) ∧ (i 1 : Nat) < win0_7.index _ 1 * win0_7.size 1 + win0_7.xsize (grid0.coords _) 1
              rw [e.2.2.1, e.2.2.2]; omega

theorem final7 (c : Dev nD) : (dats m 0 c).arrAt 7 cfg0.N = val7 m c :=
  (dats m 0 c).arrAt_eq_of_cover 7 (val7 m c) (fun t _ => flushed7 m c t) cover7

/-! ## Window 8: the up projection's gradient -/

theorem out8_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = codes (T := 6400) (K := 11008) (G := 344) rfl 0x37924925#32 0xC7600000#32 0x47600000#32 (dupA x0 x1 x2 x3 x5) := by
  unfold out0_A_8
  rw [View.read_writes_eq_canon _ _ _ (cover0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact dup_codes x0 x1 x2 x3 x5

/-- The whole array. -/
abbrev val8 (c : Dev nD) : Buf (Elt Ideal) ((c : Thread nD τ).loc main_v0_2) :=
  codes (T := 6400) (K := 11008) (G := 344) rfl 0x37924925#32 0xC7600000#32 0x47600000#32 (dupA (m ((c : Thread nD τ).loc main_arg0)) (m ((c : Thread nD τ).loc main_arg1)) (m ((c : Thread nD τ).loc main_arg2)) (m ((c : Thread nD τ).loc main_arg3)) (m ((c : Thread nD τ).loc main_arg5)))

theorem flushed8 (c : Dev nD) (t : Fin cfg0.N) :
    (dats m 0 c).flushed 8 t = (win0_8.blk t).view.read (Elt Ideal) (val8 m c) := by
  rw [Value.flushed8_A, out8_A, iblk0, iblk1, iblk2, iblk3, iblk5]
  funext j
  rw [View.read_apply]
  exact congrArg (val8 m c) (a₂ := (win0_8.rect t).emb j) (Shape.idx_ext₂
    (win0_8.rect_emb_val_of_index_zero t 0 (idx_facts t).2.2.2.2.2.2.2.2.1.1 _).symm (win0_8.rect_emb_val_of_index_zero t 1 (idx_facts t).2.2.2.2.2.2.2.2.1.2 _).symm)

theorem rect8 : ∀ t : Fin cfg0.N, win0_8.index t 0 * win0_8.size 0 = 0 ∧ win0_8.xsize (grid0.coords t) 0 = 6400 ∧ win0_8.index t 1 * win0_8.size 1 = 0 ∧ win0_8.xsize (grid0.coords t) 1 = 11008 :=
  (by decide +kernel : ∀ t : Fin grid0.N, win0_8.index t 0 * win0_8.size 0 = 0 ∧ win0_8.xsize (grid0.coords t) 0 = 6400 ∧ win0_8.index t 1 * win0_8.size 1 = 0 ∧ win0_8.xsize (grid0.coords t) 1 = 11008)

theorem cover8 (i : S6400x11008.Idx) : ∃ t : Fin cfg0.N, (cfg0.win 8).flush t = true ∧ i ∈ ((cfg0.win 8).blk t).view.set := by
  have h0 : (i 0 : Nat) < 6400 := (i 0).isLt
  have h1 : (i 1 : Nat) < 11008 := (i 1).isLt
  have ht : 0 < cfg0.N := by decide
  refine ⟨⟨0, ht⟩, flush0_8 _, ?_⟩
  show i ∈ ((View.whole main_v0_2).slice (win0_8.rect ⟨0, ht⟩)).set
  rw [View.set_slice_whole, Rect.mem_set_unit]
  have e := rect8 ⟨0, ht⟩
  intro a
  match a with
  | ⟨0, _⟩ => show win0_8.index _ 0 * win0_8.size 0 ≤ (i 0 : Nat) ∧ (i 0 : Nat) < win0_8.index _ 0 * win0_8.size 0 + win0_8.xsize (grid0.coords _) 0
              rw [e.1, e.2.1]; omega
  | ⟨1, _⟩ => show win0_8.index _ 1 * win0_8.size 1 ≤ (i 1 : Nat) ∧ (i 1 : Nat) < win0_8.index _ 1 * win0_8.size 1 + win0_8.xsize (grid0.coords _) 1
              rw [e.2.2.1, e.2.2.2]; omega

theorem final8 (c : Dev nD) : (dats m 0 c).arrAt 8 cfg0.N = val8 m c :=
  (dats m 0 c).arrAt_eq_of_cover 8 (val8 m c) (fun t _ => flushed8 m c t) cover8

/-! ## Window 9: the activation -/

theorem out9_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = scales (T := 6400) (K := 11008) (G := 344) rfl 0x3B124925#32 (actA x0 x1 x3 x4) := by
  unfold out0_A_9
  rw [View.read_writes_eq_canon _ _ _ (cover0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact act_scales x0 x1 x3 x4

/-- The whole array. -/
abbrev val9 (c : Dev nD) : Buf (Elt Ideal) ((c : Thread nD τ).loc main_v0_3) :=
  scales (T := 6400) (K := 11008) (G := 344) rfl 0x3B124925#32 (actA (m ((c : Thread nD τ).loc main_arg0)) (m ((c : Thread nD τ).loc main_arg1)) (m ((c : Thread nD τ).loc main_arg3)) (m ((c : Thread nD τ).loc main_arg4)))

theorem flushed9 (c : Dev nD) (t : Fin cfg0.N) :
    (dats m 0 c).flushed 9 t = (win0_9.blk t).view.read (Elt Ideal) (val9 m c) := by
  rw [Value.flushed9_A, out9_A, iblk0, iblk1, iblk3, iblk4]
  funext j
  rw [View.read_apply]
  exact congrArg (val9 m c) (a₂ := (win0_9.rect t).emb j) (Shape.idx_ext₂
    (win0_9.rect_emb_val_of_index_zero t 0 (idx_facts t).2.2.2.2.2.2.2.2.2.1.1 _).symm (win0_9.rect_emb_val_of_index_zero t 1 (idx_facts t).2.2.2.2.2.2.2.2.2.1.2 _).symm)

theorem rect9 : ∀ t : Fin cfg0.N, win0_9.index t 0 * win0_9.size 0 = 0 ∧ win0_9.xsize (grid0.coords t) 0 = 344 ∧ win0_9.index t 1 * win0_9.size 1 = 0 ∧ win0_9.xsize (grid0.coords t) 1 = 6400 :=
  (by decide +kernel : ∀ t : Fin grid0.N, win0_9.index t 0 * win0_9.size 0 = 0 ∧ win0_9.xsize (grid0.coords t) 0 = 344 ∧ win0_9.index t 1 * win0_9.size 1 = 0 ∧ win0_9.xsize (grid0.coords t) 1 = 6400)

theorem cover9 (i : S344x6400.Idx) : ∃ t : Fin cfg0.N, (cfg0.win 9).flush t = true ∧ i ∈ ((cfg0.win 9).blk t).view.set := by
  have h0 : (i 0 : Nat) < 344 := (i 0).isLt
  have h1 : (i 1 : Nat) < 6400 := (i 1).isLt
  have ht : 0 < cfg0.N := by decide
  refine ⟨⟨0, ht⟩, flush0_9 _, ?_⟩
  show i ∈ ((View.whole main_v0_3).slice (win0_9.rect ⟨0, ht⟩)).set
  rw [View.set_slice_whole, Rect.mem_set_unit]
  have e := rect9 ⟨0, ht⟩
  intro a
  match a with
  | ⟨0, _⟩ => show win0_9.index _ 0 * win0_9.size 0 ≤ (i 0 : Nat) ∧ (i 0 : Nat) < win0_9.index _ 0 * win0_9.size 0 + win0_9.xsize (grid0.coords _) 0
              rw [e.1, e.2.1]; omega
  | ⟨1, _⟩ => show win0_9.index _ 1 * win0_9.size 1 ≤ (i 1 : Nat) ∧ (i 1 : Nat) < win0_9.index _ 1 * win0_9.size 1 + win0_9.xsize (grid0.coords _) 1
              rw [e.2.2.1, e.2.2.2]; omega

theorem final9 (c : Dev nD) : (dats m 0 c).arrAt 9 cfg0.N = val9 m c :=
  (dats m 0 c).arrAt_eq_of_cover 9 (val9 m c) (fun t _ => flushed9 m c t) cover9

/-! ## Window 10: the gate's gradient -/

theorem out10_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = scales (T := 6400) (K := 11008) (G := 344) rfl 0x37924925#32 (dgateA x0 x1 x2 x3 x4 x5) := by
  unfold out0_A_10
  rw [View.read_writes_eq_canon _ _ _ (cover0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact dgate_scales x0 x1 x2 x3 x4 x5

/-- The whole array. -/
abbrev val10 (c : Dev nD) : Buf (Elt Ideal) ((c : Thread nD τ).loc main_v0_4) :=
  scales (T := 6400) (K := 11008) (G := 344) rfl 0x37924925#32 (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

theorem flushed10 (c : Dev nD) (t : Fin cfg0.N) :
    (dats m 0 c).flushed 10 t = (win0_10.blk t).view.read (Elt Ideal) (val10 m c) := by
  rw [Value.flushed10_A, out10_A, iblk0, iblk1, iblk2, iblk3, iblk4, iblk5]
  funext j
  rw [View.read_apply]
  exact congrArg (val10 m c) (a₂ := (win0_10.rect t).emb j) (Shape.idx_ext₂
    (win0_10.rect_emb_val_of_index_zero t 0 (idx_facts t).2.2.2.2.2.2.2.2.2.2.1.1 _).symm (win0_10.rect_emb_val_of_index_zero t 1 (idx_facts t).2.2.2.2.2.2.2.2.2.2.1.2 _).symm)

theorem rect10 : ∀ t : Fin cfg0.N, win0_10.index t 0 * win0_10.size 0 = 0 ∧ win0_10.xsize (grid0.coords t) 0 = 344 ∧ win0_10.index t 1 * win0_10.size 1 = 0 ∧ win0_10.xsize (grid0.coords t) 1 = 6400 :=
  (by decide +kernel : ∀ t : Fin grid0.N, win0_10.index t 0 * win0_10.size 0 = 0 ∧ win0_10.xsize (grid0.coords t) 0 = 344 ∧ win0_10.index t 1 * win0_10.size 1 = 0 ∧ win0_10.xsize (grid0.coords t) 1 = 6400)

theorem cover10 (i : S344x6400.Idx) : ∃ t : Fin cfg0.N, (cfg0.win 10).flush t = true ∧ i ∈ ((cfg0.win 10).blk t).view.set := by
  have h0 : (i 0 : Nat) < 344 := (i 0).isLt
  have h1 : (i 1 : Nat) < 6400 := (i 1).isLt
  have ht : 0 < cfg0.N := by decide
  refine ⟨⟨0, ht⟩, flush0_10 _, ?_⟩
  show i ∈ ((View.whole main_v0_4).slice (win0_10.rect ⟨0, ht⟩)).set
  rw [View.set_slice_whole, Rect.mem_set_unit]
  have e := rect10 ⟨0, ht⟩
  intro a
  match a with
  | ⟨0, _⟩ => show win0_10.index _ 0 * win0_10.size 0 ≤ (i 0 : Nat) ∧ (i 0 : Nat) < win0_10.index _ 0 * win0_10.size 0 + win0_10.xsize (grid0.coords _) 0
              rw [e.1, e.2.1]; omega
  | ⟨1, _⟩ => show win0_10.index _ 1 * win0_10.size 1 ≤ (i 1 : Nat) ∧ (i 1 : Nat) < win0_10.index _ 1 * win0_10.size 1 + win0_10.xsize (grid0.coords _) 1
              rw [e.2.2.1, e.2.2.2]; omega

theorem final10 (c : Dev nD) : (dats m 0 c).arrAt 10 cfg0.N = val10 m c :=
  (dats m 0 c).arrAt_eq_of_cover 10 (val10 m c) (fun t _ => flushed10 m c t) cover10

/-! ## Window 11: the up projection's gradient -/

theorem out11_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = scales (T := 6400) (K := 11008) (G := 344) rfl 0x37924925#32 (dupA x0 x1 x2 x3 x5) := by
  unfold out0_A_11
  rw [View.read_writes_eq_canon _ _ _ (cover0_A_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact dup_scales x0 x1 x2 x3 x5

/-- The whole array. -/
abbrev val11 (c : Dev nD) : Buf (Elt Ideal) ((c : Thread nD τ).loc main_v0_5) :=
  scales (T := 6400) (K := 11008) (G := 344) rfl 0x37924925#32 (dupA (m ((c : Thread nD τ).loc main_arg0)) (m ((c : Thread nD τ).loc main_arg1)) (m ((c : Thread nD τ).loc main_arg2)) (m ((c : Thread nD τ).loc main_arg3)) (m ((c : Thread nD τ).loc main_arg5)))

theorem flushed11 (c : Dev nD) (t : Fin cfg0.N) :
    (dats m 0 c).flushed 11 t = (win0_11.blk t).view.read (Elt Ideal) (val11 m c) := by
  rw [Value.flushed11_A, out11_A, iblk0, iblk1, iblk2, iblk3, iblk5]
  funext j
  rw [View.read_apply]
  exact congrArg (val11 m c) (a₂ := (win0_11.rect t).emb j) (Shape.idx_ext₂
    (win0_11.rect_emb_val_of_index_zero t 0 (idx_facts t).2.2.2.2.2.2.2.2.2.2.2.1.1 _).symm (win0_11.rect_emb_val_of_index_zero t 1 (idx_facts t).2.2.2.2.2.2.2.2.2.2.2.1.2 _).symm)

theorem rect11 : ∀ t : Fin cfg0.N, win0_11.index t 0 * win0_11.size 0 = 0 ∧ win0_11.xsize (grid0.coords t) 0 = 344 ∧ win0_11.index t 1 * win0_11.size 1 = 0 ∧ win0_11.xsize (grid0.coords t) 1 = 6400 :=
  (by decide +kernel : ∀ t : Fin grid0.N, win0_11.index t 0 * win0_11.size 0 = 0 ∧ win0_11.xsize (grid0.coords t) 0 = 344 ∧ win0_11.index t 1 * win0_11.size 1 = 0 ∧ win0_11.xsize (grid0.coords t) 1 = 6400)

theorem cover11 (i : S344x6400.Idx) : ∃ t : Fin cfg0.N, (cfg0.win 11).flush t = true ∧ i ∈ ((cfg0.win 11).blk t).view.set := by
  have h0 : (i 0 : Nat) < 344 := (i 0).isLt
  have h1 : (i 1 : Nat) < 6400 := (i 1).isLt
  have ht : 0 < cfg0.N := by decide
  refine ⟨⟨0, ht⟩, flush0_11 _, ?_⟩
  show i ∈ ((View.whole main_v0_5).slice (win0_11.rect ⟨0, ht⟩)).set
  rw [View.set_slice_whole, Rect.mem_set_unit]
  have e := rect11 ⟨0, ht⟩
  intro a
  match a with
  | ⟨0, _⟩ => show win0_11.index _ 0 * win0_11.size 0 ≤ (i 0 : Nat) ∧ (i 0 : Nat) < win0_11.index _ 0 * win0_11.size 0 + win0_11.xsize (grid0.coords _) 0
              rw [e.1, e.2.1]; omega
  | ⟨1, _⟩ => show win0_11.index _ 1 * win0_11.size 1 ≤ (i 1 : Nat) ∧ (i 1 : Nat) < win0_11.index _ 1 * win0_11.size 1 + win0_11.xsize (grid0.coords _) 1
              rw [e.2.2.1, e.2.2.2]; omega

theorem final11 (c : Dev nD) : (dats m 0 c).arrAt 11 cfg0.N = val11 m c :=
  (dats m 0 c).arrAt_eq_of_cover 11 (val11 m c) (fun t _ => flushed11 m c t) cover11

/-! ## Window 12: the activation -/

theorem out12_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = wide (T := 6400) (K := 11008) (G := 344) rfl 0x3B124925#32 0xC3E00000#32 0x43E00000#32 (actA x0 x1 x3 x4) := by
  unfold out0_A_12
  rw [View.read_writes_eq_canon _ _ _ (cover0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact act_wide x0 x1 x3 x4

/-- The whole array. -/
abbrev val12 (c : Dev nD) : Buf (Elt Ideal) ((c : Thread nD τ).loc main_v0_6) :=
  wide (T := 6400) (K := 11008) (G := 344) rfl 0x3B124925#32 0xC3E00000#32 0x43E00000#32 (actA (m ((c : Thread nD τ).loc main_arg0)) (m ((c : Thread nD τ).loc main_arg1)) (m ((c : Thread nD τ).loc main_arg3)) (m ((c : Thread nD τ).loc main_arg4)))

theorem flushed12 (c : Dev nD) (t : Fin cfg0.N) :
    (dats m 0 c).flushed 12 t = (win0_12.blk t).view.read (Elt Ideal) (val12 m c) := by
  rw [Value.flushed12_A, out12_A, iblk0, iblk1, iblk3, iblk4]
  funext j
  rw [View.read_apply]
  exact congrArg (val12 m c) (a₂ := (win0_12.rect t).emb j) (Shape.idx_ext₂
    (win0_12.rect_emb_val_of_index_zero t 0 (idx_facts t).2.2.2.2.2.2.2.2.2.2.2.2.1.1 _).symm (win0_12.rect_emb_val_of_index_zero t 1 (idx_facts t).2.2.2.2.2.2.2.2.2.2.2.2.1.2 _).symm)

theorem rect12 : ∀ t : Fin cfg0.N, win0_12.index t 0 * win0_12.size 0 = 0 ∧ win0_12.xsize (grid0.coords t) 0 = 11008 ∧ win0_12.index t 1 * win0_12.size 1 = 0 ∧ win0_12.xsize (grid0.coords t) 1 = 6400 :=
  (by decide +kernel : ∀ t : Fin grid0.N, win0_12.index t 0 * win0_12.size 0 = 0 ∧ win0_12.xsize (grid0.coords t) 0 = 11008 ∧ win0_12.index t 1 * win0_12.size 1 = 0 ∧ win0_12.xsize (grid0.coords t) 1 = 6400)

theorem cover12 (i : S11008x6400.Idx) : ∃ t : Fin cfg0.N, (cfg0.win 12).flush t = true ∧ i ∈ ((cfg0.win 12).blk t).view.set := by
  have h0 : (i 0 : Nat) < 11008 := (i 0).isLt
  have h1 : (i 1 : Nat) < 6400 := (i 1).isLt
  have ht : 0 < cfg0.N := by decide
  refine ⟨⟨0, ht⟩, flush0_12 _, ?_⟩
  show i ∈ ((View.whole main_v0_6).slice (win0_12.rect ⟨0, ht⟩)).set
  rw [View.set_slice_whole, Rect.mem_set_unit]
  have e := rect12 ⟨0, ht⟩
  intro a
  match a with
  | ⟨0, _⟩ => show win0_12.index _ 0 * win0_12.size 0 ≤ (i 0 : Nat) ∧ (i 0 : Nat) < win0_12.index _ 0 * win0_12.size 0 + win0_12.xsize (grid0.coords _) 0
              rw [e.1, e.2.1]; omega
  | ⟨1, _⟩ => show win0_12.index _ 1 * win0_12.size 1 ≤ (i 1 : Nat) ∧ (i 1 : Nat) < win0_12.index _ 1 * win0_12.size 1 + win0_12.xsize (grid0.coords _) 1
              rw [e.2.2.1, e.2.2.2]; omega

theorem final12 (c : Dev nD) : (dats m 0 c).arrAt 12 cfg0.N = val12 m c :=
  (dats m 0 c).arrAt_eq_of_cover 12 (val12 m c) (fun t _ => flushed12 m c t) cover12

/-! ## Window 13: the gate's gradient -/

theorem out13_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = wide (T := 6400) (K := 11008) (G := 344) rfl 0x37924925#32 0xC7600000#32 0x47600000#32 (dgateA x0 x1 x2 x3 x4 x5) := by
  unfold out0_A_13
  rw [View.read_writes_eq_canon _ _ _ (cover0_A_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact dgate_wide x0 x1 x2 x3 x4 x5

/-- The whole array. -/
abbrev val13 (c : Dev nD) : Buf (Elt Ideal) ((c : Thread nD τ).loc main_v0_7) :=
  wide (T := 6400) (K := 11008) (G := 344) rfl 0x37924925#32 0xC7600000#32 0x47600000#32 (dgateA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

theorem flushed13 (c : Dev nD) (t : Fin cfg0.N) :
    (dats m 0 c).flushed 13 t = (win0_13.blk t).view.read (Elt Ideal) (val13 m c) := by
  rw [Value.flushed13_A, out13_A, iblk0, iblk1, iblk2, iblk3, iblk4, iblk5]
  funext j
  rw [View.read_apply]
  exact congrArg (val13 m c) (a₂ := (win0_13.rect t).emb j) (Shape.idx_ext₂
    (win0_13.rect_emb_val_of_index_zero t 0 (idx_facts t).2.2.2.2.2.2.2.2.2.2.2.2.2.1.1 _).symm (win0_13.rect_emb_val_of_index_zero t 1 (idx_facts t).2.2.2.2.2.2.2.2.2.2.2.2.2.1.2 _).symm)

theorem rect13 : ∀ t : Fin cfg0.N, win0_13.index t 0 * win0_13.size 0 = 0 ∧ win0_13.xsize (grid0.coords t) 0 = 11008 ∧ win0_13.index t 1 * win0_13.size 1 = 0 ∧ win0_13.xsize (grid0.coords t) 1 = 6400 :=
  (by decide +kernel : ∀ t : Fin grid0.N, win0_13.index t 0 * win0_13.size 0 = 0 ∧ win0_13.xsize (grid0.coords t) 0 = 11008 ∧ win0_13.index t 1 * win0_13.size 1 = 0 ∧ win0_13.xsize (grid0.coords t) 1 = 6400)

theorem cover13 (i : S11008x6400.Idx) : ∃ t : Fin cfg0.N, (cfg0.win 13).flush t = true ∧ i ∈ ((cfg0.win 13).blk t).view.set := by
  have h0 : (i 0 : Nat) < 11008 := (i 0).isLt
  have h1 : (i 1 : Nat) < 6400 := (i 1).isLt
  have ht : 0 < cfg0.N := by decide
  refine ⟨⟨0, ht⟩, flush0_13 _, ?_⟩
  show i ∈ ((View.whole main_v0_7).slice (win0_13.rect ⟨0, ht⟩)).set
  rw [View.set_slice_whole, Rect.mem_set_unit]
  have e := rect13 ⟨0, ht⟩
  intro a
  match a with
  | ⟨0, _⟩ => show win0_13.index _ 0 * win0_13.size 0 ≤ (i 0 : Nat) ∧ (i 0 : Nat) < win0_13.index _ 0 * win0_13.size 0 + win0_13.xsize (grid0.coords _) 0
              rw [e.1, e.2.1]; omega
  | ⟨1, _⟩ => show win0_13.index _ 1 * win0_13.size 1 ≤ (i 1 : Nat) ∧ (i 1 : Nat) < win0_13.index _ 1 * win0_13.size 1 + win0_13.xsize (grid0.coords _) 1
              rw [e.2.2.1, e.2.2.2]; omega

theorem final13 (c : Dev nD) : (dats m 0 c).arrAt 13 cfg0.N = val13 m c :=
  (dats m 0 c).arrAt_eq_of_cover 13 (val13 m c) (fun t _ => flushed13 m c t) cover13

/-! ## Window 14: the up projection's gradient -/

theorem out14_A (c : Dev nD) (t : Fin cfg0.N) (x0 : Vec Ideal S3 .f32) (x1 x2 : Vec Ideal S2048x6400 .bf16) (x3 x4 : Vec Ideal S2048x11008 .fp8e4m3) (x5 : Vec Ideal S11008x2048 .fp8e4m3) :
    out0_A_14 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5 = wide (T := 6400) (K := 11008) (G := 344) rfl 0x37924925#32 0xC7600000#32 0x47600000#32 (dupA x0 x1 x2 x3 x5) := by
  unfold out0_A_14
  rw [View.read_writes_eq_canon _ _ _ (cover0_A_14 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) x0 x1 x2 x3 x4 x5)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    View.ld_unit_zero (S := S2048x6400) hz, View.ld_unit_zero (S := S2048x11008) hz, View.ld_unit_zero (S := S11008x2048) hz]
  exact dup_wide x0 x1 x2 x3 x5

/-- The whole array. -/
abbrev val14 (c : Dev nD) : Buf (Elt Ideal) ((c : Thread nD τ).loc main_v0_8) :=
  wide (T := 6400) (K := 11008) (G := 344) rfl 0x37924925#32 0xC7600000#32 0x47600000#32 (dupA (m ((c : Thread nD τ).loc main_arg0)) (m ((c : Thread nD τ).loc main_arg1)) (m ((c : Thread nD τ).loc main_arg2)) (m ((c : Thread nD τ).loc main_arg3)) (m ((c : Thread nD τ).loc main_arg5)))

theorem flushed14 (c : Dev nD) (t : Fin cfg0.N) :
    (dats m 0 c).flushed 14 t = (win0_14.blk t).view.read (Elt Ideal) (val14 m c) := by
  rw [Value.flushed14_A, out14_A, iblk0, iblk1, iblk2, iblk3, iblk5]
  funext j
  rw [View.read_apply]
  exact congrArg (val14 m c) (a₂ := (win0_14.rect t).emb j) (Shape.idx_ext₂
    (win0_14.rect_emb_val_of_index_zero t 0 (idx_facts t).2.2.2.2.2.2.2.2.2.2.2.2.2.2.1 _).symm (win0_14.rect_emb_val_of_index_zero t 1 (idx_facts t).2.2.2.2.2.2.2.2.2.2.2.2.2.2.2 _).symm)

theorem rect14 : ∀ t : Fin cfg0.N, win0_14.index t 0 * win0_14.size 0 = 0 ∧ win0_14.xsize (grid0.coords t) 0 = 11008 ∧ win0_14.index t 1 * win0_14.size 1 = 0 ∧ win0_14.xsize (grid0.coords t) 1 = 6400 :=
  (by decide +kernel : ∀ t : Fin grid0.N, win0_14.index t 0 * win0_14.size 0 = 0 ∧ win0_14.xsize (grid0.coords t) 0 = 11008 ∧ win0_14.index t 1 * win0_14.size 1 = 0 ∧ win0_14.xsize (grid0.coords t) 1 = 6400)

theorem cover14 (i : S11008x6400.Idx) : ∃ t : Fin cfg0.N, (cfg0.win 14).flush t = true ∧ i ∈ ((cfg0.win 14).blk t).view.set := by
  have h0 : (i 0 : Nat) < 11008 := (i 0).isLt
  have h1 : (i 1 : Nat) < 6400 := (i 1).isLt
  have ht : 0 < cfg0.N := by decide
  refine ⟨⟨0, ht⟩, flush0_14 _, ?_⟩
  show i ∈ ((View.whole main_v0_8).slice (win0_14.rect ⟨0, ht⟩)).set
  rw [View.set_slice_whole, Rect.mem_set_unit]
  have e := rect14 ⟨0, ht⟩
  intro a
  match a with
  | ⟨0, _⟩ => show win0_14.index _ 0 * win0_14.size 0 ≤ (i 0 : Nat) ∧ (i 0 : Nat) < win0_14.index _ 0 * win0_14.size 0 + win0_14.xsize (grid0.coords _) 0
              rw [e.1, e.2.1]; omega
  | ⟨1, _⟩ => show win0_14.index _ 1 * win0_14.size 1 ≤ (i 1 : Nat) ∧ (i 1 : Nat) < win0_14.index _ 1 * win0_14.size 1 + win0_14.xsize (grid0.coords _) 1
              rw [e.2.2.1, e.2.2.2]; omega

theorem final14 (c : Dev nD) : (dats m 0 c).arrAt 14 cfg0.N = val14 m c :=
  (dats m 0 c).arrAt_eq_of_cover 14 (val14 m c) (fun t _ => flushed14 m c t) cover14

end Cert.RefMlpIdeal.RefValue
end
-- ==== Proof.Mlp.lean ====
/-
  The MLP's call over the extended reals: the kernel, whose grid computes the products of one block while it quantises the
  block before, leaves the nine arrays that the reference computes on whole arrays — codes, scales and widened codes of the
  activation and of the gradients of the gate and of the up projection.
-/
module

public import proofs.«01_k».proof.Defs
public import proofs.«01_k».proof.Proof.MlpCodes
public import proofs.«01_k».proof.Proof.MlpScales
public import proofs.«01_k».proof.Proof.MlpWide
public import proofs.«01_k».proof.Proof.MlpRef
public import Idealize.ShloMosaic.Lib.Quiescent

@[expose] public section

set_option maxRecDepth 16384

noncomputable section

namespace Cert.Proof

open Idealize.ShloMosaic Idealize.ShloMosaic.TcCoe Idealize.SL.Sem

/-- The kernel computes the reference's nine arrays. -/
theorem algebraic_Mlp : Cert.algebraic_MlpIdeal_RefMlpIdeal := by
  intro m ρ m' ρ' _ hagree
  refine ⟨fun c => Cert.MlpIdeal.RefValue.val6 m c, fun c => Cert.MlpIdeal.RefValue.val7 m c, fun c => Cert.MlpIdeal.RefValue.val8 m c, fun c => Cert.MlpIdeal.RefValue.val9 m c, fun c => Cert.MlpIdeal.RefValue.val10 m c, fun c => Cert.MlpIdeal.RefValue.val11 m c, fun c => Cert.MlpIdeal.RefValue.val12 m c, fun c => Cert.MlpIdeal.RefValue.val13 m c, fun c => Cert.MlpIdeal.RefValue.val14 m c, ?_, ?_⟩
  · exact (θ_run Cert.MlpIdeal.defs _ _).mono (fun _ h c =>
      ⟨(h c).1.trans (Cert.MlpIdeal.RefValue.final6 m c),
       (h c).2.1.trans (Cert.MlpIdeal.RefValue.final7 m c),
       (h c).2.2.1.trans (Cert.MlpIdeal.RefValue.final8 m c),
       (h c).2.2.2.1.trans (Cert.MlpIdeal.RefValue.final9 m c),
       (h c).2.2.2.2.1.trans (Cert.MlpIdeal.RefValue.final10 m c),
       (h c).2.2.2.2.2.1.trans (Cert.MlpIdeal.RefValue.final11 m c),
       (h c).2.2.2.2.2.2.1.trans (Cert.MlpIdeal.RefValue.final12 m c),
       (h c).2.2.2.2.2.2.2.1.trans (Cert.MlpIdeal.RefValue.final13 m c),
       (h c).2.2.2.2.2.2.2.2.1.trans (Cert.MlpIdeal.RefValue.final14 m c),
       (h c).2.2.2.2.2.2.2.2.2⟩)
      (Cert.MlpIdeal.Value.run_blocks (F := Ideal) m ρ)
  · refine (θ_run Cert.RefMlpIdeal.defs _ _).mono (fun _ h c =>
      ⟨(h c).1.trans ((Cert.RefMlpIdeal.RefValue.final6 m' c).trans ?_),
       (h c).2.1.trans ((Cert.RefMlpIdeal.RefValue.final7 m' c).trans ?_),
       (h c).2.2.1.trans ((Cert.RefMlpIdeal.RefValue.final8 m' c).trans ?_),
       (h c).2.2.2.1.trans ((Cert.RefMlpIdeal.RefValue.final9 m' c).trans ?_),
       (h c).2.2.2.2.1.trans ((Cert.RefMlpIdeal.RefValue.final10 m' c).trans ?_),
       (h c).2.2.2.2.2.1.trans ((Cert.RefMlpIdeal.RefValue.final11 m' c).trans ?_),
       (h c).2.2.2.2.2.2.1.trans ((Cert.RefMlpIdeal.RefValue.final12 m' c).trans ?_),
       (h c).2.2.2.2.2.2.2.1.trans ((Cert.RefMlpIdeal.RefValue.final13 m' c).trans ?_),
       (h c).2.2.2.2.2.2.2.2.1.trans ((Cert.RefMlpIdeal.RefValue.final14 m' c).trans ?_),
       (h c).2.2.2.2.2.2.2.2.2⟩)
      (Cert.RefMlpIdeal.Value.run_blocks (F := Ideal) m' ρ')
    · show Cert.Mlp.codes _ _ _ _ _ = _
      rw [(hagree c).1, (hagree c).2.1, (hagree c).2.2.2.1, (hagree c).2.2.2.2.1]
    · show Cert.Mlp.codes _ _ _ _ _ = _
      rw [(hagree c).1, (hagree c).2.1, (hagree c).2.2.1, (hagree c).2.2.2.1, (hagree c).2.2.2.2.1, (hagree c).2.2.2.2.2]
    · show Cert.Mlp.codes _ _ _ _ _ = _
      rw [(hagree c).1, (hagree c).2.1, (hagree c).2.2.1, (hagree c).2.2.2.1, (hagree c).2.2.2.2.2]
    · show Cert.Mlp.scales _ _ _ = _
      rw [(hagree c).1, (hagree c).2.1, (hagree c).2.2.2.1, (hagree c).2.2.2.2.1]
    · show Cert.Mlp.scales _ _ _ = _
      rw [(hagree c).1, (hagree c).2.1, (hagree c).2.2.1, (hagree c).2.2.2.1, (hagree c).2.2.2.2.1, (hagree c).2.2.2.2.2]
    · show Cert.Mlp.scales _ _ _ = _
      rw [(hagree c).1, (hagree c).2.1, (hagree c).2.2.1, (hagree c).2.2.2.1, (hagree c).2.2.2.2.2]
    · show Cert.Mlp.wide _ _ _ _ _ = _
      rw [(hagree c).1, (hagree c).2.1, (hagree c).2.2.2.1, (hagree c).2.2.2.2.1]
    · show Cert.Mlp.wide _ _ _ _ _ = _
      rw [(hagree c).1, (hagree c).2.1, (hagree c).2.2.1, (hagree c).2.2.2.1, (hagree c).2.2.2.2.1, (hagree c).2.2.2.2.2]
    · show Cert.Mlp.wide _ _ _ _ _ = _
      rw [(hagree c).1, (hagree c).2.1, (hagree c).2.2.1, (hagree c).2.2.2.1, (hagree c).2.2.2.2.2]

end Cert.Proof

end
-- ==== Proof.PrepSpec.lean ====
/-
  What the call that normalises a layer's input computes, element by element: the input from its codes and scales, the
  reciprocal root of its rows' mean square, the normalised rows, whose groups of 32 are then quantised. The kernel's blocks
  and the reference's arrays are both of this form.
-/
module

public import proofs.«01_k».proof.Proof.MlpSpec
public import Idealize.ShloMosaic.Lib.Pipeline.ValueKit.Tiles

@[expose] public section

noncomputable section

namespace Cert.Prep

open Idealize.ShloMosaic Idealize.ShloMosaic.ValueIdx Cert.Quant Cert.Mlp
open scoped BigOperators

section Rows

variable {T : ℕ} (a : (⟨2, ![T, 2048]⟩ : Shape).Idx → EReal) (s : (⟨2, ![T, 64]⟩ : Shape).Idx → EReal) (g : Fin 2048 → EReal)

/-- The input, at a token and a feature. -/
def xV (t : Fin T) (d : Fin 2048) : EReal := a (ix2 t d) * s (ix2 t ⟨d.val / 32, by omega⟩)

/-- A row's reciprocal root mean square. -/
def rV (t : Fin T) : EReal :=
  Ideal.rsqrt ((∑ d : Fin 2048, xV a s t d * xV a s t d) * Ideal.ofBits .f32 0x3A000000#32 + Ideal.ofBits .f32 0x358637BD#32)

/-- The normalised row. -/
def nV (t : Fin T) (d : Fin 2048) : EReal := xV a s t d * rV a s t * g d

/-- Scales token by token. -/
def scalesT {K G : ℕ} (hK : K = 32 * G) (q : BitVec 32) (V : Fin T → Fin K → EReal) (j : (⟨2, ![T, G]⟩ : Shape).Idx) : EReal :=
  gscale q (group hK V (j 0) (j 1))

end Rows

section Blocks

variable {T T' : ℕ} (a : (⟨2, ![T, 2048]⟩ : Shape).Idx → EReal) (s : (⟨2, ![T, 64]⟩ : Shape).Idx → EReal)
  (a' : (⟨2, ![T', 2048]⟩ : Shape).Idx → EReal) (s' : (⟨2, ![T', 64]⟩ : Shape).Idx → EReal) (t : Fin T) (t' : Fin T')
  (ha : ∀ d, a (ix2 t d) = a' (ix2 t' d)) (hs : ∀ d, s (ix2 t d) = s' (ix2 t' d))

include ha hs in
theorem xV_eq (d : Fin 2048) : xV a s t d = xV a' s' t' d := by
  unfold xV
  rw [ha, hs]

include ha hs in
theorem rV_eq : rV a s t = rV a' s' t' := by
  unfold rV
  simp only [xV_eq a s a' s' t t' ha hs]

include ha hs in
theorem nV_eq (g g' : Fin 2048 → EReal) (hg : g = g') (d : Fin 2048) : nV a s g t d = nV a' s' g' t' d := by
  unfold nV
  rw [xV_eq a s a' s' t t' ha hs, rV_eq a s a' s' t t' ha hs, hg]

end Blocks

/-! ## A sum over the features, group by group -/

/-- The squares' sums over the first `n` groups, in the order they are added, at a place of the group. -/
def run (f : ℕ → EReal) : ℕ → EReal
  | 0 => Ideal.ofBits .f32 0x00000000#32
  | n + 1 => run f n + f n * f n

theorem run_eq (f : ℕ → EReal) (n : ℕ) : run f n = ∑ g ∈ Finset.range n, f g * f g := by
  induction n with
  | zero => exact Ideal.ofBits_zero_f32
  | succ n ih => rw [Finset.sum_range_succ, ← ih]; rfl

/-- Adding over the places of a group what was added over the groups is adding over the features. -/
theorem sum_groups (f : Fin 2048 → EReal) : ∑ k : Fin 32, ∑ g : Fin 64, f ⟨32 * g.val + k.val, by omega⟩ = ∑ d, f d := by
  rw [Finset.sum_comm, ← Finset.sum_product']
  refine (Finset.sum_equiv (finProdFinEquiv (m := 64) (n := 32)) (by simp) fun p _ => ?_)
  refine congrArg f (Fin.ext ?_)
  show 32 * p.1.val + p.2.val = p.2.val + 32 * p.1.val
  omega

/-! ## Rows stored block by block, from the last block down -/

theorem canon_rows {R n h : ℕ} {e : EltTy} (o : ℕ) (inb : ∀ a, (![o, 0] : Fin 2 → ℕ) a + (![h, n] : Fin 2 → ℕ) a ≤ (⟨2, ![R, n]⟩ : Shape).size a)
    (w : (⟨2, ![h, n]⟩ : Shape).Idx → Elt Ideal e) (L : List (View.Piece (Elt Ideal) ⟨2, ![R, n]⟩ e)) (y : (⟨2, ![R, n]⟩ : Shape).Idx) (v : Elt Ideal e) (hy : (y 0).val < o + h)
    (h1 : ∀ x : (⟨2, ![h, n]⟩ : Shape).Idx, (y 0).val = o + (x 0).val → (y 1).val = (x 1).val → w x = v) (h2 : (y 0).val < o → View.canon L y = v) :
    View.canon ((⟨Rect.unit (s := ⟨2, ![R, n]⟩) ![o, 0] ![h, n] inb, w⟩ : View.Piece (Elt Ideal) ⟨2, ![R, n]⟩ e) :: L) y = v := by
  by_cases hm : y ∈ (Rect.unit (s := ⟨2, ![R, n]⟩) ![o, 0] ![h, n] inb).set
  · obtain ⟨x, hx⟩ := (Rect.unit (s := ⟨2, ![R, n]⟩) ![o, 0] ![h, n] inb).toLoadRect.exists_idx_of_mem hm
    have hx' : (Rect.unit (s := ⟨2, ![R, n]⟩) ![o, 0] ![h, n] inb).emb x = y := hx
    have e0 := Rect.idx_unit_val (s := ⟨2, ![R, n]⟩) ![o, 0] ![h, n] inb x 0
    have e1 := Rect.idx_unit_val (s := ⟨2, ![R, n]⟩) ![o, 0] ![h, n] inb x 1
    refine (congrArg _ hx'.symm).trans ((View.canon_cons_emb _ w L x).trans ?_)
    exact h1 x ((congrArg (fun z : (⟨2, ![R, n]⟩ : Shape).Idx => (z 0).val) hx).symm.trans e0)
      ((congrArg (fun z : (⟨2, ![R, n]⟩ : Shape).Idx => (z 1).val) hx).symm.trans (e1.trans (Nat.zero_add _)))
  · refine (View.canon_cons_of_not_mem _ _ hm).trans (h2 (Nat.lt_of_not_le fun hle => hm (Rect.mem_set_unit.mpr fun a => ?_)))
    have hy1 : (y 1).val < n := (y 1).isLt
    match a with
    | ⟨0, _⟩ => exact ⟨hle, hy⟩
    | ⟨1, _⟩ => exact ⟨Nat.zero_le _, lt_of_lt_of_eq hy1 (Nat.zero_add n).symm⟩

end Cert.Prep
end
-- ==== Proof.PrepLoads.lean ====
/-
  One group of the normalising kernel — 32 features, 256 tokens — over the extended reals: what the body reads of its scratch
  buffers, the group's values, and the scales, codes and widened codes that the body's operations give from them.
-/
module

public import proofs.«01_k».proof.Proof.PrepSpec
public import proofs.«01_k».proof.Proof.Gen.PrepIdeal.Frame

@[expose] public section

set_option maxRecDepth 16384

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

theorem hz : (![0, 0] : Fin 2 → ℕ) = fun _ => 0 := by decide

section Group

variable (n : FVec Ideal S32x256 .f32)

/-- A group's column maxima, scales, codes, widened codes. -/
abbrev maxN : FVec Ideal S256 .f32 := multiReduction .maximumf [0] S256 (absf n) 0xFF800000#32 reduces_S32x256_S256 (.inl rfl) rfl
abbrev scaleN : FVec Ideal S1x256 .f32 := k0_pay163 (maxN n)
abbrev codeN : FVec Ideal S32x256 .bf16 := k0_pay164 n (maxN n)
abbrev wideN : FVec Ideal S32x256 .bf16 := k0_pay167 (k0_pay165 n (maxN n)) (k0_pay166 (maxN n))

theorem countN : k0_pay159 (maxN n) = fun j => count (gmax (fun k => n (ix2 k (j 1))) * Ideal.ofBits .f32 0x3B124925#32) :=
  expV (n := 256) n _ _ _ _ _ _ _ _ _ _ _ _ _

theorem scaleN_eq' : k0_pay161 (maxN n) = fun j => gscale 0x3B124925#32 (fun k => n (ix2 k (j 1))) :=
  scaleV (n := 256) n _ _ (countN n)

theorem codeN_eq' : k0_pay162 n (maxN n) = fun j => gcode 0x3B124925#32 0xC3E00000#32 0x43E00000#32 (fun k => n (ix2 k (j 1))) (j 0) :=
  codeV (n := 256) n _ _ (countN n) _ _ _

theorem scaleN_eq : scaleN n = fun j => gscale 0x3B124925#32 (fun k => n (ix2 k (j 1))) :=
  (funext fun j => shapeCast_apply _ _ j j rfl).trans (scaleN_eq' n)

theorem codeN_eq : codeN n = fun j => gcode 0x3B124925#32 0xC3E00000#32 0x43E00000#32 (fun k => n (ix2 k (j 1))) (j 0) :=
  (funext fun j => shapeCast_apply _ _ j j rfl).trans (codeN_eq' n)

theorem wideN_eq : wideN n = fun j => gwide 0x3B124925#32 0xC3E00000#32 0x43E00000#32 (fun k => n (ix2 k (j 1))) (j 0) :=
  wideV (n := 256) n 0x3B124925#32 _ _ 0xC3E00000#32 0x43E00000#32 broadcasts_S1x256_S32x256 (codeN_eq' n) (scaleN_eq' n)

end Group

section Loads

variable (c : Dev nD) (t : Fin cfg0.N) (x0 : Vec Ideal S256x2048 .fp8e4m3) (x1 : Vec Ideal S256x64 .f32) (x2 : Vec Ideal S2048x1 .f32)

/-- The codes and the scales, features first, as the body stores and reads them. -/
abbrev ctL (o : ℕ) (inb : ∀ a, (![o, 0] : Fin 2 → ℕ) a + S32x256.size a ≤ S2048x256.size a) : Vec Ideal S32x256 .bf16 :=
  scM0_2.view.readCov (kernelRun0_A.sl.HS2_1 c (ms0_0 t) (hs0_0 t) x0) (Rect.unit (s := S2048x256) ![o, 0] S32x256.size inb).toLoadRect
abbrev stL (g : ℕ) (inb : ∀ a, (![g, 0] : Fin 2 → ℕ) a + S1x256.size a ≤ S64x256.size a) : Vec Ideal S1x256 .f32 :=
  scM0_1.view.readCov (kernelRun0_A.sl.HS1_1 c (ms0_1 t) (hs0_1 t) x1) (Rect.unit (s := S64x256) ![g, 0] S1x256.size inb).toLoadRect
/-- The feature weights. -/
abbrev gL (o : ℕ) (inb : ∀ a, (![o, 0] : Fin 2 → ℕ) a + S32x1.size a ≤ S2048x1.size a) : Vec Ideal S32x1 .f32 :=
  View.readAt (Elt Ideal) (ms0_2 t).view (Rect.unit (s := S2048x1) ![o, 0] S32x1.size inb).toLoadRect ((hs0_2 t).unread x2)

theorem turnC (v : Vec Ideal S256x2048 .fp8e4m3) (d : Fin 2048) (e : Fin 256) : k0_pay1 v (ix2 d e) = v (ix2 e d) := by
  unfold k0_pay1
  dsimp only
  rw [shapeCast_self]
  exact transpose_ix2_apply (a := 256) (b := 2048) v transposes_S256x2048_p1_0_S2048x256 d e
theorem turnS (v : Vec Ideal S256x64 .f32) (g : Fin 64) (e : Fin 256) : k0_pay2 v (ix2 g e) = v (ix2 e g) := by
  unfold k0_pay2
  dsimp only
  rw [shapeCast_self]
  exact transpose_ix2_apply (a := 256) (b := 64) v transposes_S256x64_p1_0_S64x256 g e

theorem ctL_eq (o inb) (j : S32x256.Idx) (d : Fin 2048) (e : Fin 256) (hd : d.val = o + (j 0).val) (he : e.val = (j 1).val) : ctL c t x0 o inb j = x0 (ix2 e d) := by
  unfold ctL
  rw [View.readCov_eq_canon']
  have hj : (Rect.unit (s := S2048x256) ![o, 0] S32x256.size inb).idx j = ix2 d e :=
    Shape.idx_ext₂ ((Rect.idx_unit_val (s := S2048x256) ![o, 0] S32x256.size inb j 0).trans hd.symm)
      ((Rect.idx_unit_val (s := S2048x256) ![o, 0] S32x256.size inb j 1).trans ((Nat.zero_add _).trans he.symm))
  refine (congrArg (View.canon _) hj).trans ?_
  refine canon_rows (R := 2048) (n := 256) (h := 2048) 0 _ _ _ _ _ (by show d.val < 0 + 2048; omega) (fun w w0 w1 => ?_) (fun h => absurd h (Nat.not_lt_zero _))
  have hw : w = ix2 d e := Shape.idx_ext₂ (by have w0' : d.val = 0 + (w 0).val := w0; show (w 0).val = d.val; omega) w1.symm
  rw [hw, View.readAt_eq_ld, (hs0_0 t).read_unread, View.ld_unit_zero (S := S256x2048) hz]
  exact turnC x0 d e

theorem stL_eq (g inb) (j : S1x256.Idx) (d : Fin 64) (e : Fin 256) (hd : d.val = g + (j 0).val) (he : e.val = (j 1).val) : stL c t x1 g inb j = x1 (ix2 e d) := by
  unfold stL
  rw [View.readCov_eq_canon']
  have hj : (Rect.unit (s := S64x256) ![g, 0] S1x256.size inb).idx j = ix2 d e :=
    Shape.idx_ext₂ ((Rect.idx_unit_val (s := S64x256) ![g, 0] S1x256.size inb j 0).trans hd.symm)
      ((Rect.idx_unit_val (s := S64x256) ![g, 0] S1x256.size inb j 1).trans ((Nat.zero_add _).trans he.symm))
  refine (congrArg (View.canon _) hj).trans ?_
  refine canon_rows (R := 64) (n := 256) (h := 64) 0 _ _ _ _ _ (by show d.val < 0 + 64; omega) (fun w w0 w1 => ?_) (fun h => absurd h (Nat.not_lt_zero _))
  have hw : w = ix2 d e := Shape.idx_ext₂ (by have w0' : d.val = 0 + (w 0).val := w0; show (w 0).val = d.val; omega) w1.symm
  rw [hw, View.readAt_eq_ld, (hs0_1 t).read_unread, View.ld_unit_zero (S := S256x64) hz]
  exact turnS x1 d e

theorem gL_eq (o inb) (j : S32x1.Idx) (d : Fin 2048) (hd : d.val = o + (j 0).val) : gL t x2 o inb j = x2 (ix2 d 0) := by
  unfold gL
  rw [View.readAt_eq_ld, (hs0_2 t).read_unread]
  have h : (j 1).val < 1 := (j 1).isLt
  have h' : 0 = 0 + (j 1).val := by omega
  exact View.ld_unit_apply_of x2 _ _ _ _ _ (fun a => by fin_cases a; exact hd; exact h')

/-- A group's input values, at features from `o` on. -/
abbrev xL (o g : ℕ) (io : ∀ a, (![o, 0] : Fin 2 → ℕ) a + S32x256.size a ≤ S2048x256.size a) (ig : ∀ a, (![g, 0] : Fin 2 → ℕ) a + S1x256.size a ≤ S64x256.size a) : FVec Ideal S32x256 .f32 :=
  k0_pay3 (ctL c t x0 o io) (stL c t x1 g ig)

theorem prodV (a : Vec Ideal S32x256 .bf16) (b : Vec Ideal S1x256 .f32) (k : Fin 32) (f : Fin 256) : k0_pay3 a b (ix2 k f) = a (ix2 k f) * b (ix2 0 f) :=
  congrArg (fun z : EReal => a (ix2 k f) * z) (broadcastTo_1b_ab_apply (b := 256) (a := 32) b broadcasts_S1x256_S32x256 k f)

theorem xL_eq (o g io ig) (ho : o = 32 * g) (j : S32x256.Idx) (d : Fin 2048) (e : Fin 256) (hd : d.val = o + (j 0).val) (he : e.val = (j 1).val) :
    xL c t x0 x1 o g io ig j = xV x0 x1 e d := by
  obtain ⟨k, f, hj⟩ : ∃ (k : Fin 32) (f : Fin 256), j = ix2 k f := ⟨j 0, j 1, eq_ix2 j⟩
  have hk : k.val < 32 := k.isLt
  have hd' : d.val = o + k.val := by rw [hd, hj]
  have he' : e.val = f.val := by rw [he, hj]
  have e1 : ctL c t x0 o io (ix2 k f) = x0 (ix2 e d) := ctL_eq c t x0 o io (ix2 k f) d e hd' he'
  have e2 : stL c t x1 g ig (ix2 0 f) = x1 (ix2 e ⟨d.val / 32, by omega⟩) :=
    stL_eq c t x1 g ig (ix2 0 f) ⟨d.val / 32, by omega⟩ e (by show d.val / 32 = g + 0; omega) he'
  rw [hj]
  refine (prodV _ _ k f).trans ?_
  rw [e1, e2]
  rfl

/-- The same values by number: group `g` at a place `j`. -/
def xN (j : S32x256.Idx) (g : ℕ) : EReal := xV x0 x1 (j 1) ⟨(32 * g + (j 0).val) % 2048, Nat.mod_lt _ (by decide)⟩

theorem xL_run (o g io ig) (ho : o = 32 * g) (j : S32x256.Idx) : xL c t x0 x1 o g io ig j = xN x0 x1 j g := by
  have h0 : (j 0).val < 32 := (j 0).isLt
  have hi : o + 32 ≤ 2048 := io 0
  exact xL_eq c t x0 x1 o g io ig ho j _ (j 1) (by show (32 * g + (j 0).val) % 2048 = _; omega) rfl

/-- What the body stores of it. -/
theorem x_at (o g io ig) (ho : o = 32 * g) (y : S2048x256.Idx) (x : S32x256.Idx) (h0 : (y 0).val = o + (x 0).val) (h1 : (y 1).val = (x 1).val) :
    k0_pay4 (ctL c t x0 o io) (stL c t x1 g ig) x = xV x0 x1 (y 1) (y 0) :=
  (shapeCast_apply _ _ x x rfl).trans (xL_eq c t x0 x1 o g io ig ho x (y 0) (y 1) h0 h1)

end Loads

end Cert.PrepIdeal.RefValue
end
-- ==== Proof.PrepSum.lean ====
/-
  The normalising kernel: the squares added over the groups, in the order the body adds them.
-/
module

public import proofs.«01_k».proof.Proof.PrepLoads

@[expose] public section

set_option maxRecDepth 16384
set_option maxHeartbeats 4000000

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

section Sums

variable (c : Dev nD) (t : Fin cfg0.N) (x0 : Vec Ideal S256x2048 .fp8e4m3) (x1 : Vec Ideal S256x64 .f32)

theorem r_0_run (j : S32x256.Idx) : kernelRun0_A.sl.r c (ms0_0 t) (hs0_0 t) (ms0_1 t) (hs0_1 t) scM0_1 scM0_2 x0 x1 j = run (xN x0 x1 j) 2 := by
  show (((Ideal.ofBits .f32 0x00000000#32 : EReal) + xL c t x0 x1 0 0 inb_S2048x256_S32x256_0_0 inb_S64x256_S1x256_0_0 j * xL c t x0 x1 0 0 inb_S2048x256_S32x256_0_0 inb_S64x256_S1x256_0_0 j) + xL c t x0 x1 32 1 inb_S2048x256_S32x256_32_0 inb_S64x256_S1x256_1_0 j * xL c t x0 x1 32 1 inb_S2048x256_S32x256_32_0 inb_S64x256_S1x256_1_0 j) = _
  rw [xL_run c t x0 x1 0 0 _ _ rfl j,
    xL_run c t x0 x1 32 1 _ _ rfl j]
  rfl

theorem r_1_run (j : S32x256.Idx) : kernelRun0_A.sl.r_1 c (ms0_0 t) (hs0_0 t) (ms0_1 t) (hs0_1 t) scM0_1 scM0_2 x0 x1 j = run (xN x0 x1 j) 5 := by
  show (((kernelRun0_A.sl.r c (ms0_0 t) (hs0_0 t) (ms0_1 t) (hs0_1 t) scM0_1 scM0_2 x0 x1 j + xL c t x0 x1 64 2 inb_S2048x256_S32x256_64_0 inb_S64x256_S1x256_2_0 j * xL c t x0 x1 64 2 inb_S2048x256_S32x256_64_0 inb_S64x256_S1x256_2_0 j) + xL c t x0 x1 96 3 inb_S2048x256_S32x256_96_0 inb_S64x256_S1x256_3_0 j * xL c t x0 x1 96 3 inb_S2048x256_S32x256_96_0 inb_S64x256_S1x256_3_0 j) + xL c t x0 x1 128 4 inb_S2048x256_S32x256_128_0 inb_S64x256_S1x256_4_0 j * xL c t x0 x1 128 4 inb_S2048x256_S32x256_128_0 inb_S64x256_S1x256_4_0 j) = _
  rw [r_0_run,
    xL_run c t x0 x1 64 2 _ _ rfl j,
    xL_run c t x0 x1 96 3 _ _ rfl j,
    xL_run c t x0 x1 128 4 _ _ rfl j]
  rfl

theorem r_3_run (j : S32x256.Idx) : kernelRun0_A.sl.r_3 c (ms0_0 t) (hs0_0 t) (ms0_1 t) (hs0_1 t) scM0_1 scM0_2 x0 x1 j = run (xN x0 x1 j) 9 := by
  show ((((kernelRun0_A.sl.r_1 c (ms0_0 t) (hs0_0 t) (ms0_1 t) (hs0_1 t) scM0_1 scM0_2 x0 x1 j + xL c t x0 x1 160 5 inb_S2048x256_S32x256_160_0 inb_S64x256_S1x256_5_0 j * xL c t x0 x1 160 5 inb_S2048x256_S32x256_160_0 inb_S64x256_S1x256_5_0 j) + xL c t x0 x1 192 6 inb_S2048x256_S32x256_192_0 inb_S64x256_S1x256_6_0 j * xL c t x0 x1 192 6 inb_S2048x256_S32x256_192_0 inb_S64x256_S1x256_6_0 j) + xL c t x0 x1 224 7 inb_S2048x256_S32x256_224_0 inb_S64x256_S1x256_7_0 j * xL c t x0 x1 224 7 inb_S2048x256_S32x256_224_0 inb_S64x256_S1x256_7_0 j) + xL c t x0 x1 256 8 inb_S2048x256_S32x256_256_0 inb_S64x256_S1x256_8_0 j * xL c t x0 x1 256 8 inb_S2048x256_S32x256_256_0 inb_S64x256_S1x256_8_0 j) = _
  rw [r_1_run,
    xL_run c t x0 x1 160 5 _ _ rfl j,
    xL_run c t x0 x1 192 6 _ _ rfl j,
    xL_run c t x0 x1 224 7 _ _ rfl j,
    xL_run c t x0 x1 256 8 _ _ rfl j]
  rfl

theorem r_4_run (j : S32x256.Idx) : kernelRun0_A.sl.r_4 c (ms0_0 t) (hs0_0 t) (ms0_1 t) (hs0_1 t) scM0_1 scM0_2 x0 x1 j = run (xN x0 x1 j) 12 := by
  show (((kernelRun0_A.sl.r_3 c (ms0_0 t) (hs0_0 t) (ms0_1 t) (hs0_1 t) scM0_1 scM0_2 x0 x1 j + xL c t x0 x1 288 9 inb_S2048x256_S32x256_288_0 inb_S64x256_S1x256_9_0 j * xL c t x0 x1 288 9 inb_S2048x256_S32x256_288_0 inb_S64x256_S1x256_9_0 j) + xL c t x0 x1 320 10 inb_S2048x256_S32x256_320_0 inb_S64x256_S1x256_10_0 j * xL c t x0 x1 320 10 inb_S2048x256_S32x256_320_0 inb_S64x256_S1x256_10_0 j) + xL c t x0 x1 352 11 inb_S2048x256_S32x256_352_0 inb_S64x256_S1x256_11_0 j * xL c t x0 x1 352 11 inb_S2048x256_S32x256_352_0 inb_S64x256_S1x256_11_0 j) = _
  rw [r_3_run,
    xL_run c t x0 x1 288 9 _ _ rfl j,
    xL_run c t x0 x1 320 10 _ _ rfl j,
    xL_run c t x0 x1 352 11 _ _ rfl j]
  rfl

theorem r_6_run (j : S32x256.Idx) : kernelRun0_A.sl.r_6 c (ms0_0 t) (hs0_0 t) (ms0_1 t) (hs0_1 t) scM0_1 scM0_2 x0 x1 j = run (xN x0 x1 j) 16 := by
  show ((((kernelRun0_A.sl.r_4 c (ms0_0 t) (hs0_0 t) (ms0_1 t) (hs0_1 t) scM0_1 scM0_2 x0 x1 j + xL c t x0 x1 384 12 inb_S2048x256_S32x256_384_0 inb_S64x256_S1x256_12_0 j * xL c t x0 x1 384 12 inb_S2048x256_S32x256_384_0 inb_S64x256_S1x256_12_0 j) + xL c t x0 x1 416 13 inb_S2048x256_S32x256_416_0 inb_S64x256_S1x256_13_0 j * xL c t x0 x1 416 13 inb_S2048x256_S32x256_416_0 inb_S64x256_S1x256_13_0 j) + xL c t x0 x1 448 14 inb_S2048x256_S32x256_448_0 inb_S64x256_S1x256_14_0 j * xL c t x0 x1 448 14 inb_S2048x256_S32x256_448_0 inb_S64x256_S1x256_14_0 j) + xL c t x0 x1 480 15 inb_S2048x256_S32x256_480_0 inb_S64x256_S1x256_15_0 j * xL c t x0 x1 480 15 inb_S2048x256_S32x256_480_0 inb_S64x256_S1x256_15_0 j) = _
  rw [r_4_run,
    xL_run c t x0 x1 384 12 _ _ rfl j,
    xL_run c t x0 x1 416 13 _ _ rfl j,
    xL_run c t x0 x1 448 14 _ _ rfl j,
    xL_run c t x0 x1 480 15 _ _ rfl j]
  rfl

theorem r_8_run (j : S32x256.Idx) : kernelRun0_A.sl.r_8 c (ms0_0 t) (hs0_0 t) (ms0_1 t) (hs0_1 t) scM0_1 scM0_2 x0 x1 j = run (xN x0 x1 j) 19 := by
  show (((kernelRun0_A.sl.r_6 c (ms0_0 t) (hs0_0 t) (ms0_1 t) (hs0_1 t) scM0_1 scM0_2 x0 x1 j + xL c t x0 x1 512 16 inb_S2048x256_S32x256_512_0 inb_S64x256_S1x256_16_0 j * xL c t x0 x1 512 16 inb_S2048x256_S32x256_512_0 inb_S64x256_S1x256_16_0 j) + xL c t x0 x1 544 17 inb_S2048x256_S32x256_544_0 inb_S64x256_S1x256_17_0 j * xL c t x0 x1 544 17 inb_S2048x256_S32x256_544_0 inb_S64x256_S1x256_17_0 j) + xL c t x0 x1 576 18 inb_S2048x256_S32x256_576_0 inb_S64x256_S1x256_18_0 j * xL c t x0 x1 576 18 inb_S2048x256_S32x256_576_0 inb_S64x256_S1x256_18_0 j) = _
  rw [r_6_run,
    xL_run c t x0 x1 512 16 _ _ rfl j,
    xL_run c t x0 x1 544 17 _ _ rfl j,
    xL_run c t x0 x1 576 18 _ _ rfl j]
  rfl

theorem r_10_run (j : S32x256.Idx) : kernelRun0_A.sl.r_10 c (ms0_0 t) (hs0_0 t) (ms0_1 t) (hs0_1 t) scM0_1 scM0_2 x0 x1 j = run (xN x0 x1 j) 23 := by
  show ((((kernelRun0_A.sl.r_8 c (ms0_0 t) (hs0_0 t) (ms0_1 t) (hs0_1 t) scM0_1 scM0_2 x0 x1 j + xL c t x0 x1 608 19 inb_S2048x256_S32x256_608_0 inb_S64x256_S1x256_19_0 j * xL c t x0 x1 608 19 inb_S2048x256_S32x256_608_0 inb_S64x256_S1x256_19_0 j) + xL c t x0 x1 640 20 inb_S2048x256_S32x256_640_0 inb_S64x256_S1x256_20_0 j * xL c t x0 x1 640 20 inb_S2048x256_S32x256_640_0 inb_S64x256_S1x256_20_0 j) + xL c t x0 x1 672 21 inb_S2048x256_S32x256_672_0 inb_S64x256_S1x256_21_0 j * xL c t x0 x1 672 21 inb_S2048x256_S32x256_672_0 inb_S64x256_S1x256_21_0 j) + xL c t x0 x1 704 22 inb_S2048x256_S32x256_704_0 inb_S64x256_S1x256_22_0 j * xL c t x0 x1 704 22 inb_S2048x256_S32x256_704_0 inb_S64x256_S1x256_22_0 j) = _
  rw [r_8_run,
    xL_run c t x0 x1 608 19 _ _ rfl j,
    xL_run c t x0 x1 640 20 _ _ rfl j,
    xL_run c t x0 x1 672 21 _ _ rfl j,
    xL_run c t x0 x1 704 22 _ _ rfl j]
  rfl

theorem r_12_run (j : S32x256.Idx) : kernelRun0_A.sl.r_12 c (ms0_0 t) (hs0_0 t) (ms0_1 t) (hs0_1 t) scM0_1 scM0_2 x0 x1 j = run (xN x0 x1 j) 26 := by
  show (((kernelRun0_A.sl.r_10 c (ms0_0 t) (hs0_0 t) (ms0_1 t) (hs0_1 t) scM0_1 scM0_2 x0 x1 j + xL c t x0 x1 736 23 inb_S2048x256_S32x256_736_0 inb_S64x256_S1x256_23_0 j * xL c t x0 x1 736 23 inb_S2048x256_S32x256_736_0 inb_S64x256_S1x256_23_0 j) + xL c t x0 x1 768 24 inb_S2048x256_S32x256_768_0 inb_S64x256_S1x256_24_0 j * xL c t x0 x1 768 24 inb_S2048x256_S32x256_768_0 inb_S64x256_S1x256_24_0 j) + xL c t x0 x1 800 25 inb_S2048x256_S32x256_800_0 inb_S64x256_S1x256_25_0 j * xL c t x0 x1 800 25 inb_S2048x256_S32x256_800_0 inb_S64x256_S1x256_25_0 j) = _
  rw [r_10_run,
    xL_run c t x0 x1 736 23 _ _ rfl j,
    xL_run c t x0 x1 768 24 _ _ rfl j,
    xL_run c t x0 x1 800 25 _ _ rfl j]
  rfl

theorem r_15_run (j : S32x256.Idx) : kernelRun0_A.sl.r_15 c (ms0_0 t) (hs0_0 t) (ms0_1 t) (hs0_1 t) scM0_1 scM0_2 x0 x1 j = run (xN x0 x1 j) 30 := by
  show ((((kernelRun0_A.sl.r_12 c (ms0_0 t) (hs0_0 t) (ms0_1 t) (hs0_1 t) scM0_1 scM0_2 x0 x1 j + xL c t x0 x1 832 26 inb_S2048x256_S32x256_832_0 inb_S64x256_S1x256_26_0 j * xL c t x0 x1 832 26 inb_S2048x256_S32x256_832_0 inb_S64x256_S1x256_26_0 j) + xL c t x0 x1 864 27 inb_S2048x256_S32x256_864_0 inb_S64x256_S1x256_27_0 j * xL c t x0 x1 864 27 inb_S2048x256_S32x256_864_0 inb_S64x256_S1x256_27_0 j) + xL c t x0 x1 896 28 inb_S2048x256_S32x256_896_0 inb_S64x256_S1x256_28_0 j * xL c t x0 x1 896 28 inb_S2048x256_S32x256_896_0 inb_S64x256_S1x256_28_0 j) + xL c t x0 x1 928 29 inb_S2048x256_S32x256_928_0 inb_S64x256_S1x256_29_0 j * xL c t x0 x1 928 29 inb_S2048x256_S32x256_928_0 inb_S64x256_S1x256_29_0 j) = _
  rw [r_12_run,
    xL_run c t x0 x1 832 26 _ _ rfl j,
    xL_run c t x0 x1 864 27 _ _ rfl j,
    xL_run c t x0 x1 896 28 _ _ rfl j,
    xL_run c t x0 x1 928 29 _ _ rfl j]
  rfl

theorem r_17_run (j : S32x256.Idx) : kernelRun0_A.sl.r_17 c (ms0_0 t) (hs0_0 t) (ms0_1 t) (hs0_1 t) scM0_1 scM0_2 x0 x1 j = run (xN x0 x1 j) 33 := by
  show (((kernelRun0_A.sl.r_15 c (ms0_0 t) (hs0_0 t) (ms0_1 t) (hs0_1 t) scM0_1 scM0_2 x0 x1 j + xL c t x0 x1 960 30 inb_S2048x256_S32x256_960_0 inb_S64x256_S1x256_30_0 j * xL c t x0 x1 960 30 inb_S2048x256_S32x256_960_0 inb_S64x256_S1x256_30_0 j) + xL c t x0 x1 992 31 inb_S2048x256_S32x256_992_0 inb_S64x256_S1x256_31_0 j * xL c t x0 x1 992 31 inb_S2048x256_S32x256_992_0 inb_S64x256_S1x256_31_0 j) + xL c t x0 x1 1024 32 inb_S2048x256_S32x256_1024_0 inb_S64x256_S1x256_32_0 j * xL c t x0 x1 1024 32 inb_S2048x256_S32x256_1024_0 inb_S64x256_S1x256_32_0 j) = _
  rw [r_15_run,
    xL_run c t x0 x1 960 30 _ _ rfl j,
    xL_run c t x0 x1 992 31 _ _ rfl j,
    xL_run c t x0 x1 1024 32 _ _ rfl j]
  rfl

theorem r_19_run (j : S32x256.Idx) : kernelRun0_A.sl.r_19 c (ms0_0 t) (hs0_0 t) (ms0_1 t) (hs0_1 t) scM0_1 scM0_2 x0 x1 j = run (xN x0 x1 j) 37 := by
  show ((((kernelRun0_A.sl.r_17 c (ms0_0 t) (hs0_0 t) (ms0_1 t) (hs0_1 t) scM0_1 scM0_2 x0 x1 j + xL c t x0 x1 1056 33 inb_S2048x256_S32x256_1056_0 inb_S64x256_S1x256_33_0 j * xL c t x0 x1 1056 33 inb_S2048x256_S32x256_1056_0 inb_S64x256_S1x256_33_0 j) + xL c t x0 x1 1088 34 inb_S2048x256_S32x256_1088_0 inb_S64x256_S1x256_34_0 j * xL c t x0 x1 1088 34 inb_S2048x256_S32x256_1088_0 inb_S64x256_S1x256_34_0 j) + xL c t x0 x1 1120 35 inb_S2048x256_S32x256_1120_0 inb_S64x256_S1x256_35_0 j * xL c t x0 x1 1120 35 inb_S2048x256_S32x256_1120_0 inb_S64x256_S1x256_35_0 j) + xL c t x0 x1 1152 36 inb_S2048x256_S32x256_1152_0 inb_S64x256_S1x256_36_0 j * xL c t x0 x1 1152 36 inb_S2048x256_S32x256_1152_0 inb_S64x256_S1x256_36_0 j) = _
  rw [r_17_run,
    xL_run c t x0 x1 1056 33 _ _ rfl j,
    xL_run c t x0 x1 1088 34 _ _ rfl j,
    xL_run c t x0 x1 1120 35 _ _ rfl j,
    xL_run c t x0 x1 1152 36 _ _ rfl j]
  rfl

theorem r_21_run (j : S32x256.Idx) : kernelRun0_A.sl.r_21 c (ms0_0 t) (hs0_0 t) (ms0_1 t) (hs0_1 t) scM0_1 scM0_2 x0 x1 j = run (xN x0 x1 j) 40 := by
  show (((kernelRun0_A.sl.r_19 c (ms0_0 t) (hs0_0 t) (ms0_1 t) (hs0_1 t) scM0_1 scM0_2 x0 x1 j + xL c t x0 x1 1184 37 inb_S2048x256_S32x256_1184_0 inb_S64x256_S1x256_37_0 j * xL c t x0 x1 1184 37 inb_S2048x256_S32x256_1184_0 inb_S64x256_S1x256_37_0 j) + xL c t x0 x1 1216 38 inb_S2048x256_S32x256_1216_0 inb_S64x256_S1x256_38_0 j * xL c t x0 x1 1216 38 inb_S2048x256_S32x256_1216_0 inb_S64x256_S1x256_38_0 j) + xL c t x0 x1 1248 39 inb_S2048x256_S32x256_1248_0 inb_S64x256_S1x256_39_0 j * xL c t x0 x1 1248 39 inb_S2048x256_S32x256_1248_0 inb_S64x256_S1x256_39_0 j) = _
  rw [r_19_run,
    xL_run c t x0 x1 1184 37 _ _ rfl j,
    xL_run c t x0 x1 1216 38 _ _ rfl j,
    xL_run c t x0 x1 1248 39 _ _ rfl j]
  rfl

theorem r_23_run (j : S32x256.Idx) : kernelRun0_A.sl.r_23 c (ms0_0 t) (hs0_0 t) (ms0_1 t) (hs0_1 t) scM0_1 scM0_2 x0 x1 j = run (xN x0 x1 j) 44 := by
  show ((((kernelRun0_A.sl.r_21 c (ms0_0 t) (hs0_0 t) (ms0_1 t) (hs0_1 t) scM0_1 scM0_2 x0 x1 j + xL c t x0 x1 1280 40 inb_S2048x256_S32x256_1280_0 inb_S64x256_S1x256_40_0 j * xL c t x0 x1 1280 40 inb_S2048x256_S32x256_1280_0 inb_S64x256_S1x256_40_0 j) + xL c t x0 x1 1312 41 inb_S2048x256_S32x256_1312_0 inb_S64x256_S1x256_41_0 j * xL c t x0 x1 1312 41 inb_S2048x256_S32x256_1312_0 inb_S64x256_S1x256_41_0 j) + xL c t x0 x1 1344 42 inb_S2048x256_S32x256_1344_0 inb_S64x256_S1x256_42_0 j * xL c t x0 x1 1344 42 inb_S2048x256_S32x256_1344_0 inb_S64x256_S1x256_42_0 j) + xL c t x0 x1 1376 43 inb_S2048x256_S32x256_1376_0 inb_S64x256_S1x256_43_0 j * xL c t x0 x1 1376 43 inb_S2048x256_S32x256_1376_0 inb_S64x256_S1x256_43_0 j) = _
  rw [r_21_run,
    xL_run c t x0 x1 1280 40 _ _ rfl j,
    xL_run c t x0 x1 1312 41 _ _ rfl j,
    xL_run c t x0 x1 1344 42 _ _ rfl j,
    xL_run c t x0 x1 1376 43 _ _ rfl j]
  rfl

theorem r_26_run (j : S32x256.Idx) : kernelRun0_A.sl.r_26 c (ms0_0 t) (hs0_0 t) (ms0_1 t) (hs0_1 t) scM0_1 scM0_2 x0 x1 j = run (xN x0 x1 j) 48 := by
  show ((((kernelRun0_A.sl.r_23 c (ms0_0 t) (hs0_0 t) (ms0_1 t) (hs0_1 t) scM0_1 scM0_2 x0 x1 j + xL c t x0 x1 1408 44 inb_S2048x256_S32x256_1408_0 inb_S64x256_S1x256_44_0 j * xL c t x0 x1 1408 44 inb_S2048x256_S32x256_1408_0 inb_S64x256_S1x256_44_0 j) + xL c t x0 x1 1440 45 inb_S2048x256_S32x256_1440_0 inb_S64x256_S1x256_45_0 j * xL c t x0 x1 1440 45 inb_S2048x256_S32x256_1440_0 inb_S64x256_S1x256_45_0 j) + xL c t x0 x1 1472 46 inb_S2048x256_S32x256_1472_0 inb_S64x256_S1x256_46_0 j * xL c t x0 x1 1472 46 inb_S2048x256_S32x256_1472_0 inb_S64x256_S1x256_46_0 j) + xL c t x0 x1 1504 47 inb_S2048x256_S32x256_1504_0 inb_S64x256_S1x256_47_0 j * xL c t x0 x1 1504 47 inb_S2048x256_S32x256_1504_0 inb_S64x256_S1x256_47_0 j) = _
  rw [r_23_run,
    xL_run c t x0 x1 1408 44 _ _ rfl j,
    xL_run c t x0 x1 1440 45 _ _ rfl j,
    xL_run c t x0 x1 1472 46 _ _ rfl j,
    xL_run c t x0 x1 1504 47 _ _ rfl j]
  rfl

theorem r_27_run (j : S32x256.Idx) : kernelRun0_A.sl.r_27 c (ms0_0 t) (hs0_0 t) (ms0_1 t) (hs0_1 t) scM0_1 scM0_2 x0 x1 j = run (xN x0 x1 j) 51 := by
  show (((kernelRun0_A.sl.r_26 c (ms0_0 t) (hs0_0 t) (ms0_1 t) (hs0_1 t) scM0_1 scM0_2 x0 x1 j + xL c t x0 x1 1536 48 inb_S2048x256_S32x256_1536_0 inb_S64x256_S1x256_48_0 j * xL c t x0 x1 1536 48 inb_S2048x256_S32x256_1536_0 inb_S64x256_S1x256_48_0 j) + xL c t x0 x1 1568 49 inb_S2048x256_S32x256_1568_0 inb_S64x256_S1x256_49_0 j * xL c t x0 x1 1568 49 inb_S2048x256_S32x256_1568_0 inb_S64x256_S1x256_49_0 j) + xL c t x0 x1 1600 50 inb_S2048x256_S32x256_1600_0 inb_S64x256_S1x256_50_0 j * xL c t x0 x1 1600 50 inb_S2048x256_S32x256_1600_0 inb_S64x256_S1x256_50_0 j) = _
  rw [r_26_run,
    xL_run c t x0 x1 1536 48 _ _ rfl j,
    xL_run c t x0 x1 1568 49 _ _ rfl j,
    xL_run c t x0 x1 1600 50 _ _ rfl j]
  rfl

theorem r_29_run (j : S32x256.Idx) : kernelRun0_A.sl.r_29 c (ms0_0 t) (hs0_0 t) (ms0_1 t) (hs0_1 t) scM0_1 scM0_2 x0 x1 j = run (xN x0 x1 j) 55 := by
  show ((((kernelRun0_A.sl.r_27 c (ms0_0 t) (hs0_0 t) (ms0_1 t) (hs0_1 t) scM0_1 scM0_2 x0 x1 j + xL c t x0 x1 1632 51 inb_S2048x256_S32x256_1632_0 inb_S64x256_S1x256_51_0 j * xL c t x0 x1 1632 51 inb_S2048x256_S32x256_1632_0 inb_S64x256_S1x256_51_0 j) + xL c t x0 x1 1664 52 inb_S2048x256_S32x256_1664_0 inb_S64x256_S1x256_52_0 j * xL c t x0 x1 1664 52 inb_S2048x256_S32x256_1664_0 inb_S64x256_S1x256_52_0 j) + xL c t x0 x1 1696 53 inb_S2048x256_S32x256_1696_0 inb_S64x256_S1x256_53_0 j * xL c t x0 x1 1696 53 inb_S2048x256_S32x256_1696_0 inb_S64x256_S1x256_53_0 j) + xL c t x0 x1 1728 54 inb_S2048x256_S32x256_1728_0 inb_S64x256_S1x256_54_0 j * xL c t x0 x1 1728 54 inb_S2048x256_S32x256_1728_0 inb_S64x256_S1x256_54_0 j) = _
  rw [r_27_run,
    xL_run c t x0 x1 1632 51 _ _ rfl j,
    xL_run c t x0 x1 1664 52 _ _ rfl j,
    xL_run c t x0 x1 1696 53 _ _ rfl j,
    xL_run c t x0 x1 1728 54 _ _ rfl j]
  rfl

theorem r_30_run (j : S32x256.Idx) : kernelRun0_A.sl.r_30 c (ms0_0 t) (hs0_0 t) (ms0_1 t) (hs0_1 t) scM0_1 scM0_2 x0 x1 j = run (xN x0 x1 j) 58 := by
  show (((kernelRun0_A.sl.r_29 c (ms0_0 t) (hs0_0 t) (ms0_1 t) (hs0_1 t) scM0_1 scM0_2 x0 x1 j + xL c t x0 x1 1760 55 inb_S2048x256_S32x256_1760_0 inb_S64x256_S1x256_55_0 j * xL c t x0 x1 1760 55 inb_S2048x256_S32x256_1760_0 inb_S64x256_S1x256_55_0 j) + xL c t x0 x1 1792 56 inb_S2048x256_S32x256_1792_0 inb_S64x256_S1x256_56_0 j * xL c t x0 x1 1792 56 inb_S2048x256_S32x256_1792_0 inb_S64x256_S1x256_56_0 j) + xL c t x0 x1 1824 57 inb_S2048x256_S32x256_1824_0 inb_S64x256_S1x256_57_0 j * xL c t x0 x1 1824 57 inb_S2048x256_S32x256_1824_0 inb_S64x256_S1x256_57_0 j) = _
  rw [r_29_run,
    xL_run c t x0 x1 1760 55 _ _ rfl j,
    xL_run c t x0 x1 1792 56 _ _ rfl j,
    xL_run c t x0 x1 1824 57 _ _ rfl j]
  rfl

theorem r_32_run (j : S32x256.Idx) : kernelRun0_A.sl.r_32 c (ms0_0 t) (hs0_0 t) (ms0_1 t) (hs0_1 t) scM0_1 scM0_2 x0 x1 j = run (xN x0 x1 j) 62 := by
  show ((((kernelRun0_A.sl.r_30 c (ms0_0 t) (hs0_0 t) (ms0_1 t) (hs0_1 t) scM0_1 scM0_2 x0 x1 j + xL c t x0 x1 1856 58 inb_S2048x256_S32x256_1856_0 inb_S64x256_S1x256_58_0 j * xL c t x0 x1 1856 58 inb_S2048x256_S32x256_1856_0 inb_S64x256_S1x256_58_0 j) + xL c t x0 x1 1888 59 inb_S2048x256_S32x256_1888_0 inb_S64x256_S1x256_59_0 j * xL c t x0 x1 1888 59 inb_S2048x256_S32x256_1888_0 inb_S64x256_S1x256_59_0 j) + xL c t x0 x1 1920 60 inb_S2048x256_S32x256_1920_0 inb_S64x256_S1x256_60_0 j * xL c t x0 x1 1920 60 inb_S2048x256_S32x256_1920_0 inb_S64x256_S1x256_60_0 j) + xL c t x0 x1 1952 61 inb_S2048x256_S32x256_1952_0 inb_S64x256_S1x256_61_0 j * xL c t x0 x1 1952 61 inb_S2048x256_S32x256_1952_0 inb_S64x256_S1x256_61_0 j) = _
  rw [r_30_run,
    xL_run c t x0 x1 1856 58 _ _ rfl j,
    xL_run c t x0 x1 1888 59 _ _ rfl j,
    xL_run c t x0 x1 1920 60 _ _ rfl j,
    xL_run c t x0 x1 1952 61 _ _ rfl j]
  rfl

end Sums

end Cert.PrepIdeal.RefValue
end
-- ==== Proof.PrepRows.lean ====
/-
  The normalising kernel: the input values that the body stores, group after group, are the input, features first.
-/
module

public import proofs.«01_k».proof.Proof.PrepLoads

@[expose] public section

set_option maxRecDepth 16384
set_option maxHeartbeats 4000000

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

section Rows

variable (c : Dev nD) (t : Fin cfg0.N) (x0 : Vec Ideal S256x2048 .fp8e4m3) (x1 : Vec Ideal S256x64 .f32)

theorem canonX (y : S2048x256.Idx) : View.canon (kernelRun0_A.sl.HS0_64 c (ms0_0 t) (hs0_0 t) (ms0_1 t) (hs0_1 t) scM0_1 scM0_2 x0 x1) y = xV x0 x1 (y 1) (y 0) := by
  have hy : (y 0).val < 2048 := (y 0).isLt
  refine canon_rows (R := 2048) (n := 256) (h := 32) 2016 _ _ _ y _ (by omega) (fun x h0 h1 => x_at c t x0 x1 2016 63 inb_S2048x256_S32x256_2016_0 inb_S64x256_S1x256_63_0 rfl y x h0 h1) (fun hy => ?_)
  refine canon_rows (R := 2048) (n := 256) (h := 32) 1984 _ _ _ y _ (by omega) (fun x h0 h1 => x_at c t x0 x1 1984 62 inb_S2048x256_S32x256_1984_0 inb_S64x256_S1x256_62_0 rfl y x h0 h1) (fun hy => ?_)
  refine canon_rows (R := 2048) (n := 256) (h := 32) 1952 _ _ _ y _ (by omega) (fun x h0 h1 => x_at c t x0 x1 1952 61 inb_S2048x256_S32x256_1952_0 inb_S64x256_S1x256_61_0 rfl y x h0 h1) (fun hy => ?_)
  refine canon_rows (R := 2048) (n := 256) (h := 32) 1920 _ _ _ y _ (by omega) (fun x h0 h1 => x_at c t x0 x1 1920 60 inb_S2048x256_S32x256_1920_0 inb_S64x256_S1x256_60_0 rfl y x h0 h1) (fun hy => ?_)
  refine canon_rows (R := 2048) (n := 256) (h := 32) 1888 _ _ _ y _ (by omega) (fun x h0 h1 => x_at c t x0 x1 1888 59 inb_S2048x256_S32x256_1888_0 inb_S64x256_S1x256_59_0 rfl y x h0 h1) (fun hy => ?_)
  refine canon_rows (R := 2048) (n := 256) (h := 32) 1856 _ _ _ y _ (by omega) (fun x h0 h1 => x_at c t x0 x1 1856 58 inb_S2048x256_S32x256_1856_0 inb_S64x256_S1x256_58_0 rfl y x h0 h1) (fun hy => ?_)
  refine canon_rows (R := 2048) (n := 256) (h := 32) 1824 _ _ _ y _ (by omega) (fun x h0 h1 => x_at c t x0 x1 1824 57 inb_S2048x256_S32x256_1824_0 inb_S64x256_S1x256_57_0 rfl y x h0 h1) (fun hy => ?_)
  refine canon_rows (R := 2048) (n := 256) (h := 32) 1792 _ _ _ y _ (by omega) (fun x h0 h1 => x_at c t x0 x1 1792 56 inb_S2048x256_S32x256_1792_0 inb_S64x256_S1x256_56_0 rfl y x h0 h1) (fun hy => ?_)
  refine canon_rows (R := 2048) (n := 256) (h := 32) 1760 _ _ _ y _ (by omega) (fun x h0 h1 => x_at c t x0 x1 1760 55 inb_S2048x256_S32x256_1760_0 inb_S64x256_S1x256_55_0 rfl y x h0 h1) (fun hy => ?_)
  refine canon_rows (R := 2048) (n := 256) (h := 32) 1728 _ _ _ y _ (by omega) (fun x h0 h1 => x_at c t x0 x1 1728 54 inb_S2048x256_S32x256_1728_0 inb_S64x256_S1x256_54_0 rfl y x h0 h1) (fun hy => ?_)
  refine canon_rows (R := 2048) (n := 256) (h := 32) 1696 _ _ _ y _ (by omega) (fun x h0 h1 => x_at c t x0 x1 1696 53 inb_S2048x256_S32x256_1696_0 inb_S64x256_S1x256_53_0 rfl y x h0 h1) (fun hy => ?_)
  refine canon_rows (R := 2048) (n := 256) (h := 32) 1664 _ _ _ y _ (by omega) (fun x h0 h1 => x_at c t x0 x1 1664 52 inb_S2048x256_S32x256_1664_0 inb_S64x256_S1x256_52_0 rfl y x h0 h1) (fun hy => ?_)
  refine canon_rows (R := 2048) (n := 256) (h := 32) 1632 _ _ _ y _ (by omega) (fun x h0 h1 => x_at c t x0 x1 1632 51 inb_S2048x256_S32x256_1632_0 inb_S64x256_S1x256_51_0 rfl y x h0 h1) (fun hy => ?_)
  refine canon_rows (R := 2048) (n := 256) (h := 32) 1600 _ _ _ y _ (by omega) (fun x h0 h1 => x_at c t x0 x1 1600 50 inb_S2048x256_S32x256_1600_0 inb_S64x256_S1x256_50_0 rfl y x h0 h1) (fun hy => ?_)
  refine canon_rows (R := 2048) (n := 256) (h := 32) 1568 _ _ _ y _ (by omega) (fun x h0 h1 => x_at c t x0 x1 1568 49 inb_S2048x256_S32x256_1568_0 inb_S64x256_S1x256_49_0 rfl y x h0 h1) (fun hy => ?_)
  refine canon_rows (R := 2048) (n := 256) (h := 32) 1536 _ _ _ y _ (by omega) (fun x h0 h1 => x_at c t x0 x1 1536 48 inb_S2048x256_S32x256_1536_0 inb_S64x256_S1x256_48_0 rfl y x h0 h1) (fun hy => ?_)
  refine canon_rows (R := 2048) (n := 256) (h := 32) 1504 _ _ _ y _ (by omega) (fun x h0 h1 => x_at c t x0 x1 1504 47 inb_S2048x256_S32x256_1504_0 inb_S64x256_S1x256_47_0 rfl y x h0 h1) (fun hy => ?_)
  refine canon_rows (R := 2048) (n := 256) (h := 32) 1472 _ _ _ y _ (by omega) (fun x h0 h1 => x_at c t x0 x1 1472 46 inb_S2048x256_S32x256_1472_0 inb_S64x256_S1x256_46_0 rfl y x h0 h1) (fun hy => ?_)
  refine canon_rows (R := 2048) (n := 256) (h := 32) 1440 _ _ _ y _ (by omega) (fun x h0 h1 => x_at c t x0 x1 1440 45 inb_S2048x256_S32x256_1440_0 inb_S64x256_S1x256_45_0 rfl y x h0 h1) (fun hy => ?_)
  refine canon_rows (R := 2048) (n := 256) (h := 32) 1408 _ _ _ y _ (by omega) (fun x h0 h1 => x_at c t x0 x1 1408 44 inb_S2048x256_S32x256_1408_0 inb_S64x256_S1x256_44_0 rfl y x h0 h1) (fun hy => ?_)
  refine canon_rows (R := 2048) (n := 256) (h := 32) 1376 _ _ _ y _ (by omega) (fun x h0 h1 => x_at c t x0 x1 1376 43 inb_S2048x256_S32x256_1376_0 inb_S64x256_S1x256_43_0 rfl y x h0 h1) (fun hy => ?_)
  refine canon_rows (R := 2048) (n := 256) (h := 32) 1344 _ _ _ y _ (by omega) (fun x h0 h1 => x_at c t x0 x1 1344 42 inb_S2048x256_S32x256_1344_0 inb_S64x256_S1x256_42_0 rfl y x h0 h1) (fun hy => ?_)
  refine canon_rows (R := 2048) (n := 256) (h := 32) 1312 _ _ _ y _ (by omega) (fun x h0 h1 => x_at c t x0 x1 1312 41 inb_S2048x256_S32x256_1312_0 inb_S64x256_S1x256_41_0 rfl y x h0 h1) (fun hy => ?_)
  refine canon_rows (R := 2048) (n := 256) (h := 32) 1280 _ _ _ y _ (by omega) (fun x h0 h1 => x_at c t x0 x1 1280 40 inb_S2048x256_S32x256_1280_0 inb_S64x256_S1x256_40_0 rfl y x h0 h1) (fun hy => ?_)
  refine canon_rows (R := 2048) (n := 256) (h := 32) 1248 _ _ _ y _ (by omega) (fun x h0 h1 => x_at c t x0 x1 1248 39 inb_S2048x256_S32x256_1248_0 inb_S64x256_S1x256_39_0 rfl y x h0 h1) (fun hy => ?_)
  refine canon_rows (R := 2048) (n := 256) (h := 32) 1216 _ _ _ y _ (by omega) (fun x h0 h1 => x_at c t x0 x1 1216 38 inb_S2048x256_S32x256_1216_0 inb_S64x256_S1x256_38_0 rfl y x h0 h1) (fun hy => ?_)
  refine canon_rows (R := 2048) (n := 256) (h := 32) 1184 _ _ _ y _ (by omega) (fun x h0 h1 => x_at c t x0 x1 1184 37 inb_S2048x256_S32x256_1184_0 inb_S64x256_S1x256_37_0 rfl y x h0 h1) (fun hy => ?_)
  refine canon_rows (R := 2048) (n := 256) (h := 32) 1152 _ _ _ y _ (by omega) (fun x h0 h1 => x_at c t x0 x1 1152 36 inb_S2048x256_S32x256_1152_0 inb_S64x256_S1x256_36_0 rfl y x h0 h1) (fun hy => ?_)
  refine canon_rows (R := 2048) (n := 256) (h := 32) 1120 _ _ _ y _ (by omega) (fun x h0 h1 => x_at c t x0 x1 1120 35 inb_S2048x256_S32x256_1120_0 inb_S64x256_S1x256_35_0 rfl y x h0 h1) (fun hy => ?_)
  refine canon_rows (R := 2048) (n := 256) (h := 32) 1088 _ _ _ y _ (by omega) (fun x h0 h1 => x_at c t x0 x1 1088 34 inb_S2048x256_S32x256_1088_0 inb_S64x256_S1x256_34_0 rfl y x h0 h1) (fun hy => ?_)
  refine canon_rows (R := 2048) (n := 256) (h := 32) 1056 _ _ _ y _ (by omega) (fun x h0 h1 => x_at c t x0 x1 1056 33 inb_S2048x256_S32x256_1056_0 inb_S64x256_S1x256_33_0 rfl y x h0 h1) (fun hy => ?_)
  refine canon_rows (R := 2048) (n := 256) (h := 32) 1024 _ _ _ y _ (by omega) (fun x h0 h1 => x_at c t x0 x1 1024 32 inb_S2048x256_S32x256_1024_0 inb_S64x256_S1x256_32_0 rfl y x h0 h1) (fun hy => ?_)
  refine canon_rows (R := 2048) (n := 256) (h := 32) 992 _ _ _ y _ (by omega) (fun x h0 h1 => x_at c t x0 x1 992 31 inb_S2048x256_S32x256_992_0 inb_S64x256_S1x256_31_0 rfl y x h0 h1) (fun hy => ?_)
  refine canon_rows (R := 2048) (n := 256) (h := 32) 960 _ _ _ y _ (by omega) (fun x h0 h1 => x_at c t x0 x1 960 30 inb_S2048x256_S32x256_960_0 inb_S64x256_S1x256_30_0 rfl y x h0 h1) (fun hy => ?_)
  refine canon_rows (R := 2048) (n := 256) (h := 32) 928 _ _ _ y _ (by omega) (fun x h0 h1 => x_at c t x0 x1 928 29 inb_S2048x256_S32x256_928_0 inb_S64x256_S1x256_29_0 rfl y x h0 h1) (fun hy => ?_)
  refine canon_rows (R := 2048) (n := 256) (h := 32) 896 _ _ _ y _ (by omega) (fun x h0 h1 => x_at c t x0 x1 896 28 inb_S2048x256_S32x256_896_0 inb_S64x256_S1x256_28_0 rfl y x h0 h1) (fun hy => ?_)
  refine canon_rows (R := 2048) (n := 256) (h := 32) 864 _ _ _ y _ (by omega) (fun x h0 h1 => x_at c t x0 x1 864 27 inb_S2048x256_S32x256_864_0 inb_S64x256_S1x256_27_0 rfl y x h0 h1) (fun hy => ?_)
  refine canon_rows (R := 2048) (n := 256) (h := 32) 832 _ _ _ y _ (by omega) (fun x h0 h1 => x_at c t x0 x1 832 26 inb_S2048x256_S32x256_832_0 inb_S64x256_S1x256_26_0 rfl y x h0 h1) (fun hy => ?_)
  refine canon_rows (R := 2048) (n := 256) (h := 32) 800 _ _ _ y _ (by omega) (fun x h0 h1 => x_at c t x0 x1 800 25 inb_S2048x256_S32x256_800_0 inb_S64x256_S1x256_25_0 rfl y x h0 h1) (fun hy => ?_)
  refine canon_rows (R := 2048) (n := 256) (h := 32) 768 _ _ _ y _ (by omega) (fun x h0 h1 => x_at c t x0 x1 768 24 inb_S2048x256_S32x256_768_0 inb_S64x256_S1x256_24_0 rfl y x h0 h1) (fun hy => ?_)
  refine canon_rows (R := 2048) (n := 256) (h := 32) 736 _ _ _ y _ (by omega) (fun x h0 h1 => x_at c t x0 x1 736 23 inb_S2048x256_S32x256_736_0 inb_S64x256_S1x256_23_0 rfl y x h0 h1) (fun hy => ?_)
  refine canon_rows (R := 2048) (n := 256) (h := 32) 704 _ _ _ y _ (by omega) (fun x h0 h1 => x_at c t x0 x1 704 22 inb_S2048x256_S32x256_704_0 inb_S64x256_S1x256_22_0 rfl y x h0 h1) (fun hy => ?_)
  refine canon_rows (R := 2048) (n := 256) (h := 32) 672 _ _ _ y _ (by omega) (fun x h0 h1 => x_at c t x0 x1 672 21 inb_S2048x256_S32x256_672_0 inb_S64x256_S1x256_21_0 rfl y x h0 h1) (fun hy => ?_)
  refine canon_rows (R := 2048) (n := 256) (h := 32) 640 _ _ _ y _ (by omega) (fun x h0 h1 => x_at c t x0 x1 640 20 inb_S2048x256_S32x256_640_0 inb_S64x256_S1x256_20_0 rfl y x h0 h1) (fun hy => ?_)
  refine canon_rows (R := 2048) (n := 256) (h := 32) 608 _ _ _ y _ (by omega) (fun x h0 h1 => x_at c t x0 x1 608 19 inb_S2048x256_S32x256_608_0 inb_S64x256_S1x256_19_0 rfl y x h0 h1) (fun hy => ?_)
  refine canon_rows (R := 2048) (n := 256) (h := 32) 576 _ _ _ y _ (by omega) (fun x h0 h1 => x_at c t x0 x1 576 18 inb_S2048x256_S32x256_576_0 inb_S64x256_S1x256_18_0 rfl y x h0 h1) (fun hy => ?_)
  refine canon_rows (R := 2048) (n := 256) (h := 32) 544 _ _ _ y _ (by omega) (fun x h0 h1 => x_at c t x0 x1 544 17 inb_S2048x256_S32x256_544_0 inb_S64x256_S1x256_17_0 rfl y x h0 h1) (fun hy => ?_)
  refine canon_rows (R := 2048) (n := 256) (h := 32) 512 _ _ _ y _ (by omega) (fun x h0 h1 => x_at c t x0 x1 512 16 inb_S2048x256_S32x256_512_0 inb_S64x256_S1x256_16_0 rfl y x h0 h1) (fun hy => ?_)
  refine canon_rows (R := 2048) (n := 256) (h := 32) 480 _ _ _ y _ (by omega) (fun x h0 h1 => x_at c t x0 x1 480 15 inb_S2048x256_S32x256_480_0 inb_S64x256_S1x256_15_0 rfl y x h0 h1) (fun hy => ?_)
  refine canon_rows (R := 2048) (n := 256) (h := 32) 448 _ _ _ y _ (by omega) (fun x h0 h1 => x_at c t x0 x1 448 14 inb_S2048x256_S32x256_448_0 inb_S64x256_S1x256_14_0 rfl y x h0 h1) (fun hy => ?_)
  refine canon_rows (R := 2048) (n := 256) (h := 32) 416 _ _ _ y _ (by omega) (fun x h0 h1 => x_at c t x0 x1 416 13 inb_S2048x256_S32x256_416_0 inb_S64x256_S1x256_13_0 rfl y x h0 h1) (fun hy => ?_)
  refine canon_rows (R := 2048) (n := 256) (h := 32) 384 _ _ _ y _ (by omega) (fun x h0 h1 => x_at c t x0 x1 384 12 inb_S2048x256_S32x256_384_0 inb_S64x256_S1x256_12_0 rfl y x h0 h1) (fun hy => ?_)
  refine canon_rows (R := 2048) (n := 256) (h := 32) 352 _ _ _ y _ (by omega) (fun x h0 h1 => x_at c t x0 x1 352 11 inb_S2048x256_S32x256_352_0 inb_S64x256_S1x256_11_0 rfl y x h0 h1) (fun hy => ?_)
  refine canon_rows (R := 2048) (n := 256) (h := 32) 320 _ _ _ y _ (by omega) (fun x h0 h1 => x_at c t x0 x1 320 10 inb_S2048x256_S32x256_320_0 inb_S64x256_S1x256_10_0 rfl y x h0 h1) (fun hy => ?_)
  refine canon_rows (R := 2048) (n := 256) (h := 32) 288 _ _ _ y _ (by omega) (fun x h0 h1 => x_at c t x0 x1 288 9 inb_S2048x256_S32x256_288_0 inb_S64x256_S1x256_9_0 rfl y x h0 h1) (fun hy => ?_)
  refine canon_rows (R := 2048) (n := 256) (h := 32) 256 _ _ _ y _ (by omega) (fun x h0 h1 => x_at c t x0 x1 256 8 inb_S2048x256_S32x256_256_0 inb_S64x256_S1x256_8_0 rfl y x h0 h1) (fun hy => ?_)
  refine canon_rows (R := 2048) (n := 256) (h := 32) 224 _ _ _ y _ (by omega) (fun x h0 h1 => x_at c t x0 x1 224 7 inb_S2048x256_S32x256_224_0 inb_S64x256_S1x256_7_0 rfl y x h0 h1) (fun hy => ?_)
  refine canon_rows (R := 2048) (n := 256) (h := 32) 192 _ _ _ y _ (by omega) (fun x h0 h1 => x_at c t x0 x1 192 6 inb_S2048x256_S32x256_192_0 inb_S64x256_S1x256_6_0 rfl y x h0 h1) (fun hy => ?_)
  refine canon_rows (R := 2048) (n := 256) (h := 32) 160 _ _ _ y _ (by omega) (fun x h0 h1 => x_at c t x0 x1 160 5 inb_S2048x256_S32x256_160_0 inb_S64x256_S1x256_5_0 rfl y x h0 h1) (fun hy => ?_)
  refine canon_rows (R := 2048) (n := 256) (h := 32) 128 _ _ _ y _ (by omega) (fun x h0 h1 => x_at c t x0 x1 128 4 inb_S2048x256_S32x256_128_0 inb_S64x256_S1x256_4_0 rfl y x h0 h1) (fun hy => ?_)
  refine canon_rows (R := 2048) (n := 256) (h := 32) 96 _ _ _ y _ (by omega) (fun x h0 h1 => x_at c t x0 x1 96 3 inb_S2048x256_S32x256_96_0 inb_S64x256_S1x256_3_0 rfl y x h0 h1) (fun hy => ?_)
  refine canon_rows (R := 2048) (n := 256) (h := 32) 64 _ _ _ y _ (by omega) (fun x h0 h1 => x_at c t x0 x1 64 2 inb_S2048x256_S32x256_64_0 inb_S64x256_S1x256_2_0 rfl y x h0 h1) (fun hy => ?_)
  refine canon_rows (R := 2048) (n := 256) (h := 32) 32 _ _ _ y _ (by omega) (fun x h0 h1 => x_at c t x0 x1 32 1 inb_S2048x256_S32x256_32_0 inb_S64x256_S1x256_1_0 rfl y x h0 h1) (fun hy => ?_)
  refine canon_rows (R := 2048) (n := 256) (h := 32) 0 _ _ _ y _ (by omega) (fun x h0 h1 => x_at c t x0 x1 0 0 inb_S2048x256_S32x256_0_0 inb_S64x256_S1x256_0_0 rfl y x h0 h1) (fun hy => ?_)
  exact absurd hy (Nat.not_lt_zero _)

end Rows

end Cert.PrepIdeal.RefValue
end
-- ==== Proof.PrepNorm.lean ====
/-
  The normalising kernel: a row's reciprocal root mean square, the normalised groups, and what the body stores of each.
-/
module

public import proofs.«01_k».proof.Proof.PrepSum
public import proofs.«01_k».proof.Proof.PrepRows

@[expose] public section

set_option maxRecDepth 16384
set_option maxHeartbeats 4000000

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

section Norm

variable (c : Dev nD) (t : Fin cfg0.N) (x0 : Vec Ideal S256x2048 .fp8e4m3) (x1 : Vec Ideal S256x64 .f32) (x2 : Vec Ideal S2048x1 .f32)

/-- The feature weights, by number. -/
def gB (d : Fin 2048) : EReal := x2 (ix2 d 0)

theorem sumV (v : FVec Ideal S32x256 .f32) (e : Fin 256) (hr hφ hacc hc) :
    shapeCast S1x256 (multiReduction .add [0] S256 v 0x00000000#32 hr hφ hacc) hc (ix2 0 e) = ∑ k : Fin 32, v (ix2 k e) := by
  refine (shapeCast_a_1a_apply (a := 256) _ _ _ _).trans ?_
  rw [Ideal.multiReduction_add_single]
  refine Finset.sum_congr rfl fun k _ => congrArg v (funext fun a => ?_)
  fin_cases a <;> exact Fin.ext rfl

theorem allRun (j : S32x256.Idx) : addf (addf (kernelRun0_A.sl.r_32 c (ms0_0 t) (hs0_0 t) (ms0_1 t) (hs0_1 t) scM0_1 scM0_2 x0 x1)
      (mulf (xL c t x0 x1 1984 62 inb_S2048x256_S32x256_1984_0 inb_S64x256_S1x256_62_0) (xL c t x0 x1 1984 62 inb_S2048x256_S32x256_1984_0 inb_S64x256_S1x256_62_0)))
      (mulf (xL c t x0 x1 2016 63 inb_S2048x256_S32x256_2016_0 inb_S64x256_S1x256_63_0) (xL c t x0 x1 2016 63 inb_S2048x256_S32x256_2016_0 inb_S64x256_S1x256_63_0)) j = run (xN x0 x1 j) 64 := by
  show (kernelRun0_A.sl.r_32 c (ms0_0 t) (hs0_0 t) (ms0_1 t) (hs0_1 t) scM0_1 scM0_2 x0 x1 j
    + xL c t x0 x1 1984 62 inb_S2048x256_S32x256_1984_0 inb_S64x256_S1x256_62_0 j * xL c t x0 x1 1984 62 inb_S2048x256_S32x256_1984_0 inb_S64x256_S1x256_62_0 j)
    + xL c t x0 x1 2016 63 inb_S2048x256_S32x256_2016_0 inb_S64x256_S1x256_63_0 j * xL c t x0 x1 2016 63 inb_S2048x256_S32x256_2016_0 inb_S64x256_S1x256_63_0 j = (_ : EReal)
  rw [r_32_run, xL_run c t x0 x1 1984 62 _ _ rfl j, xL_run c t x0 x1 2016 63 _ _ rfl j]
  rfl

theorem run_all (e : Fin 256) : ∑ k : Fin 32, run (xN x0 x1 (ix2 k e)) 64 = ∑ d : Fin 2048, xV x0 x1 e d * xV x0 x1 e d := by
  rw [← sum_groups]
  refine Finset.sum_congr rfl fun k _ => ?_
  rw [run_eq, Finset.sum_range]
  refine Finset.sum_congr rfl fun g _ => ?_
  have : xN x0 x1 (ix2 k e) g.val = xV x0 x1 e ⟨32 * g.val + k.val, by omega⟩ :=
    congrArg (xV x0 x1 e) (Fin.ext (by show (32 * g.val + k.val) % 2048 = 32 * g.val + k.val; omega))
  rw [this]

/-- The reciprocal root mean square as the body computes it. -/
abbrev rL : FVec Ideal S1x256 .f32 := kernelRun0_A.sl.r_33 c (ms0_0 t) (hs0_0 t) (ms0_1 t) (hs0_1 t) scM0_1 scM0_2 x0 x1

theorem rL_eq (e : Fin 256) : rL c t x0 x1 (ix2 0 e) = rV x0 x1 e := by
  refine congrArg (fun z : EReal => Ideal.rsqrt (z * Ideal.ofBits .f32 0x3A000000#32 + Ideal.ofBits .f32 0x358637BD#32)) ?_
  refine (sumV _ e _ _ _ _).trans (Eq.trans (Finset.sum_congr rfl fun k _ => ?_) (run_all x0 x1 e))
  exact allRun c t x0 x1 (ix2 k e)

/-- A group's input values, read back. -/
abbrev xtL (o : ℕ) (io : ∀ a, (![o, 0] : Fin 2 → ℕ) a + S32x256.size a ≤ S2048x256.size a) : Vec Ideal S32x256 .f32 :=
  scM0_0.view.readCov (kernelRun0_A.sl.HS0_64 c (ms0_0 t) (hs0_0 t) (ms0_1 t) (hs0_1 t) scM0_1 scM0_2 x0 x1) (Rect.unit (s := S2048x256) ![o, 0] S32x256.size io).toLoadRect

theorem xtL_eq (o io) (k : Fin 32) (e : Fin 256) (d : Fin 2048) (hd : d.val = o + k.val) : xtL c t x0 x1 o io (ix2 k e) = xV x0 x1 e d := by
  unfold xtL
  rw [View.readCov_eq_canon']
  have hj : (Rect.unit (s := S2048x256) ![o, 0] S32x256.size io).idx (ix2 k e) = ix2 d e :=
    Shape.idx_ext₂ ((Rect.idx_unit_val (s := S2048x256) ![o, 0] S32x256.size io (ix2 k e) 0).trans hd.symm)
      ((Rect.idx_unit_val (s := S2048x256) ![o, 0] S32x256.size io (ix2 k e) 1).trans (Nat.zero_add _))
  exact (congrArg (View.canon _) hj).trans (canonX c t x0 x1 (ix2 d e))

/-- A group's normalised values. -/
abbrev nL (o : ℕ) (io : ∀ a, (![o, 0] : Fin 2 → ℕ) a + S32x256.size a ≤ S2048x256.size a) (ig : ∀ a, (![o, 0] : Fin 2 → ℕ) a + S32x1.size a ≤ S2048x1.size a) : FVec Ideal S32x256 .f32 :=
  k0_pay168 (rL c t x0 x1) (xtL c t x0 x1 o io) (gL t x2 o ig)

theorem normV (r : FVec Ideal S1x256 .f32) (x : FVec Ideal S32x256 .f32) (g : FVec Ideal S32x1 .f32) (k : Fin 32) (e : Fin 256) :
    k0_pay168 r x g (ix2 k e) = x (ix2 k e) * r (ix2 0 e) * g (ix2 k 0) := by
  have h1 : broadcastTo S32x256 r broadcasts_S1x256_S32x256 (ix2 k e) = r (ix2 0 e) := broadcastTo_1b_ab_apply (b := 256) (a := 32) r _ k e
  have h2 : broadcastTo S32x256 (shapeCast S32x1 g shapeCasts_S32x1_S32x1) broadcasts_S32x1_S32x256 (ix2 k e) = g (ix2 k 0) :=
    (broadcastTo_apply _ broadcasts_S32x1_S32x256 (ix2 k e) (ix2 k 0) (fun a => by fin_cases a <;> rfl)).trans (shapeCast_apply _ _ _ _ rfl)
  show x (ix2 k e) * broadcastTo S32x256 r broadcasts_S1x256_S32x256 (ix2 k e) * broadcastTo S32x256 (shapeCast S32x1 g shapeCasts_S32x1_S32x1) broadcasts_S32x1_S32x256 (ix2 k e) = (_ : EReal)
  rw [h1, h2]

theorem nL_eq (o io ig) (k : Fin 32) (e : Fin 256) (d : Fin 2048) (hd : d.val = o + k.val) : nL c t x0 x1 x2 o io ig (ix2 k e) = nV x0 x1 (gB x2) e d := by
  refine (normV _ _ _ k e).trans ?_
  rw [xtL_eq c t x0 x1 o io k e d hd, rL_eq, gL_eq t x2 o ig (ix2 k 0) d hd]
  rfl

variable (g o : ℕ) (ho : o = 32 * g) (io : ∀ a, (![o, 0] : Fin 2 → ℕ) a + S32x256.size a ≤ S2048x256.size a) (ig : ∀ a, (![o, 0] : Fin 2 → ℕ) a + S32x1.size a ≤ S2048x1.size a)

include ho in
theorem scale_at (y : S64x256.Idx) (x : S1x256.Idx) (h0 : (y 0).val = g + (x 0).val) (h1 : (y 1).val = (x 1).val) :
    scaleN (nL c t x0 x1 x2 o io ig) x = scales (T := 256) (K := 2048) (G := 64) rfl 0x3B124925#32 (nV x0 x1 (gB x2)) y := by
  have hx : (x 0).val < 1 := (x 0).isLt
  have e1 : y 1 = x 1 := Fin.ext h1
  rw [scaleN_eq]
  unfold scales group
  rw [e1]
  exact congrArg (gscale _) (funext fun k => nL_eq c t x0 x1 x2 o io ig k _ _ (show 32 * (y 0).val + k.val = o + k.val by omega))

include ho in
theorem code_at (y : S2048x256.Idx) (x : S32x256.Idx) (h0 : (y 0).val = o + (x 0).val) (h1 : (y 1).val = (x 1).val) :
    codeN (nL c t x0 x1 x2 o io ig) x = codes (T := 256) (K := 2048) (G := 64) rfl 0x3B124925#32 0xC3E00000#32 0x43E00000#32 (nV x0 x1 (gB x2)) (ix2 (y 1) (y 0)) := by
  have hx : (x 0).val < 32 := (x 0).isLt
  have e1 : y 1 = x 1 := Fin.ext h1
  rw [codeN_eq]
  unfold codes group
  rw [e1]
  exact congrArg₂ (gcode _ _ _) (funext fun k => nL_eq c t x0 x1 x2 o io ig k _ _ (show 32 * ((y 0).val / 32) + k.val = o + k.val by omega)) (Fin.ext (by show (x 0).val = (y 0).val % 32; omega))

include ho in
theorem wide_at (y : S2048x256.Idx) (x : S32x256.Idx) (h0 : (y 0).val = o + (x 0).val) (h1 : (y 1).val = (x 1).val) :
    wideN (nL c t x0 x1 x2 o io ig) x = wide (T := 256) (K := 2048) (G := 64) rfl 0x3B124925#32 0xC3E00000#32 0x43E00000#32 (nV x0 x1 (gB x2)) y := by
  have hx : (x 0).val < 32 := (x 0).isLt
  have e1 : y 1 = x 1 := Fin.ext h1
  rw [wideN_eq]
  unfold wide group
  rw [e1]
  exact congrArg₂ (gwide _ _ _) (funext fun k => nL_eq c t x0 x1 x2 o io ig k _ _ (show 32 * ((y 0).val / 32) + k.val = o + k.val by omega)) (Fin.ext (by show (x 0).val = (y 0).val % 32; omega))

end Norm

end Cert.PrepIdeal.RefValue
end
-- ==== Proof.PrepCodes.lean ====
/-
  The normalising kernel: the codes that the body stores, group after group, features first.
-/
module

public import proofs.«01_k».proof.Proof.PrepNorm

@[expose] public section

set_option maxRecDepth 16384
set_option maxHeartbeats 4000000

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

section Codes

variable (c : Dev nD) (t : Fin cfg0.N) (x0 : Vec Ideal S256x2048 .fp8e4m3) (x1 : Vec Ideal S256x64 .f32) (x2 : Vec Ideal S2048x1 .f32)

theorem canonC (y : S2048x256.Idx) : View.canon (kernelRun0_A.sl.HS2_65 c (ms0_0 t) (hs0_0 t) (ms0_1 t) (hs0_1 t) (ms0_2 t) (hs0_2 t) scM0_0 scM0_1 scM0_2 x0 x1 x2) y = codes (T := 256) (K := 2048) (G := 64) rfl 0x3B124925#32 0xC3E00000#32 0x43E00000#32 (nV x0 x1 (gB x2)) (ix2 (y 1) (y 0)) := by
  have hy : (y 0).val < 2048 := (y 0).isLt
  refine canon_rows (R := 2048) (n := 256) (h := 32) 2016 _ _ _ y _ (by omega) (fun x h0 h1 => code_at c t x0 x1 x2 63 2016 rfl inb_S2048x256_S32x256_2016_0 inb_S2048x1_S32x1_2016_0 y x h0 h1) (fun hy => ?_)
  refine canon_rows (R := 2048) (n := 256) (h := 32) 1984 _ _ _ y _ (by omega) (fun x h0 h1 => code_at c t x0 x1 x2 62 1984 rfl inb_S2048x256_S32x256_1984_0 inb_S2048x1_S32x1_1984_0 y x h0 h1) (fun hy => ?_)
  refine canon_rows (R := 2048) (n := 256) (h := 32) 1952 _ _ _ y _ (by omega) (fun x h0 h1 => code_at c t x0 x1 x2 61 1952 rfl inb_S2048x256_S32x256_1952_0 inb_S2048x1_S32x1_1952_0 y x h0 h1) (fun hy => ?_)
  refine canon_rows (R := 2048) (n := 256) (h := 32) 1920 _ _ _ y _ (by omega) (fun x h0 h1 => code_at c t x0 x1 x2 60 1920 rfl inb_S2048x256_S32x256_1920_0 inb_S2048x1_S32x1_1920_0 y x h0 h1) (fun hy => ?_)
  refine canon_rows (R := 2048) (n := 256) (h := 32) 1888 _ _ _ y _ (by omega) (fun x h0 h1 => code_at c t x0 x1 x2 59 1888 rfl inb_S2048x256_S32x256_1888_0 inb_S2048x1_S32x1_1888_0 y x h0 h1) (fun hy => ?_)
  refine canon_rows (R := 2048) (n := 256) (h := 32) 1856 _ _ _ y _ (by omega) (fun x h0 h1 => code_at c t x0 x1 x2 58 1856 rfl inb_S2048x256_S32x256_1856_0 inb_S2048x1_S32x1_1856_0 y x h0 h1) (fun hy => ?_)
  refine canon_rows (R := 2048) (n := 256) (h := 32) 1824 _ _ _ y _ (by omega) (fun x h0 h1 => code_at c t x0 x1 x2 57 1824 rfl inb_S2048x256_S32x256_1824_0 inb_S2048x1_S32x1_1824_0 y x h0 h1) (fun hy => ?_)
  refine canon_rows (R := 2048) (n := 256) (h := 32) 1792 _ _ _ y _ (by omega) (fun x h0 h1 => code_at c t x0 x1 x2 56 1792 rfl inb_S2048x256_S32x256_1792_0 inb_S2048x1_S32x1_1792_0 y x h0 h1) (fun hy => ?_)
  refine canon_rows (R := 2048) (n := 256) (h := 32) 1760 _ _ _ y _ (by omega) (fun x h0 h1 => code_at c t x0 x1 x2 55 1760 rfl inb_S2048x256_S32x256_1760_0 inb_S2048x1_S32x1_1760_0 y x h0 h1) (fun hy => ?_)
  refine canon_rows (R := 2048) (n := 256) (h := 32) 1728 _ _ _ y _ (by omega) (fun x h0 h1 => code_at c t x0 x1 x2 54 1728 rfl inb_S2048x256_S32x256_1728_0 inb_S2048x1_S32x1_1728_0 y x h0 h1) (fun hy => ?_)
  refine canon_rows (R := 2048) (n := 256) (h := 32) 1696 _ _ _ y _ (by omega) (fun x h0 h1 => code_at c t x0 x1 x2 53 1696 rfl inb_S2048x256_S32x256_1696_0 inb_S2048x1_S32x1_1696_0 y x h0 h1) (fun hy => ?_)
  refine canon_rows (R := 2048) (n := 256) (h := 32) 1664 _ _ _ y _ (by omega) (fun x h0 h1 => code_at c t x0 x1 x2 52 1664 rfl inb_S2048x256_S32x256_1664_0 inb_S2048x1_S32x1_1664_0 y x h0 h1) (fun hy => ?_)
  refine canon_rows (R := 2048) (n := 256) (h := 32) 1632 _ _ _ y _ (by omega) (fun x h0 h1 => code_at c t x0 x1 x2 51 1632 rfl inb_S2048x256_S32x256_1632_0 inb_S2048x1_S32x1_1632_0 y x h0 h1) (fun hy => ?_)
  refine canon_rows (R := 2048) (n := 256) (h := 32) 1600 _ _ _ y _ (by omega) (fun x h0 h1 => code_at c t x0 x1 x2 50 1600 rfl inb_S2048x256_S32x256_1600_0 inb_S2048x1_S32x1_1600_0 y x h0 h1) (fun hy => ?_)
  refine canon_rows (R := 2048) (n := 256) (h := 32) 1568 _ _ _ y _ (by omega) (fun x h0 h1 => code_at c t x0 x1 x2 49 1568 rfl inb_S2048x256_S32x256_1568_0 inb_S2048x1_S32x1_1568_0 y x h0 h1) (fun hy => ?_)
  refine canon_rows (R := 2048) (n := 256) (h := 32) 1536 _ _ _ y _ (by omega) (fun x h0 h1 => code_at c t x0 x1 x2 48 1536 rfl inb_S2048x256_S32x256_1536_0 inb_S2048x1_S32x1_1536_0 y x h0 h1) (fun hy => ?_)
  refine canon_rows (R := 2048) (n := 256) (h := 32) 1504 _ _ _ y _ (by omega) (fun x h0 h1 => code_at c t x0 x1 x2 47 1504 rfl inb_S2048x256_S32x256_1504_0 inb_S2048x1_S32x1_1504_0 y x h0 h1) (fun hy => ?_)
  refine canon_rows (R := 2048) (n := 256) (h := 32) 1472 _ _ _ y _ (by omega) (fun x h0 h1 => code_at c t x0 x1 x2 46 1472 rfl inb_S2048x256_S32x256_1472_0 inb_S2048x1_S32x1_1472_0 y x h0 h1) (fun hy => ?_)
  refine canon_rows (R := 2048) (n := 256) (h := 32) 1440 _ _ _ y _ (by omega) (fun x h0 h1 => code_at c t x0 x1 x2 45 1440 rfl inb_S2048x256_S32x256_1440_0 inb_S2048x1_S32x1_1440_0 y x h0 h1) (fun hy => ?_)
  refine canon_rows (R := 2048) (n := 256) (h := 32) 1408 _ _ _ y _ (by omega) (fun x h0 h1 => code_at c t x0 x1 x2 44 1408 rfl inb_S2048x256_S32x256_1408_0 inb_S2048x1_S32x1_1408_0 y x h0 h1) (fun hy => ?_)
  refine canon_rows (R := 2048) (n := 256) (h := 32) 1376 _ _ _ y _ (by omega) (fun x h0 h1 => code_at c t x0 x1 x2 43 1376 rfl inb_S2048x256_S32x256_1376_0 inb_S2048x1_S32x1_1376_0 y x h0 h1) (fun hy => ?_)
  refine canon_rows (R := 2048) (n := 256) (h := 32) 1344 _ _ _ y _ (by omega) (fun x h0 h1 => code_at c t x0 x1 x2 42 1344 rfl inb_S2048x256_S32x256_1344_0 inb_S2048x1_S32x1_1344_0 y x h0 h1) (fun hy => ?_)
  refine canon_rows (R := 2048) (n := 256) (h := 32) 1312 _ _ _ y _ (by omega) (fun x h0 h1 => code_at c t x0 x1 x2 41 1312 rfl inb_S2048x256_S32x256_1312_0 inb_S2048x1_S32x1_1312_0 y x h0 h1) (fun hy => ?_)
  refine canon_rows (R := 2048) (n := 256) (h := 32) 1280 _ _ _ y _ (by omega) (fun x h0 h1 => code_at c t x0 x1 x2 40 1280 rfl inb_S2048x256_S32x256_1280_0 inb_S2048x1_S32x1_1280_0 y x h0 h1) (fun hy => ?_)
  refine canon_rows (R := 2048) (n := 256) (h := 32) 1248 _ _ _ y _ (by omega) (fun x h0 h1 => code_at c t x0 x1 x2 39 1248 rfl inb_S2048x256_S32x256_1248_0 inb_S2048x1_S32x1_1248_0 y x h0 h1) (fun hy => ?_)
  refine canon_rows (R := 2048) (n := 256) (h := 32) 1216 _ _ _ y _ (by omega) (fun x h0 h1 => code_at c t x0 x1 x2 38 1216 rfl inb_S2048x256_S32x256_1216_0 inb_S2048x1_S32x1_1216_0 y x h0 h1) (fun hy => ?_)
  refine canon_rows (R := 2048) (n := 256) (h := 32) 1184 _ _ _ y _ (by omega) (fun x h0 h1 => code_at c t x0 x1 x2 37 1184 rfl inb_S2048x256_S32x256_1184_0 inb_S2048x1_S32x1_1184_0 y x h0 h1) (fun hy => ?_)
  refine canon_rows (R := 2048) (n := 256) (h := 32) 1152 _ _ _ y _ (by omega) (fun x h0 h1 => code_at c t x0 x1 x2 36 1152 rfl inb_S2048x256_S32x256_1152_0 inb_S2048x1_S32x1_1152_0 y x h0 h1) (fun hy => ?_)
  refine canon_rows (R := 2048) (n := 256) (h := 32) 1120 _ _ _ y _ (by omega) (fun x h0 h1 => code_at c t x0 x1 x2 35 1120 rfl inb_S2048x256_S32x256_1120_0 inb_S2048x1_S32x1_1120_0 y x h0 h1) (fun hy => ?_)
  refine canon_rows (R := 2048) (n := 256) (h := 32) 1088 _ _ _ y _ (by omega) (fun x h0 h1 => code_at c t x0 x1 x2 34 1088 rfl inb_S2048x256_S32x256_1088_0 inb_S2048x1_S32x1_1088_0 y x h0 h1) (fun hy => ?_)
  refine canon_rows (R := 2048) (n := 256) (h := 32) 1056 _ _ _ y _ (by omega) (fun x h0 h1 => code_at c t x0 x1 x2 33 1056 rfl inb_S2048x256_S32x256_1056_0 inb_S2048x1_S32x1_1056_0 y x h0 h1) (fun hy => ?_)
  refine canon_rows (R := 2048) (n := 256) (h := 32) 1024 _ _ _ y _ (by omega) (fun x h0 h1 => code_at c t x0 x1 x2 32 1024 rfl inb_S2048x256_S32x256_1024_0 inb_S2048x1_S32x1_1024_0 y x h0 h1) (fun hy => ?_)
  refine canon_rows (R := 2048) (n := 256) (h := 32) 992 _ _ _ y _ (by omega) (fun x h0 h1 => code_at c t x0 x1 x2 31 992 rfl inb_S2048x256_S32x256_992_0 inb_S2048x1_S32x1_992_0 y x h0 h1) (fun hy => ?_)
  refine canon_rows (R := 2048) (n := 256) (h := 32) 960 _ _ _ y _ (by omega) (fun x h0 h1 => code_at c t x0 x1 x2 30 960 rfl inb_S2048x256_S32x256_960_0 inb_S2048x1_S32x1_960_0 y x h0 h1) (fun hy => ?_)
  refine canon_rows (R := 2048) (n := 256) (h := 32) 928 _ _ _ y _ (by omega) (fun x h0 h1 => code_at c t x0 x1 x2 29 928 rfl inb_S2048x256_S32x256_928_0 inb_S2048x1_S32x1_928_0 y x h0 h1) (fun hy => ?_)
  refine canon_rows (R := 2048) (n := 256) (h := 32) 896 _ _ _ y _ (by omega) (fun x h0 h1 => code_at c t x0 x1 x2 28 896 rfl inb_S2048x256_S32x256_896_0 inb_S2048x1_S32x1_896_0 y x h0 h1) (fun hy => ?_)
  refine canon_rows (R := 2048) (n := 256) (h := 32) 864 _ _ _ y _ (by omega) (fun x h0 h1 => code_at c t x0 x1 x2 27 864 rfl inb_S2048x256_S32x256_864_0 inb_S2048x1_S32x1_864_0 y x h0 h1) (fun hy => ?_)
  refine canon_rows (R := 2048) (n := 256) (h := 32) 832 _ _ _ y _ (by omega) (fun x h0 h1 => code_at c t x0 x1 x2 26 832 rfl inb_S2048x256_S32x256_832_0 inb_S2048x1_S32x1_832_0 y x h0 h1) (fun hy => ?_)
  refine canon_rows (R := 2048) (n := 256) (h := 32) 800 _ _ _ y _ (by omega) (fun x h0 h1 => code_at c t x0 x1 x2 25 800 rfl inb_S2048x256_S32x256_800_0 inb_S2048x1_S32x1_800_0 y x h0 h1) (fun hy => ?_)
  refine canon_rows (R := 2048) (n := 256) (h := 32) 768 _ _ _ y _ (by omega) (fun x h0 h1 => code_at c t x0 x1 x2 24 768 rfl inb_S2048x256_S32x256_768_0 inb_S2048x1_S32x1_768_0 y x h0 h1) (fun hy => ?_)
  refine canon_rows (R := 2048) (n := 256) (h := 32) 736 _ _ _ y _ (by omega) (fun x h0 h1 => code_at c t x0 x1 x2 23 736 rfl inb_S2048x256_S32x256_736_0 inb_S2048x1_S32x1_736_0 y x h0 h1) (fun hy => ?_)
  refine canon_rows (R := 2048) (n := 256) (h := 32) 704 _ _ _ y _ (by omega) (fun x h0 h1 => code_at c t x0 x1 x2 22 704 rfl inb_S2048x256_S32x256_704_0 inb_S2048x1_S32x1_704_0 y x h0 h1) (fun hy => ?_)
  refine canon_rows (R := 2048) (n := 256) (h := 32) 672 _ _ _ y _ (by omega) (fun x h0 h1 => code_at c t x0 x1 x2 21 672 rfl inb_S2048x256_S32x256_672_0 inb_S2048x1_S32x1_672_0 y x h0 h1) (fun hy => ?_)
  refine canon_rows (R := 2048) (n := 256) (h := 32) 640 _ _ _ y _ (by omega) (fun x h0 h1 => code_at c t x0 x1 x2 20 640 rfl inb_S2048x256_S32x256_640_0 inb_S2048x1_S32x1_640_0 y x h0 h1) (fun hy => ?_)
  refine canon_rows (R := 2048) (n := 256) (h := 32) 608 _ _ _ y _ (by omega) (fun x h0 h1 => code_at c t x0 x1 x2 19 608 rfl inb_S2048x256_S32x256_608_0 inb_S2048x1_S32x1_608_0 y x h0 h1) (fun hy => ?_)
  refine canon_rows (R := 2048) (n := 256) (h := 32) 576 _ _ _ y _ (by omega) (fun x h0 h1 => code_at c t x0 x1 x2 18 576 rfl inb_S2048x256_S32x256_576_0 inb_S2048x1_S32x1_576_0 y x h0 h1) (fun hy => ?_)
  refine canon_rows (R := 2048) (n := 256) (h := 32) 544 _ _ _ y _ (by omega) (fun x h0 h1 => code_at c t x0 x1 x2 17 544 rfl inb_S2048x256_S32x256_544_0 inb_S2048x1_S32x1_544_0 y x h0 h1) (fun hy => ?_)
  refine canon_rows (R := 2048) (n := 256) (h := 32) 512 _ _ _ y _ (by omega) (fun x h0 h1 => code_at c t x0 x1 x2 16 512 rfl inb_S2048x256_S32x256_512_0 inb_S2048x1_S32x1_512_0 y x h0 h1) (fun hy => ?_)
  refine canon_rows (R := 2048) (n := 256) (h := 32) 480 _ _ _ y _ (by omega) (fun x h0 h1 => code_at c t x0 x1 x2 15 480 rfl inb_S2048x256_S32x256_480_0 inb_S2048x1_S32x1_480_0 y x h0 h1) (fun hy => ?_)
  refine canon_rows (R := 2048) (n := 256) (h := 32) 448 _ _ _ y _ (by omega) (fun x h0 h1 => code_at c t x0 x1 x2 14 448 rfl inb_S2048x256_S32x256_448_0 inb_S2048x1_S32x1_448_0 y x h0 h1) (fun hy => ?_)
  refine canon_rows (R := 2048) (n := 256) (h := 32) 416 _ _ _ y _ (by omega) (fun x h0 h1 => code_at c t x0 x1 x2 13 416 rfl inb_S2048x256_S32x256_416_0 inb_S2048x1_S32x1_416_0 y x h0 h1) (fun hy => ?_)
  refine canon_rows (R := 2048) (n := 256) (h := 32) 384 _ _ _ y _ (by omega) (fun x h0 h1 => code_at c t x0 x1 x2 12 384 rfl inb_S2048x256_S32x256_384_0 inb_S2048x1_S32x1_384_0 y x h0 h1) (fun hy => ?_)
  refine canon_rows (R := 2048) (n := 256) (h := 32) 352 _ _ _ y _ (by omega) (fun x h0 h1 => code_at c t x0 x1 x2 11 352 rfl inb_S2048x256_S32x256_352_0 inb_S2048x1_S32x1_352_0 y x h0 h1) (fun hy => ?_)
  refine canon_rows (R := 2048) (n := 256) (h := 32) 320 _ _ _ y _ (by omega) (fun x h0 h1 => code_at c t x0 x1 x2 10 320 rfl inb_S2048x256_S32x256_320_0 inb_S2048x1_S32x1_320_0 y x h0 h1) (fun hy => ?_)
  refine canon_rows (R := 2048) (n := 256) (h := 32) 288 _ _ _ y _ (by omega) (fun x h0 h1 => code_at c t x0 x1 x2 9 288 rfl inb_S2048x256_S32x256_288_0 inb_S2048x1_S32x1_288_0 y x h0 h1) (fun hy => ?_)
  refine canon_rows (R := 2048) (n := 256) (h := 32) 256 _ _ _ y _ (by omega) (fun x h0 h1 => code_at c t x0 x1 x2 8 256 rfl inb_S2048x256_S32x256_256_0 inb_S2048x1_S32x1_256_0 y x h0 h1) (fun hy => ?_)
  refine canon_rows (R := 2048) (n := 256) (h := 32) 224 _ _ _ y _ (by omega) (fun x h0 h1 => code_at c t x0 x1 x2 7 224 rfl inb_S2048x256_S32x256_224_0 inb_S2048x1_S32x1_224_0 y x h0 h1) (fun hy => ?_)
  refine canon_rows (R := 2048) (n := 256) (h := 32) 192 _ _ _ y _ (by omega) (fun x h0 h1 => code_at c t x0 x1 x2 6 192 rfl inb_S2048x256_S32x256_192_0 inb_S2048x1_S32x1_192_0 y x h0 h1) (fun hy => ?_)
  refine canon_rows (R := 2048) (n := 256) (h := 32) 160 _ _ _ y _ (by omega) (fun x h0 h1 => code_at c t x0 x1 x2 5 160 rfl inb_S2048x256_S32x256_160_0 inb_S2048x1_S32x1_160_0 y x h0 h1) (fun hy => ?_)
  refine canon_rows (R := 2048) (n := 256) (h := 32) 128 _ _ _ y _ (by omega) (fun x h0 h1 => code_at c t x0 x1 x2 4 128 rfl inb_S2048x256_S32x256_128_0 inb_S2048x1_S32x1_128_0 y x h0 h1) (fun hy => ?_)
  refine canon_rows (R := 2048) (n := 256) (h := 32) 96 _ _ _ y _ (by omega) (fun x h0 h1 => code_at c t x0 x1 x2 3 96 rfl inb_S2048x256_S32x256_96_0 inb_S2048x1_S32x1_96_0 y x h0 h1) (fun hy => ?_)
  refine canon_rows (R := 2048) (n := 256) (h := 32) 64 _ _ _ y _ (by omega) (fun x h0 h1 => code_at c t x0 x1 x2 2 64 rfl inb_S2048x256_S32x256_64_0 inb_S2048x1_S32x1_64_0 y x h0 h1) (fun hy => ?_)
  refine canon_rows (R := 2048) (n := 256) (h := 32) 32 _ _ _ y _ (by omega) (fun x h0 h1 => code_at c t x0 x1 x2 1 32 rfl inb_S2048x256_S32x256_32_0 inb_S2048x1_S32x1_32_0 y x h0 h1) (fun hy => ?_)
  refine canon_rows (R := 2048) (n := 256) (h := 32) 0 _ _ _ y _ (by omega) (fun x h0 h1 => code_at c t x0 x1 x2 0 0 rfl inb_S2048x256_S32x256_0_0 inb_S2048x1_S32x1_0_0 y x h0 h1) (fun hy => ?_)
  exact absurd hy (Nat.not_lt_zero _)

end Codes

end Cert.PrepIdeal.RefValue
end
-- ==== Proof.PrepScales.lean ====
/-
  The normalising kernel: the scales that the body stores, a row for a group.
-/
module

public import proofs.«01_k».proof.Proof.PrepNorm

@[expose] public section

set_option maxRecDepth 16384
set_option maxHeartbeats 4000000

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

section Scales

variable (c : Dev nD) (t : Fin cfg0.N) (x0 : Vec Ideal S256x2048 .fp8e4m3) (x1 : Vec Ideal S256x64 .f32) (x2 : Vec Ideal S2048x1 .f32)

theorem canonS (y : S64x256.Idx) : View.canon (kernelRun0_A.sl.HS1_65 c (ms0_0 t) (hs0_0 t) (ms0_1 t) (hs0_1 t) (ms0_2 t) (hs0_2 t) scM0_0 scM0_1 scM0_2 x0 x1 x2) y = scales (T := 256) (K := 2048) (G := 64) rfl 0x3B124925#32 (nV x0 x1 (gB x2)) y := by
  have hy : (y 0).val < 64 := (y 0).isLt
  refine canon_rows (R := 64) (n := 256) (h := 1) 63 _ _ _ y _ (by omega) (fun x h0 h1 => scale_at c t x0 x1 x2 63 2016 rfl inb_S2048x256_S32x256_2016_0 inb_S2048x1_S32x1_2016_0 y x h0 h1) (fun hy => ?_)
  refine canon_rows (R := 64) (n := 256) (h := 1) 62 _ _ _ y _ (by omega) (fun x h0 h1 => scale_at c t x0 x1 x2 62 1984 rfl inb_S2048x256_S32x256_1984_0 inb_S2048x1_S32x1_1984_0 y x h0 h1) (fun hy => ?_)
  refine canon_rows (R := 64) (n := 256) (h := 1) 61 _ _ _ y _ (by omega) (fun x h0 h1 => scale_at c t x0 x1 x2 61 1952 rfl inb_S2048x256_S32x256_1952_0 inb_S2048x1_S32x1_1952_0 y x h0 h1) (fun hy => ?_)
  refine canon_rows (R := 64) (n := 256) (h := 1) 60 _ _ _ y _ (by omega) (fun x h0 h1 => scale_at c t x0 x1 x2 60 1920 rfl inb_S2048x256_S32x256_1920_0 inb_S2048x1_S32x1_1920_0 y x h0 h1) (fun hy => ?_)
  refine canon_rows (R := 64) (n := 256) (h := 1) 59 _ _ _ y _ (by omega) (fun x h0 h1 => scale_at c t x0 x1 x2 59 1888 rfl inb_S2048x256_S32x256_1888_0 inb_S2048x1_S32x1_1888_0 y x h0 h1) (fun hy => ?_)
  refine canon_rows (R := 64) (n := 256) (h := 1) 58 _ _ _ y _ (by omega) (fun x h0 h1 => scale_at c t x0 x1 x2 58 1856 rfl inb_S2048x256_S32x256_1856_0 inb_S2048x1_S32x1_1856_0 y x h0 h1) (fun hy => ?_)
  refine canon_rows (R := 64) (n := 256) (h := 1) 57 _ _ _ y _ (by omega) (fun x h0 h1 => scale_at c t x0 x1 x2 57 1824 rfl inb_S2048x256_S32x256_1824_0 inb_S2048x1_S32x1_1824_0 y x h0 h1) (fun hy => ?_)
  refine canon_rows (R := 64) (n := 256) (h := 1) 56 _ _ _ y _ (by omega) (fun x h0 h1 => scale_at c t x0 x1 x2 56 1792 rfl inb_S2048x256_S32x256_1792_0 inb_S2048x1_S32x1_1792_0 y x h0 h1) (fun hy => ?_)
  refine canon_rows (R := 64) (n := 256) (h := 1) 55 _ _ _ y _ (by omega) (fun x h0 h1 => scale_at c t x0 x1 x2 55 1760 rfl inb_S2048x256_S32x256_1760_0 inb_S2048x1_S32x1_1760_0 y x h0 h1) (fun hy => ?_)
  refine canon_rows (R := 64) (n := 256) (h := 1) 54 _ _ _ y _ (by omega) (fun x h0 h1 => scale_at c t x0 x1 x2 54 1728 rfl inb_S2048x256_S32x256_1728_0 inb_S2048x1_S32x1_1728_0 y x h0 h1) (fun hy => ?_)
  refine canon_rows (R := 64) (n := 256) (h := 1) 53 _ _ _ y _ (by omega) (fun x h0 h1 => scale_at c t x0 x1 x2 53 1696 rfl inb_S2048x256_S32x256_1696_0 inb_S2048x1_S32x1_1696_0 y x h0 h1) (fun hy => ?_)
  refine canon_rows (R := 64) (n := 256) (h := 1) 52 _ _ _ y _ (by omega) (fun x h0 h1 => scale_at c t x0 x1 x2 52 1664 rfl inb_S2048x256_S32x256_1664_0 inb_S2048x1_S32x1_1664_0 y x h0 h1) (fun hy => ?_)
  refine canon_rows (R := 64) (n := 256) (h := 1) 51 _ _ _ y _ (by omega) (fun x h0 h1 => scale_at c t x0 x1 x2 51 1632 rfl inb_S2048x256_S32x256_1632_0 inb_S2048x1_S32x1_1632_0 y x h0 h1) (fun hy => ?_)
  refine canon_rows (R := 64) (n := 256) (h := 1) 50 _ _ _ y _ (by omega) (fun x h0 h1 => scale_at c t x0 x1 x2 50 1600 rfl inb_S2048x256_S32x256_1600_0 inb_S2048x1_S32x1_1600_0 y x h0 h1) (fun hy => ?_)
  refine canon_rows (R := 64) (n := 256) (h := 1) 49 _ _ _ y _ (by omega) (fun x h0 h1 => scale_at c t x0 x1 x2 49 1568 rfl inb_S2048x256_S32x256_1568_0 inb_S2048x1_S32x1_1568_0 y x h0 h1) (fun hy => ?_)
  refine canon_rows (R := 64) (n := 256) (h := 1) 48 _ _ _ y _ (by omega) (fun x h0 h1 => scale_at c t x0 x1 x2 48 1536 rfl inb_S2048x256_S32x256_1536_0 inb_S2048x1_S32x1_1536_0 y x h0 h1) (fun hy => ?_)
  refine canon_rows (R := 64) (n := 256) (h := 1) 47 _ _ _ y _ (by omega) (fun x h0 h1 => scale_at c t x0 x1 x2 47 1504 rfl inb_S2048x256_S32x256_1504_0 inb_S2048x1_S32x1_1504_0 y x h0 h1) (fun hy => ?_)
  refine canon_rows (R := 64) (n := 256) (h := 1) 46 _ _ _ y _ (by omega) (fun x h0 h1 => scale_at c t x0 x1 x2 46 1472 rfl inb_S2048x256_S32x256_1472_0 inb_S2048x1_S32x1_1472_0 y x h0 h1) (fun hy => ?_)
  refine canon_rows (R := 64) (n := 256) (h := 1) 45 _ _ _ y _ (by omega) (fun x h0 h1 => scale_at c t x0 x1 x2 45 1440 rfl inb_S2048x256_S32x256_1440_0 inb_S2048x1_S32x1_1440_0 y x h0 h1) (fun hy => ?_)
  refine canon_rows (R := 64) (n := 256) (h := 1) 44 _ _ _ y _ (by omega) (fun x h0 h1 => scale_at c t x0 x1 x2 44 1408 rfl inb_S2048x256_S32x256_1408_0 inb_S2048x1_S32x1_1408_0 y x h0 h1) (fun hy => ?_)
  refine canon_rows (R := 64) (n := 256) (h := 1) 43 _ _ _ y _ (by omega) (fun x h0 h1 => scale_at c t x0 x1 x2 43 1376 rfl inb_S2048x256_S32x256_1376_0 inb_S2048x1_S32x1_1376_0 y x h0 h1) (fun hy => ?_)
  refine canon_rows (R := 64) (n := 256) (h := 1) 42 _ _ _ y _ (by omega) (fun x h0 h1 => scale_at c t x0 x1 x2 42 1344 rfl inb_S2048x256_S32x256_1344_0 inb_S2048x1_S32x1_1344_0 y x h0 h1) (fun hy => ?_)
  refine canon_rows (R := 64) (n := 256) (h := 1) 41 _ _ _ y _ (by omega) (fun x h0 h1 => scale_at c t x0 x1 x2 41 1312 rfl inb_S2048x256_S32x256_1312_0 inb_S2048x1_S32x1_1312_0 y x h0 h1) (fun hy => ?_)
  refine canon_rows (R := 64) (n := 256) (h := 1) 40 _ _ _ y _ (by omega) (fun x h0 h1 => scale_at c t x0 x1 x2 40 1280 rfl inb_S2048x256_S32x256_1280_0 inb_S2048x1_S32x1_1280_0 y x h0 h1) (fun hy => ?_)
  refine canon_rows (R := 64) (n := 256) (h := 1) 39 _ _ _ y _ (by omega) (fun x h0 h1 => scale_at c t x0 x1 x2 39 1248 rfl inb_S2048x256_S32x256_1248_0 inb_S2048x1_S32x1_1248_0 y x h0 h1) (fun hy => ?_)
  refine canon_rows (R := 64) (n := 256) (h := 1) 38 _ _ _ y _ (by omega) (fun x h0 h1 => scale_at c t x0 x1 x2 38 1216 rfl inb_S2048x256_S32x256_1216_0 inb_S2048x1_S32x1_1216_0 y x h0 h1) (fun hy => ?_)
  refine canon_rows (R := 64) (n := 256) (h := 1) 37 _ _ _ y _ (by omega) (fun x h0 h1 => scale_at c t x0 x1 x2 37 1184 rfl inb_S2048x256_S32x256_1184_0 inb_S2048x1_S32x1_1184_0 y x h0 h1) (fun hy => ?_)
  refine canon_rows (R := 64) (n := 256) (h := 1) 36 _ _ _ y _ (by omega) (fun x h0 h1 => scale_at c t x0 x1 x2 36 1152 rfl inb_S2048x256_S32x256_1152_0 inb_S2048x1_S32x1_1152_0 y x h0 h1) (fun hy => ?_)
  refine canon_rows (R := 64) (n := 256) (h := 1) 35 _ _ _ y _ (by omega) (fun x h0 h1 => scale_at c t x0 x1 x2 35 1120 rfl inb_S2048x256_S32x256_1120_0 inb_S2048x1_S32x1_1120_0 y x h0 h1) (fun hy => ?_)
  refine canon_rows (R := 64) (n := 256) (h := 1) 34 _ _ _ y _ (by omega) (fun x h0 h1 => scale_at c t x0 x1 x2 34 1088 rfl inb_S2048x256_S32x256_1088_0 inb_S2048x1_S32x1_1088_0 y x h0 h1) (fun hy => ?_)
  refine canon_rows (R := 64) (n := 256) (h := 1) 33 _ _ _ y _ (by omega) (fun x h0 h1 => scale_at c t x0 x1 x2 33 1056 rfl inb_S2048x256_S32x256_1056_0 inb_S2048x1_S32x1_1056_0 y x h0 h1) (fun hy => ?_)
  refine canon_rows (R := 64) (n := 256) (h := 1) 32 _ _ _ y _ (by omega) (fun x h0 h1 => scale_at c t x0 x1 x2 32 1024 rfl inb_S2048x256_S32x256_1024_0 inb_S2048x1_S32x1_1024_0 y x h0 h1) (fun hy => ?_)
  refine canon_rows (R := 64) (n := 256) (h := 1) 31 _ _ _ y _ (by omega) (fun x h0 h1 => scale_at c t x0 x1 x2 31 992 rfl inb_S2048x256_S32x256_992_0 inb_S2048x1_S32x1_992_0 y x h0 h1) (fun hy => ?_)
  refine canon_rows (R := 64) (n := 256) (h := 1) 30 _ _ _ y _ (by omega) (fun x h0 h1 => scale_at c t x0 x1 x2 30 960 rfl inb_S2048x256_S32x256_960_0 inb_S2048x1_S32x1_960_0 y x h0 h1) (fun hy => ?_)
  refine canon_rows (R := 64) (n := 256) (h := 1) 29 _ _ _ y _ (by omega) (fun x h0 h1 => scale_at c t x0 x1 x2 29 928 rfl inb_S2048x256_S32x256_928_0 inb_S2048x1_S32x1_928_0 y x h0 h1) (fun hy => ?_)
  refine canon_rows (R := 64) (n := 256) (h := 1) 28 _ _ _ y _ (by omega) (fun x h0 h1 => scale_at c t x0 x1 x2 28 896 rfl inb_S2048x256_S32x256_896_0 inb_S2048x1_S32x1_896_0 y x h0 h1) (fun hy => ?_)
  refine canon_rows (R := 64) (n := 256) (h := 1) 27 _ _ _ y _ (by omega) (fun x h0 h1 => scale_at c t x0 x1 x2 27 864 rfl inb_S2048x256_S32x256_864_0 inb_S2048x1_S32x1_864_0 y x h0 h1) (fun hy => ?_)
  refine canon_rows (R := 64) (n := 256) (h := 1) 26 _ _ _ y _ (by omega) (fun x h0 h1 => scale_at c t x0 x1 x2 26 832 rfl inb_S2048x256_S32x256_832_0 inb_S2048x1_S32x1_832_0 y x h0 h1) (fun hy => ?_)
  refine canon_rows (R := 64) (n := 256) (h := 1) 25 _ _ _ y _ (by omega) (fun x h0 h1 => scale_at c t x0 x1 x2 25 800 rfl inb_S2048x256_S32x256_800_0 inb_S2048x1_S32x1_800_0 y x h0 h1) (fun hy => ?_)
  refine canon_rows (R := 64) (n := 256) (h := 1) 24 _ _ _ y _ (by omega) (fun x h0 h1 => scale_at c t x0 x1 x2 24 768 rfl inb_S2048x256_S32x256_768_0 inb_S2048x1_S32x1_768_0 y x h0 h1) (fun hy => ?_)
  refine canon_rows (R := 64) (n := 256) (h := 1) 23 _ _ _ y _ (by omega) (fun x h0 h1 => scale_at c t x0 x1 x2 23 736 rfl inb_S2048x256_S32x256_736_0 inb_S2048x1_S32x1_736_0 y x h0 h1) (fun hy => ?_)
  refine canon_rows (R := 64) (n := 256) (h := 1) 22 _ _ _ y _ (by omega) (fun x h0 h1 => scale_at c t x0 x1 x2 22 704 rfl inb_S2048x256_S32x256_704_0 inb_S2048x1_S32x1_704_0 y x h0 h1) (fun hy => ?_)
  refine canon_rows (R := 64) (n := 256) (h := 1) 21 _ _ _ y _ (by omega) (fun x h0 h1 => scale_at c t x0 x1 x2 21 672 rfl inb_S2048x256_S32x256_672_0 inb_S2048x1_S32x1_672_0 y x h0 h1) (fun hy => ?_)
  refine canon_rows (R := 64) (n := 256) (h := 1) 20 _ _ _ y _ (by omega) (fun x h0 h1 => scale_at c t x0 x1 x2 20 640 rfl inb_S2048x256_S32x256_640_0 inb_S2048x1_S32x1_640_0 y x h0 h1) (fun hy => ?_)
  refine canon_rows (R := 64) (n := 256) (h := 1) 19 _ _ _ y _ (by omega) (fun x h0 h1 => scale_at c t x0 x1 x2 19 608 rfl inb_S2048x256_S32x256_608_0 inb_S2048x1_S32x1_608_0 y x h0 h1) (fun hy => ?_)
  refine canon_rows (R := 64) (n := 256) (h := 1) 18 _ _ _ y _ (by omega) (fun x h0 h1 => scale_at c t x0 x1 x2 18 576 rfl inb_S2048x256_S32x256_576_0 inb_S2048x1_S32x1_576_0 y x h0 h1) (fun hy => ?_)
  refine canon_rows (R := 64) (n := 256) (h := 1) 17 _ _ _ y _ (by omega) (fun x h0 h1 => scale_at c t x0 x1 x2 17 544 rfl inb_S2048x256_S32x256_544_0 inb_S2048x1_S32x1_544_0 y x h0 h1) (fun hy => ?_)
  refine canon_rows (R := 64) (n := 256) (h := 1) 16 _ _ _ y _ (by omega) (fun x h0 h1 => scale_at c t x0 x1 x2 16 512 rfl inb_S2048x256_S32x256_512_0 inb_S2048x1_S32x1_512_0 y x h0 h1) (fun hy => ?_)
  refine canon_rows (R := 64) (n := 256) (h := 1) 15 _ _ _ y _ (by omega) (fun x h0 h1 => scale_at c t x0 x1 x2 15 480 rfl inb_S2048x256_S32x256_480_0 inb_S2048x1_S32x1_480_0 y x h0 h1) (fun hy => ?_)
  refine canon_rows (R := 64) (n := 256) (h := 1) 14 _ _ _ y _ (by omega) (fun x h0 h1 => scale_at c t x0 x1 x2 14 448 rfl inb_S2048x256_S32x256_448_0 inb_S2048x1_S32x1_448_0 y x h0 h1) (fun hy => ?_)
  refine canon_rows (R := 64) (n := 256) (h := 1) 13 _ _ _ y _ (by omega) (fun x h0 h1 => scale_at c t x0 x1 x2 13 416 rfl inb_S2048x256_S32x256_416_0 inb_S2048x1_S32x1_416_0 y x h0 h1) (fun hy => ?_)
  refine canon_rows (R := 64) (n := 256) (h := 1) 12 _ _ _ y _ (by omega) (fun x h0 h1 => scale_at c t x0 x1 x2 12 384 rfl inb_S2048x256_S32x256_384_0 inb_S2048x1_S32x1_384_0 y x h0 h1) (fun hy => ?_)
  refine canon_rows (R := 64) (n := 256) (h := 1) 11 _ _ _ y _ (by omega) (fun x h0 h1 => scale_at c t x0 x1 x2 11 352 rfl inb_S2048x256_S32x256_352_0 inb_S2048x1_S32x1_352_0 y x h0 h1) (fun hy => ?_)
  refine canon_rows (R := 64) (n := 256) (h := 1) 10 _ _ _ y _ (by omega) (fun x h0 h1 => scale_at c t x0 x1 x2 10 320 rfl inb_S2048x256_S32x256_320_0 inb_S2048x1_S32x1_320_0 y x h0 h1) (fun hy => ?_)
  refine canon_rows (R := 64) (n := 256) (h := 1) 9 _ _ _ y _ (by omega) (fun x h0 h1 => scale_at c t x0 x1 x2 9 288 rfl inb_S2048x256_S32x256_288_0 inb_S2048x1_S32x1_288_0 y x h0 h1) (fun hy => ?_)
  refine canon_rows (R := 64) (n := 256) (h := 1) 8 _ _ _ y _ (by omega) (fun x h0 h1 => scale_at c t x0 x1 x2 8 256 rfl inb_S2048x256_S32x256_256_0 inb_S2048x1_S32x1_256_0 y x h0 h1) (fun hy => ?_)
  refine canon_rows (R := 64) (n := 256) (h := 1) 7 _ _ _ y _ (by omega) (fun x h0 h1 => scale_at c t x0 x1 x2 7 224 rfl inb_S2048x256_S32x256_224_0 inb_S2048x1_S32x1_224_0 y x h0 h1) (fun hy => ?_)
  refine canon_rows (R := 64) (n := 256) (h := 1) 6 _ _ _ y _ (by omega) (fun x h0 h1 => scale_at c t x0 x1 x2 6 192 rfl inb_S2048x256_S32x256_192_0 inb_S2048x1_S32x1_192_0 y x h0 h1) (fun hy => ?_)
  refine canon_rows (R := 64) (n := 256) (h := 1) 5 _ _ _ y _ (by omega) (fun x h0 h1 => scale_at c t x0 x1 x2 5 160 rfl inb_S2048x256_S32x256_160_0 inb_S2048x1_S32x1_160_0 y x h0 h1) (fun hy => ?_)
  refine canon_rows (R := 64) (n := 256) (h := 1) 4 _ _ _ y _ (by omega) (fun x h0 h1 => scale_at c t x0 x1 x2 4 128 rfl inb_S2048x256_S32x256_128_0 inb_S2048x1_S32x1_128_0 y x h0 h1) (fun hy => ?_)
  refine canon_rows (R := 64) (n := 256) (h := 1) 3 _ _ _ y _ (by omega) (fun x h0 h1 => scale_at c t x0 x1 x2 3 96 rfl inb_S2048x256_S32x256_96_0 inb_S2048x1_S32x1_96_0 y x h0 h1) (fun hy => ?_)
  refine canon_rows (R := 64) (n := 256) (h := 1) 2 _ _ _ y _ (by omega) (fun x h0 h1 => scale_at c t x0 x1 x2 2 64 rfl inb_S2048x256_S32x256_64_0 inb_S2048x1_S32x1_64_0 y x h0 h1) (fun hy => ?_)
  refine canon_rows (R := 64) (n := 256) (h := 1) 1 _ _ _ y _ (by omega) (fun x h0 h1 => scale_at c t x0 x1 x2 1 32 rfl inb_S2048x256_S32x256_32_0 inb_S2048x1_S32x1_32_0 y x h0 h1) (fun hy => ?_)
  refine canon_rows (R := 64) (n := 256) (h := 1) 0 _ _ _ y _ (by omega) (fun x h0 h1 => scale_at c t x0 x1 x2 0 0 rfl inb_S2048x256_S32x256_0_0 inb_S2048x1_S32x1_0_0 y x h0 h1) (fun hy => ?_)
  exact absurd hy (Nat.not_lt_zero _)

end Scales

end Cert.PrepIdeal.RefValue
end
-- ==== Proof.PrepOut.lean ====
/-
  The normalising kernel: what a point leaves — the codes and the scales token by token, and the reciprocal root mean squares.
-/
module

public import proofs.«01_k».proof.Proof.PrepCodes
public import proofs.«01_k».proof.Proof.PrepScales

@[expose] public section

set_option maxRecDepth 16384
set_option maxHeartbeats 4000000

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

section Out

variable (c : Dev nD) (t : Fin cfg0.N) (x0 : Vec Ideal S256x2048 .fp8e4m3) (x1 : Vec Ideal S256x64 .f32) (x2 : Vec Ideal S2048x1 .f32)

theorem codes_turned (v : Vec Ideal S2048x256 .bf16) (x : S256x2048.Idx) : k0_pay747 v x = v (ix2 (x 1) (x 0)) := by
  obtain ⟨e, d, rfl⟩ : ∃ (e : Fin 256) (d : Fin 2048), x = ix2 e d := ⟨x 0, x 1, eq_ix2 x⟩
  exact transpose_ix2_apply (a := 2048) (b := 256) v _ e d

theorem scales_turned (v : Vec Ideal S64x256 .f32) (x : S256x64.Idx) : k0_pay748 v x = v (ix2 (x 1) (x 0)) := by
  obtain ⟨e, d, rfl⟩ : ∃ (e : Fin 256) (d : Fin 64), x = ix2 e d := ⟨x 0, x 1, eq_ix2 x⟩
  exact transpose_ix2_apply (a := 64) (b := 256) v _ e d

theorem wholeLoad (y : S2048x256.Idx) : scM0_2.view.readCov (kernelRun0_A.sl.HS2_65 c (ms0_0 t) (hs0_0 t) (ms0_1 t) (hs0_1 t) (ms0_2 t) (hs0_2 t) scM0_0 scM0_1 scM0_2 x0 x1 x2) (Rect.unit (s := S2048x256) ![0, 0] S2048x256.size inb_S2048x256_S2048x256_0_0).toLoadRect y
    = codes (T := 256) (K := 2048) (G := 64) rfl 0x3B124925#32 0xC3E00000#32 0x43E00000#32 (nV x0 x1 (gB x2)) (ix2 (y 1) (y 0)) := by
  rw [View.readCov_eq_canon']
  have hj : (Rect.unit (s := S2048x256) ![0, 0] S2048x256.size inb_S2048x256_S2048x256_0_0).idx y = y :=
    Shape.idx_ext₂ ((Rect.idx_unit_val (s := S2048x256) ![0, 0] S2048x256.size inb_S2048x256_S2048x256_0_0 y 0).trans (Nat.zero_add _))
      ((Rect.idx_unit_val (s := S2048x256) ![0, 0] S2048x256.size inb_S2048x256_S2048x256_0_0 y 1).trans (Nat.zero_add _))
  exact (congrArg (View.canon _) hj).trans (canonC c t x0 x1 x2 y)

theorem wholeScales (y : S64x256.Idx) : scM0_1.view.readCov (kernelRun0_A.sl.HS1_65 c (ms0_0 t) (hs0_0 t) (ms0_1 t) (hs0_1 t) (ms0_2 t) (hs0_2 t) scM0_0 scM0_1 scM0_2 x0 x1 x2) (Rect.unit (s := S64x256) ![0, 0] S64x256.size inb_S64x256_S64x256_0_0).toLoadRect y
    = scales (T := 256) (K := 2048) (G := 64) rfl 0x3B124925#32 (nV x0 x1 (gB x2)) y := by
  rw [View.readCov_eq_canon']
  have hj : (Rect.unit (s := S64x256) ![0, 0] S64x256.size inb_S64x256_S64x256_0_0).idx y = y :=
    Shape.idx_ext₂ ((Rect.idx_unit_val (s := S64x256) ![0, 0] S64x256.size inb_S64x256_S64x256_0_0 y 0).trans (Nat.zero_add _))
      ((Rect.idx_unit_val (s := S64x256) ![0, 0] S64x256.size inb_S64x256_S64x256_0_0 y 1).trans (Nat.zero_add _))
  exact (congrArg (View.canon _) hj).trans (canonS c t x0 x1 x2 y)

theorem out3 : out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2 = codes (T := 256) (K := 2048) (G := 64) rfl 0x3B124925#32 0xC3E00000#32 0x43E00000#32 (nV x0 x1 (gB x2)) := by
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2)]
  funext y
  unfold kernelRun0_A
  dsimp only
  refine canon_rows (R := 256) (n := 2048) (h := 256) 0 _ _ _ y _ (by have : (y 0).val < 256 := (y 0).isLt; omega) (fun x h0 h1 => ?_) (fun hy => absurd hy (Nat.not_lt_zero _))
  have hx : x = y := Shape.idx_ext₂ (by omega) h1.symm
  subst hx
  exact (codes_turned _ x).trans (wholeLoad c t x0 x1 x2 (ix2 (x 1) (x 0)))

theorem out4 : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2 = scalesT (T := 256) (K := 2048) (G := 64) rfl 0x3B124925#32 (nV x0 x1 (gB x2)) := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2)]
  funext y
  unfold kernelRun0_A
  dsimp only
  refine canon_rows (R := 256) (n := 64) (h := 256) 0 _ _ _ y _ (by have : (y 0).val < 256 := (y 0).isLt; omega) (fun x h0 h1 => ?_) (fun hy => absurd hy (Nat.not_lt_zero _))
  have hx : x = y := Shape.idx_ext₂ (by omega) h1.symm
  subst hx
  exact (scales_turned _ x).trans (wholeScales c t x0 x1 x2 (ix2 (x 1) (x 0)))

theorem out6 : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2 = (fun y => rV x0 x1 (y 1)) := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2)]
  funext y
  unfold kernelRun0_A
  dsimp only
  refine canon_rows (R := 1) (n := 256) (h := 1) 0 _ _ _ y _ (by have : (y 0).val < 1 := (y 0).isLt; omega) (fun x h0 h1 => ?_) (fun hy => absurd hy (Nat.not_lt_zero _))
  have hx : x = y := Shape.idx_ext₂ (by omega) h1.symm
  subst hx
  obtain ⟨e, rfl⟩ : ∃ e : Fin 256, x = ix2 0 e :=
    ⟨x 1, Shape.idx_ext₂ (by have : (x 0).val < 1 := (x 0).isLt; show (x 0).val = 0; omega) rfl⟩
  exact rL_eq c t x0 x1 e

end Out

end Cert.PrepIdeal.RefValue
end
-- ==== Proof.PrepWide.lean ====
/-
  The normalising kernel: the codes times their scales that a point leaves, features first.
-/
module

public import proofs.«01_k».proof.Proof.PrepNorm

@[expose] public section

set_option maxRecDepth 16384
set_option maxHeartbeats 4000000

noncomputable section

namespace Cert.PrepIdeal.RefValue

open Cert.PrepIdeal Cert.PrepIdeal.Gen Cert.Prep Cert.Mlp Cert.Quant Idealize.ShloMosaic Idealize.ShloMosaic.TcCoe Idealize.ShloMosaic.ValueIdx
open scoped BigOperators

section Wide

variable (c : Dev nD) (t : Fin cfg0.N) (x0 : Vec Ideal S256x2048 .fp8e4m3) (x1 : Vec Ideal S256x64 .f32) (x2 : Vec Ideal S2048x1 .f32)

theorem out5 : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2 = wide (T := 256) (K := 2048) (G := 64) rfl 0x3B124925#32 0xC3E00000#32 0x43E00000#32 (nV x0 x1 (gB x2)) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) x0 x1 x2)]
  funext y
  unfold kernelRun0_A
  dsimp only
  have hy : (y 0).val < 2048 := (y 0).isLt
  refine canon_rows (R := 2048) (n := 256) (h := 32) 2016 _ _ _ y _ (by omega) (fun x h0 h1 => wide_at c t x0 x1 x2 63 2016 rfl inb_S2048x256_S32x256_2016_0 inb_S2048x1_S32x1_2016_0 y x h0 h1) (fun hy => ?_)
  refine canon_rows (R := 2048) (n := 256) (h := 32) 1984 _ _ _ y _ (by omega) (fun x h0 h1 => wide_at c t x0 x1 x2 62 1984 rfl inb_S2048x256_S32x256_1984_0 inb_S2048x1_S32x1_1984_0 y x h0 h1) (fun hy => ?_)
  refine canon_rows (R := 2048) (n := 256) (h := 32) 1952 _ _ _ y _ (by omega) (fun x h0 h1 => wide_at c t x0 x1 x2 61 1952 rfl inb_S2048x256_S32x256_1952_0 inb_S2048x1_S32x1_1952_0 y x h0 h1) (fun hy => ?_)
  refine canon_rows (R := 2048) (n := 256) (h := 32) 1920 _ _ _ y _ (by omega) (fun x h0 h1 => wide_at c t x0 x1 x2 60 1920 rfl inb_S2048x256_S32x256_1920_0 inb_S2048x1_S32x1_1920_0 y x h0 h1) (fun hy => ?_)
  refine canon_rows (R := 2048) (n := 256) (h := 32) 1888 _ _ _ y _ (by omega) (fun x h0 h1 => wide_at c t x0 x1 x2 59 1888 rfl inb_S2048x256_S32x256_1888_0 inb_S2048x1_S32x1_1888_0 y x h0 h1) (fun hy => ?_)
  refine canon_rows (R := 2048) (n := 256) (h := 32) 1856 _ _ _ y _ (by omega) (fun x h0 h1 => wide_at c t x0 x1 x2 58 1856 rfl inb_S2048x256_S32x256_1856_0 inb_S2048x1_S32x1_1856_0 y x h0 h1) (fun hy => ?_)
  refine canon_rows (R := 2048) (n := 256) (h := 32) 1824 _ _ _ y _ (by omega) (fun x h0 h1 => wide_at c t x0 x1 x2 57 1824 rfl inb_S2048x256_S32x256_1824_0 inb_S2048x1_S32x1_1824_0 y x h0 h1) (fun hy => ?_)
  refine canon_rows (R := 2048) (n := 256) (h := 32) 1792 _ _ _ y _ (by omega) (fun x h0 h1 => wide_at c t x0 x1 x2 56 1792 rfl inb_S2048x256_S32x256_1792_0 inb_S2048x1_S32x1_1792_0 y x h0 h1) (fun hy => ?_)
  refine canon_rows (R := 2048) (n := 256) (h := 32) 1760 _ _ _ y _ (by omega) (fun x h0 h1 => wide_at c t x0 x1 x2 55 1760 rfl inb_S2048x256_S32x256_1760_0 inb_S2048x1_S32x1_1760_0 y x h0 h1) (fun hy => ?_)
  refine canon_rows (R := 2048) (n := 256) (h := 32) 1728 _ _ _ y _ (by omega) (fun x h0 h1 => wide_at c t x0 x1 x2 54 1728 rfl inb_S2048x256_S32x256_1728_0 inb_S2048x1_S32x1_1728_0 y x h0 h1) (fun hy => ?_)
  refine canon_rows (R := 2048) (n := 256) (h := 32) 1696 _ _ _ y _ (by omega) (fun x h0 h1 => wide_at c t x0 x1 x2 53 1696 rfl inb_S2048x256_S32x256_1696_0 inb_S2048x1_S32x1_1696_0 y x h0 h1) (fun hy => ?_)
  refine canon_rows (R := 2048) (n := 256) (h := 32) 1664 _ _ _ y _ (by omega) (fun x h0 h1 => wide_at c t x0 x1 x2 52 1664 rfl inb_S2048x256_S32x256_1664_0 inb_S2048x1_S32x1_1664_0 y x h0 h1) (fun hy => ?_)
  refine canon_rows (R := 2048) (n := 256) (h := 32) 1632 _ _ _ y _ (by omega) (fun x h0 h1 => wide_at c t x0 x1 x2 51 1632 rfl inb_S2048x256_S32x256_1632_0 inb_S2048x1_S32x1_1632_0 y x h0 h1) (fun hy => ?_)
  refine canon_rows (R := 2048) (n := 256) (h := 32) 1600 _ _ _ y _ (by omega) (fun x h0 h1 => wide_at c t x0 x1 x2 50 1600 rfl inb_S2048x256_S32x256_1600_0 inb_S2048x1_S32x1_1600_0 y x h0 h1) (fun hy => ?_)
  refine canon_rows (R := 2048) (n := 256) (h := 32) 1568 _ _ _ y _ (by omega) (fun x h0 h1 => wide_at c t x0 x1 x2 49 1568 rfl inb_S2048x256_S32x256_1568_0 inb_S2048x1_S32x1_1568_0 y x h0 h1) (fun hy => ?_)
  refine canon_rows (R := 2048) (n := 256) (h := 32) 1536 _ _ _ y _ (by omega) (fun x h0 h1 => wide_at c t x0 x1 x2 48 1536 rfl inb_S2048x256_S32x256_1536_0 inb_S2048x1_S32x1_1536_0 y x h0 h1) (fun hy => ?_)
  refine canon_rows (R := 2048) (n := 256) (h := 32) 1504 _ _ _ y _ (by omega) (fun x h0 h1 => wide_at c t x0 x1 x2 47 1504 rfl inb_S2048x256_S32x256_1504_0 inb_S2048x1_S32x1_1504_0 y x h0 h1) (fun hy => ?_)
  refine canon_rows (R := 2048) (n := 256) (h := 32) 1472 _ _ _ y _ (by omega) (fun x h0 h1 => wide_at c t x0 x1 x2 46 1472 rfl inb_S2048x256_S32x256_1472_0 inb_S2048x1_S32x1_1472_0 y x h0 h1) (fun hy => ?_)
  refine canon_rows (R := 2048) (n := 256) (h := 32) 1440 _ _ _ y _ (by omega) (fun x h0 h1 => wide_at c t x0 x1 x2 45 1440 rfl inb_S2048x256_S32x256_1440_0 inb_S2048x1_S32x1_1440_0 y x h0 h1) (fun hy => ?_)
  refine canon_rows (R := 2048) (n := 256) (h := 32) 1408 _ _ _ y _ (by omega) (fun x h0 h1 => wide_at c t x0 x1 x2 44 1408 rfl inb_S2048x256_S32x256_1408_0 inb_S2048x1_S32x1_1408_0 y x h0 h1) (fun hy => ?_)
  refine canon_rows (R := 2048) (n := 256) (h := 32) 1376 _ _ _ y _ (by omega) (fun x h0 h1 => wide_at c t x0 x1 x2 43 1376 rfl inb_S2048x256_S32x256_1376_0 inb_S2048x1_S32x1_1376_0 y x h0 h1) (fun hy => ?_)
  refine canon_rows (R := 2048) (n := 256) (h := 32) 1344 _ _ _ y _ (by omega) (fun x h0 h1 => wide_at c t x0 x1 x2 42 1344 rfl inb_S2048x256_S32x256_1344_0 inb_S2048x1_S32x1_1344_0 y x h0 h1) (fun hy => ?_)
  refine canon_rows (R := 2048) (n := 256) (h := 32) 1312 _ _ _ y _ (by omega) (fun x h0 h1 => wide_at c t x0 x1 x2 41 1312 rfl inb_S2048x256_S32x256_1312_0 inb_S2048x1_S32x1_1312_0 y x h0 h1) (fun hy => ?_)
  refine canon_rows (R := 2048) (n := 256) (h := 32) 1280 _ _ _ y _ (by omega) (fun x h0 h1 => wide_at c t x0 x1 x2 40 1280 rfl inb_S2048x256_S32x256_1280_0 inb_S2048x1_S32x1_1280_0 y x h0 h1) (fun hy => ?_)
  refine canon_rows (R := 2048) (n := 256) (h := 32) 1248 _ _ _ y _ (by omega) (fun x h0 h1 => wide_at c t x0 x1 x2 39 1248 rfl inb_S2048x256_S32x256_1248_0 inb_S2048x1_S32x1_1248_0 y x h0 h1) (fun hy => ?_)
  refine canon_rows (R := 2048) (n := 256) (h := 32) 1216 _ _ _ y _ (by omega) (fun x h0 h1 => wide_at c t x0 x1 x2 38 1216 rfl inb_S2048x256_S32x256_1216_0 inb_S2048x1_S32x1_1216_0 y x h0 h1) (fun hy => ?_)
  refine canon_rows (R := 2048) (n := 256) (h := 32) 1184 _ _ _ y _ (by omega) (fun x h0 h1 => wide_at c t x0 x1 x2 37 1184 rfl inb_S2048x256_S32x256_1184_0 inb_S2048x1_S32x1_1184_0 y x h0 h1) (fun hy => ?_)
  refine canon_rows (R := 2048) (n := 256) (h := 32) 1152 _ _ _ y _ (by omega) (fun x h0 h1 => wide_at c t x0 x1 x2 36 1152 rfl inb_S2048x256_S32x256_1152_0 inb_S2048x1_S32x1_1152_0 y x h0 h1) (fun hy => ?_)
  refine canon_rows (R := 2048) (n := 256) (h := 32) 1120 _ _ _ y _ (by omega) (fun x h0 h1 => wide_at c t x0 x1 x2 35 1120 rfl inb_S2048x256_S32x256_1120_0 inb_S2048x1_S32x1_1120_0 y x h0 h1) (fun hy => ?_)
  refine canon_rows (R := 2048) (n := 256) (h := 32) 1088 _ _ _ y _ (by omega) (fun x h0 h1 => wide_at c t x0 x1 x2 34 1088 rfl inb_S2048x256_S32x256_1088_0 inb_S2048x1_S32x1_1088_0 y x h0 h1) (fun hy => ?_)
  refine canon_rows (R := 2048) (n := 256) (h := 32) 1056 _ _ _ y _ (by omega) (fun x h0 h1 => wide_at c t x0 x1 x2 33 1056 rfl inb_S2048x256_S32x256_1056_0 inb_S2048x1_S32x1_1056_0 y x h0 h1) (fun hy => ?_)
  refine canon_rows (R := 2048) (n := 256) (h := 32) 1024 _ _ _ y _ (by omega) (fun x h0 h1 => wide_at c t x0 x1 x2 32 1024 rfl inb_S2048x256_S32x256_1024_0 inb_S2048x1_S32x1_1024_0 y x h0 h1) (fun hy => ?_)
  refine canon_rows (R := 2048) (n := 256) (h := 32) 992 _ _ _ y _ (by omega) (fun x h0 h1 => wide_at c t x0 x1 x2 31 992 rfl inb_S2048x256_S32x256_992_0 inb_S2048x1_S32x1_992_0 y x h0 h1) (fun hy => ?_)
  refine canon_rows (R := 2048) (n := 256) (h := 32) 960 _ _ _ y _ (by omega) (fun x h0 h1 => wide_at c t x0 x1 x2 30 960 rfl inb_S2048x256_S32x256_960_0 inb_S2048x1_S32x1_960_0 y x h0 h1) (fun hy => ?_)
  refine canon_rows (R := 2048) (n := 256) (h := 32) 928 _ _ _ y _ (by omega) (fun x h0 h1 => wide_at c t x0 x1 x2 29 928 rfl inb_S2048x256_S32x256_928_0 inb_S2048x1_S32x1_928_0 y x h0 h1) (fun hy => ?_)
  refine canon_rows (R := 2048) (n := 256) (h := 32) 896 _ _ _ y _ (by omega) (fun x h0 h1 => wide_at c t x0 x1 x2 28 896 rfl inb_S2048x256_S32x256_896_0 inb_S2048x1_S32x1_896_0 y x h0 h1) (fun hy => ?_)
  refine canon_rows (R := 2048) (n := 256) (h := 32) 864 _ _ _ y _ (by omega) (fun x h0 h1 => wide_at c t x0 x1 x2 27 864 rfl inb_S2048x256_S32x256_864_0 inb_S2048x1_S32x1_864_0 y x h0 h1) (fun hy => ?_)
  refine canon_rows (R := 2048) (n := 256) (h := 32) 832 _ _ _ y _ (by omega) (fun x h0 h1 => wide_at c t x0 x1 x2 26 832 rfl inb_S2048x256_S32x256_832_0 inb_S2048x1_S32x1_832_0 y x h0 h1) (fun hy => ?_)
  refine canon_rows (R := 2048) (n := 256) (h := 32) 800 _ _ _ y _ (by omega) (fun x h0 h1 => wide_at c t x0 x1 x2 25 800 rfl inb_S2048x256_S32x256_800_0 inb_S2048x1_S32x1_800_0 y x h0 h1) (fun hy => ?_)
  refine canon_rows (R := 2048) (n := 256) (h := 32) 768 _ _ _ y _ (by omega) (fun x h0 h1 => wide_at c t x0 x1 x2 24 768 rfl inb_S2048x256_S32x256_768_0 inb_S2048x1_S32x1_768_0 y x h0 h1) (fun hy => ?_)
  refine canon_rows (R := 2048) (n := 256) (h := 32) 736 _ _ _ y _ (by omega) (fun x h0 h1 => wide_at c t x0 x1 x2 23 736 rfl inb_S2048x256_S32x256_736_0 inb_S2048x1_S32x1_736_0 y x h0 h1) (fun hy => ?_)
  refine canon_rows (R := 2048) (n := 256) (h := 32) 704 _ _ _ y _ (by omega) (fun x h0 h1 => wide_at c t x0 x1 x2 22 704 rfl inb_S2048x256_S32x256_704_0 inb_S2048x1_S32x1_704_0 y x h0 h1) (fun hy => ?_)
  refine canon_rows (R := 2048) (n := 256) (h := 32) 672 _ _ _ y _ (by omega) (fun x h0 h1 => wide_at c t x0 x1 x2 21 672 rfl inb_S2048x256_S32x256_672_0 inb_S2048x1_S32x1_672_0 y x h0 h1) (fun hy => ?_)
  refine canon_rows (R := 2048) (n := 256) (h := 32) 640 _ _ _ y _ (by omega) (fun x h0 h1 => wide_at c t x0 x1 x2 20 640 rfl inb_S2048x256_S32x256_640_0 inb_S2048x1_S32x1_640_0 y x h0 h1) (fun hy => ?_)
  refine canon_rows (R := 2048) (n := 256) (h := 32) 608 _ _ _ y _ (by omega) (fun x h0 h1 => wide_at c t x0 x1 x2 19 608 rfl inb_S2048x256_S32x256_608_0 inb_S2048x1_S32x1_608_0 y x h0 h1) (fun hy => ?_)
  refine canon_rows (R := 2048) (n := 256) (h := 32) 576 _ _ _ y _ (by omega) (fun x h0 h1 => wide_at c t x0 x1 x2 18 576 rfl inb_S2048x256_S32x256_576_0 inb_S2048x1_S32x1_576_0 y x h0 h1) (fun hy => ?_)
  refine canon_rows (R := 2048) (n := 256) (h := 32) 544 _ _ _ y _ (by omega) (fun x h0 h1 => wide_at c t x0 x1 x2 17 544 rfl inb_S2048x256_S32x256_544_0 inb_S2048x1_S32x1_544_0 y x h0 h1) (fun hy => ?_)
  refine canon_rows (R := 2048) (n := 256) (h := 32) 512 _ _ _ y _ (by omega) (fun x h0 h1 => wide_at c t x0 x1 x2 16 512 rfl inb_S2048x256_S32x256_512_0 inb_S2048x1_S32x1_512_0 y x h0 h1) (fun hy => ?_)
  refine canon_rows (R := 2048) (n := 256) (h := 32) 480 _ _ _ y _ (by omega) (fun x h0 h1 => wide_at c t x0 x1 x2 15 480 rfl inb_S2048x256_S32x256_480_0 inb_S2048x1_S32x1_480_0 y x h0 h1) (fun hy => ?_)
  refine canon_rows (R := 2048) (n := 256) (h := 32) 448 _ _ _ y _ (by omega) (fun x h0 h1 => wide_at c t x0 x1 x2 14 448 rfl inb_S2048x256_S32x256_448_0 inb_S2048x1_S32x1_448_0 y x h0 h1) (fun hy => ?_)
  refine canon_rows (R := 2048) (n := 256) (h := 32) 416 _ _ _ y _ (by omega) (fun x h0 h1 => wide_at c t x0 x1 x2 13 416 rfl inb_S2048x256_S32x256_416_0 inb_S2048x1_S32x1_416_0 y x h0 h1) (fun hy => ?_)
  refine canon_rows (R := 2048) (n := 256) (h := 32) 384 _ _ _ y _ (by omega) (fun x h0 h1 => wide_at c t x0 x1 x2 12 384 rfl inb_S2048x256_S32x256_384_0 inb_S2048x1_S32x1_384_0 y x h0 h1) (fun hy => ?_)
  refine canon_rows (R := 2048) (n := 256) (h := 32) 352 _ _ _ y _ (by omega) (fun x h0 h1 => wide_at c t x0 x1 x2 11 352 rfl inb_S2048x256_S32x256_352_0 inb_S2048x1_S32x1_352_0 y x h0 h1) (fun hy => ?_)
  refine canon_rows (R := 2048) (n := 256) (h := 32) 320 _ _ _ y _ (by omega) (fun x h0 h1 => wide_at c t x0 x1 x2 10 320 rfl inb_S2048x256_S32x256_320_0 inb_S2048x1_S32x1_320_0 y x h0 h1) (fun hy => ?_)
  refine canon_rows (R := 2048) (n := 256) (h := 32) 288 _ _ _ y _ (by omega) (fun x h0 h1 => wide_at c t x0 x1 x2 9 288 rfl inb_S2048x256_S32x256_288_0 inb_S2048x1_S32x1_288_0 y x h0 h1) (fun hy => ?_)
  refine canon_rows (R := 2048) (n := 256) (h := 32) 256 _ _ _ y _ (by omega) (fun x h0 h1 => wide_at c t x0 x1 x2 8 256 rfl inb_S2048x256_S32x256_256_0 inb_S2048x1_S32x1_256_0 y x h0 h1) (fun hy => ?_)
  refine canon_rows (R := 2048) (n := 256) (h := 32) 224 _ _ _ y _ (by omega) (fun x h0 h1 => wide_at c t x0 x1 x2 7 224 rfl inb_S2048x256_S32x256_224_0 inb_S2048x1_S32x1_224_0 y x h0 h1) (fun hy => ?_)
  refine canon_rows (R := 2048) (n := 256) (h := 32) 192 _ _ _ y _ (by omega) (fun x h0 h1 => wide_at c t x0 x1 x2 6 192 rfl inb_S2048x256_S32x256_192_0 inb_S2048x1_S32x1_192_0 y x h0 h1) (fun hy => ?_)
  refine canon_rows (R := 2048) (n := 256) (h := 32) 160 _ _ _ y _ (by omega) (fun x h0 h1 => wide_at c t x0 x1 x2 5 160 rfl inb_S2048x256_S32x256_160_0 inb_S2048x1_S32x1_160_0 y x h0 h1) (fun hy => ?_)
  refine canon_rows (R := 2048) (n := 256) (h := 32) 128 _ _ _ y _ (by omega) (fun x h0 h1 => wide_at c t x0 x1 x2 4 128 rfl inb_S2048x256_S32x256_128_0 inb_S2048x1_S32x1_128_0 y x h0 h1) (fun hy => ?_)
  refine canon_rows (R := 2048) (n := 256) (h := 32) 96 _ _ _ y _ (by omega) (fun x h0 h1 => wide_at c t x0 x1 x2 3 96 rfl inb_S2048x256_S32x256_96_0 inb_S2048x1_S32x1_96_0 y x h0 h1) (fun hy => ?_)
  refine canon_rows (R := 2048) (n := 256) (h := 32) 64 _ _ _ y _ (by omega) (fun x h0 h1 => wide_at c t x0 x1 x2 2 64 rfl inb_S2048x256_S32x256_64_0 inb_S2048x1_S32x1_64_0 y x h0 h1) (fun hy => ?_)
  refine canon_rows (R := 2048) (n := 256) (h := 32) 32 _ _ _ y _ (by omega) (fun x h0 h1 => wide_at c t x0 x1 x2 1 32 rfl inb_S2048x256_S32x256_32_0 inb_S2048x1_S32x1_32_0 y x h0 h1) (fun hy => ?_)
  refine canon_rows (R := 2048) (n := 256) (h := 32) 0 _ _ _ y _ (by omega) (fun x h0 h1 => wide_at c t x0 x1 x2 0 0 rfl inb_S2048x256_S32x256_0_0 inb_S2048x1_S32x1_0_0 y x h0 h1) (fun hy => ?_)
  exact absurd hy (Nat.not_lt_zero _)

end Wide

end Cert.PrepIdeal.RefValue
end
-- ==== Proof.PrepArrays.lean ====
/-
  The normalising kernel: the result arrays after the run. Every point writes back its own 256 tokens, and the blocks cover
  the arrays.
-/
module

public import proofs.«01_k».proof.Proof.PrepOut
public import proofs.«01_k».proof.Proof.PrepWide
public import proofs.«01_k».proof.Proof.Gen.PrepIdeal.Value

@[expose] public section

set_option maxRecDepth 16384

noncomputable section

namespace Cert.PrepIdeal.RefValue

open Cert.PrepIdeal Cert.PrepIdeal.Gen Cert.Prep Cert.Mlp Cert.Quant Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The weights when the kernel is entered: the argument as one column. -/
theorem V_main_v0 (c : Dev nD) : V m c main_v0 = shapeCast S2048x1 (m ((c : Thread nD τ).loc main_arg2)) shapeCasts_S2048_S2048x1 := by
  show StableHlo.after hostOps0 _ (Proc.devRef .tc main_v0) = _
  after_results
  rfl

/-- The weights, by number. -/
abbrev gA (c : Dev nD) (d : Fin 2048) : EReal := m ((c : Thread nD τ).loc main_arg2) (ix1 d)

theorem in_facts : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0))

theorem iblk0 (c : Dev nD) (t : Fin cfg0.N) (e : Fin 256) (d : Fin 2048) (e' : Fin 6400) (he : e'.val = t.val * 256 + e.val) :
    iblk m c 0 t (ix2 e d) = m ((c : Thread nD τ).loc main_arg0) (ix2 e' d) := by
  show m ((c : Thread nD τ).loc main_arg0) ((win0_0.rect t).emb (ix2 e d)) = _
  refine congrArg _ (Shape.idx_ext₂ ?_ ?_)
  · exact (win0_0.rect_emb_val t _ 0).trans (by rw [(in_facts t).1.1]; exact he.symm)
  · exact win0_0.rect_emb_val_of_index_zero t 1 (in_facts t).1.2 _

theorem iblk1 (c : Dev nD) (t : Fin cfg0.N) (e : Fin 256) (d : Fin 64) (e' : Fin 6400) (he : e'.val = t.val * 256 + e.val) :
    iblk m c 1 t (ix2 e d) = m ((c : Thread nD τ).loc main_arg1) (ix2 e' d) := by
  show m ((c : Thread nD τ).loc main_arg1) ((win0_1.rect t).emb (ix2 e d)) = _
  refine congrArg _ (Shape.idx_ext₂ ?_ ?_)
  · exact (win0_1.rect_emb_val t _ 0).trans (by rw [(in_facts t).2.1.1]; exact he.symm)
  · exact win0_1.rect_emb_val_of_index_zero t 1 (in_facts t).2.1.2 _

theorem iblk2 (c : Dev nD) (t : Fin cfg0.N) : gB (iblk m c 2 t) = gA m c := by
  funext d
  have e1 : (win0_2.rect t).emb (ix2 d 0) = ix2 d 0 := Shape.idx_ext₂
    (win0_2.rect_emb_val_of_index_zero t 0 (in_facts t).2.2.1 _) (win0_2.rect_emb_val_of_index_zero t 1 (in_facts t).2.2.2 _)
  show V m c main_v0 ((win0_2.rect t).emb (ix2 d 0)) = _
  rw [e1, V_main_v0]
  refine shapeCast_apply _ _ _ _ ?_
  rfl

/-! ## A point's values are those of its tokens -/

theorem rowN (c : Dev nD) (t : Fin cfg0.N) (e : Fin 256) (d : Fin 2048) (e' : Fin 6400) (he : e'.val = t.val * 256 + e.val) :
    nV (iblk m c 0 t) (iblk m c 1 t) (gB (iblk m c 2 t)) e d = nV (m ((c : Thread nD τ).loc main_arg0)) (m ((c : Thread nD τ).loc main_arg1)) (gA m c) e' d :=
  nV_eq _ _ _ _ e e' (fun d => iblk0 m c t e d e' he) (fun d => iblk1 m c t e d e' he) _ _ (iblk2 m c t) d

theorem rowR (c : Dev nD) (t : Fin cfg0.N) (e : Fin 256) (e' : Fin 6400) (he : e'.val = t.val * 256 + e.val) :
    rV (iblk m c 0 t) (iblk m c 1 t) e = rV (m ((c : Thread nD τ).loc main_arg0)) (m ((c : Thread nD τ).loc main_arg1)) e' :=
  rV_eq _ _ _ _ e e' (fun d => iblk0 m c t e d e' he) (fun d => iblk1 m c t e d e' he)

/-! ## Window 3: the codes -/

theorem facts3 : ∀ t : Fin cfg0.N, win0_3.index t 0 = t.val ∧ win0_3.index t 1 = 0 ∧ win0_3.index t 0 * win0_3.size 0 = t.val * 256 ∧ win0_3.xsize (grid0.coords t) 0 = 256
    ∧ win0_3.index t 1 * win0_3.size 1 = 0 ∧ win0_3.xsize (grid0.coords t) 1 = 2048 ∧ win0_3.flush t = true :=
  (by decide +kernel : ∀ t : Fin grid0.N, win0_3.index t 0 = t.val ∧ win0_3.index t 1 = 0 ∧ win0_3.index t 0 * win0_3.size 0 = t.val * 256 ∧ win0_3.xsize (grid0.coords t) 0 = 256
    ∧ win0_3.index t 1 * win0_3.size 1 = 0 ∧ win0_3.xsize (grid0.coords t) 1 = 2048 ∧ win0_3.flush t = true)

/-- The whole array. -/
abbrev val3 (c : Dev nD) : Buf (Elt Ideal) ((c : Thread nD τ).loc main_v1_0) :=
  codes (T := 6400) (K := 2048) (G := 64) rfl 0x3B124925#32 0xC3E00000#32 0x43E00000#32 (nV (m ((c : Thread nD τ).loc main_arg0)) (m ((c : Thread nD τ).loc main_arg1)) (gA m c))

/-- A point writes back its block of the whole array. -/
theorem flushed3 (c : Dev nD) (t : Fin cfg0.N) :
    (dats m 0 c).flushed 3 t = (win0_3.blk t).view.read (Elt Ideal) (val3 m c) := by
  rw [Value.flushed3_A m c t, out3 c t (iblk m c 0 t) (iblk m c 1 t) (iblk m c 2 t)]
  funext j
  rw [View.read_apply]
  have h0 : ((win0_3.rect t).emb j 0).val = t.val * 256 + (j 0).val :=
    (win0_3.rect_emb_val t j 0).trans (by rw [(facts3 t).1]; rfl)
  have h1 : ((win0_3.rect t).emb j 1).val = 0 * 2048 + (j 1).val :=
    (win0_3.rect_emb_val t j 1).trans (by rw [(facts3 t).2.1]; rfl)
  exact codes_eq (T := 256) (K := 2048) (G := 64) (T' := 6400) (K' := 2048) (G' := 64) rfl rfl 0x3B124925#32 0xC3E00000#32 0x43E00000#32 (nV (iblk m c 0 t) (iblk m c 1 t) (gB (iblk m c 2 t))) (nV (m ((c : Thread nD τ).loc main_arg0)) (m ((c : Thread nD τ).loc main_arg1)) (gA m c)) (a := t.val * 256) (b := 0) (h := fun e d e' d' he hd => (rowN m c t e d e' he).trans (congrArg (nV (m ((c : Thread nD τ).loc main_arg0)) (m ((c : Thread nD τ).loc main_arg1)) (gA m c) e') (Fin.ext (by omega : d.val = d'.val)))) j ((win0_3.rect t).emb j) h0 (by omega)

/-- The blocks cover the array. -/
theorem cover3 (i : S6400x2048.Idx) : ∃ t : Fin cfg0.N, (cfg0.win 3).flush t = true ∧ i ∈ ((cfg0.win 3).blk t).view.set := by
  have h0 : (i 0 : Nat) < 6400 := (i 0).isLt
  have h1 : (i 1 : Nat) < 2048 := (i 1).isLt
  obtain ⟨n, hn⟩ : ∃ n, n = (i 0 : Nat) / 256 := ⟨_, rfl⟩
  have hlt : n < 25 := by omega
  have ht : n < cfg0.N := lt_of_lt_of_eq hlt N_0.symm
  have e := facts3 ⟨n, ht⟩
  refine ⟨⟨n, ht⟩, e.2.2.2.2.2.2, ?_⟩
  show i ∈ ((View.whole main_v1_0).slice (win0_3.rect ⟨n, ht⟩)).set
  rw [View.set_slice_whole, Rect.mem_set_unit]
  intro a
  match a with
  | ⟨0, _⟩ => show win0_3.index _ 0 * win0_3.size 0 ≤ (i 0 : Nat) ∧ (i 0 : Nat) < win0_3.index _ 0 * win0_3.size 0 + win0_3.xsize (grid0.coords _) 0
              rw [e.2.2.1, e.2.2.2.1]; show n * 256 ≤ _ ∧ _ < n * 256 + 256; omega
  | ⟨1, _⟩ => show win0_3.index _ 1 * win0_3.size 1 ≤ (i 1 : Nat) ∧ (i 1 : Nat) < win0_3.index _ 1 * win0_3.size 1 + win0_3.xsize (grid0.coords _) 1
              rw [e.2.2.2.2.1, e.2.2.2.2.2.1]; show 0 ≤ _ ∧ _ < 0 + 2048; omega

theorem final3 (c : Dev nD) : (dats m 0 c).arrAt 3 cfg0.N = val3 m c :=
  (dats m 0 c).arrAt_eq_of_cover 3 (val3 m c) (fun t _ => flushed3 m c t) cover3

/-! ## Window 4: the scales -/

theorem facts4 : ∀ t : Fin cfg0.N, win0_4.index t 0 = t.val ∧ win0_4.index t 1 = 0 ∧ win0_4.index t 0 * win0_4.size 0 = t.val * 256 ∧ win0_4.xsize (grid0.coords t) 0 = 256
    ∧ win0_4.index t 1 * win0_4.size 1 = 0 ∧ win0_4.xsize (grid0.coords t) 1 = 64 ∧ win0_4.flush t = true :=
  (by decide +kernel : ∀ t : Fin grid0.N, win0_4.index t 0 = t.val ∧ win0_4.index t 1 = 0 ∧ win0_4.index t 0 * win0_4.size 0 = t.val * 256 ∧ win0_4.xsize (grid0.coords t) 0 = 256
    ∧ win0_4.index t 1 * win0_4.size 1 = 0 ∧ win0_4.xsize (grid0.coords t) 1 = 64 ∧ win0_4.flush t = true)

/-- The whole array. -/
abbrev val4 (c : Dev nD) : Buf (Elt Ideal) ((c : Thread nD τ).loc main_v1_1) :=
  scalesT (T := 6400) (K := 2048) (G := 64) rfl 0x3B124925#32 (nV (m ((c : Thread nD τ).loc main_arg0)) (m ((c : Thread nD τ).loc main_arg1)) (gA m c))

/-- A point writes back its block of the whole array. -/
theorem flushed4 (c : Dev nD) (t : Fin cfg0.N) :
    (dats m 0 c).flushed 4 t = (win0_4.blk t).view.read (Elt Ideal) (val4 m c) := by
  rw [Value.flushed4_A m c t, out4 c t (iblk m c 0 t) (iblk m c 1 t) (iblk m c 2 t)]
  funext j
  rw [View.read_apply]
  have h0 : ((win0_4.rect t).emb j 0).val = t.val * 256 + (j 0).val :=
    (win0_4.rect_emb_val t j 0).trans (by rw [(facts4 t).1]; rfl)
  have h1 : ((win0_4.rect t).emb j 1).val = 0 * 64 + (j 1).val :=
    (win0_4.rect_emb_val t j 1).trans (by rw [(facts4 t).2.1]; rfl)
  exact congrArg (gscale _) (group_eq (T := 256) (K := 2048) (G := 64) (T' := 6400) (K' := 2048) (G' := 64) rfl rfl (nV (iblk m c 0 t) (iblk m c 1 t) (gB (iblk m c 2 t))) (nV (m ((c : Thread nD τ).loc main_arg0)) (m ((c : Thread nD τ).loc main_arg1)) (gA m c)) (a := t.val * 256) (b := 0) (h := fun e d e' d' he hd => (rowN m c t e d e' he).trans (congrArg (nV (m ((c : Thread nD τ).loc main_arg0)) (m ((c : Thread nD τ).loc main_arg1)) (gA m c) e') (Fin.ext (by omega : d.val = d'.val)))) (j 0) (j 1) ((win0_4.rect t).emb j 0) ((win0_4.rect t).emb j 1) h0 (by omega))

/-- The blocks cover the array. -/
theorem cover4 (i : S6400x64.Idx) : ∃ t : Fin cfg0.N, (cfg0.win 4).flush t = true ∧ i ∈ ((cfg0.win 4).blk t).view.set := by
  have h0 : (i 0 : Nat) < 6400 := (i 0).isLt
  have h1 : (i 1 : Nat) < 64 := (i 1).isLt
  obtain ⟨n, hn⟩ : ∃ n, n = (i 0 : Nat) / 256 := ⟨_, rfl⟩
  have hlt : n < 25 := by omega
  have ht : n < cfg0.N := lt_of_lt_of_eq hlt N_0.symm
  have e := facts4 ⟨n, ht⟩
  refine ⟨⟨n, ht⟩, e.2.2.2.2.2.2, ?_⟩
  show i ∈ ((View.whole main_v1_1).slice (win0_4.rect ⟨n, ht⟩)).set
  rw [View.set_slice_whole, Rect.mem_set_unit]
  intro a
  match a with
  | ⟨0, _⟩ => show win0_4.index _ 0 * win0_4.size 0 ≤ (i 0 : Nat) ∧ (i 0 : Nat) < win0_4.index _ 0 * win0_4.size 0 + win0_4.xsize (grid0.coords _) 0
              rw [e.2.2.1, e.2.2.2.1]; show n * 256 ≤ _ ∧ _ < n * 256 + 256; omega
  | ⟨1, _⟩ => show win0_4.index _ 1 * win0_4.size 1 ≤ (i 1 : Nat) ∧ (i 1 : Nat) < win0_4.index _ 1 * win0_4.size 1 + win0_4.xsize (grid0.coords _) 1
              rw [e.2.2.2.2.1, e.2.2.2.2.2.1]; show 0 ≤ _ ∧ _ < 0 + 64; omega

theorem final4 (c : Dev nD) : (dats m 0 c).arrAt 4 cfg0.N = val4 m c :=
  (dats m 0 c).arrAt_eq_of_cover 4 (val4 m c) (fun t _ => flushed4 m c t) cover4

/-! ## Window 5: the codes times their scales -/

theorem facts5 : ∀ t : Fin cfg0.N, win0_5.index t 0 = 0 ∧ win0_5.index t 1 = t.val ∧ win0_5.index t 0 * win0_5.size 0 = 0 ∧ win0_5.xsize (grid0.coords t) 0 = 2048
    ∧ win0_5.index t 1 * win0_5.size 1 = t.val * 256 ∧ win0_5.xsize (grid0.coords t) 1 = 256 ∧ win0_5.flush t = true :=
  (by decide +kernel : ∀ t : Fin grid0.N, win0_5.index t 0 = 0 ∧ win0_5.index t 1 = t.val ∧ win0_5.index t 0 * win0_5.size 0 = 0 ∧ win0_5.xsize (grid0.coords t) 0 = 2048
    ∧ win0_5.index t 1 * win0_5.size 1 = t.val * 256 ∧ win0_5.xsize (grid0.coords t) 1 = 256 ∧ win0_5.flush t = true)

/-- The whole array. -/
abbrev val5 (c : Dev nD) : Buf (Elt Ideal) ((c : Thread nD τ).loc main_v1_2) :=
  wide (T := 6400) (K := 2048) (G := 64) rfl 0x3B124925#32 0xC3E00000#32 0x43E00000#32 (nV (m ((c : Thread nD τ).loc main_arg0)) (m ((c : Thread nD τ).loc main_arg1)) (gA m c))

/-- A point writes back its block of the whole array. -/
theorem flushed5 (c : Dev nD) (t : Fin cfg0.N) :
    (dats m 0 c).flushed 5 t = (win0_5.blk t).view.read (Elt Ideal) (val5 m c) := by
  rw [Value.flushed5_A m c t, out5 c t (iblk m c 0 t) (iblk m c 1 t) (iblk m c 2 t)]
  funext j
  rw [View.read_apply]
  have h0 : ((win0_5.rect t).emb j 0).val = 0 * 2048 + (j 0).val :=
    (win0_5.rect_emb_val t j 0).trans (by rw [(facts5 t).1]; rfl)
  have h1 : ((win0_5.rect t).emb j 1).val = t.val * 256 + (j 1).val :=
    (win0_5.rect_emb_val t j 1).trans (by rw [(facts5 t).2.1]; rfl)
  exact wide_eq (T := 256) (K := 2048) (G := 64) (T' := 6400) (K' := 2048) (G' := 64) rfl rfl 0x3B124925#32 0xC3E00000#32 0x43E00000#32 (nV (iblk m c 0 t) (iblk m c 1 t) (gB (iblk m c 2 t))) (nV (m ((c : Thread nD τ).loc main_arg0)) (m ((c : Thread nD τ).loc main_arg1)) (gA m c)) (a := t.val * 256) (b := 0) (h := fun e d e' d' he hd => (rowN m c t e d e' he).trans (congrArg (nV (m ((c : Thread nD τ).loc main_arg0)) (m ((c : Thread nD τ).loc main_arg1)) (gA m c) e') (Fin.ext (by omega : d.val = d'.val)))) j ((win0_5.rect t).emb j) (by omega) h1

/-- The blocks cover the array. -/
theorem cover5 (i : S2048x6400.Idx) : ∃ t : Fin cfg0.N, (cfg0.win 5).flush t = true ∧ i ∈ ((cfg0.win 5).blk t).view.set := by
  have h0 : (i 0 : Nat) < 2048 := (i 0).isLt
  have h1 : (i 1 : Nat) < 6400 := (i 1).isLt
  obtain ⟨n, hn⟩ : ∃ n, n = (i 1 : Nat) / 256 := ⟨_, rfl⟩
  have hlt : n < 25 := by omega
  have ht : n < cfg0.N := lt_of_lt_of_eq hlt N_0.symm
  have e := facts5 ⟨n, ht⟩
  refine ⟨⟨n, ht⟩, e.2.2.2.2.2.2, ?_⟩
  show i ∈ ((View.whole main_v1_2).slice (win0_5.rect ⟨n, ht⟩)).set
  rw [View.set_slice_whole, Rect.mem_set_unit]
  intro a
  match a with
  | ⟨0, _⟩ => show win0_5.index _ 0 * win0_5.size 0 ≤ (i 0 : Nat) ∧ (i 0 : Nat) < win0_5.index _ 0 * win0_5.size 0 + win0_5.xsize (grid0.coords _) 0
              rw [e.2.2.1, e.2.2.2.1]; show 0 ≤ _ ∧ _ < 0 + 2048; omega
  | ⟨1, _⟩ => show win0_5.index _ 1 * win0_5.size 1 ≤ (i 1 : Nat) ∧ (i 1 : Nat) < win0_5.index _ 1 * win0_5.size 1 + win0_5.xsize (grid0.coords _) 1
              rw [e.2.2.2.2.1, e.2.2.2.2.2.1]; show n * 256 ≤ _ ∧ _ < n * 256 + 256; omega

theorem final5 (c : Dev nD) : (dats m 0 c).arrAt 5 cfg0.N = val5 m c :=
  (dats m 0 c).arrAt_eq_of_cover 5 (val5 m c) (fun t _ => flushed5 m c t) cover5

/-! ## Window 6: the reciprocal root mean squares -/

theorem facts6 : ∀ t : Fin cfg0.N, win0_6.index t 0 = 0 ∧ win0_6.index t 1 = t.val ∧ win0_6.index t 0 * win0_6.size 0 = 0 ∧ win0_6.xsize (grid0.coords t) 0 = 1
    ∧ win0_6.index t 1 * win0_6.size 1 = t.val * 256 ∧ win0_6.xsize (grid0.coords t) 1 = 256 ∧ win0_6.flush t = true :=
  (by decide +kernel : ∀ t : Fin grid0.N, win0_6.index t 0 = 0 ∧ win0_6.index t 1 = t.val ∧ win0_6.index t 0 * win0_6.size 0 = 0 ∧ win0_6.xsize (grid0.coords t) 0 = 1
    ∧ win0_6.index t 1 * win0_6.size 1 = t.val * 256 ∧ win0_6.xsize (grid0.coords t) 1 = 256 ∧ win0_6.flush t = true)

/-- The whole array. -/
abbrev val6 (c : Dev nD) : Buf (Elt Ideal) ((c : Thread nD τ).loc main_v1_3) :=
  fun y => rV (m ((c : Thread nD τ).loc main_arg0)) (m ((c : Thread nD τ).loc main_arg1)) (y 1)

/-- A point writes back its block of the whole array. -/
theorem flushed6 (c : Dev nD) (t : Fin cfg0.N) :
    (dats m 0 c).flushed 6 t = (win0_6.blk t).view.read (Elt Ideal) (val6 m c) := by
  rw [Value.flushed6_A m c t, out6 c t (iblk m c 0 t) (iblk m c 1 t) (iblk m c 2 t)]
  funext j
  rw [View.read_apply]
  have h0 : ((win0_6.rect t).emb j 0).val = 0 * 1 + (j 0).val :=
    (win0_6.rect_emb_val t j 0).trans (by rw [(facts6 t).1]; rfl)
  have h1 : ((win0_6.rect t).emb j 1).val = t.val * 256 + (j 1).val :=
    (win0_6.rect_emb_val t j 1).trans (by rw [(facts6 t).2.1]; rfl)
  exact rowR m c t (j 1) ((win0_6.rect t).emb j 1) h1

/-- The blocks cover the array. -/
theorem cover6 (i : S1x6400.Idx) : ∃ t : Fin cfg0.N, (cfg0.win 6).flush t = true ∧ i ∈ ((cfg0.win 6).blk t).view.set := by
  have h0 : (i 0 : Nat) < 1 := (i 0).isLt
  have h1 : (i 1 : Nat) < 6400 := (i 1).isLt
  obtain ⟨n, hn⟩ : ∃ n, n = (i 1 : Nat) / 256 := ⟨_, rfl⟩
  have hlt : n < 25 := by omega
  have ht : n < cfg0.N := lt_of_lt_of_eq hlt N_0.symm
  have e := facts6 ⟨n, ht⟩
  refine ⟨⟨n, ht⟩, e.2.2.2.2.2.2, ?_⟩
  show i ∈ ((View.whole main_v1_3).slice (win0_6.rect ⟨n, ht⟩)).set
  rw [View.set_slice_whole, Rect.mem_set_unit]
  intro a
  match a with
  | ⟨0, _⟩ => show win0_6.index _ 0 * win0_6.size 0 ≤ (i 0 : Nat) ∧ (i 0 : Nat) < win0_6.index _ 0 * win0_6.size 0 + win0_6.xsize (grid0.coords _) 0
              rw [e.2.2.1, e.2.2.2.1]; show 0 ≤ _ ∧ _ < 0 + 1; omega
  | ⟨1, _⟩ => show win0_6.index _ 1 * win0_6.size 1 ≤ (i 1 : Nat) ∧ (i 1 : Nat) < win0_6.index _ 1 * win0_6.size 1 + win0_6.xsize (grid0.coords _) 1
              rw [e.2.2.2.2.1, e.2.2.2.2.2.1]; show n * 256 ≤ _ ∧ _ < n * 256 + 256; omega

theorem final6 (c : Dev nD) : (dats m 0 c).arrAt 6 cfg0.N = val6 m c :=
  (dats m 0 c).arrAt_eq_of_cover 6 (val6 m c) (fun t _ => flushed6 m c t) cover6

end Cert.PrepIdeal.RefValue
end
-- ==== Proof.PrepRefValues.lean ====
/-
  The normalising call's reference on whole arrays: its rows are those of the specification, and so are their codes, scales and
  widened codes.
-/
module

public import proofs.«01_k».proof.Proof.MlpGroups
public import proofs.«01_k».proof.Proof.PrepSpec
public import Idealize.ShloMosaic.Lib.ValueLayoutCasts
public import proofs.«01_k».proof.Proof.Gen.RefPrepIdeal.Value

@[expose] public section

set_option maxRecDepth 16384

noncomputable section

namespace Cert.RefPrepIdeal.RefValue

open Cert.RefPrepIdeal Cert.RefPrepIdeal.Gen Cert.Prep Cert.Mlp Cert.Quant Idealize.ShloMosaic Idealize.ShloMosaic.TcCoe Idealize.SL.Sem Idealize.ShloMosaic.ValueIdx
open scoped BigOperators

variable (a : Vec Ideal S6400x2048 .fp8e4m3) (s : Vec Ideal S6400x64 .f32) (w : Vec Ideal S1x2048 .f32)

/-- The weights, by number. -/
abbrev gW (d : Fin 2048) : EReal := w (ix2 0 d)

/-! ## The normalised rows -/

theorem x_at (t : Fin 6400) (d : Fin 2048) : k0_pay5 a s (ix2 t d) = xV a s t d := by
  unfold k0_pay5
  refine (join3 (T := 6400) (G := 64) (K := 2048) rfl _ shapeCasts_S6400x64x32_S6400x2048 t d).trans ?_
  refine (congrArg₂ (fun x y : EReal => x * y) (split3 (T := 6400) (G := 64) (K := 2048) rfl _ shapeCasts_S6400x2048_S6400x64x32 t _ _)
    ((bcast3 (T := 6400) (G := 64) _ broadcasts_S6400x64x1_S6400x64x32 t _ _).trans (cast3 (T := 6400) (G := 64) _ shapeCasts_S6400x64_S6400x64x1 t _))).trans ?_
  refine congrArg (fun e => a (ix2 t e) * s (ix2 t ⟨d.val / 32, by omega⟩)) (Fin.ext ?_)
  show 32 * (d.val / 32) + d.val % 32 = d.val
  omega

theorem c2048 : Ideal.ofBits .f32 0x45000000#32 = ((2048 : ℝ) : EReal) := by
  simp [Ideal.ofBits, Ideal.ieee]
  rw [← EReal.coe_mul]; congr 1; norm_num

theorem c2048inv : Ideal.ofBits .f32 0x3A000000#32 = ((1 / 2048 : ℝ) : EReal) := by
  simp [Ideal.ofBits, Ideal.ieee]
  rw [← EReal.coe_mul]; congr 1; norm_num

/-- Dividing by the number of features is multiplying by its reciprocal. -/
theorem div2048 (z : EReal) : Ideal.div z (Ideal.ofBits .f32 0x45000000#32) = z * Ideal.ofBits .f32 0x3A000000#32 := by
  rw [c2048, c2048inv]
  unfold Ideal.div
  rw [if_neg (by exact_mod_cast (by norm_num : (2048 : ℝ) ≠ 0)), ← EReal.coe_inv]
  congr 2
  norm_num

theorem sum_at (x : FVec Ideal ⟨2, ![6400, 2048]⟩ .f32) (hr : Shape.Reduces ⟨2, ![6400, 2048]⟩ [1] ⟨1, ![6400]⟩) (hφ hacc) (t : Fin 6400) :
    multiReduction .add [1] ⟨1, ![6400]⟩ x 0x00000000#32 hr hφ hacc (ix1 t) = ∑ d : Fin 2048, x (ix2 t d) := by
  rw [Ideal.multiReduction_add_single]
  refine Finset.sum_congr rfl fun k _ => congrArg x ?_
  exact funext fun a => by fin_cases a <;> exact Fin.ext rfl

theorem r_at (t : Fin 6400) : k0_pay6 a s (ix2 t 0) = rV a s t := by
  unfold k0_pay6
  dsimp only
  refine congrArg (fun z : EReal => Ideal.rsqrt (z + Ideal.ofBits .f32 0x358637BD#32)) ?_
  refine (div2048 _).trans (congrArg (· * Ideal.ofBits .f32 0x3A000000#32) ?_)
  refine (shapeCast_a_a1_apply _ shapeCasts_S6400_S6400x1 t 0).trans ((sum_at _ reduces_S6400x2048_S6400 (.inl rfl) rfl t).trans ?_)
  refine Finset.sum_congr rfl fun d _ => ?_
  show k0_pay5 a s (ix2 t d) * k0_pay5 a s (ix2 t d) = _
  rw [x_at]

/-- The rows before they are put in groups. -/
def nW : FVec Ideal S6400x2048 .f32 :=
  mulf (mulf (k0_pay5 a s) (broadcastTo S6400x2048 (k0_pay6 a s) broadcasts_S6400x1_S6400x2048))
    (broadcastTo S6400x2048 (shapeCast S1x2048 w shapeCasts_S1x2048_S1x2048) broadcasts_S1x2048_S6400x2048)

theorem n_at (t : Fin 6400) (d : Fin 2048) : nW a s w (ix2 t d) = nV a s (gW w) t d := by
  refine congrArg₂ (fun x y : EReal => x * y) (congrArg₂ (fun x y : EReal => x * y) (x_at a s t d) ?_) ?_
  · refine (broadcastTo_apply (k0_pay6 a s) broadcasts_S6400x1_S6400x2048 (ix2 t d) (ix2 t 0) (fun a => by fin_cases a <;> rfl)).trans (r_at a s t)
  · refine (broadcastTo_1b_ab_apply (b := 2048) (a := 6400) _ broadcasts_S1x2048_S6400x2048 t d).trans ?_
    exact shapeCast_apply _ _ _ _ rfl

theorem rows_eq : k0_pay7 a s w = shapeCast S6400x64x32 (nW a s w) shapeCasts_S6400x2048_S6400x64x32 := rfl

/-! ## Their groups, quantised -/

theorem n_max : k0_pay8 a s w = fun j => gmax (fun k => k0_pay7 a s w (ix3 (j 0) (j 1) k)) * Ideal.ofBits .f32 0x3B124925#32 :=
  rowMaxV (T := 6400) (G := 64) (k0_pay7 a s w) 0x3B124925#32 reduces_S6400x64x32_S6400x64 (.inl rfl) rfl

theorem n_exp : k0_pay9 a s w = fun j => expR (k0_pay8 a s w j) :=
  exponentV (T := 6400) (G := 64) (k0_pay8 a s w)

theorem n_scale : k0_pay10 a s w = fun j => gscale 0x3B124925#32 (fun k => k0_pay7 a s w (ix3 (j 0) (j 1) k)) :=
  refScaleV (T := 6400) (G := 64) (k0_pay7 a s w) 0x3B124925#32 (k0_pay8 a s w) (n_max a s w) (k0_pay9 a s w) (n_exp a s w)

theorem n_code : k0_pay1 (k0_pay7 a s w) (k0_pay8 a s w) (k0_pay9 a s w)
    = fun j => gcode 0x3B124925#32 0xC3E00000#32 0x43E00000#32 (fun k => k0_pay7 a s w (ix3 (j 0) (j 1) k)) (j 2) :=
  refCodeV (T := 6400) (G := 64) (k0_pay7 a s w) 0x3B124925#32 (k0_pay8 a s w) (n_max a s w) (k0_pay9 a s w) (n_exp a s w) 0xC3E00000#32 0x43E00000#32
    shapeCasts_S6400x64_S6400x64x1 broadcasts_S6400x64x1_S6400x64x32

theorem n_codes : k0_pay2 (k0_pay7 a s w) (k0_pay8 a s w) (k0_pay9 a s w)
    = codes (T := 6400) (K := 2048) (G := 64) rfl 0x3B124925#32 0xC3E00000#32 0x43E00000#32 (nV a s (gW w)) :=
  codes_of (T := 6400) (K := 2048) (G := 64) rfl 0x3B124925#32 0xC3E00000#32 0x43E00000#32 (nV a s (gW w)) (nW a s w) (n_at a s w) _ shapeCasts_S6400x2048_S6400x64x32
    (rows_eq a s w) (k0_pay1 (k0_pay7 a s w) (k0_pay8 a s w) (k0_pay9 a s w)) (n_code a s w) shapeCasts_S6400x64x32_S6400x2048

theorem n_scales : k0_pay10 a s w = scalesT (T := 6400) (K := 2048) (G := 64) rfl 0x3B124925#32 (nV a s (gW w)) :=
  (n_scale a s w).trans (funext fun j => congrArg (gscale 0x3B124925#32)
    (split_eq (T := 6400) (K := 2048) (G := 64) rfl (nV a s (gW w)) (nW a s w) (n_at a s w) _ shapeCasts_S6400x2048_S6400x64x32 (rows_eq a s w) (j 0) (j 1)))

theorem n_widened : mulf (extf .bf16 (k0_pay1 (k0_pay7 a s w) (k0_pay8 a s w) (k0_pay9 a s w)) bitsLt_fp8e4m3_bf16)
      (broadcastTo S6400x64x32 (shapeCast S6400x64x1 (truncf .bf16 (k0_pay10 a s w) bitsLt_bf16_f32) shapeCasts_S6400x64_S6400x64x1) broadcasts_S6400x64x1_S6400x64x32)
    = fun j => gwide 0x3B124925#32 0xC3E00000#32 0x43E00000#32 (fun k => k0_pay7 a s w (ix3 (j 0) (j 1) k)) (j 2) :=
  widened (T := 6400) (G := 64) 0x3B124925#32 0xC3E00000#32 0x43E00000#32 (k0_pay7 a s w) (k0_pay1 (k0_pay7 a s w) (k0_pay8 a s w) (k0_pay9 a s w)) (k0_pay10 a s w)
    bitsLt_fp8e4m3_bf16 bitsLt_bf16_f32 shapeCasts_S6400x64_S6400x64x1 broadcasts_S6400x64x1_S6400x64x32 (n_code a s w) (n_scale a s w)

theorem n_wide : k0_pay3 (k0_pay7 a s w) (k0_pay8 a s w) (k0_pay9 a s w) (k0_pay10 a s w)
    = wide (T := 6400) (K := 2048) (G := 64) rfl 0x3B124925#32 0xC3E00000#32 0x43E00000#32 (nV a s (gW w)) :=
  wide_of (T := 6400) (K := 2048) (G := 64) rfl 0x3B124925#32 0xC3E00000#32 0x43E00000#32 (nV a s (gW w)) (nW a s w) (n_at a s w) _ shapeCasts_S6400x2048_S6400x64x32
    (rows_eq a s w)
    (mulf (extf .bf16 (k0_pay1 (k0_pay7 a s w) (k0_pay8 a s w) (k0_pay9 a s w)) bitsLt_fp8e4m3_bf16)
      (broadcastTo S6400x64x32 (shapeCast S6400x64x1 (truncf .bf16 (k0_pay10 a s w) bitsLt_bf16_f32) shapeCasts_S6400x64_S6400x64x1) broadcasts_S6400x64x1_S6400x64x32))
    (n_widened a s w) shapeCasts_S6400x64x32_S6400x2048 transposes_S6400x2048_p1_0_S2048x6400

theorem n_roots : k0_pay4 (k0_pay6 a s) = fun y => rV a s (y 1) := by
  funext y
  obtain ⟨e, t, rfl⟩ : ∃ (e : Fin 1) (t : Fin 6400), y = ix2 e t := ⟨y 0, y 1, eq_ix2 y⟩
  obtain rfl : e = 0 := Subsingleton.elim _ _
  exact (transpose_ix2_apply (a := 6400) (b := 1) _ transposes_S6400x1_p1_0_S1x6400 0 t).trans (r_at a s t)

end Cert.RefPrepIdeal.RefValue
end
-- ==== Proof.PrepRef.lean ====
/-
  The normalising call's reference: what its four result arrays hold after the run.
-/
module

public import proofs.«01_k».proof.Proof.PrepRefValues
public import Idealize.ShloMosaic.Lib.Pipeline.ValueKit.Tiles

@[expose] public section

set_option maxRecDepth 16384

noncomputable section

namespace Cert.RefPrepIdeal.RefValue

open Cert.RefPrepIdeal Cert.RefPrepIdeal.Gen Cert.Prep Cert.Mlp Cert.Quant Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

variable (m : (ℓ : Loc nD τ sig) → Buf (Elt Ideal) ℓ)

theorem row_at (x : (⟨1, ![2048]⟩ : Shape).Idx → EReal) (hc) (d : Fin 2048) : shapeCast ⟨2, ![1, 2048]⟩ x hc (ix2 0 d) = x (ix1 d) := by
  rw [shapeCast_a_1a_apply]

/-- The weights when the reference is entered: the argument as one row. -/
theorem V_main_v0 (c : Dev nD) : V m c main_v0 = shapeCast S1x2048 (m ((c : Thread nD τ).loc main_arg2)) shapeCasts_S2048_S1x2048 := by
  show StableHlo.after hostOps0 _ (Proc.devRef .tc main_v0) = _
  after_results
  rfl

/-- The weights, by number. -/
abbrev gA (c : Dev nD) (d : Fin 2048) : EReal := m ((c : Thread nD τ).loc main_arg2) (ix1 d)

/-- Every window is its whole array. -/
theorem idx_facts : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0) :=
  (by decide +kernel : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0))

theorem iblk0 (c : Dev nD) (t : Fin cfg0.N) : iblk m c 0 t = m ((c : Thread nD τ).loc main_arg0) := funext fun y =>
  congrArg (m ((c : Thread nD τ).loc main_arg0)) (a₁ := (win0_0.rect t).emb y) (Shape.idx_ext₂
    (win0_0.rect_emb_val_of_index_zero t 0 (idx_facts t).1.1 _) (win0_0.rect_emb_val_of_index_zero t 1 (idx_facts t).1.2 _))

theorem iblk1 (c : Dev nD) (t : Fin cfg0.N) : iblk m c 1 t = m ((c : Thread nD τ).loc main_arg1) := funext fun y =>
  congrArg (m ((c : Thread nD τ).loc main_arg1)) (a₁ := (win0_1.rect t).emb y) (Shape.idx_ext₂
    (win0_1.rect_emb_val_of_index_zero t 0 (idx_facts t).2.1.1 _) (win0_1.rect_emb_val_of_index_zero t 1 (idx_facts t).2.1.2 _))

theorem iblk2 (c : Dev nD) (t : Fin cfg0.N) : gW (iblk m c 2 t) = gA m c := by
  funext d
  have e1 : (win0_2.rect t).emb (ix2 0 d) = ix2 0 d := Shape.idx_ext₂
    (win0_2.rect_emb_val_of_index_zero t 0 (idx_facts t).2.2.1.1 _) (win0_2.rect_emb_val_of_index_zero t 1 (idx_facts t).2.2.1.2 _)
  show V m c main_v0 ((win0_2.rect t).emb (ix2 0 d)) = _
  rw [e1, V_main_v0]
  exact row_at (m ((c : Thread nD τ).loc main_arg2)) shapeCasts_S2048_S1x2048 d

/-! ## Window 3: the codes -/

theorem out3 (x0 : Vec Ideal S6400x2048 .fp8e4m3) (x1 : Vec Ideal S6400x64 .f32) (x2 : Vec Ideal S1x2048 .f32) :
    out0_3 x0 x1 x2 = codes (T := 6400) (K := 2048) (G := 64) rfl 0x3B124925#32 0xC3E00000#32 0x43E00000#32 (nV x0 x1 (gW x2)) := by
  unfold out0_3 k0_pay13 k0_pay12 k0_pay11
  rw [View.canon_unit_zero hz2]
  simp only [View.ld_unit_zero (S := S6400x2048) hz2, View.ld_unit_zero (S := S6400x64) hz2, View.ld_unit_zero (S := S1x2048) hz2]
  exact n_codes x0 x1 x2

/-- The whole array. -/
abbrev val3 (c : Dev nD) : Buf (Elt Ideal) ((c : Thread nD τ).loc main_v1_0) :=
  codes (T := 6400) (K := 2048) (G := 64) rfl 0x3B124925#32 0xC3E00000#32 0x43E00000#32 (nV (m ((c : Thread nD τ).loc main_arg0)) (m ((c : Thread nD τ).loc main_arg1)) (gA m c))

theorem flushed3 (c : Dev nD) (t : Fin cfg0.N) :
    (dats m 0 c).flushed 3 t = (win0_3.blk t).view.read (Elt Ideal) (val3 m c) := by
  rw [Value.flushed3, out3, iblk0, iblk1, iblk2]
  funext j
  rw [View.read_apply]
  exact congrArg (val3 m c) (a₂ := (win0_3.rect t).emb j) (Shape.idx_ext₂
    (win0_3.rect_emb_val_of_index_zero t 0 (idx_facts t).2.2.2.1.1 _).symm (win0_3.rect_emb_val_of_index_zero t 1 (idx_facts t).2.2.2.1.2 _).symm)

theorem rect3 : ∀ t : Fin cfg0.N, win0_3.index t 0 * win0_3.size 0 = 0 ∧ win0_3.xsize (grid0.coords t) 0 = 6400 ∧ win0_3.index t 1 * win0_3.size 1 = 0 ∧ win0_3.xsize (grid0.coords t) 1 = 2048 :=
  (by decide +kernel : ∀ t : Fin grid0.N, win0_3.index t 0 * win0_3.size 0 = 0 ∧ win0_3.xsize (grid0.coords t) 0 = 6400 ∧ win0_3.index t 1 * win0_3.size 1 = 0 ∧ win0_3.xsize (grid0.coords t) 1 = 2048)

theorem cover3 (i : S6400x2048.Idx) : ∃ t : Fin cfg0.N, (cfg0.win 3).flush t = true ∧ i ∈ ((cfg0.win 3).blk t).view.set := by
  have h0 : (i 0 : Nat) < 6400 := (i 0).isLt
  have h1 : (i 1 : Nat) < 2048 := (i 1).isLt
  have ht : 0 < cfg0.N := by decide
  refine ⟨⟨0, ht⟩, flush0_3 _, ?_⟩
  show i ∈ ((View.whole main_v1_0).slice (win0_3.rect ⟨0, ht⟩)).set
  rw [View.set_slice_whole, Rect.mem_set_unit]
  have e := rect3 ⟨0, ht⟩
  intro a
  match a with
  | ⟨0, _⟩ => show win0_3.index _ 0 * win0_3.size 0 ≤ (i 0 : Nat) ∧ (i 0 : Nat) < win0_3.index _ 0 * win0_3.size 0 + win0_3.xsize (grid0.coords _) 0
              rw [e.1, e.2.1]; omega
  | ⟨1, _⟩ => show win0_3.index _ 1 * win0_3.size 1 ≤ (i 1 : Nat) ∧ (i 1 : Nat) < win0_3.index _ 1 * win0_3.size 1 + win0_3.xsize (grid0.coords _) 1
              rw [e.2.2.1, e.2.2.2]; omega

theorem final3 (c : Dev nD) : (dats m 0 c).arrAt 3 cfg0.N = val3 m c :=
  (dats m 0 c).arrAt_eq_of_cover 3 (val3 m c) (fun t _ => flushed3 m c t) cover3

/-! ## Window 4: the scales -/

theorem out4 (x0 : Vec Ideal S6400x2048 .fp8e4m3) (x1 : Vec Ideal S6400x64 .f32) (x2 : Vec Ideal S1x2048 .f32) :
    out0_4 x0 x1 x2 = scalesT (T := 6400) (K := 2048) (G := 64) rfl 0x3B124925#32 (nV x0 x1 (gW x2)) := by
  unfold out0_4 k0_pay14
  rw [View.canon_unit_zero hz2]
  simp only [View.ld_unit_zero (S := S6400x2048) hz2, View.ld_unit_zero (S := S6400x64) hz2, View.ld_unit_zero (S := S1x2048) hz2]
  exact n_scales x0 x1 x2

/-- The whole array. -/
abbrev val4 (c : Dev nD) : Buf (Elt Ideal) ((c : Thread nD τ).loc main_v1_1) :=
  scalesT (T := 6400) (K := 2048) (G := 64) rfl 0x3B124925#32 (nV (m ((c : Thread nD τ).loc main_arg0)) (m ((c : Thread nD τ).loc main_arg1)) (gA m c))

theorem flushed4 (c : Dev nD) (t : Fin cfg0.N) :
    (dats m 0 c).flushed 4 t = (win0_4.blk t).view.read (Elt Ideal) (val4 m c) := by
  rw [Value.flushed4, out4, iblk0, iblk1, iblk2]
  funext j
  rw [View.read_apply]
  exact congrArg (val4 m c) (a₂ := (win0_4.rect t).emb j) (Shape.idx_ext₂
    (win0_4.rect_emb_val_of_index_zero t 0 (idx_facts t).2.2.2.2.1.1 _).symm (win0_4.rect_emb_val_of_index_zero t 1 (idx_facts t).2.2.2.2.1.2 _).symm)

theorem rect4 : ∀ t : Fin cfg0.N, win0_4.index t 0 * win0_4.size 0 = 0 ∧ win0_4.xsize (grid0.coords t) 0 = 6400 ∧ win0_4.index t 1 * win0_4.size 1 = 0 ∧ win0_4.xsize (grid0.coords t) 1 = 64 :=
  (by decide +kernel : ∀ t : Fin grid0.N, win0_4.index t 0 * win0_4.size 0 = 0 ∧ win0_4.xsize (grid0.coords t) 0 = 6400 ∧ win0_4.index t 1 * win0_4.size 1 = 0 ∧ win0_4.xsize (grid0.coords t) 1 = 64)

theorem cover4 (i : S6400x64.Idx) : ∃ t : Fin cfg0.N, (cfg0.win 4).flush t = true ∧ i ∈ ((cfg0.win 4).blk t).view.set := by
  have h0 : (i 0 : Nat) < 6400 := (i 0).isLt
  have h1 : (i 1 : Nat) < 64 := (i 1).isLt
  have ht : 0 < cfg0.N := by decide
  refine ⟨⟨0, ht⟩, flush0_4 _, ?_⟩
  show i ∈ ((View.whole main_v1_1).slice (win0_4.rect ⟨0, ht⟩)).set
  rw [View.set_slice_whole, Rect.mem_set_unit]
  have e := rect4 ⟨0, ht⟩
  intro a
  match a with
  | ⟨0, _⟩ => show win0_4.index _ 0 * win0_4.size 0 ≤ (i 0 : Nat) ∧ (i 0 : Nat) < win0_4.index _ 0 * win0_4.size 0 + win0_4.xsize (grid0.coords _) 0
              rw [e.1, e.2.1]; omega
  | ⟨1, _⟩ => show win0_4.index _ 1 * win0_4.size 1 ≤ (i 1 : Nat) ∧ (i 1 : Nat) < win0_4.index _ 1 * win0_4.size 1 + win0_4.xsize (grid0.coords _) 1
              rw [e.2.2.1, e.2.2.2]; omega

theorem final4 (c : Dev nD) : (dats m 0 c).arrAt 4 cfg0.N = val4 m c :=
  (dats m 0 c).arrAt_eq_of_cover 4 (val4 m c) (fun t _ => flushed4 m c t) cover4

/-! ## Window 5: the codes times their scales -/

theorem out5 (x0 : Vec Ideal S6400x2048 .fp8e4m3) (x1 : Vec Ideal S6400x64 .f32) (x2 : Vec Ideal S1x2048 .f32) :
    out0_5 x0 x1 x2 = wide (T := 6400) (K := 2048) (G := 64) rfl 0x3B124925#32 0xC3E00000#32 0x43E00000#32 (nV x0 x1 (gW x2)) := by
  unfold out0_5 k0_pay14 k0_pay13 k0_pay12 k0_pay11
  rw [View.canon_unit_zero hz2]
  simp only [View.ld_unit_zero (S := S6400x2048) hz2, View.ld_unit_zero (S := S6400x64) hz2, View.ld_unit_zero (S := S1x2048) hz2]
  exact n_wide x0 x1 x2

/-- The whole array. -/
abbrev val5 (c : Dev nD) : Buf (Elt Ideal) ((c : Thread nD τ).loc main_v1_2) :=
  wide (T := 6400) (K := 2048) (G := 64) rfl 0x3B124925#32 0xC3E00000#32 0x43E00000#32 (nV (m ((c : Thread nD τ).loc main_arg0)) (m ((c : Thread nD τ).loc main_arg1)) (gA m c))

theorem flushed5 (c : Dev nD) (t : Fin cfg0.N) :
    (dats m 0 c).flushed 5 t = (win0_5.blk t).view.read (Elt Ideal) (val5 m c) := by
  rw [Value.flushed5, out5, iblk0, iblk1, iblk2]
  funext j
  rw [View.read_apply]
  exact congrArg (val5 m c) (a₂ := (win0_5.rect t).emb j) (Shape.idx_ext₂
    (win0_5.rect_emb_val_of_index_zero t 0 (idx_facts t).2.2.2.2.2.1.1 _).symm (win0_5.rect_emb_val_of_index_zero t 1 (idx_facts t).2.2.2.2.2.1.2 _).symm)

theorem rect5 : ∀ t : Fin cfg0.N, win0_5.index t 0 * win0_5.size 0 = 0 ∧ win0_5.xsize (grid0.coords t) 0 = 2048 ∧ win0_5.index t 1 * win0_5.size 1 = 0 ∧ win0_5.xsize (grid0.coords t) 1 = 6400 :=
  (by decide +kernel : ∀ t : Fin grid0.N, win0_5.index t 0 * win0_5.size 0 = 0 ∧ win0_5.xsize (grid0.coords t) 0 = 2048 ∧ win0_5.index t 1 * win0_5.size 1 = 0 ∧ win0_5.xsize (grid0.coords t) 1 = 6400)

theorem cover5 (i : S2048x6400.Idx) : ∃ t : Fin cfg0.N, (cfg0.win 5).flush t = true ∧ i ∈ ((cfg0.win 5).blk t).view.set := by
  have h0 : (i 0 : Nat) < 2048 := (i 0).isLt
  have h1 : (i 1 : Nat) < 6400 := (i 1).isLt
  have ht : 0 < cfg0.N := by decide
  refine ⟨⟨0, ht⟩, flush0_5 _, ?_⟩
  show i ∈ ((View.whole main_v1_2).slice (win0_5.rect ⟨0, ht⟩)).set
  rw [View.set_slice_whole, Rect.mem_set_unit]
  have e := rect5 ⟨0, ht⟩
  intro a
  match a with
  | ⟨0, _⟩ => show win0_5.index _ 0 * win0_5.size 0 ≤ (i 0 : Nat) ∧ (i 0 : Nat) < win0_5.index _ 0 * win0_5.size 0 + win0_5.xsize (grid0.coords _) 0
              rw [e.1, e.2.1]; omega
  | ⟨1, _⟩ => show win0_5.index _ 1 * win0_5.size 1 ≤ (i 1 : Nat) ∧ (i 1 : Nat) < win0_5.index _ 1 * win0_5.size 1 + win0_5.xsize (grid0.coords _) 1
              rw [e.2.2.1, e.2.2.2]; omega

theorem final5 (c : Dev nD) : (dats m 0 c).arrAt 5 cfg0.N = val5 m c :=
  (dats m 0 c).arrAt_eq_of_cover 5 (val5 m c) (fun t _ => flushed5 m c t) cover5

/-! ## Window 6: the reciprocal root mean squares -/

theorem out6 (x0 : Vec Ideal S6400x2048 .fp8e4m3) (x1 : Vec Ideal S6400x64 .f32) (x2 : Vec Ideal S1x2048 .f32) :
    out0_6 x0 x1 x2 = fun y => rV x0 x1 (y 1) := by
  unfold out0_6
  rw [View.canon_unit_zero hz2]
  simp only [View.ld_unit_zero (S := S6400x2048) hz2, View.ld_unit_zero (S := S6400x64) hz2, View.ld_unit_zero (S := S1x2048) hz2]
  exact n_roots x0 x1

/-- The whole array. -/
abbrev val6 (c : Dev nD) : Buf (Elt Ideal) ((c : Thread nD τ).loc main_v1_3) :=
  fun y => rV (m ((c : Thread nD τ).loc main_arg0)) (m ((c : Thread nD τ).loc main_arg1)) (y 1)

theorem flushed6 (c : Dev nD) (t : Fin cfg0.N) :
    (dats m 0 c).flushed 6 t = (win0_6.blk t).view.read (Elt Ideal) (val6 m c) := by
  rw [Value.flushed6, out6, iblk0, iblk1]
  funext j
  rw [View.read_apply]
  exact congrArg (val6 m c) (a₂ := (win0_6.rect t).emb j) (Shape.idx_ext₂
    (win0_6.rect_emb_val_of_index_zero t 0 (idx_facts t).2.2.2.2.2.2.1 _).symm (win0_6.rect_emb_val_of_index_zero t 1 (idx_facts t).2.2.2.2.2.2.2 _).symm)

theorem rect6 : ∀ t : Fin cfg0.N, win0_6.index t 0 * win0_6.size 0 = 0 ∧ win0_6.xsize (grid0.coords t) 0 = 1 ∧ win0_6.index t 1 * win0_6.size 1 = 0 ∧ win0_6.xsize (grid0.coords t) 1 = 6400 :=
  (by decide +kernel : ∀ t : Fin grid0.N, win0_6.index t 0 * win0_6.size 0 = 0 ∧ win0_6.xsize (grid0.coords t) 0 = 1 ∧ win0_6.index t 1 * win0_6.size 1 = 0 ∧ win0_6.xsize (grid0.coords t) 1 = 6400)

theorem cover6 (i : S1x6400.Idx) : ∃ t : Fin cfg0.N, (cfg0.win 6).flush t = true ∧ i ∈ ((cfg0.win 6).blk t).view.set := by
  have h0 : (i 0 : Nat) < 1 := (i 0).isLt
  have h1 : (i 1 : Nat) < 6400 := (i 1).isLt
  have ht : 0 < cfg0.N := by decide
  refine ⟨⟨0, ht⟩, flush0_6 _, ?_⟩
  show i ∈ ((View.whole main_v1_3).slice (win0_6.rect ⟨0, ht⟩)).set
  rw [View.set_slice_whole, Rect.mem_set_unit]
  have e := rect6 ⟨0, ht⟩
  intro a
  match a with
  | ⟨0, _⟩ => show win0_6.index _ 0 * win0_6.size 0 ≤ (i 0 : Nat) ∧ (i 0 : Nat) < win0_6.index _ 0 * win0_6.size 0 + win0_6.xsize (grid0.coords _) 0
              rw [e.1, e.2.1]; omega
  | ⟨1, _⟩ => show win0_6.index _ 1 * win0_6.size 1 ≤ (i 1 : Nat) ∧ (i 1 : Nat) < win0_6.index _ 1 * win0_6.size 1 + win0_6.xsize (grid0.coords _) 1
              rw [e.2.2.1, e.2.2.2]; omega

theorem final6 (c : Dev nD) : (dats m 0 c).arrAt 6 cfg0.N = val6 m c :=
  (dats m 0 c).arrAt_eq_of_cover 6 (val6 m c) (fun t _ => flushed6 m c t) cover6

end Cert.RefPrepIdeal.RefValue
end
-- ==== Proof.Prep.lean ====
/-
  The normalising call over the extended reals: the kernel, which works on blocks of 256 tokens turned so that the features run
  down the rows, leaves the four arrays that the reference computes on whole arrays — codes, scales and widened codes of the
  normalised input, and the reciprocal root mean squares of its rows.
-/
module

public import proofs.«01_k».proof.Defs
public import proofs.«01_k».proof.Proof.PrepArrays
public import proofs.«01_k».proof.Proof.PrepRef
public import Idealize.ShloMosaic.Lib.Quiescent

@[expose] public section

set_option maxRecDepth 16384

noncomputable section

namespace Cert.Proof

open Cert.Prep Cert.Mlp Idealize.ShloMosaic Idealize.ShloMosaic.ValueIdx Idealize.ShloMosaic.TcCoe Idealize.SL.Sem

theorem weights_eq (x y : (⟨1, ![2048]⟩ : Shape).Idx → EReal) (h : x = y) : (fun d => x (ix1 d)) = fun d => y (ix1 d) := by rw [h]

section Congr

variable {a a' : (⟨2, ![6400, 2048]⟩ : Shape).Idx → EReal} {s s' : (⟨2, ![6400, 64]⟩ : Shape).Idx → EReal} {g g' : Fin 2048 → EReal}
  (ha : a = a') (hs : s = s') (hg : g = g') {q lo hi : BitVec 32}

include ha hs hg in
theorem codes_congr : codes (T := 6400) (K := 2048) (G := 64) rfl q lo hi (nV a s g) = codes (T := 6400) (K := 2048) (G := 64) rfl q lo hi (nV a' s' g') := by
  rw [ha, hs, hg]

include ha hs hg in
theorem scales_congr : scalesT (T := 6400) (K := 2048) (G := 64) rfl q (nV a s g) = scalesT (T := 6400) (K := 2048) (G := 64) rfl q (nV a' s' g') := by
  rw [ha, hs, hg]

include ha hs hg in
theorem wide_congr : wide (T := 6400) (K := 2048) (G := 64) rfl q lo hi (nV a s g) = wide (T := 6400) (K := 2048) (G := 64) rfl q lo hi (nV a' s' g') := by
  rw [ha, hs, hg]

include ha hs in
theorem roots_congr : (fun y : (⟨2, ![1, 6400]⟩ : Shape).Idx => rV a s (y 1)) = fun y => rV a' s' (y 1) := by
  rw [ha, hs]

end Congr

/-- The kernel computes the reference's four arrays. -/
theorem algebraic_Prep : Cert.algebraic_PrepIdeal_RefPrepIdeal := by
  intro m ρ m' ρ' _ hagree
  refine ⟨fun c => Cert.PrepIdeal.RefValue.val3 m c, fun c => Cert.PrepIdeal.RefValue.val4 m c, fun c => Cert.PrepIdeal.RefValue.val5 m c, fun c => Cert.PrepIdeal.RefValue.val6 m c, ?_, ?_⟩
  · exact (θ_run Cert.PrepIdeal.defs _ _).mono (fun _ h c =>
      ⟨(h c).1.trans (Cert.PrepIdeal.RefValue.final3 m c),
       (h c).2.1.trans (Cert.PrepIdeal.RefValue.final4 m c),
       (h c).2.2.1.trans (Cert.PrepIdeal.RefValue.final5 m c),
       (h c).2.2.2.1.trans (Cert.PrepIdeal.RefValue.final6 m c),
       (h c).2.2.2.2⟩)
      (Cert.PrepIdeal.Value.run_blocks (F := Ideal) m ρ)
  · have h0 := fun c => (hagree c).1
    have h1 := fun c => (hagree c).2.1
    have hg : ∀ c, Cert.RefPrepIdeal.RefValue.gA m' c = Cert.PrepIdeal.RefValue.gA m c := fun c =>
      weights_eq _ _ (hagree c).2.2
    refine (θ_run Cert.RefPrepIdeal.defs _ _).mono (fun _ h c =>
      ⟨(h c).1.trans ((Cert.RefPrepIdeal.RefValue.final3 m' c).trans ?_),
       (h c).2.1.trans ((Cert.RefPrepIdeal.RefValue.final4 m' c).trans ?_),
       (h c).2.2.1.trans ((Cert.RefPrepIdeal.RefValue.final5 m' c).trans ?_),
       (h c).2.2.2.1.trans ((Cert.RefPrepIdeal.RefValue.final6 m' c).trans ?_),
       (h c).2.2.2.2⟩)
      (Cert.RefPrepIdeal.Value.run_blocks (F := Ideal) m' ρ')
    · exact codes_congr (h0 c) (h1 c) (hg c)
    · exact scales_congr (h0 c) (h1 c) (hg c)
    · exact wide_congr (h0 c) (h1 c) (hg c)
    · exact roots_congr (h0 c) (h1 c)

end Cert.Proof
end
-- ==== Proof.lean ====
module

public import proofs.«01_k».proof.Defs
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.RefDw2Ideal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.RefDwDownIdeal
public import proofs.«01_k».proof.Proof.Gen.Da2
public import proofs.«01_k».proof.Proof.Gen.Da2.Skeleton
public import proofs.«01_k».proof.Proof.Gen.Da2.Launch
public import proofs.«01_k».proof.Proof.Gen.Da2.Points
public import proofs.«01_k».proof.Proof.Gen.Da2.Frame
public import proofs.«01_k».proof.Proof.Gen.Da2Ideal
public import proofs.«01_k».proof.Proof.Gen.Da2Ideal.Skeleton
public import proofs.«01_k».proof.Proof.Gen.Da2Ideal.Launch
public import proofs.«01_k».proof.Proof.Gen.Da2Ideal.Points
public import proofs.«01_k».proof.Proof.Gen.Da2Ideal.Frame
public import proofs.«01_k».proof.Proof.Gen.RefDa2Ideal
public import proofs.«01_k».proof.Proof.Gen.RefDa2Ideal.Skeleton
public import proofs.«01_k».proof.Proof.Gen.RefDa2Ideal.Launch
public import proofs.«01_k».proof.Proof.Gen.RefDa2Ideal.Points
public import proofs.«01_k».proof.Proof.Gen.RefDa2Ideal.Frame
public import proofs.«01_k».proof.Proof.Gen.DwO
public import proofs.«01_k».proof.Proof.Gen.DwO.Skeleton
public import proofs.«01_k».proof.Proof.Gen.DwO.Launch
public import proofs.«01_k».proof.Proof.Gen.DwO.Points
public import proofs.«01_k».proof.Proof.Gen.DwO.Frame
public import proofs.«01_k».proof.Proof.Gen.DwOIdeal
public import proofs.«01_k».proof.Proof.Gen.DwOIdeal.Skeleton
public import proofs.«01_k».proof.Proof.Gen.DwOIdeal.Launch
public import proofs.«01_k».proof.Proof.Gen.DwOIdeal.Points
public import proofs.«01_k».proof.Proof.Gen.DwOIdeal.Frame
public import proofs.«01_k».proof.Proof.Gen.RefDwOIdeal
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.RefDwQkvIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.RefQkvIdeal
public import proofs.«01_k».proof.Proof.Gen.RefQkvIdeal.Skeleton
public import proofs.«01_k».proof.Proof.Gen.RefQkvIdeal.Launch
public import proofs.«01_k».proof.Proof.Gen.RefQkvIdeal.Points
public import proofs.«01_k».proof.Proof.Gen.RefQkvIdeal.Frame
public import proofs.«01_k».proof.Proof.Gen.Dw2Ideal.Value
public import proofs.«01_k».proof.Proof.Gen.DwDownIdeal.Value
public import proofs.«01_k».proof.Proof.Gen.Da2Ideal.Value
public import proofs.«01_k».proof.Proof.Gen.DwOIdeal.Value
public import proofs.«01_k».proof.Proof.Gen.DwQkvIdeal.Value
public import proofs.«01_k».proof.Proof.Gen.QkvIdeal.Value
public import proofs.«01_k».proof.Proof.Gen.RefDw2Ideal.Read
public import proofs.«01_k».proof.Proof.Gen.RefDwDownIdeal.Read
public import proofs.«01_k».proof.Proof.Gen.RefDwOIdeal.Read
public import proofs.«01_k».proof.Proof.Gen.RefDwQkvIdeal.Read
public import proofs.«01_k».proof.Proof.Gen.RefDa2Ideal.Value
public import proofs.«01_k».proof.Proof.Gen.RefQkvIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.RefMlpIdeal
public import proofs.«01_k».proof.Proof.Gen.RefMlpIdeal.Skeleton
public import proofs.«01_k».proof.Proof.Gen.RefMlpIdeal.Launch
public import proofs.«01_k».proof.Proof.Gen.RefMlpIdeal.Points
public import proofs.«01_k».proof.Proof.Gen.RefMlpIdeal.Frame
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.RefPrepIdeal
public import proofs.«01_k».proof.Proof.Gen.RefPrepIdeal.Skeleton
public import proofs.«01_k».proof.Proof.Gen.RefPrepIdeal.Launch
public import proofs.«01_k».proof.Proof.Gen.RefPrepIdeal.Points
public import proofs.«01_k».proof.Proof.Gen.RefPrepIdeal.Frame
public import proofs.«01_k».proof.Proof.Dw2
public import proofs.«01_k».proof.Proof.DwDown
public import proofs.«01_k».proof.Proof.Da2
public import proofs.«01_k».proof.Proof.DwO
public import proofs.«01_k».proof.Proof.DwQkv
public import proofs.«01_k».proof.Proof.Qkv
public import proofs.«01_k».proof.Proof.Mlp
public import proofs.«01_k».proof.Proof.Prep
public import Idealize.ShloMosaic.Adequacy
public import Idealize.ShloMosaic.Init

@[expose] public section

noncomputable section

namespace Cert.Proof

open Idealize.ShloMosaic Idealize.SL.Sem Cert.Dw2

theorem claim : Cert.Claim :=
  ⟨Cert.Dw2.Gen.facts, Cert.Dw2Ideal.Gen.facts, Cert.RefDw2Ideal.Gen.facts,
   Cert.DwDown.Gen.facts, Cert.DwDownIdeal.Gen.facts, Cert.RefDwDownIdeal.Gen.facts,
   Cert.Da2.Gen.facts, Cert.Da2Ideal.Gen.facts, Cert.RefDa2Ideal.Gen.facts,
   Cert.DwO.Gen.facts, Cert.DwOIdeal.Gen.facts, Cert.RefDwOIdeal.Gen.facts,
   Cert.DwQkv.Gen.facts, Cert.DwQkvIdeal.Gen.facts, Cert.RefDwQkvIdeal.Gen.facts,
   Cert.Qkv.Gen.facts, Cert.QkvIdeal.Gen.facts, Cert.RefQkvIdeal.Gen.facts,
   Cert.Mlp.Gen.facts, Cert.MlpIdeal.Gen.facts, Cert.RefMlpIdeal.Gen.facts,
   Cert.Prep.Gen.facts, Cert.PrepIdeal.Gen.facts, Cert.RefPrepIdeal.Gen.facts,
   fun m ρ _ => Cert.Dw2.Gen.frame m ρ,
   fun m ρ _ => Cert.Dw2Ideal.Gen.frame m ρ,
   Cert.Proof.frame_RefDw2,
   fun m ρ _ => Cert.DwDown.Gen.frame m ρ,
   fun m ρ _ => Cert.DwDownIdeal.Gen.frame m ρ,
   Cert.Proof.frame_RefDwDown,
   fun m ρ _ => Cert.Da2.Gen.frame m ρ,
   fun m ρ _ => Cert.Da2Ideal.Gen.frame m ρ,
   fun m ρ _ => Cert.RefDa2Ideal.Gen.frame m ρ,
   fun m ρ _ => Cert.DwO.Gen.frame m ρ,
   fun m ρ _ => Cert.DwOIdeal.Gen.frame m ρ,
   Cert.Proof.frame_RefDwO,
   fun m ρ _ => Cert.DwQkv.Gen.frame m ρ,
   fun m ρ _ => Cert.DwQkvIdeal.Gen.frame m ρ,
   Cert.Proof.frame_RefDwQkv,
   fun m ρ _ => Cert.Qkv.Gen.frame m ρ,
   fun m ρ _ => Cert.QkvIdeal.Gen.frame m ρ,
   fun m ρ _ => Cert.RefQkvIdeal.Gen.frame m ρ,
   fun m ρ _ => Cert.Mlp.Gen.frame m ρ,
   fun m ρ _ => Cert.MlpIdeal.Gen.frame m ρ,
   fun m ρ _ => Cert.RefMlpIdeal.Gen.frame m ρ,
   fun m ρ _ => Cert.Prep.Gen.frame m ρ,
   fun m ρ _ => Cert.PrepIdeal.Gen.frame m ρ,
   fun m ρ _ => Cert.RefPrepIdeal.Gen.frame m ρ,
   trivial, Cert.Proof.algebraic_Dw2,
   trivial, Cert.Proof.algebraic_DwDown,
   trivial, Cert.Proof.algebraic_Da2,
   trivial, Cert.Proof.algebraic_DwO,
   trivial, Cert.Proof.algebraic_DwQkv,
   trivial, Cert.Proof.algebraic_Qkv,
   trivial, Cert.Proof.algebraic_Mlp,
   trivial, Cert.Proof.algebraic_Prep⟩

end Cert.Proof

end
